-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite21 [hPre_finite21 : Cert.Pre_finite21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite21 [hPre_finite21 : Cert.Pre_finite21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Kernel21Ideal_pre_finite21 [hKernel21Ideal : Cert.Kernel21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite21 m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Reference21Ideal_pre_finite21 [hReference21Ideal : Cert.Reference21Ideal.Facts] [hPre_finite21 : Cert.Pre_finite21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v74) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v134) = v0 c
          ∧ r.2.mem ((c.tc : Thread Cert.Reference7Ideal.nD Cert.Reference7Ideal.τ).loc Cert.Reference7Ideal.main_v149) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal_pre_finite21 [hKernel21Ideal : Cert.Kernel21Ideal.Facts] [hReference21Ideal : Cert.Reference21Ideal.Facts] [hPre_finite21 : Cert.Pre_finite21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite21 m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v19) = v0 c
          ∧ r.2.mem ((c.tc : Thread Cert.Reference22Ideal.nD Cert.Reference22Ideal.τ).loc Cert.Reference22Ideal.main_v20) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v10) = v0 c
          ∧ r.2.mem ((c.tc : Thread Cert.Reference23Ideal.nD Cert.Reference23Ideal.τ).loc Cert.Reference23Ideal.main_v18) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite4 : Cert.Pre_finite4.Facts) (hPre_finite7 : Cert.Pre_finite7.Facts) (hPre_finite21 : Cert.Pre_finite21.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite21 (hKernel21Ideal := hKernel21Ideal) (hPre_finite21 := hPre_finite21)
    ∧ quiescent_Reference21Ideal (hReference21Ideal := hReference21Ideal)
    ∧ quiescent_Reference21Ideal_pre_finite21 (hReference21Ideal := hReference21Ideal) (hPre_finite21 := hPre_finite21)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite21 (hKernel21Ideal := hKernel21Ideal) (hReference21Ideal := hReference21Ideal) (hPre_finite21 := hPre_finite21)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite21.lean ====
abbrev S8x16x1024 : Shape := ⟨3, ![8, 16, 1024]⟩
abbrev S1x1024 : Shape := ⟨2, ![1, 1024]⟩
abbrev S_ : Shape := ⟨0, ![]⟩

class Facts : Prop where
  bcast_S_S8x16x1024 : S_.BroadcastsInDim S8x16x1024 (![] : Fin 0 → Fin S8x16x1024.rank)
  reducesTo_S8x16x1024_S_d0_1_2 : S8x16x1024.ReducesTo [0, 1, 2] S_
  h_S_ : 0 < S_.numel

variable [Facts]

def fn {F : FTy → Type} [FloatOps F] (main_arg0 : FVec F S8x16x1024 .f32) (main_arg1 : FVec F S1x1024 .f32) : IVec S_ 1 :=
  let main_v0 : FVec F S8x16x1024 .f32 := Host.absf main_arg0
  let main_cst : FVec F S_ .f32 := constant S_ .f32 0x7F800000#32
  let main_v1 : FVec F S8x16x1024 .f32 := broadcastInDim S8x16x1024 ![] bcast_S_S8x16x1024 main_cst
  let main_v2 : IVec S8x16x1024 1 := cmpf .olt main_v0 main_v1
  let main_c : IVec S_ 1 := constantI S_ 1 1#1
  let main_v3 : IVec S_ 1 := (fun x v => Host.reduce IntOp.andi x v reducesTo_S8x16x1024_S_d0_1_2 h_S_) main_v2 main_c
  main_v3
-- ==== Pre_finite4.lean ====
abbrev S8448x1024 : Shape := ⟨2, ![8448, 1024]⟩
abbrev S4x704x1024 : Shape := ⟨3, ![4, 704, 1024]⟩
abbrev S2x4x8448x704 : Shape := ⟨4, ![2, 4, 8448, 704]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S4x704x1024 : S_.BroadcastsInDim S4x704x1024 (![] : Fin 0 → Fin S4x704x1024.rank)
  reducesTo_S4x704x1024_S_d0_1_2 : S4x704x1024.ReducesTo [0, 1, 2] S_
  bcast_S_S2x4x8448x704 : S_.BroadcastsInDim S2x4x8448x704 (![] : Fin 0 → Fin S2x4x8448x704.rank)
  reducesTo_S2x4x8448x704_S_d0_1_2_3 : S2x4x8448x704.ReducesTo [0, 1, 2, 3] S_

variable [Facts]

def fn {F : FTy → Type} [FloatOps F] (main_arg0 : FVec F S8448x1024 .bf16) (main_arg1 : FVec F S4x704x1024 .bf16) (main_arg2 : FVec F S2x4x8448x704 .bf16) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S4x704x1024 .f32 := (extf .f32 · bitsLt_bf16_f32) main_arg1
  let main_v6 : FVec F S4x704x1024 .f32 := Host.absf main_v5
  let main_cst_0 : FVec F S_ .f32 := constant S_ .f32 0x7F800000#32
  let main_v7 : FVec F S4x704x1024 .f32 := broadcastInDim S4x704x1024 ![] bcast_S_S4x704x1024 main_cst_0
  let main_v8 : IVec S4x704x1024 1 := cmpf .olt main_v6 main_v7
  let main_c_1 : IVec S_ 1 := constantI S_ 1 1#1
  let main_v9 : IVec S_ 1 := (fun x v => Host.reduce IntOp.andi x v reducesTo_S4x704x1024_S_d0_1_2 h_S_) main_v8 main_c_1
  let main_v10 : IVec S_ 1 := andi main_v4 main_v9
  let main_v11 : FVec F S2x4x8448x704 .f32 := (extf .f32 · bitsLt_bf16_f32) main_arg2
  let main_v12 : FVec F S2x4x8448x704 .f32 := Host.absf main_v11
  let main_cst_2 : FVec F S_ .f32 := constant S_ .f32 0x7F800000#32
  let main_v13 : FVec F S2x4x8448x704 .f32 := broadcastInDim S2x4x8448x704 ![] bcast_S_S2x4x8448x704 main_cst_2
  let main_v14 : IVec S2x4x8448x704 1 := cmpf .olt main_v12 main_v13
  let main_c_3 : IVec S_ 1 := constantI S_ 1 1#1
  let main_v15 : IVec S_ 1 := (fun x v => Host.reduce IntOp.andi x v reducesTo_S2x4x8448x704_S_d0_1_2_3 h_S_) main_v14 main_c_3
  let main_v16 : IVec S_ 1 := andi main_v10 main_v15
  main_v16
-- ==== Pre_finite7.lean ====
abbrev S2x4x8448x704 : Shape := ⟨4, ![2, 4, 8448, 704]⟩
abbrev S2x4x1024x704 : Shape := ⟨4, ![2, 4, 1024, 704]⟩
abbrev S8448x1024 : Shape := ⟨2, ![8448, 1024]⟩
abbrev S1x1024 : Shape := ⟨2, ![1, 1024]⟩
abbrev S2x9x1024 : Shape := ⟨3, ![2, 9, 1024]⟩
abbrev S_ : Shape := ⟨0, ![]⟩

class Facts : Prop where
  bitsLt_bf16_f32 : FTy.bits .bf16 < FTy.bits .f32
  bcast_S_S2x4x8448x704 : S_.BroadcastsInDim S2x4x8448x704 (![] : Fin 0 → Fin S2x4x8448x704.rank)
  reducesTo_S2x4x8448x704_S_d0_1_2_3 : S2x4x8448x704.ReducesTo [0, 1, 2, 3] S_
  h_S_ : 0 < S_.numel
  bcast_S_S2x4x1024x704 : S_.BroadcastsInDim S2x4x1024x704 (![] : Fin 0 → Fin S2x4x1024x704.rank)
  reducesTo_S2x4x1024x704_S_d0_1_2_3 : S2x4x1024x704.ReducesTo [0, 1, 2, 3] S_
  bcast_S_S8448x1024 : S_.BroadcastsInDim S8448x1024 (![] : Fin 0 → Fin S8448x1024.rank)
  reducesTo_S8448x1024_S_d0_1 : S8448x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2x9x1024 : S_.BroadcastsInDim S2x9x1024 (![] : Fin 0 → Fin S2x9x1024.rank)
  reducesTo_S2x9x1024_S_d0_1_2 : S2x9x1024.ReducesTo [0, 1, 2] S_

variable [Facts]

def fn_part1 {F : FTy → Type} [FloatOps F] (main_arg4 : FVec F S1x1024 .f32) (main_arg5 : FVec F S2x9x1024 .f32) (main_v15 : IVec S_ 1) (main_v16 : FVec F S8448x1024 .f32) (main_cst_4 : FVec F S_ .f32) : IVec S_ 1 :=
  let main_v17 : FVec F S8448x1024 .f32 := broadcastInDim S8448x1024 ![] bcast_S_S8448x1024 main_cst_4
  let main_v18 : IVec S8448x1024 1 := cmpf .olt main_v16 main_v17
  let main_c_5 : IVec S_ 1 := constantI S_ 1 1#1
  let main_v19 : IVec S_ 1 := (fun x v => Host.reduce IntOp.andi x v reducesTo_S8448x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  let main_v26 : FVec F S2x9x1024 .f32 := Host.absf main_arg5
  let main_cst_8 : FVec F S_ .f32 := constant S_ .f32 0x7F800000#32
  let main_v27 : FVec F S2x9x1024 .f32 := broadcastInDim S2x9x1024 ![] bcast_S_S2x9x1024 main_cst_8
  let main_v28 : IVec S2x9x1024 1 := cmpf .olt main_v26 main_v27
  let main_c_9 : IVec S_ 1 := constantI S_ 1 1#1
  let main_v29 : IVec S_ 1 := (fun x v => Host.reduce IntOp.andi x v reducesTo_S2x9x1024_S_d0_1_2 h_S_) main_v28 main_c_9
  let main_v30 : IVec S_ 1 := andi main_v25 main_v29
  main_v30

def fn {F : FTy → Type} [FloatOps F] (main_arg0 : FVec F S2x4x8448x704 .bf16) (main_arg1 : FVec F S2x4x1024x704 .bf16) (main_arg2 : FVec F S8448x1024 .f32) (main_arg3 : FVec F S8448x1024 .f32) (main_arg4 : FVec F S1x1024 .f32) (main_arg5 : FVec F S2x9x1024 .f32) : IVec S_ 1 :=
  let main_v0 : FVec F S2x4x8448x704 .f32 := (extf .f32 · bitsLt_bf16_f32) main_arg0
  let main_v1 : FVec F S2x4x8448x704 .f32 := Host.absf main_v0
  let main_cst : FVec F S_ .f32 := constant S_ .f32 0x7F800000#32
  let main_v2 : FVec F S2x4x8448x704 .f32 := broadcastInDim S2x4x8448x704 ![] bcast_S_S2x4x8448x704 main_cst
  let main_v3 : IVec S2x4x8448x704 1 := cmpf .olt main_v1 main_v2
  let main_c : IVec S_ 1 := constantI S_ 1 1#1
  let main_v4 : IVec S_ 1 := (fun x v => Host.reduce IntOp.andi x v reducesTo_S2x4x8448x704_S_d0_1_2_3 h_S_) main_v3 main_c
  let main_v5 : FVec F S2x4x1024x704 .f32 := (extf .f32 · bitsLt_bf16_f32) main_arg1
  let main_v6 : FVec F S2x4x1024x704 .f32 := Host.absf main_v5
  let main_cst_0 : FVec F S_ .f32 := constant S_ .f32 0x7F800000#32
  let main_v7 : FVec F S2x4x1024x704 .f32 := broadcastInDim S2x4x1024x704 ![] bcast_S_S2x4x1024x704 main_cst_0
  let main_v8 : IVec S2x4x1024x704 1 := cmpf .olt main_v6 main_v7
  let main_c_1 : IVec S_ 1 := constantI S_ 1 1#1
  let main_v9 : IVec S_ 1 := (fun x v => Host.reduce IntOp.andi x v reducesTo_S2x4x1024x704_S_d0_1_2_3 h_S_) main_v8 main_c_1
  let main_v10 : IVec S_ 1 := andi main_v4 main_v9
  let main_v11 : FVec F S8448x1024 .f32 := Host.absf main_arg2
  let main_cst_2 : FVec F S_ .f32 := constant S_ .f32 0x7F800000#32
  let main_v12 : FVec F S8448x1024 .f32 := broadcastInDim S8448x1024 ![] bcast_S_S8448x1024 main_cst_2
  let main_v13 : IVec S8448x1024 1 := cmpf .olt main_v11 main_v12
  let main_c_3 : IVec S_ 1 := constantI S_ 1 1#1
  let main_v14 : IVec S_ 1 := (fun x v => Host.reduce IntOp.andi x v reducesTo_S8448x1024_S_d0_1 h_S_) main_v13 main_c_3
  let main_v15 : IVec S_ 1 := andi main_v10 main_v14
  let main_v16 : FVec F S8448x1024 .f32 := Host.absf main_arg3
  let main_cst_4 : FVec F S_ .f32 := constant S_ .f32 0x7F800000#32
  fn_part1 (F := F) main_arg4 main_arg5 main_v15 main_v16 main_cst_4
-- ==== Kernel.lean ====
abbrev S8448x1536 : Shape := ⟨2, ![8448, 1536]⟩
abbrev S8x8x64x512 : Shape := ⟨4, ![8, 8, 64, 512]⟩
abbrev S8448x512 : Shape := ⟨2, ![8448, 512]⟩
abbrev S8448x1024 : Shape := ⟨2, ![8448, 1024]⟩
abbrev S4x8448x128 : Shape := ⟨3, ![4, 8448, 128]⟩
abbrev S256x128 : Shape := ⟨2, ![256, 128]⟩
abbrev S8192x128 : Shape := ⟨2, ![8192, 128]⟩
abbrev S8x2x64x512 : Shape := ⟨4, ![8, 2, 64, 512]⟩
abbrev S1x256x128 : Shape := ⟨3, ![1, 256, 128]⟩
abbrev S8448x128 : Shape := ⟨2, ![8448, 128]⟩
abbrev S1x128 : Shape := ⟨2, ![1, 128]⟩
abbrev S64x128 : Shape := ⟨2, ![64, 128]⟩
abbrev S128x128 : Shape := ⟨2, ![128, 128]⟩
abbrev S64 : Shape := ⟨1, ![64]⟩
abbrev S64x1 : Shape := ⟨2, ![64, 1]⟩
abbrev S128x1 : Shape := ⟨2, ![128, 1]⟩
abbrev S1x64x128 : Shape := ⟨3, ![1, 64, 128]⟩
abbrev S512x128 : Shape := ⟨2, ![512, 128]⟩
abbrev S512x1 : Shape := ⟨2, ![512, 1]⟩
abbrev S512x256 : Shape := ⟨2, ![512, 256]⟩
abbrev S128x512 : Shape := ⟨2, ![128, 512]⟩
abbrev S1x2x64x512 : Shape := ⟨4, ![1, 2, 64, 512]⟩
abbrev S2x64x512 : Shape := ⟨3, ![2, 64, 512]⟩

abbrev nBuf : Space → Nat
  | .hbm => 9
  | .vmem => 26
  | .smem => 0
  | _ => 0

abbrev bufTy : (tb : Table) → Fin (tcTables nBuf tb) → BufTy
  | .hbm, ⟨0, _⟩ => ⟨S8448x1536, .bf16⟩
  | .hbm, ⟨1, _⟩ => ⟨S8x8x64x512, .f32⟩
  | .hbm, ⟨2, _⟩ => ⟨S8448x512, .bf16⟩
  | .hbm, ⟨3, _⟩ => ⟨S8448x1024, .f32⟩
  | .hbm, ⟨4, _⟩ => ⟨S4x8448x128, .f32⟩
  | .hbm, ⟨5, _⟩ => ⟨S8448x512, .f32⟩
  | .hbm, ⟨6, _⟩ => ⟨S8448x512, .f32⟩
  | .hbm, ⟨7, _⟩ => ⟨S8448x512, .f32⟩
  | .hbm, ⟨8, _⟩ => ⟨S8x8x64x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S8x2x64x512, .f32⟩
  | .local _ .vmem, ⟨11, _⟩ => ⟨S8x2x64x512, .f32⟩
  | .local _ .vmem, ⟨12, _⟩ => ⟨S256x128, .bf16⟩
  | .local _ .vmem, ⟨13, _⟩ => ⟨S256x128, .bf16⟩
  | .local _ .vmem, ⟨14, _⟩ => ⟨S256x128, .f32⟩
  | .local _ .vmem, ⟨15, _⟩ => ⟨S256x128, .f32⟩
  | .local _ .vmem, ⟨16, _⟩ => ⟨S1x256x128, .f32⟩
  | .local _ .vmem, ⟨17, _⟩ => ⟨S1x256x128, .f32⟩
  | .local _ .vmem, ⟨18, _⟩ => ⟨S256x128, .f32⟩
  | .local _ .vmem, ⟨19, _⟩ => ⟨S256x128, .f32⟩
  | .local _ .vmem, ⟨20, _⟩ => ⟨S8448x128, .f32⟩
  | .local _ .vmem, ⟨21, _⟩ => ⟨S8448x128, .f32⟩
  | .local _ .vmem, ⟨22, _⟩ => ⟨S8448x128, .f32⟩
  | .local _ .vmem, ⟨23, _⟩ => ⟨S8448x128, .f32⟩
  | .local _ .vmem, ⟨24, _⟩ => ⟨S8x2x64x512, .f32⟩
  | .local _ .vmem, ⟨25, _⟩ => ⟨S8x2x64x512, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 33], ![false, false]⟩

def k0_cond3 (i : grid0.Coords) : BitVec 1 :=
  let arg1 : BitVec 32 := BitVec.ofNat 32 (i 1).val
  let c32_i32_2 : BitVec 32 := 32#32
  let v6 : BitVec 1 := Scalar.cmpi .slt arg1 c32_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let c120_i32 : BitVec 32 := 120#32
  let c0_i32_11 : BitVec 32 := 0#32
  let arg1 : BitVec 32 := BitVec.ofNat 32 (i 1).val
  let c4_i32 : BitVec 32 := 4#32
  let v22 : BitVec 32 := Scalar.muli arg1 c4_i32
  let c0_i32_9 : BitVec 32 := 0#32
  let v23 : BitVec 32 := Scalar.addi v22 c0_i32_9
  let c4_i32_10 : BitVec 32 := 4#32
  let v24 : BitVec 32 := Scalar.subi v23 c4_i32_10
  let v25 : BitVec 32 := Scalar.maxsi c0_i32_11 v24
  let v26 : BitVec 32 := Scalar.minsi c120_i32 v25
  let c64_i32_12 : BitVec 32 := 64#32
  let v30 : BitVec 32 := Scalar.muli v26 c64_i32_12
  v30
def k0_mult2 (i : grid0.Coords) : BitVec 32 :=
  let c120_i32_34 : BitVec 32 := 120#32
  let c0_i32_33 : BitVec 32 := 0#32
  let arg1 : BitVec 32 := BitVec.ofNat 32 (i 1).val
  let c4_i32_30 : BitVec 32 := 4#32
  let v76 : BitVec 32 := Scalar.muli arg1 c4_i32_30
  let c1_i32_31 : BitVec 32 := 1#32
  let v77 : BitVec 32 := Scalar.addi v76 c1_i32_31
  let c4_i32_32 : BitVec 32 := 4#32
  let v78 : BitVec 32 := Scalar.subi v77 c4_i32_32
  let v79 : BitVec 32 := Scalar.maxsi c0_i32_33 v78
  let v80 : BitVec 32 := Scalar.minsi c120_i32_34 v79
  let c64_i32_37 : BitVec 32 := 64#32
  let v84 : BitVec 32 := Scalar.muli v80 c64_i32_37
  v84
def k0_mult3 (i : grid0.Coords) : BitVec 32 :=
  let c120_i32_58 : BitVec 32 := 120#32
  let c0_i32_57 : BitVec 32 := 0#32
  let arg1 : BitVec 32 := BitVec.ofNat 32 (i 1).val
  let c4_i32_55 : BitVec 32 := 4#32
  let v130 : BitVec 32 := Scalar.muli arg1 c4_i32_55
  let c2_i32 : BitVec 32 := 2#32
  let v131 : BitVec 32 := Scalar.addi v130 c2_i32
  let c4_i32_56 : BitVec 32 := 4#32
  let v132 : BitVec 32 := Scalar.subi v131 c4_i32_56
  let v133 : BitVec 32 := Scalar.maxsi c0_i32_57 v132
  let v134 : BitVec 32 := Scalar.minsi c120_i32_58 v133
  let c64_i32_61 : BitVec 32 := 64#32
  let v138 : BitVec 32 := Scalar.muli v134 c64_i32_61
  v138
def k0_mult4 (i : grid0.Coords) : BitVec 32 :=
  let c120_i32_82 : BitVec 32 := 120#32
  let c0_i32_81 : BitVec 32 := 0#32
  let arg1 : BitVec 32 := BitVec.ofNat 32 (i 1).val
  let c4_i32_79 : BitVec 32 := 4#32
  let v184 : BitVec 32 := Scalar.muli arg1 c4_i32_79
  let c3_i32 : BitVec 32 := 3#32
  let v185 : BitVec 32 := Scalar.addi v184 c3_i32
  let c4_i32_80 : BitVec 32 := 4#32
  let v186 : BitVec 32 := Scalar.subi v185 c4_i32_80
  let v187 : BitVec 32 := Scalar.maxsi c0_i32_81 v186
  let v188 : BitVec 32 := Scalar.minsi c120_i32_82 v187
  let c64_i32_85 : BitVec 32 := 64#32
  let v192 : BitVec 32 := Scalar.muli v188 c64_i32_85
  v192
def k0_off1 (i : grid0.Coords) (c0_i32_9 : BitVec 32) : Fin 2 → Nat :=
  let c120_i32 : BitVec 32 := 120#32
  let c0_i32_11 : BitVec 32 := 0#32
  let arg1 : BitVec 32 := BitVec.ofNat 32 (i 1).val
  let c4_i32 : BitVec 32 := 4#32
  let v22 : BitVec 32 := Scalar.muli arg1 c4_i32
  let v23 : BitVec 32 := Scalar.addi v22 c0_i32_9
  let c4_i32_10 : BitVec 32 := 4#32
  let v24 : BitVec 32 := Scalar.subi v23 c4_i32_10
  let v25 : BitVec 32 := Scalar.maxsi c0_i32_11 v24
  let v26 : BitVec 32 := Scalar.minsi c120_i32 v25
  let c64_i32_12 : BitVec 32 := 64#32
  let v30 : BitVec 32 := Scalar.muli v26 c64_i32_12
  let v31 : BitVec 32 := v30
  let v248 : Index := Scalar.indexCast v31
  let c0_105 : Index := 0#32
  ![v248.toNat, 0]
def k0_off2 (i : grid0.Coords) (c0_i32_9 : BitVec 32) : Fin 4 → Nat :=
  let c120_i32 : BitVec 32 := 120#32
  let c0_i32_11 : BitVec 32 := 0#32
  let arg1 : BitVec 32 := BitVec.ofNat 32 (i 1).val
  let c4_i32 : BitVec 32 := 4#32
  let v22 : BitVec 32 := Scalar.muli arg1 c4_i32
  let v23 : BitVec 32 := Scalar.addi v22 c0_i32_9
  let c4_i32_10 : BitVec 32 := 4#32
  let v24 : BitVec 32 := Scalar.subi v23 c4_i32_10
  let v25 : BitVec 32 := Scalar.maxsi c0_i32_11 v24
  let v26 : BitVec 32 := Scalar.minsi c120_i32 v25
  let v27 : BitVec 32 := Scalar.subi v26 v23
  let c8_i32 : BitVec 32 := 8#32
  let v28 : BitVec 32 := Scalar.addi v27 c8_i32
  let c1_i32 : BitVec 32 := 1#32
  let v29 : BitVec 32 := Scalar.subi v28 c1_i32
  let v253 : Index := Scalar.indexCast v29
  let c0_108 : Index := 0#32
  let c0_109 : Index := 0#32
  let c0_110 : Index := 0#32
  ![v253.toNat, 0, 0, 0]
def k0_off3 (i : grid0.Coords) (c0_i32_9 : BitVec 32) : Fin 2 → Nat :=
  let c120_i32 : BitVec 32 := 120#32
  let c0_i32_11 : BitVec 32 := 0#32
  let arg1 : BitVec 32 := BitVec.ofNat 32 (i 1).val
  let c4_i32 : BitVec 32 := 4#32
  let v22 : BitVec 32 := Scalar.muli arg1 c4_i32
  let v23 : BitVec 32 := Scalar.addi v22 c0_i32_9
  let c4_i32_10 : BitVec 32 := 4#32
  let v24 : BitVec 32 := Scalar.subi v23 c4_i32_10
  let v25 : BitVec 32 := Scalar.maxsi c0_i32_11 v24
  let v26 : BitVec 32 := Scalar.minsi c120_i32 v25
  let c64_i32_12 : BitVec 32 := 64#32
  let v30 : BitVec 32 := Scalar.muli v26 c64_i32_12
  let v31 : BitVec 32 := v30
  let v378 : Index := Scalar.indexCast v31
  let c0_163 : Index := 0#32
  ![v378.toNat, 0]
def k0_cond2 (i : grid0.Coords) : BitVec 1 :=
  let arg1 : BitVec 32 := BitVec.ofNat 32 (i 1).val
  let c32_i32 : BitVec 32 := 32#32
  let v3 : BitVec 1 := Scalar.cmpi .sge arg1 c32_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c32_i32 : BitVec 32 := 32#32
  let c0_i32 : BitVec 32 := 0#32
  ![c32_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c32_i32 : BitVec 32 := 32#32
  let c0_i32 : BitVec 32 := 0#32
  ![c32_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x2x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8448x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8448x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x2x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Kernel2.lean ====
abbrev S4x8448x704 : Shape := ⟨3, ![4, 8448, 704]⟩
abbrev S8448x1024 : Shape := ⟨2, ![8448, 1024]⟩
abbrev S4x704x1024 : Shape := ⟨3, ![4, 704, 1024]⟩
abbrev S4x1408x704 : Shape := ⟨3, ![4, 1408, 704]⟩
abbrev S1408x1024 : Shape := ⟨2, ![1408, 1024]⟩
abbrev S1x704x1024 : Shape := ⟨3, ![1, 704, 1024]⟩
abbrev S704x1024 : Shape := ⟨2, ![704, 1024]⟩
abbrev S1x1408x704 : Shape := ⟨3, ![1, 1408, 704]⟩
abbrev S1408x704 : Shape := ⟨2, ![1408, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x8448x704, .bf16⟩
  | .hbm, ⟨1, _⟩ => ⟨S8448x1024, .bf16⟩
  | .hbm, ⟨2, _⟩ => ⟨S4x704x1024, .bf16⟩
  | .local _ .vmem, ⟨0, _⟩ => ⟨S4x1408x704, .bf16⟩
  | .local _ .vmem, ⟨1, _⟩ => ⟨S4x1408x704, .bf16⟩
  | .local _ .vmem, ⟨2, _⟩ => ⟨S1408x1024, .bf16⟩
  | .local _ .vmem, ⟨3, _⟩ => ⟨S1408x1024, .bf16⟩
  | .local _ .vmem, ⟨4, _⟩ => ⟨S4x704x1024, .bf16⟩
  | .local _ .vmem, ⟨5, _⟩ => ⟨S4x704x1024, .f32⟩
  | _, _ => ⟨S4x8448x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c5_i32 : BitVec 32 := 5#32
  let v43 : BitVec 1 := Scalar.cmpi .eq arg1 c5_i32
  let v44 : BitVec 32 := Scalar.extui v43
  let c0_i32_44 : BitVec 32 := 0#32
  let v45 : BitVec 1 := Scalar.cmpi .ne v44 c0_i32_44
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1408x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S4x8448x704 : Shape := ⟨3, ![4, 8448, 704]⟩
abbrev S8448x1024 : Shape := ⟨2, ![8448, 1024]⟩
abbrev S8448x4x704 : Shape := ⟨3, ![8448, 4, 704]⟩
abbrev S8448x2816 : Shape := ⟨2, ![8448, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8448x704, .bf16⟩
  | .hbm, ⟨1, _⟩ => ⟨S8448x1024, .bf16⟩
  | .hbm, ⟨2, _⟩ => ⟨S4x8448x704, .f32⟩
  | .hbm, ⟨3, _⟩ => ⟨S8448x4x704, .f32⟩
  | .hbm, ⟨4, _⟩ => ⟨S8448x2816, .f32⟩
  | .hbm, ⟨5, _⟩ => ⟨S_, .f32⟩
  | .hbm, ⟨6, _⟩ => ⟨S2816x1024, .f32⟩
  | .hbm, ⟨7, _⟩ => ⟨S8448x1024, .f32⟩
  | .hbm, ⟨8, _⟩ => ⟨S8448x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x8448x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S8448x1024 : Shape := ⟨2, ![8448, 1024]⟩
abbrev S8x8448x704 : Shape := ⟨3, ![8, 8448, 704]⟩
abbrev S8x1024x704 : Shape := ⟨3, ![8, 1024, 704]⟩
abbrev S1408x1024 : Shape := ⟨2, ![1408, 1024]⟩
abbrev S4x1408x704 : Shape := ⟨3, ![4, 1408, 704]⟩
abbrev S4x1024x704 : Shape := ⟨3, ![4, 1024, 704]⟩
abbrev S1x1024x704 : Shape := ⟨3, ![1, 1024, 704]⟩
abbrev S1024x704 : Shape := ⟨2, ![1024, 704]⟩
abbrev S1x1408x704 : Shape := ⟨3, ![1, 1408, 704]⟩
abbrev S1408x704 : Shape := ⟨2, ![1408, 704]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8x8448x704, .bf16⟩
  | .hbm, ⟨2, _⟩ => ⟨S8x1024x704, .bf16⟩
  | .local _ .vmem, ⟨0, _⟩ => ⟨S1408x1024, .bf16⟩
  | .local _ .vmem, ⟨1, _⟩ => ⟨S1408x1024, .bf16⟩
  | .local _ .vmem, ⟨2, _⟩ => ⟨S4x1408x704, .bf16⟩
  | .local _ .vmem, ⟨3, _⟩ => ⟨S4x1408x704, .bf16⟩
  | .local _ .vmem, ⟨4, _⟩ => ⟨S4x1024x704, .bf16⟩
  | .local _ .vmem, ⟨5, _⟩ => ⟨S4x1024x704, .bf16⟩
  | .local _ .vmem, ⟨6, _⟩ => ⟨S4x1024x704, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def k0_cond2 (i : grid0.Coords) : BitVec 1 :=
  let arg1 : BitVec 32 := BitVec.ofNat 32 (i 1).val
  let c5_i32 : BitVec 32 := 5#32
  let v43 : BitVec 1 := Scalar.cmpi .eq arg1 c5_i32
  let v44 : BitVec 32 := Scalar.extui v43
  let c0_i32_44 : BitVec 32 := 0#32
  let v45 : BitVec 1 := Scalar.cmpi .ne v44 c0_i32_44
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1408x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8448x1024 : Shape := ⟨2, ![8448, 1024]⟩
abbrev S8x8448x704 : Shape := ⟨3, ![8, 8448, 704]⟩
abbrev S8448x8x704 : Shape := ⟨3, ![8448, 8, 704]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8x8448x704, .bf16⟩
  | .hbm, ⟨2, _⟩ => ⟨S8448x1024, .f32⟩
  | .hbm, ⟨3, _⟩ => ⟨S8x8448x704, .f32⟩
  | .hbm, ⟨4, _⟩ => ⟨S8448x8x704, .f32⟩
  | .hbm, ⟨5, _⟩ => ⟨S8448x5632, .f32⟩
  | .hbm, ⟨6, _⟩ => ⟨S_, .f32⟩
  | .hbm, ⟨7, _⟩ => ⟨S1024x5632, .f32⟩
  | .hbm, ⟨8, _⟩ => ⟨S8448x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | .hbm, ⟨13, _⟩ => ⟨S8x1024x704, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8448x1024 : Shape := ⟨2, ![8448, 1024]⟩
abbrev S4x704x1024 : Shape := ⟨3, ![4, 704, 1024]⟩
abbrev S2x4x8448x704 : Shape := ⟨4, ![2, 4, 8448, 704]⟩
abbrev S528x1024 : Shape := ⟨2, ![528, 1024]⟩
abbrev S2x4x528x704 : Shape := ⟨4, ![2, 4, 528, 704]⟩
abbrev S1x704x1024 : Shape := ⟨3, ![1, 704, 1024]⟩
abbrev S704x1024 : Shape := ⟨2, ![704, 1024]⟩
abbrev S528x704 : Shape := ⟨2, ![528, 704]⟩
abbrev S1x1x528x704 : Shape := ⟨4, ![1, 1, 528, 704]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x704x1024, .bf16⟩
  | .hbm, ⟨2, _⟩ => ⟨S2x4x8448x704, .bf16⟩
  | .hbm, ⟨3, _⟩ => ⟨S2x4x8448x704, .bf16⟩
  | .local _ .vmem, ⟨0, _⟩ => ⟨S528x1024, .bf16⟩
  | .local _ .vmem, ⟨1, _⟩ => ⟨S528x1024, .bf16⟩
  | .local _ .vmem, ⟨2, _⟩ => ⟨S4x704x1024, .bf16⟩
  | .local _ .vmem, ⟨3, _⟩ => ⟨S2x4x528x704, .bf16⟩
  | .local _ .vmem, ⟨4, _⟩ => ⟨S2x4x528x704, .bf16⟩
  | .local _ .vmem, ⟨5, _⟩ => ⟨S2x4x528x704, .bf16⟩
  | .local _ .vmem, ⟨6, _⟩ => ⟨S2x4x528x704, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x528x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x528x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8448x1024 : Shape := ⟨2, ![8448, 1024]⟩
abbrev S4x704x1024 : Shape := ⟨3, ![4, 704, 1024]⟩
abbrev S2x4x8448x704 : Shape := ⟨4, ![2, 4, 8448, 704]⟩
abbrev S2816x1024 : Shape := ⟨2, ![2816, 1024]⟩
abbrev S1x4x8448x704 : Shape := ⟨4, ![1, 4, 8448, 704]⟩
abbrev S4x8448x704 : Shape := ⟨3, ![4, 8448, 704]⟩
abbrev S8448x4x704 : Shape := ⟨3, ![8448, 4, 704]⟩
abbrev S8448x2816 : Shape := ⟨2, ![8448, 2816]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x704x1024, .bf16⟩
  | .hbm, ⟨2, _⟩ => ⟨S2x4x8448x704, .bf16⟩
  | .hbm, ⟨3, _⟩ => ⟨S4x704x1024, .f32⟩
  | .hbm, ⟨4, _⟩ => ⟨S2816x1024, .f32⟩
  | .hbm, ⟨5, _⟩ => ⟨S1x4x8448x704, .bf16⟩
  | .hbm, ⟨6, _⟩ => ⟨S4x8448x704, .bf16⟩
  | .hbm, ⟨7, _⟩ => ⟨S4x8448x704, .f32⟩
  | .hbm, ⟨8, _⟩ => ⟨S8448x4x704, .f32⟩
  | .hbm, ⟨9, _⟩ => ⟨S8448x2816, .f32⟩
  | .hbm, ⟨10, _⟩ => ⟨S1x4x8448x704, .bf16⟩
  | .hbm, ⟨11, _⟩ => ⟨S4x8448x704, .bf16⟩
  | .hbm, ⟨12, _⟩ => ⟨S4x8448x704, .f32⟩
  | .hbm, ⟨13, _⟩ => ⟨S8448x4x704, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S_, .f32⟩
  | .hbm, ⟨18, _⟩ => ⟨S8448x2816, .f32⟩
  | .hbm, ⟨19, _⟩ => ⟨S8448x2816, .f32⟩
  | .hbm, ⟨20, _⟩ => ⟨S_, .f32⟩
  | .hbm, ⟨21, _⟩ => ⟨S8448x2816, .f32⟩
  | .hbm, ⟨22, _⟩ => ⟨S8448x2816, .f32⟩
  | .hbm, ⟨23, _⟩ => ⟨S_, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x1024, .f32⟩
  | .hbm, ⟨30, _⟩ => ⟨S8448x1024, .f32⟩
  | .hbm, ⟨31, _⟩ => ⟨S8448x2816, .f32⟩
  | .hbm, ⟨32, _⟩ => ⟨S8448x2816, .f32⟩
  | .hbm, ⟨33, _⟩ => ⟨S8448x2816, .f32⟩
  | .hbm, ⟨34, _⟩ => ⟨S8448x2816, .f32⟩
  | .hbm, ⟨35, _⟩ => ⟨S8448x2816, .f32⟩
  | .hbm, ⟨36, _⟩ => ⟨S8448x2816, .f32⟩
  | .hbm, ⟨37, _⟩ => ⟨S8448x2816, .f32⟩
  | .hbm, ⟨38, _⟩ => ⟨S8448x4x704, .f32⟩
  | .hbm, ⟨39, _⟩ => ⟨S4x8448x704, .f32⟩
  | .hbm, ⟨40, _⟩ => ⟨S8448x4x704, .f32⟩
  | .hbm, ⟨41, _⟩ => ⟨S4x8448x704, .f32⟩
  | .hbm, ⟨42, _⟩ => ⟨S1x4x8448x704, .f32⟩
  | .hbm, ⟨43, _⟩ => ⟨S1x4x8448x704, .f32⟩
  | .hbm, ⟨44, _⟩ => ⟨S2x4x8448x704, .f32⟩
  | .hbm, ⟨45, _⟩ => ⟨S2x4x8448x704, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v12_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v12_1 : Ref sig .tc := ⟨.hbm, 26, rfl⟩
abbrev main_v12_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel5.lean ====
abbrev S8448x1024 : Shape := ⟨2, ![8448, 1024]⟩
abbrev S1x1024 : Shape := ⟨2, ![1, 1024]⟩
abbrev S2x9x1024 : Shape := ⟨3, ![2, 9, 1024]⟩
abbrev S2x4x1024x704 : Shape := ⟨4, ![2, 4, 1024, 704]⟩
abbrev S2x4x8448x704 : Shape := ⟨4, ![2, 4, 8448, 704]⟩
abbrev S4x8448x704 : Shape := ⟨3, ![4, 8448, 704]⟩
abbrev S528x1024 : Shape := ⟨2, ![528, 1024]⟩
abbrev S2x4x528x704 : Shape := ⟨4, ![2, 4, 528, 704]⟩
abbrev S4x528x704 : Shape := ⟨3, ![4, 528, 704]⟩
abbrev S528 : Shape := ⟨1, ![528]⟩
abbrev S528x1 : Shape := ⟨2, ![528, 1]⟩
abbrev S1x1x1024 : Shape := ⟨3, ![1, 1, 1024]⟩
abbrev S1x1x1024x704 : Shape := ⟨4, ![1, 1, 1024, 704]⟩
abbrev S1024x704 : Shape := ⟨2, ![1024, 704]⟩
abbrev S528x704 : Shape := ⟨2, ![528, 704]⟩
abbrev S1x1x528x704 : Shape := ⟨4, ![1, 1, 528, 704]⟩
abbrev S1x528x704 : Shape := ⟨3, ![1, 528, 704]⟩

abbrev nBuf : Space → Nat
  | .hbm => 7
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x9x1024, .f32⟩
  | .hbm, ⟨3, _⟩ => ⟨S2x4x1024x704, .bf16⟩
  | .hbm, ⟨4, _⟩ => ⟨S8448x1024, .bf16⟩
  | .hbm, ⟨5, _⟩ => ⟨S2x4x8448x704, .bf16⟩
  | .hbm, ⟨6, _⟩ => ⟨S4x8448x704, .bf16⟩
  | .local _ .vmem, ⟨0, _⟩ => ⟨S528x1024, .f32⟩
  | .local _ .vmem, ⟨1, _⟩ => ⟨S528x1024, .f32⟩
  | .local _ .vmem, ⟨2, _⟩ => ⟨S1x1024, .f32⟩
  | .local _ .vmem, ⟨3, _⟩ => ⟨S2x9x1024, .f32⟩
  | .local _ .vmem, ⟨4, _⟩ => ⟨S2x4x1024x704, .bf16⟩
  | .local _ .vmem, ⟨5, _⟩ => ⟨S528x1024, .bf16⟩
  | .local _ .vmem, ⟨6, _⟩ => ⟨S528x1024, .bf16⟩
  | .local _ .vmem, ⟨7, _⟩ => ⟨S2x4x528x704, .bf16⟩
  | .local _ .vmem, ⟨8, _⟩ => ⟨S2x4x528x704, .bf16⟩
  | .local _ .vmem, ⟨9, _⟩ => ⟨S4x528x704, .bf16⟩
  | .local _ .vmem, ⟨10, _⟩ => ⟨S4x528x704, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c15_i32 : BitVec 32 := 15#32
  let v0 : BitVec 1 := Scalar.cmpi .slt arg0 c15_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c15_i32_0 : BitVec 32 := 15#32
  let v3 : BitVec 1 := Scalar.cmpi .sge arg0 c15_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4x528x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x528x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8448x1024 : Shape := ⟨2, ![8448, 1024]⟩
abbrev S1x1024 : Shape := ⟨2, ![1, 1024]⟩
abbrev S2x9x1024 : Shape := ⟨3, ![2, 9, 1024]⟩
abbrev S2x4x1024x704 : Shape := ⟨4, ![2, 4, 1024, 704]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x2x4x704 : Shape := ⟨4, ![1024, 2, 4, 704]⟩
abbrev S1024x5632 : Shape := ⟨2, ![1024, 5632]⟩
abbrev S8448x5632 : Shape := ⟨2, ![8448, 5632]⟩
abbrev S8448x2816 : Shape := ⟨2, ![8448, 2816]⟩
abbrev S8448x4x704 : Shape := ⟨3, ![8448, 4, 704]⟩
abbrev S4x8448x704 : Shape := ⟨3, ![4, 8448, 704]⟩
abbrev S1x4x8448x704 : Shape := ⟨4, ![1, 4, 8448, 704]⟩
abbrev S2x4x8448x704 : Shape := ⟨4, ![2, 4, 8448, 704]⟩

abbrev nBuf : Space → Nat
  | .hbm => 95
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S2x9x1024, .f32⟩
  | .hbm, ⟨3, _⟩ => ⟨S2x4x1024x704, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1x1024, .f32⟩
  | .hbm, ⟨23, _⟩ => ⟨S1024, .f32⟩
  | .hbm, ⟨24, _⟩ => ⟨S1x1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S256x1024, .f32⟩
  | .hbm, ⟨36, _⟩ => ⟨S1024, .f32⟩
  | .hbm, ⟨37, _⟩ => ⟨S256x1024, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x1024, .f32⟩
  | .hbm, ⟨49, _⟩ => ⟨S256x1024, .f32⟩
  | .hbm, ⟨50, _⟩ => ⟨S1x1024, .f32⟩
  | .hbm, ⟨51, _⟩ => ⟨S256x1024, .f32⟩
  | .hbm, ⟨52, _⟩ => ⟨S256x1024, .f32⟩
  | .hbm, ⟨53, _⟩ => ⟨S1x1x1024, .f32⟩
  | .hbm, ⟨54, _⟩ => ⟨S1024, .f32⟩
  | .hbm, ⟨55, _⟩ => ⟨S1x1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S256x1024, .f32⟩
  | .hbm, ⟨62, _⟩ => ⟨S256x1024, .f32⟩
  | .hbm, ⟨63, _⟩ => ⟨S1x1024, .f32⟩
  | .hbm, ⟨64, _⟩ => ⟨S256x1024, .f32⟩
  | .hbm, ⟨65, _⟩ => ⟨S256x1024, .f32⟩
  | .hbm, ⟨66, _⟩ => ⟨S8448x1024, .f32⟩
  | .hbm, ⟨67, _⟩ => ⟨S2x4x1024x704, .f32⟩
  | .hbm, ⟨68, _⟩ => ⟨S1024x2x4x704, .f32⟩
  | .hbm, ⟨69, _⟩ => ⟨S1024x5632, .f32⟩
  | .hbm, ⟨70, _⟩ => ⟨S8448x5632, .f32⟩
  | .hbm, ⟨71, _⟩ => ⟨S8448x2816, .f32⟩
  | .hbm, ⟨72, _⟩ => ⟨S8448x2816, .f32⟩
  | .hbm, ⟨73, _⟩ => ⟨S8448x2816, .f32⟩
  | .hbm, ⟨74, _⟩ => ⟨S8448x2816, .f32⟩
  | .hbm, ⟨75, _⟩ => ⟨S_, .f32⟩
  | .hbm, ⟨76, _⟩ => ⟨S8448x2816, .f32⟩
  | .hbm, ⟨77, _⟩ => ⟨S8448x2816, .f32⟩
  | .hbm, ⟨78, _⟩ => ⟨S_, .f32⟩
  | .hbm, ⟨79, _⟩ => ⟨S8448x2816, .f32⟩
  | .hbm, ⟨80, _⟩ => ⟨S8448x2816, .f32⟩
  | .hbm, ⟨81, _⟩ => ⟨S8448x2816, .f32⟩
  | .hbm, ⟨82, _⟩ => ⟨S8448x2816, .f32⟩
  | .hbm, ⟨83, _⟩ => ⟨S8448x1024, .bf16⟩
  | .hbm, ⟨84, _⟩ => ⟨S8448x4x704, .f32⟩
  | .hbm, ⟨85, _⟩ => ⟨S4x8448x704, .f32⟩
  | .hbm, ⟨86, _⟩ => ⟨S8448x4x704, .f32⟩
  | .hbm, ⟨87, _⟩ => ⟨S4x8448x704, .f32⟩
  | .hbm, ⟨88, _⟩ => ⟨S1x4x8448x704, .f32⟩
  | .hbm, ⟨89, _⟩ => ⟨S1x4x8448x704, .f32⟩
  | .hbm, ⟨90, _⟩ => ⟨S2x4x8448x704, .f32⟩
  | .hbm, ⟨91, _⟩ => ⟨S2x4x8448x704, .bf16⟩
  | .hbm, ⟨92, _⟩ => ⟨S8448x4x704, .f32⟩
  | .hbm, ⟨93, _⟩ => ⟨S4x8448x704, .f32⟩
  | .hbm, ⟨94, _⟩ => ⟨S4x8448x704, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Kernel6.lean ====
abbrev S4x8448x704 : Shape := ⟨3, ![4, 8448, 704]⟩
abbrev S4x704x1024 : Shape := ⟨3, ![4, 704, 1024]⟩
abbrev S8448x1024 : Shape := ⟨2, ![8448, 1024]⟩
abbrev S1x1024 : Shape := ⟨2, ![1, 1024]⟩
abbrev S2x9x1024 : Shape := ⟨3, ![2, 9, 1024]⟩
abbrev S4x528x704 : Shape := ⟨3, ![4, 528, 704]⟩
abbrev S528x1024 : Shape := ⟨2, ![528, 1024]⟩
abbrev S1x528x704 : Shape := ⟨3, ![1, 528, 704]⟩
abbrev S528x704 : Shape := ⟨2, ![528, 704]⟩
abbrev S1x704x1024 : Shape := ⟨3, ![1, 704, 1024]⟩
abbrev S704x1024 : Shape := ⟨2, ![704, 1024]⟩
abbrev S1x1x1024 : Shape := ⟨3, ![1, 1, 1024]⟩
abbrev S528 : Shape := ⟨1, ![528]⟩
abbrev S528x1 : Shape := ⟨2, ![528, 1]⟩

abbrev nBuf : Space → Nat
  | .hbm => 7
  | .vmem => 11
  | .smem => 0
  | _ => 0

abbrev bufTy : (tb : Table) → Fin (tcTables nBuf tb) → BufTy
  | .hbm, ⟨0, _⟩ => ⟨S4x8448x704, .bf16⟩
  | .hbm, ⟨1, _⟩ => ⟨S4x704x1024, .bf16⟩
  | .hbm, ⟨2, _⟩ => ⟨S8448x1024, .f32⟩
  | .hbm, ⟨3, _⟩ => ⟨S1x1024, .f32⟩
  | .hbm, ⟨4, _⟩ => ⟨S2x9x1024, .f32⟩
  | .hbm, ⟨5, _⟩ => ⟨S8448x1024, .f32⟩
  | .hbm, ⟨6, _⟩ => ⟨S8448x1024, .f32⟩
  | .local _ .vmem, ⟨0, _⟩ => ⟨S4x528x704, .bf16⟩
  | .local _ .vmem, ⟨1, _⟩ => ⟨S4x528x704, .bf16⟩
  | .local _ .vmem, ⟨2, _⟩ => ⟨S4x704x1024, .bf16⟩
  | .local _ .vmem, ⟨3, _⟩ => ⟨S528x1024, .f32⟩
  | .local _ .vmem, ⟨4, _⟩ => ⟨S528x1024, .f32⟩
  | .local _ .vmem, ⟨5, _⟩ => ⟨S1x1024, .f32⟩
  | .local _ .vmem, ⟨6, _⟩ => ⟨S2x9x1024, .f32⟩
  | .local _ .vmem, ⟨7, _⟩ => ⟨S528x1024, .f32⟩
  | .local _ .vmem, ⟨8, _⟩ => ⟨S528x1024, .f32⟩
  | .local _ .vmem, ⟨9, _⟩ => ⟨S528x1024, .f32⟩
  | .local _ .vmem, ⟨10, _⟩ => ⟨S528x1024, .f32⟩
  | _, _ => ⟨S4x8448x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c15_i32 : BitVec 32 := 15#32
  let v24 : BitVec 1 := Scalar.cmpi .slt arg0 c15_i32
  let v25 : BitVec 32 := Scalar.extui v24
  let c0_i32 : BitVec 32 := 0#32
  let v26 : BitVec 1 := Scalar.cmpi .ne v25 c0_i32
  v26

def k0_cond2 (i : grid0.Coords) : BitVec 1 :=
  let arg0 : BitVec 32 := BitVec.ofNat 32 (i 0).val
  let c15_i32_25 : BitVec 32 := 15#32
  let v27 : BitVec 1 := Scalar.cmpi .sge arg0 c15_i32_25
  let v28 : BitVec 32 := Scalar.extui v27
  let c0_i32_26 : BitVec 32 := 0#32
  let v29 : BitVec 1 := Scalar.cmpi .ne v28 c0_i32_26
  v29

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x528x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x9x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x8448x704 : Shape := ⟨3, ![4, 8448, 704]⟩
abbrev S4x704x1024 : Shape := ⟨3, ![4, 704, 1024]⟩
abbrev S8448x1024 : Shape := ⟨2, ![8448, 1024]⟩
abbrev S1x1024 : Shape := ⟨2, ![1, 1024]⟩
abbrev S2x9x1024 : Shape := ⟨3, ![2, 9, 1024]⟩
abbrev S8448x4x704 : Shape := ⟨3, ![8448, 4, 704]⟩
abbrev S8448x2816 : Shape := ⟨2, ![8448, 2816]⟩
abbrev S2816x1024 : Shape := ⟨2, ![2816, 1024]⟩
abbrev S8192x1024 : Shape := ⟨2, ![8192, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 68
  | .vmem => 0
  | .smem => 0
  | _ => 0

abbrev bufTy : (tb : Table) → Fin (tcTables nBuf tb) → BufTy
  | .hbm, ⟨0, _⟩ => ⟨S4x8448x704, .bf16⟩
  | .hbm, ⟨1, _⟩ => ⟨S4x704x1024, .bf16⟩
  | .hbm, ⟨2, _⟩ => ⟨S8448x1024, .f32⟩
  | .hbm, ⟨3, _⟩ => ⟨S1x1024, .f32⟩
  | .hbm, ⟨4, _⟩ => ⟨S2x9x1024, .f32⟩
  | .hbm, ⟨5, _⟩ => ⟨S4x8448x704, .f32⟩
  | .hbm, ⟨6, _⟩ => ⟨S8448x4x704, .f32⟩
  | .hbm, ⟨7, _⟩ => ⟨S8448x2816, .f32⟩
  | .hbm, ⟨8, _⟩ => ⟨S4x704x1024, .f32⟩
  | .hbm, ⟨9, _⟩ => ⟨S2816x1024, .f32⟩
  | .hbm, ⟨10, _⟩ => ⟨S8448x1024, .f32⟩
  | .hbm, ⟨11, _⟩ => ⟨S8192x1024, .f32⟩
  | .hbm, ⟨12, _⟩ => ⟨S8192x1024, .f32⟩
  | .hbm, ⟨13, _⟩ => ⟨S1x1x1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S256x1024, .f32⟩
  | .hbm, ⟨40, _⟩ => ⟨S256x1024, .f32⟩
  | .hbm, ⟨41, _⟩ => ⟨S1x1x1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S256x1024, .f32⟩
  | .hbm, ⟨48, _⟩ => ⟨S_, .f32⟩
  | .hbm, ⟨49, _⟩ => ⟨S256, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S256x1, .f32⟩
  | .hbm, ⟨58, _⟩ => ⟨S256x1024, .f32⟩
  | .hbm, ⟨59, _⟩ => ⟨S256x1024, .f32⟩
  | .hbm, ⟨60, _⟩ => ⟨S1x1024, .f32⟩
  | .hbm, ⟨61, _⟩ => ⟨S256x1024, .f32⟩
  | .hbm, ⟨62, _⟩ => ⟨S256x1024, .f32⟩
  | .hbm, ⟨63, _⟩ => ⟨S1x1024, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S8448x1024, .f32⟩
  | _, _ => ⟨S4x8448x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel7.lean ====
abbrev S2x4x8448x704 : Shape := ⟨4, ![2, 4, 8448, 704]⟩
abbrev S2x4x1024x704 : Shape := ⟨4, ![2, 4, 1024, 704]⟩
abbrev S8448x1024 : Shape := ⟨2, ![8448, 1024]⟩
abbrev S1x1024 : Shape := ⟨2, ![1, 1024]⟩
abbrev S2x9x1024 : Shape := ⟨3, ![2, 9, 1024]⟩
abbrev S2x8x1024 : Shape := ⟨3, ![2, 8, 1024]⟩
abbrev S2x4x528x704 : Shape := ⟨4, ![2, 4, 528, 704]⟩
abbrev S528x1024 : Shape := ⟨2, ![528, 1024]⟩
abbrev S1x1x528x704 : Shape := ⟨4, ![1, 1, 528, 704]⟩
abbrev S528x704 : Shape := ⟨2, ![528, 704]⟩
abbrev S1x1x1024x704 : Shape := ⟨4, ![1, 1, 1024, 704]⟩
abbrev S1024x704 : Shape := ⟨2, ![1024, 704]⟩
abbrev S528 : Shape := ⟨1, ![528]⟩
abbrev S528x1 : Shape := ⟨2, ![528, 1]⟩
abbrev S1x1x1024 : Shape := ⟨3, ![1, 1, 1024]⟩
abbrev S1024 : Shape := ⟨1, ![1024]⟩
abbrev S2x1x1024 : Shape := ⟨3, ![2, 1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2x4x8448x704, .bf16⟩
  | .hbm, ⟨1, _⟩ => ⟨S2x4x1024x704, .bf16⟩
  | .hbm, ⟨2, _⟩ => ⟨S8448x1024, .f32⟩
  | .hbm, ⟨3, _⟩ => ⟨S8448x1024, .f32⟩
  | .hbm, ⟨4, _⟩ => ⟨S1x1024, .f32⟩
  | .hbm, ⟨5, _⟩ => ⟨S2x9x1024, .f32⟩
  | .hbm, ⟨6, _⟩ => ⟨S8448x1024, .f32⟩
  | .hbm, ⟨7, _⟩ => ⟨S2x8x1024, .f32⟩
  | .local _ .vmem, ⟨0, _⟩ => ⟨S2x4x528x704, .bf16⟩
  | .local _ .vmem, ⟨1, _⟩ => ⟨S2x4x528x704, .bf16⟩
  | .local _ .vmem, ⟨2, _⟩ => ⟨S2x4x1024x704, .bf16⟩
  | .local _ .vmem, ⟨3, _⟩ => ⟨S528x1024, .f32⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | .local _ .vmem, ⟨7, _⟩ => ⟨S1x1024, .f32⟩
  | .local _ .vmem, ⟨8, _⟩ => ⟨S2x9x1024, .f32⟩
  | .local _ .vmem, ⟨9, _⟩ => ⟨S528x1024, .f32⟩
  | .local _ .vmem, ⟨10, _⟩ => ⟨S528x1024, .f32⟩
  | .local _ .vmem, ⟨11, _⟩ => ⟨S2x8x1024, .f32⟩
  | .local _ .vmem, ⟨12, _⟩ => ⟨S528x1024, .f32⟩
  | _, _ => ⟨S2x4x8448x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c15_i32 : BitVec 32 := 15#32
  let v50 : BitVec 1 := Scalar.cmpi .slt arg0 c15_i32
  let v51 : BitVec 32 := Scalar.extui v50
  let c0_i32 : BitVec 32 := 0#32
  let v52 : BitVec 1 := Scalar.cmpi .ne v51 c0_i32
  v52

def k0_cond3 (i : grid0.Coords) : BitVec 1 :=
  let arg0 : BitVec 32 := BitVec.ofNat 32 (i 0).val
  let c15_i32_69 : BitVec 32 := 15#32
  let v53 : BitVec 1 := Scalar.cmpi .sge arg0 c15_i32_69
  let v54 : BitVec 32 := Scalar.extui v53
  let c0_i32_70 : BitVec 32 := 0#32
  let v55 : BitVec 1 := Scalar.cmpi .ne v54 c0_i32_70
  v55

def k0_cond2 (i : grid0.Coords) : BitVec 1 :=
  let arg0 : BitVec 32 := BitVec.ofNat 32 (i 0).val
  let c0_i32_92 : BitVec 32 := 0#32
  let v94 : BitVec 1 := Scalar.cmpi .eq arg0 c0_i32_92
  let v95 : BitVec 32 := Scalar.extui v94
  let c0_i32_93 : BitVec 32 := 0#32
  let v96 : BitVec 1 := Scalar.cmpi .ne v95 c0_i32_93
  v96

def k0_cond4 (i : grid0.Coords) : BitVec 1 :=
  let arg0 : BitVec 32 := BitVec.ofNat 32 (i 0).val
  let c0_i32_95 : BitVec 32 := 0#32
  let v108 : BitVec 1 := Scalar.cmpi .eq arg0 c0_i32_95
  let v109 : BitVec 32 := Scalar.extui v108
  let c0_i32_96 : BitVec 32 := 0#32
  let v110 : BitVec 1 := Scalar.cmpi .ne v109 c0_i32_96
  v110

def k0_cond5 (i : grid0.Coords) : BitVec 1 :=
  let arg0 : BitVec 32 := BitVec.ofNat 32 (i 0).val
  let c15_i32_71 : BitVec 32 := 15#32
  let v56 : BitVec 1 := Scalar.cmpi .eq arg0 c15_i32_71
  let v57 : BitVec 32 := Scalar.extui v56
  let c0_i32_72 : BitVec 32 := 0#32
  let v58 : BitVec 1 := Scalar.cmpi .ne v57 c0_i32_72
  v58

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x4x528x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x9x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S2x4x8448x704 : Shape := ⟨4, ![2, 4, 8448, 704]⟩
abbrev S2x4x1024x704 : Shape := ⟨4, ![2, 4, 1024, 704]⟩
abbrev S8448x1024 : Shape := ⟨2, ![8448, 1024]⟩
abbrev S1x1024 : Shape := ⟨2, ![1, 1024]⟩
abbrev S2x9x1024 : Shape := ⟨3, ![2, 9, 1024]⟩
abbrev S8448x2x4x704 : Shape := ⟨4, ![8448, 2, 4, 704]⟩
abbrev S8448x5632 : Shape := ⟨2, ![8448, 5632]⟩
abbrev S8192x1024 : Shape := ⟨2, ![8192, 1024]⟩
abbrev S1024 : Shape := ⟨1, ![1024]⟩
abbrev S1x1x1024 : Shape := ⟨3, ![1, 1, 1024]⟩
abbrev S_ : Shape := ⟨0, ![]⟩
abbrev S8192 : Shape := ⟨1, ![8192]⟩
abbrev S8192x1 : Shape := ⟨2, ![8192, 1]⟩
abbrev S1024x2x4x704 : Shape := ⟨4, ![1024, 2, 4, 704]⟩
abbrev S1024x5632 : Shape := ⟨2, ![1024, 5632]⟩
abbrev S8192x5632 : Shape := ⟨2, ![8192, 5632]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S3x1024 : Shape := ⟨2, ![3, 1024]⟩
abbrev S5x1024 : Shape := ⟨2, ![5, 1024]⟩
abbrev S8x1024 : Shape := ⟨2, ![8, 1024]⟩
abbrev S1x8x1024 : Shape := ⟨3, ![1, 8, 1024]⟩
abbrev S2x8x1024 : Shape := ⟨3, ![2, 8, 1024]⟩

abbrev nBuf : Space → Nat
  | .hbm => 186
  | .vmem => 0
  | .smem => 0
  | _ => 0

abbrev hbmTy0_0 (i : Nat) : BufTy := match i % 128 with
  | 0 => ⟨S2x4x8448x704, .bf16⟩
  | 1 => ⟨S2x4x1024x704, .bf16⟩
  | 2 => ⟨S8448x1024, .f32⟩
  | 3 => ⟨S8448x1024, .f32⟩
  | 4 => ⟨S1x1024, .f32⟩
  | 5 => ⟨S2x9x1024, .f32⟩
  | 6 => ⟨S2x4x8448x704, .f32⟩
  | 7 => ⟨S8448x2x4x704, .f32⟩
  | 8 => ⟨S8448x5632, .f32⟩
  | 9 => ⟨S8192x1024, .f32⟩
  | 10 => ⟨S1024, .f32⟩
  | 11 => ⟨S1x1x1024, .f32⟩
  | 12 => ⟨S1024, .f32⟩
  | 13 => ⟨S1x1x1024, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S1024, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S2x4x1024x704, .f32⟩
  | 45 => ⟨S1024x2x4x704, .f32⟩
  | 46 => ⟨S1024x5632, .f32⟩
  | 47 => ⟨S8192x5632, .f32⟩
  | 48 => ⟨S8192x5632, .f32⟩
  | 49 => ⟨S8192x1024, .f32⟩
  | 50 => ⟨S_, .f32⟩
  | 51 => ⟨S1024, .f32⟩
  | 52 => ⟨S1x1024, .f32⟩
  | 53 => ⟨S_, .f32⟩
  | 54 => ⟨S1024, .f32⟩
  | 55 => ⟨S8192x1024, .f32⟩
  | 56 => ⟨S_, .f32⟩
  | 57 => ⟨S1024, .f32⟩
  | 58 => ⟨S1x1024, .f32⟩
  | 59 => ⟨S8192x1024, .f32⟩
  | 60 => ⟨S8192x1024, .f32⟩
  | 61 => ⟨S_, .f32⟩
  | 62 => ⟨S1024, .f32⟩
  | 63 => ⟨S8192x1024, .f32⟩
  | 64 => ⟨S_, .f32⟩
  | 65 => ⟨S1024, .f32⟩
  | 66 => ⟨S1x1024, .f32⟩
  | 67 => ⟨S8192x1024, .f32⟩
  | 68 => ⟨S8192x1024, .f32⟩
  | 69 => ⟨S_, .f32⟩
  | 70 => ⟨S1024, .f32⟩
  | 71 => ⟨S8192x1024, .f32⟩
  | 72 => ⟨S_, .f32⟩
  | 73 => ⟨S8192, .f32⟩
  | 74 => ⟨S8192x1, .f32⟩
  | 75 => ⟨S8192x1024, .f32⟩
  | 76 => ⟨S8192x1024, .f32⟩
  | 77 => ⟨S8192x1, .f32⟩
  | 78 => ⟨S_, .f32⟩
  | 79 => ⟨S8192x1, .f32⟩
  | 80 => ⟨S8192x1, .f32⟩
  | 81 => ⟨S_, .f32⟩
  | 82 => ⟨S8192, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S256x1024, .f32⟩
  | 89 => ⟨S1024, .f32⟩
  | 90 => ⟨S1x1x1024, .f32⟩
  | 91 => ⟨S1024, .f32⟩
  | 92 => ⟨S1x1x1024, .f32⟩
  | 93 => ⟨S1024, .f32⟩
  | 94 => ⟨S256x1024, .f32⟩
  | 95 => ⟨S_, .f32⟩
  | 96 => ⟨S256, .f32⟩
  | 97 => ⟨S256x1, .f32⟩
  | 98 => ⟨S_, .f32⟩
  | 99 => ⟨S256x1, .f32⟩
  | 100 => ⟨S256x1, .f32⟩
  | 101 => ⟨S_, .f32⟩
  | 102 => ⟨S256x1, .f32⟩
  | 103 => ⟨S256x1, .f32⟩
  | 104 => ⟨S256x1, .f32⟩
  | 105 => ⟨S256x1, .f32⟩
  | 106 => ⟨S_, .f32⟩
  | 107 => ⟨S256x1, .f32⟩
  | 108 => ⟨S256x1, .f32⟩
  | 109 => ⟨S256x1024, .f32⟩
  | 110 => ⟨S256x1024, .f32⟩
  | 111 => ⟨S1x1024, .f32⟩
  | 112 => ⟨S256x1024, .f32⟩
  | 113 => ⟨S256x1024, .f32⟩
  | 114 => ⟨S_, .f32⟩
  | 115 => ⟨S1024, .f32⟩
  | 116 => ⟨S1024, .f32⟩
  | 117 => ⟨S1x1024, .f32⟩
  | 118 => ⟨S256x1024, .f32⟩
  | 119 => ⟨S256x1024, .f32⟩
  | 120 => ⟨S1x1024, .f32⟩
  | 121 => ⟨S256x1024, .f32⟩
  | 122 => ⟨S256x1024, .f32⟩
  | 123 => ⟨S2x4x1024x704, .f32⟩
  | 124 => ⟨S1024x2x4x704, .f32⟩
  | 125 => ⟨S1024x5632, .f32⟩
  | 126 => ⟨S256x5632, .f32⟩
  | 127 => ⟨S256x5632, .f32⟩
  | _ => ⟨S2x4x8448x704, .bf16⟩

abbrev hbmTy0_1 (i : Nat) : BufTy := match i % 128 with
  | 0 => ⟨S256x1024, .f32⟩
  | 1 => ⟨S_, .f32⟩
  | 2 => ⟨S1024, .f32⟩
  | 3 => ⟨S1x1024, .f32⟩
  | 4 => ⟨S_, .f32⟩
  | 5 => ⟨S1024, .f32⟩
  | 6 => ⟨S256x1024, .f32⟩
  | 7 => ⟨S_, .f32⟩
  | 8 => ⟨S1024, .f32⟩
  | 9 => ⟨S1x1024, .f32⟩
  | 10 => ⟨S256x1024, .f32⟩
  | 11 => ⟨S256x1024, .f32⟩
  | 12 => ⟨S_, .f32⟩
  | 13 => ⟨S1024, .f32⟩
  | 14 => ⟨S256x1024, .f32⟩
  | 15 => ⟨S_, .f32⟩
  | 16 => ⟨S1024, .f32⟩
  | 17 => ⟨S1x1024, .f32⟩
  | 18 => ⟨S256x1024, .f32⟩
  | 19 => ⟨S256x1024, .f32⟩
  | 20 => ⟨S_, .f32⟩
  | 21 => ⟨S1024, .f32⟩
  | 22 => ⟨S256x1024, .f32⟩
  | 23 => ⟨S_, .f32⟩
  | 24 => ⟨S256, .f32⟩
  | 25 => ⟨S256x1, .f32⟩
  | 26 => ⟨S256x1024, .f32⟩
  | 27 => ⟨S256x1024, .f32⟩
  | 28 => ⟨S256x1, .f32⟩
  | 29 => ⟨S_, .f32⟩
  | 30 => ⟨S256x1, .f32⟩
  | 31 => ⟨S256x1, .f32⟩
  | 32 => ⟨S_, .f32⟩
  | 33 => ⟨S256, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S8448x1024, .f32⟩
  | 40 => ⟨S8448x1024, .f32⟩
  | 41 => ⟨S1x1024, .f32⟩
  | 42 => ⟨S1x1024, .f32⟩
  | 43 => ⟨S1x1024, .f32⟩
  | 44 => ⟨S3x1024, .f32⟩
  | 45 => ⟨S_, .f32⟩
  | 46 => ⟨S5x1024, .f32⟩
  | 47 => ⟨S8x1024, .f32⟩
  | 48 => ⟨S1x1024, .f32⟩
  | 49 => ⟨S1x1024, .f32⟩
  | 50 => ⟨S1x1024, .f32⟩
  | 51 => ⟨S3x1024, .f32⟩
  | 52 => ⟨S_, .f32⟩
  | 53 => ⟨S5x1024, .f32⟩
  | 54 => ⟨S8x1024, .f32⟩
  | 55 => ⟨S1x8x1024, .f32⟩
  | 56 => ⟨S1x8x1024, .f32⟩
  | 57 => ⟨S2x8x1024, .f32⟩
  | _ => ⟨S2x4x8448x704, .bf16⟩

abbrev hbmTy (i : Nat) : BufTy := match i / 128 with
  | 0 => hbmTy0_0 i
  | 1 => hbmTy0_1 i
  | _ => ⟨S2x4x8448x704, .bf16⟩

abbrev bufTy : (tb : Table) → Fin (tcTables nBuf tb) → BufTy
  | .hbm, ⟨i, _⟩ => hbmTy i
  | _, _ => ⟨S2x4x8448x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_18 : Ref sig .tc := ⟨.hbm, 129, rfl⟩
abbrev main_v104 : Ref sig .tc := ⟨.hbm, 130, rfl⟩
abbrev main_v105 : Ref sig .tc := ⟨.hbm, 131, rfl⟩
abbrev main_cst_19 : Ref sig .tc := ⟨.hbm, 132, rfl⟩
abbrev main_v106 : Ref sig .tc := ⟨.hbm, 133, rfl⟩
abbrev main_v107 : Ref sig .tc := ⟨.hbm, 134, rfl⟩
abbrev main_cst_20 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_21 : Ref sig .tc := ⟨.hbm, 140, rfl⟩
abbrev main_v112 : Ref sig .tc := ⟨.hbm, 141, rfl⟩
abbrev main_v113 : Ref sig .tc := ⟨.hbm, 142, rfl⟩
abbrev main_cst_22 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_23 : Ref sig .tc := ⟨.hbm, 148, rfl⟩
abbrev main_v118 : Ref sig .tc := ⟨.hbm, 149, rfl⟩
abbrev main_v119 : Ref sig .tc := ⟨.hbm, 150, rfl⟩
abbrev main_cst_24 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_25 : Ref sig .tc := ⟨.hbm, 157, rfl⟩
abbrev main_v125 : Ref sig .tc := ⟨.hbm, 158, rfl⟩
abbrev main_v126 : Ref sig .tc := ⟨.hbm, 159, rfl⟩
abbrev main_cst_26 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_27 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_28 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩

abbrev nD : Nat := 1
abbrev τ : Topo := Topo.v7x

variable {F : FTy → Type} [FloatOps F]
-- ==== Kernel8.lean ====
abbrev S8x4096x704 : Shape := ⟨3, ![8, 4096, 704]⟩
abbrev S4096x704 : Shape := ⟨2, ![4096, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x4096x704 : Shape := ⟨3, ![8, 4096, 704]⟩
abbrev S4096x704 : Shape := ⟨2, ![4096, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S8x4096x704, .f32⟩
  | .hbm, ⟨5, _⟩ => ⟨S_, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S_, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S_, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S_, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S_, .f32⟩
  | .hbm, ⟨26, _⟩ => ⟨S4096x704, .f32⟩
  | .hbm, ⟨27, _⟩ => ⟨S4096x704, .f32⟩
  | .hbm, ⟨28, _⟩ => ⟨S4096x704, .f32⟩
  | .hbm, ⟨29, _⟩ => ⟨S_, .f32⟩
  | .hbm, ⟨30, _⟩ => ⟨S4096x704, .f32⟩
  | .hbm, ⟨31, _⟩ => ⟨S4096x704, .f32⟩
  | .hbm, ⟨32, _⟩ => ⟨S4096x704, .f32⟩
  | .hbm, ⟨33, _⟩ => ⟨S_, .f32⟩
  | .hbm, ⟨34, _⟩ => ⟨S4096x704, .f32⟩
  | .hbm, ⟨35, _⟩ => ⟨S4096x704, .f32⟩
  | .hbm, ⟨36, _⟩ => ⟨S4096x704, .f32⟩
  | .hbm, ⟨37, _⟩ => ⟨S_, .f32⟩
  | .hbm, ⟨38, _⟩ => ⟨S4096x704, .f32⟩
  | .hbm, ⟨39, _⟩ => ⟨S4096x704, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S8x1408x1024 : Shape := ⟨3, ![8, 1408, 1024]⟩
abbrev S1408x1024 : Shape := ⟨2, ![1408, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x1408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x1408x1024 : Shape := ⟨3, ![8, 1408, 1024]⟩
abbrev S1408x1024 : Shape := ⟨2, ![1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1408x1024, .bf16⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S8x1408x1024, .f32⟩
  | .hbm, ⟨5, _⟩ => ⟨S_, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S8x1408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x2048x256 : Shape := ⟨3, ![8, 2048, 256]⟩
abbrev S2048x256 : Shape := ⟨2, ![2048, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x256, .bf16⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x2048x256 : Shape := ⟨3, ![8, 2048, 256]⟩
abbrev S2048x256 : Shape := ⟨2, ![2048, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S8x2048x256, .f32⟩
  | .hbm, ⟨5, _⟩ => ⟨S_, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S_, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S_, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S_, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S_, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S2048x1152 : Shape := ⟨2, ![2048, 1152]⟩
abbrev S256x1152 : Shape := ⟨2, ![256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2048x1152 : Shape := ⟨2, ![2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S_, .f32⟩
  | .hbm, ⟨5, _⟩ => ⟨S2048x1152, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1024x128 : Shape := ⟨2, ![1024, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S240x31 : Shape := ⟨2, ![240, 31]⟩
abbrev S16x31 : Shape := ⟨2, ![16, 31]⟩

abbrev nBuf : Space → Nat
  | .hbm => 7
  | .vmem => 14
  | .smem => 0
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S240x31, .f32⟩
  | .hbm, ⟨4, _⟩ => ⟨S240x31, .f32⟩
  | .hbm, ⟨5, _⟩ => ⟨S240x31, .f32⟩
  | .hbm, ⟨6, _⟩ => ⟨S240x31, .f32⟩
  | .local _ .vmem, ⟨0, _⟩ => ⟨S16x31, .f32⟩
  | .local _ .vmem, ⟨1, _⟩ => ⟨S16x31, .f32⟩
  | .local _ .vmem, ⟨2, _⟩ => ⟨S16x31, .f32⟩
  | .local _ .vmem, ⟨3, _⟩ => ⟨S16x31, .f32⟩
  | .local _ .vmem, ⟨4, _⟩ => ⟨S16x31, .f32⟩
  | .local _ .vmem, ⟨5, _⟩ => ⟨S16x31, .f32⟩
  | .local _ .vmem, ⟨6, _⟩ => ⟨S16x31, .f32⟩
  | .local _ .vmem, ⟨7, _⟩ => ⟨S16x31, .f32⟩
  | .local _ .vmem, ⟨8, _⟩ => ⟨S16x31, .f32⟩
  | .local _ .vmem, ⟨9, _⟩ => ⟨S16x31, .f32⟩
  | .local _ .vmem, ⟨10, _⟩ => ⟨S16x31, .f32⟩
  | .local _ .vmem, ⟨11, _⟩ => ⟨S16x31, .f32⟩
  | .local _ .vmem, ⟨12, _⟩ => ⟨S16x31, .f32⟩
  | .local _ .vmem, ⟨13, _⟩ => ⟨S16x31, .f32⟩
  | _, _ => ⟨S240x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x31 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x31 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x31 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x31 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x31 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S240x31 : Shape := ⟨2, ![240, 31]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S240x31, .f32⟩
  | .hbm, ⟨1, _⟩ => ⟨S240x31, .f32⟩
  | .hbm, ⟨2, _⟩ => ⟨S240x31, .f32⟩
  | .hbm, ⟨3, _⟩ => ⟨S240x31, .f32⟩
  | .hbm, ⟨4, _⟩ => ⟨S_, .f32⟩
  | .hbm, ⟨5, _⟩ => ⟨S240x31, .f32⟩
  | .hbm, ⟨6, _⟩ => ⟨S240x31, .f32⟩
  | .hbm, ⟨7, _⟩ => ⟨S_, .f32⟩
  | .hbm, ⟨8, _⟩ => ⟨S240x31, .f32⟩
  | .hbm, ⟨9, _⟩ => ⟨S240x31, .f32⟩
  | .hbm, ⟨10, _⟩ => ⟨S240x31, .f32⟩
  | .hbm, ⟨11, _⟩ => ⟨S_, .f32⟩
  | .hbm, ⟨12, _⟩ => ⟨S240x31, .f32⟩
  | .hbm, ⟨13, _⟩ => ⟨S240x31, .f32⟩
  | .hbm, ⟨14, _⟩ => ⟨S240x31, .f32⟩
  | .hbm, ⟨15, _⟩ => ⟨S_, .f32⟩
  | .hbm, ⟨16, _⟩ => ⟨S240x31, .f32⟩
  | .hbm, ⟨17, _⟩ => ⟨S240x31, .f32⟩
  | .hbm, ⟨18, _⟩ => ⟨S240x31, .f32⟩
  | .hbm, ⟨19, _⟩ => ⟨S_, .f32⟩
  | .hbm, ⟨20, _⟩ => ⟨S240x31, .f32⟩
  | .hbm, ⟨21, _⟩ => ⟨S240x31, .f32⟩
  | .hbm, ⟨22, _⟩ => ⟨S_, .f32⟩
  | .hbm, ⟨23, _⟩ => ⟨S240x31, .f32⟩
  | .hbm, ⟨24, _⟩ => ⟨S240x31, .f32⟩
  | .hbm, ⟨25, _⟩ => ⟨S240x31, .f32⟩
  | .hbm, ⟨26, _⟩ => ⟨S_, .f32⟩
  | .hbm, ⟨27, _⟩ => ⟨S240x31, .f32⟩
  | .hbm, ⟨28, _⟩ => ⟨S240x31, .f32⟩
  | .hbm, ⟨29, _⟩ => ⟨S240x31, .f32⟩
  | .hbm, ⟨30, _⟩ => ⟨S_, .f32⟩
  | .hbm, ⟨31, _⟩ => ⟨S240x31, .f32⟩
  | .hbm, ⟨32, _⟩ => ⟨S240x31, .f32⟩
  | .hbm, ⟨33, _⟩ => ⟨S240x31, .f32⟩
  | .hbm, ⟨34, _⟩ => ⟨S_, .f32⟩
  | .hbm, ⟨35, _⟩ => ⟨S240x31, .f32⟩
  | .hbm, ⟨36, _⟩ => ⟨S240x31, .f32⟩
  | _, _ => ⟨S240x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x9216 : Shape := ⟨2, ![2, 9216]⟩

abbrev nBuf : Space → Nat
  | .hbm => 7
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S2x9216 : Shape := ⟨2, ![2, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S_, .f32⟩
  | .hbm, ⟨5, _⟩ => ⟨S2x9216, .f32⟩
  | .hbm, ⟨6, _⟩ => ⟨S2x9216, .f32⟩
  | .hbm, ⟨7, _⟩ => ⟨S_, .f32⟩
  | .hbm, ⟨8, _⟩ => ⟨S2x9216, .f32⟩
  | .hbm, ⟨9, _⟩ => ⟨S2x9216, .f32⟩
  | .hbm, ⟨10, _⟩ => ⟨S2x9216, .f32⟩
  | .hbm, ⟨11, _⟩ => ⟨S_, .f32⟩
  | .hbm, ⟨12, _⟩ => ⟨S2x9216, .f32⟩
  | .hbm, ⟨13, _⟩ => ⟨S2x9216, .f32⟩
  | .hbm, ⟨14, _⟩ => ⟨S2x9216, .f32⟩
  | .hbm, ⟨15, _⟩ => ⟨S_, .f32⟩
  | .hbm, ⟨16, _⟩ => ⟨S2x9216, .f32⟩
  | .hbm, ⟨17, _⟩ => ⟨S2x9216, .f32⟩
  | .hbm, ⟨18, _⟩ => ⟨S2x9216, .f32⟩
  | .hbm, ⟨19, _⟩ => ⟨S_, .f32⟩
  | .hbm, ⟨20, _⟩ => ⟨S2x9216, .f32⟩
  | .hbm, ⟨21, _⟩ => ⟨S2x9216, .f32⟩
  | .hbm, ⟨22, _⟩ => ⟨S_, .f32⟩
  | .hbm, ⟨23, _⟩ => ⟨S2x9216, .f32⟩
  | .hbm, ⟨24, _⟩ => ⟨S2x9216, .f32⟩
  | .hbm, ⟨25, _⟩ => ⟨S2x9216, .f32⟩
  | .hbm, ⟨26, _⟩ => ⟨S_, .f32⟩
  | .hbm, ⟨27, _⟩ => ⟨S2x9216, .f32⟩
  | .hbm, ⟨28, _⟩ => ⟨S2x9216, .f32⟩
  | .hbm, ⟨29, _⟩ => ⟨S2x9216, .f32⟩
  | .hbm, ⟨30, _⟩ => ⟨S_, .f32⟩
  | .hbm, ⟨31, _⟩ => ⟨S2x9216, .f32⟩
  | .hbm, ⟨32, _⟩ => ⟨S2x9216, .f32⟩
  | .hbm, ⟨33, _⟩ => ⟨S2x9216, .f32⟩
  | .hbm, ⟨34, _⟩ => ⟨S_, .f32⟩
  | .hbm, ⟨35, _⟩ => ⟨S2x9216, .f32⟩
  | .hbm, ⟨36, _⟩ => ⟨S2x9216, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S12x128 : Shape := ⟨2, ![12, 128]⟩

abbrev nBuf : Space → Nat
  | .hbm => 7
  | .vmem => 7
  | .smem => 0
  | _ => 0

abbrev bufTy : (tb : Table) → Fin (tcTables nBuf tb) → BufTy
  | .hbm, ⟨0, _⟩ => ⟨S12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S12x128, .f32⟩
  | .hbm, ⟨5, _⟩ => ⟨S12x128, .f32⟩
  | .hbm, ⟨6, _⟩ => ⟨S12x128, .f32⟩
  | .local _ .vmem, ⟨0, _⟩ => ⟨S12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | _, _ => ⟨S12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S12x128 : Shape := ⟨2, ![12, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x128, .f32⟩
  | .hbm, ⟨1, _⟩ => ⟨S12x128, .f32⟩
  | .hbm, ⟨2, _⟩ => ⟨S12x128, .f32⟩
  | .hbm, ⟨3, _⟩ => ⟨S12x128, .f32⟩
  | .hbm, ⟨4, _⟩ => ⟨S_, .f32⟩
  | .hbm, ⟨5, _⟩ => ⟨S12x128, .f32⟩
  | .hbm, ⟨6, _⟩ => ⟨S12x128, .f32⟩
  | .hbm, ⟨7, _⟩ => ⟨S_, .f32⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S_, .f32⟩
  | .hbm, ⟨12, _⟩ => ⟨S12x128, .f32⟩
  | .hbm, ⟨13, _⟩ => ⟨S12x128, .f32⟩
  | .hbm, ⟨14, _⟩ => ⟨S12x128, .f32⟩
  | .hbm, ⟨15, _⟩ => ⟨S_, .f32⟩
  | .hbm, ⟨16, _⟩ => ⟨S12x128, .f32⟩
  | .hbm, ⟨17, _⟩ => ⟨S12x128, .f32⟩
  | .hbm, ⟨18, _⟩ => ⟨S12x128, .f32⟩
  | .hbm, ⟨19, _⟩ => ⟨S_, .f32⟩
  | .hbm, ⟨20, _⟩ => ⟨S12x128, .f32⟩
  | .hbm, ⟨21, _⟩ => ⟨S12x128, .f32⟩
  | .hbm, ⟨22, _⟩ => ⟨S_, .f32⟩
  | .hbm, ⟨23, _⟩ => ⟨S12x128, .f32⟩
  | .hbm, ⟨24, _⟩ => ⟨S12x128, .f32⟩
  | .hbm, ⟨25, _⟩ => ⟨S12x128, .f32⟩
  | .hbm, ⟨26, _⟩ => ⟨S_, .f32⟩
  | .hbm, ⟨27, _⟩ => ⟨S12x128, .f32⟩
  | .hbm, ⟨28, _⟩ => ⟨S12x128, .f32⟩
  | .hbm, ⟨29, _⟩ => ⟨S12x128, .f32⟩
  | .hbm, ⟨30, _⟩ => ⟨S_, .f32⟩
  | .hbm, ⟨31, _⟩ => ⟨S12x128, .f32⟩
  | .hbm, ⟨32, _⟩ => ⟨S12x128, .f32⟩
  | .hbm, ⟨33, _⟩ => ⟨S12x128, .f32⟩
  | .hbm, ⟨34, _⟩ => ⟨S_, .f32⟩
  | .hbm, ⟨35, _⟩ => ⟨S12x128, .f32⟩
  | .hbm, ⟨36, _⟩ => ⟨S12x128, .f32⟩
  | _, _ => ⟨S12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S8x192x1024 : Shape := ⟨3, ![8, 192, 1024]⟩
abbrev S192x1024 : Shape := ⟨2, ![192, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x192x1024, .f32⟩
  | .hbm, ⟨1, _⟩ => ⟨S192x1024, .f32⟩
  | .local _ .vmem, ⟨0, _⟩ => ⟨S8x64x1024, .f32⟩
  | .local _ .vmem, ⟨1, _⟩ => ⟨S8x64x1024, .f32⟩
  | .local _ .vmem, ⟨2, _⟩ => ⟨S64x1024, .f32⟩
  | .local _ .vmem, ⟨3, _⟩ => ⟨S64x1024, .f32⟩
  | _, _ => ⟨S8x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference19Ideal.lean ====
abbrev S8x192x1024 : Shape := ⟨3, ![8, 192, 1024]⟩
abbrev S_ : Shape := ⟨0, ![]⟩
abbrev S192x1024 : Shape := ⟨2, ![192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x192x1024, .f32⟩
  | .hbm, ⟨1, _⟩ => ⟨S_, .f32⟩
  | .hbm, ⟨2, _⟩ => ⟨S192x1024, .f32⟩
  | _, _ => ⟨S8x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x64x1024, .f32⟩
  | .local _ .vmem, ⟨1, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference20Ideal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S8x16x1024 : Shape := ⟨3, ![8, 16, 1024]⟩
abbrev S1x1024 : Shape := ⟨2, ![1, 1024]⟩
abbrev S1x16x1024 : Shape := ⟨3, ![1, 16, 1024]⟩
abbrev S16x1024 : Shape := ⟨2, ![16, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x16x1024, .f32⟩
  | .hbm, ⟨1, _⟩ => ⟨S1x1024, .f32⟩
  | .hbm, ⟨2, _⟩ => ⟨S1x1024, .f32⟩
  | .local _ .vmem, ⟨0, _⟩ => ⟨S8x16x1024, .f32⟩
  | .local _ .vmem, ⟨1, _⟩ => ⟨S1x1024, .f32⟩
  | .local _ .vmem, ⟨2, _⟩ => ⟨S1x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference21Ideal.lean ====
abbrev S8x16x1024 : Shape := ⟨3, ![8, 16, 1024]⟩
abbrev S1x1024 : Shape := ⟨2, ![1, 1024]⟩
abbrev S_ : Shape := ⟨0, ![]⟩
abbrev S16x1024 : Shape := ⟨2, ![16, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S16x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== Kernel22.lean ====
abbrev S16x1024 : Shape := ⟨2, ![16, 1024]⟩
abbrev S2x16x1152 : Shape := ⟨3, ![2, 16, 1152]⟩
abbrev S2x1024x1152 : Shape := ⟨3, ![2, 1024, 1152]⟩
abbrev S1x16x384 : Shape := ⟨3, ![1, 16, 384]⟩
abbrev S1x1024x384 : Shape := ⟨3, ![1, 1024, 384]⟩
abbrev S16x384 : Shape := ⟨2, ![16, 384]⟩
abbrev S1024x384 : Shape := ⟨2, ![1024, 384]⟩

abbrev nBuf : Space → Nat
  | .hbm => 5
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S2x16x1152, .f32⟩
  | .hbm, ⟨2, _⟩ => ⟨S2x1024x1152, .f32⟩
  | .hbm, ⟨3, _⟩ => ⟨S2x1024x1152, .f32⟩
  | .hbm, ⟨4, _⟩ => ⟨S16x1024, .f32⟩
  | .local _ .vmem, ⟨0, _⟩ => ⟨S16x1024, .f32⟩
  | .local _ .vmem, ⟨1, _⟩ => ⟨S1x16x384, .f32⟩
  | .local _ .vmem, ⟨2, _⟩ => ⟨S1x16x384, .f32⟩
  | .local _ .vmem, ⟨3, _⟩ => ⟨S1x1024x384, .f32⟩
  | .local _ .vmem, ⟨4, _⟩ => ⟨S1x1024x384, .f32⟩
  | .local _ .vmem, ⟨5, _⟩ => ⟨S1x1024x384, .f32⟩
  | .local _ .vmem, ⟨6, _⟩ => ⟨S1x1024x384, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference22Ideal.lean ====
abbrev S16x1024 : Shape := ⟨2, ![16, 1024]⟩
abbrev S2x16x1152 : Shape := ⟨3, ![2, 16, 1152]⟩
abbrev S2x1024x1152 : Shape := ⟨3, ![2, 1024, 1152]⟩
abbrev S_ : Shape := ⟨0, ![]⟩
abbrev S1x1024x1152 : Shape := ⟨3, ![1, 1024, 1152]⟩
abbrev S1024x1152 : Shape := ⟨2, ![1024, 1152]⟩
abbrev S16x1152 : Shape := ⟨2, ![16, 1152]⟩
abbrev S1x16x1152 : Shape := ⟨3, ![1, 16, 1152]⟩
abbrev S1152x1024 : Shape := ⟨2, ![1152, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x1152, .f32⟩
  | .hbm, ⟨2, _⟩ => ⟨S2x1024x1152, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x1152, .f32⟩
  | .hbm, ⟨13, _⟩ => ⟨S1024x1152, .f32⟩
  | .hbm, ⟨14, _⟩ => ⟨S16x1152, .f32⟩
  | .hbm, ⟨15, _⟩ => ⟨S1x16x1152, .f32⟩
  | .hbm, ⟨16, _⟩ => ⟨S16x1152, .f32⟩
  | .hbm, ⟨17, _⟩ => ⟨S1152x1024, .f32⟩
  | .hbm, ⟨18, _⟩ => ⟨S1024x1152, .f32⟩
  | .hbm, ⟨19, _⟩ => ⟨S16x1024, .f32⟩
  | .hbm, ⟨20, _⟩ => ⟨S1x1024x1152, .f32⟩
  | .hbm, ⟨21, _⟩ => ⟨S1024x1152, .f32⟩
  | .hbm, ⟨22, _⟩ => ⟨S16x1152, .f32⟩
  | .hbm, ⟨23, _⟩ => ⟨S1x16x1152, .f32⟩
  | .hbm, ⟨24, _⟩ => ⟨S16x1152, .f32⟩
  | .hbm, ⟨25, _⟩ => ⟨S1152x1024, .f32⟩
  | .hbm, ⟨26, _⟩ => ⟨S1024x1152, .f32⟩
  | .hbm, ⟨27, _⟩ => ⟨S16x1024, .f32⟩
  | .hbm, ⟨28, _⟩ => ⟨S1x1024x1152, .f32⟩
  | .hbm, ⟨29, _⟩ => ⟨S1x1024x1152, .f32⟩
  | .hbm, ⟨30, _⟩ => ⟨S2x1024x1152, .f32⟩
  | .hbm, ⟨31, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel23.lean ====
abbrev S8448x1024 : Shape := ⟨2, ![8448, 1024]⟩
abbrev S8192x1024 : Shape := ⟨2, ![8192, 1024]⟩
abbrev S1x1 : Shape := ⟨2, ![1, 1]⟩
abbrev S256x1024 : Shape := ⟨2, ![256, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S1x1, .f32⟩
  | .hbm, ⟨3, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond4 (i : grid0.Coords) : BitVec 1 :=
  let arg0 : BitVec 32 := BitVec.ofNat 32 (i 0).val
  let c32_i32_4 : BitVec 32 := 32#32
  let v9 : BitVec 1 := Scalar.cmpi .eq arg0 c32_i32_4
  let v10 : BitVec 32 := Scalar.extui v9
  let c0_i32_5 : BitVec 32 := 0#32
  let v11 : BitVec 1 := Scalar.cmpi .ne v10 c0_i32_5
  v11

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .sge arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S8448x1024 : Shape := ⟨2, ![8448, 1024]⟩
abbrev S8192x1024 : Shape := ⟨2, ![8192, 1024]⟩
abbrev S_ : Shape := ⟨0, ![]⟩
abbrev S8192 : Shape := ⟨1, ![8192]⟩
abbrev S1x1 : Shape := ⟨2, ![1, 1]⟩
abbrev S256x1024 : Shape := ⟨2, ![256, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S256x1024, .f32⟩
  | .hbm, ⟨29, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.NaOffs.lean ====
module

public import proofs.«01_k».proof.Proof.Gen.KernelIdeal.Frame

@[expose] public section

namespace Cert.KernelIdeal.Na

open Idealize.ShloMosaic Idealize.ShloMosaic.Tactic

/-! The windows of rows the body reads and adds to, in closed form: grid row `4 * rb + t` sees eight rows of the
grid starting at `min 120 (4 * rb + t - 4)` (a subtraction of naturals), and uses the bias table's slab of its
place in that window. -/

theorem off1_closed : ∀ (i : grid0.Coords) (r : Fin 4),
    k0_off1 i (BitVec.ofNat 32 r.val) = ![64 * min 120 (4 * (i 1).val + r.val - 4), 0] := by decide +kernel

theorem off2_closed : ∀ (i : grid0.Coords) (r : Fin 4), (i 1).val < 32 →
    k0_off2 i (BitVec.ofNat 32 r.val) = ![min 120 (4 * (i 1).val + r.val - 4) + 7 - (4 * (i 1).val + r.val), 0, 0, 0] := by decide +kernel

theorem off3_closed : ∀ (i : grid0.Coords) (r : Fin 4),
    k0_off3 i (BitVec.ofNat 32 r.val) = ![64 * min 120 (4 * (i 1).val + r.val - 4), 0] := by decide +kernel

instance (i : grid0.Coords) : ClosedOff (k0_off1 i 0#32) := ⟨![64 * min 120 (4 * (i 1).val + 0 - 4), 0], off1_closed i 0⟩
instance (i : grid0.Coords) : ClosedOff (k0_off1 i 1#32) := ⟨![64 * min 120 (4 * (i 1).val + 1 - 4), 0], off1_closed i 1⟩
instance (i : grid0.Coords) : ClosedOff (k0_off1 i 2#32) := ⟨![64 * min 120 (4 * (i 1).val + 2 - 4), 0], off1_closed i 2⟩
instance (i : grid0.Coords) : ClosedOff (k0_off1 i 3#32) := ⟨![64 * min 120 (4 * (i 1).val + 3 - 4), 0], off1_closed i 3⟩
instance (i : grid0.Coords) : ClosedOff (k0_off3 i 0#32) := ⟨![64 * min 120 (4 * (i 1).val + 0 - 4), 0], off3_closed i 0⟩
instance (i : grid0.Coords) : ClosedOff (k0_off3 i 1#32) := ⟨![64 * min 120 (4 * (i 1).val + 1 - 4), 0], off3_closed i 1⟩
instance (i : grid0.Coords) : ClosedOff (k0_off3 i 2#32) := ⟨![64 * min 120 (4 * (i 1).val + 2 - 4), 0], off3_closed i 2⟩
instance (i : grid0.Coords) : ClosedOff (k0_off3 i 3#32) := ⟨![64 * min 120 (4 * (i 1).val + 3 - 4), 0], off3_closed i 3⟩

/-- The body's main part runs at the steps of the grid's own rows. -/
theorem cond3_lt : ∀ i : grid0.Coords, k0_cond3 i = 1#1 → (i 1).val < 32 := by decide +kernel

instance (i : grid0.Coords) [h : Fact ((i 1).val < 32)] : ClosedOff (k0_off2 i 0#32) := ⟨![min 120 (4 * (i 1).val + 0 - 4) + 7 - (4 * (i 1).val + 0), 0, 0, 0], off2_closed i 0 h.out⟩
instance (i : grid0.Coords) [h : Fact ((i 1).val < 32)] : ClosedOff (k0_off2 i 1#32) := ⟨![min 120 (4 * (i 1).val + 1 - 4) + 7 - (4 * (i 1).val + 1), 0, 0, 0], off2_closed i 1 h.out⟩
instance (i : grid0.Coords) [h : Fact ((i 1).val < 32)] : ClosedOff (k0_off2 i 2#32) := ⟨![min 120 (4 * (i 1).val + 2 - 4) + 7 - (4 * (i 1).val + 2), 0, 0, 0], off2_closed i 2 h.out⟩
instance (i : grid0.Coords) [h : Fact ((i 1).val < 32)] : ClosedOff (k0_off2 i 3#32) := ⟨![min 120 (4 * (i 1).val + 3 - 4) + 7 - (4 * (i 1).val + 3), 0, 0, 0], off2_closed i 3 h.out⟩

end Cert.KernelIdeal.Na

end
-- ==== Proof.NaRunA.lean ====
module

public import proofs.«01_k».proof.Proof.Gen.KernelIdeal.Skeleton
public import proofs.«01_k».proof.Proof.NaOffs

@[expose] public section

set_option maxRecDepth 16384

noncomputable section

namespace Cert.KernelIdeal.Na

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first step of a head block: what it stores into the four results, and that it runs to there; the three accumulated results held `x10`, `x11`, `x12` before. -/
noncomputable def naRun_A (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8x2x64x512 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S1x256x128 .f32) (harg10 : arg10.IsWhole) (arg11 : Memref sig .tc .vmem S256x128 .f32) (harg11 : arg11.IsWhole) (arg12 : Memref sig .tc .vmem S8448x128 .f32) (harg12 : arg12.IsWhole) (arg13 : Memref sig .tc .vmem S8448x128 .f32) (harg13 : arg13.IsWhole) (arg14 : Memref sig .tc .vmem S8x2x64x512 .f32) (harg14 : arg14.IsWhole) (hc1 : k0_cond1 i = 1#1) (hc2 : ¬k0_cond2 i = 1#1) (hc3 : k0_cond3 i = 1#1)
    (x0 : Vec F S256x128 .bf16) (x1 : Vec F S8192x128 .bf16) (x2 : Vec F S8192x128 .bf16) (x3 : Vec F S256x128 .bf16) (x4 : Vec F S256x128 .bf16) (x5 : Vec F S8x2x64x512 .f32) (x6 : Vec F S256x128 .bf16) (x7 : Vec F S256x128 .f32) (x8 : Vec F S1x256x128 .f32) :
    Σ' (L9 : List (View.Piece (Elt F) S256x128 .f32)) (L10 : List (View.Piece (Elt F) S8448x128 .f32)) (L11 : List (View.Piece (Elt F) S8448x128 .f32)), { L12 : List (View.Piece (Elt F) S8x2x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12)) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    haveI : Fact ((i 1).val < 32) := ⟨cond3_lt i hc3⟩
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    iexists _; iexact H12

end Cert.KernelIdeal.Na

end
-- ==== Proof.NaRunB.lean ====
module

public import proofs.«01_k».proof.Proof.Gen.KernelIdeal.Skeleton
public import proofs.«01_k».proof.Proof.NaOffs

@[expose] public section

set_option maxRecDepth 16384

noncomputable section

namespace Cert.KernelIdeal.Na

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later step of a head block: what it stores into the four results, and that it runs to there; the three accumulated results held `x10`, `x11`, `x12` before. -/
noncomputable def naRun_B (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8x2x64x512 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S1x256x128 .f32) (harg10 : arg10.IsWhole) (arg11 : Memref sig .tc .vmem S256x128 .f32) (harg11 : arg11.IsWhole) (arg12 : Memref sig .tc .vmem S8448x128 .f32) (harg12 : arg12.IsWhole) (arg13 : Memref sig .tc .vmem S8448x128 .f32) (harg13 : arg13.IsWhole) (arg14 : Memref sig .tc .vmem S8x2x64x512 .f32) (harg14 : arg14.IsWhole) (hc1 : ¬k0_cond1 i = 1#1) (hc2 : ¬k0_cond2 i = 1#1) (hc3 : k0_cond3 i = 1#1)
    (x0 : Vec F S256x128 .bf16) (x1 : Vec F S8192x128 .bf16) (x2 : Vec F S8192x128 .bf16) (x3 : Vec F S256x128 .bf16) (x4 : Vec F S256x128 .bf16) (x5 : Vec F S8x2x64x512 .f32) (x6 : Vec F S256x128 .bf16) (x7 : Vec F S256x128 .f32) (x8 : Vec F S1x256x128 .f32) (x10 : Vec F S8448x128 .f32) (x11 : Vec F S8448x128 .f32) (x12 : Vec F S8x2x64x512 .f32) :
    Σ' (L9 : List (View.Piece (Elt F) S256x128 .f32)) (L10 : List (View.Piece (Elt F) S8448x128 .f32)) (L11 : List (View.Piece (Elt F) S8448x128 .f32)), { L12 : List (View.Piece (Elt F) S8x2x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ owns (c : Thread nD τ) arg13 fullShare x11 ∗ owns (c : Thread nD τ) arg14 fullShare x12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread x10) L10) ∗ (arg13.view.loc (c : Thread nD τ) ↦[arg13.view.set]{fullShare} arg13.view.writes (Elt F) (harg13.unread x11) L11) ∗ (arg14.view.loc (c : Thread nD τ) ↦[arg14.view.set]{fullShare} arg14.view.writes (Elt F) (harg14.unread x12) L12)) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12
    haveI : Fact ((i 1).val < 32) := ⟨cond3_lt i hc3⟩
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexact H11
    iexact H12

end Cert.KernelIdeal.Na

end
-- ==== Proof.NaRunC.lean ====
module

public import proofs.«01_k».proof.Proof.Gen.KernelIdeal.Skeleton
public import proofs.«01_k».proof.Proof.NaOffs

@[expose] public section

set_option maxRecDepth 16384

noncomputable section

namespace Cert.KernelIdeal.Na

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last step of a head block (the context rows): the query gradient tile is zeroed, the rest left alone. -/
noncomputable def naRun_C (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8x2x64x512 .f32) (harg7 : arg7.IsWhole) (arg8 : Memref sig .tc .vmem S256x128 .bf16) (harg8 : arg8.IsWhole) (arg9 : Memref sig .tc .vmem S256x128 .f32) (harg9 : arg9.IsWhole) (arg10 : Memref sig .tc .vmem S1x256x128 .f32) (harg10 : arg10.IsWhole) (arg11 : Memref sig .tc .vmem S256x128 .f32) (harg11 : arg11.IsWhole) (arg12 : Memref sig .tc .vmem S8448x128 .f32) (harg12 : arg12.IsWhole) (arg13 : Memref sig .tc .vmem S8448x128 .f32) (harg13 : arg13.IsWhole) (arg14 : Memref sig .tc .vmem S8x2x64x512 .f32) (harg14 : arg14.IsWhole) (hc1 : ¬k0_cond1 i = 1#1) (hc2 : k0_cond2 i = 1#1) (hc3 : ¬k0_cond3 i = 1#1)
    (x0 : Vec F S256x128 .bf16) (x1 : Vec F S8192x128 .bf16) (x2 : Vec F S8192x128 .bf16) (x3 : Vec F S256x128 .bf16) (x4 : Vec F S256x128 .bf16) (x5 : Vec F S8x2x64x512 .f32) (x6 : Vec F S256x128 .bf16) (x7 : Vec F S256x128 .f32) (x8 : Vec F S1x256x128 .f32) (x10 : Vec F S8448x128 .f32) (x11 : Vec F S8448x128 .f32) (x12 : Vec F S8x2x64x512 .f32) :
    { L9 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ owns (c : Thread nD τ) arg13 fullShare x11 ∗ owns (c : Thread nD τ) arg14 fullShare x12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg12 fullShare x10 ∗ owns (c : Thread nD τ) arg13 fullShare x11 ∗ owns (c : Thread nD τ) arg14 fullShare x12) -∗ K ⟨⟩))
          ⊢ wp frame (wpE (defs₀ (F := F)) Variants.none c none) E (cc0_na_bwd i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_na_bwd_eq_skeleton]; unfold cc0_na_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    iexists _; isplitr; · ipureintro; exact harg14.read_unread _
    iexact H12

end Cert.KernelIdeal.Na

end
-- ==== Proof.NaFrame.lean ====
module

public import proofs.«01_k».proof.Proof.NaRunA
public import proofs.«01_k».proof.Proof.NaRunB
public import proofs.«01_k».proof.Proof.NaRunC
public import Idealize.ShloMosaic.Lib.Pipeline.TableIdle
public import Idealize.ShloMosaic.Lib.Claim

@[expose] public section

set_option maxRecDepth 16384

noncomputable section

namespace Cert.KernelIdeal.Na

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem cond1_iff : ∀ t : Fin cfg0.N, k0_cond1 (grid0.coords t) = 1#1 ↔ t.val % 33 = 0 :=
  (by decide +kernel : ∀ t : Fin grid0.N, k0_cond1 (grid0.coords t) = 1#1 ↔ t.val % 33 = 0)
theorem cond2_iff : ∀ t : Fin cfg0.N, k0_cond2 (grid0.coords t) = 1#1 ↔ t.val % 33 = 32 :=
  (by decide +kernel : ∀ t : Fin grid0.N, k0_cond2 (grid0.coords t) = 1#1 ↔ t.val % 33 = 32)
theorem cond3_iff : ∀ t : Fin cfg0.N, k0_cond3 (grid0.coords t) = 1#1 ↔ ¬ t.val % 33 = 32 :=
  (by decide +kernel : ∀ t : Fin grid0.N, k0_cond3 (grid0.coords t) = 1#1 ↔ ¬ t.val % 33 = 32)

/-! ## The memrefs at a point -/

abbrev ms0 (t : Fin cfg0.N) : Memref sig .tc .vmem S256x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x2x64x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S8448x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S8448x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S8x2x64x512 .f32 := win0_12.stage (cfg0.slots t 12)
abbrev hs12 (t : Fin cfg0.N) : (ms12 t).IsWhole := hstage0_12 ((cfg0.slots t 12).cast nbuf0_12)

/-! ## The runs at a point -/

/-- The first step of a head block, on the point's memrefs and blocks. -/
abbrev runA (c : Dev nD) (t : Fin cfg0.N) (h0 : t.val % 33 = 0) :=
  naRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((cond1_iff t).mpr h0)
    (fun h => by have := (cond2_iff t).mp h; omega) ((cond3_iff t).mpr (by omega)) (iblk m c 0 t) (X0_1 m c t) (X0_2 m c t) (iblk m c 3 t) (iblk m c 4 t) (iblk m c 5 t) (iblk m c 6 t) (iblk m c 7 t) (iblk m c 8 t)

/-- A later step of a head block, the accumulated results holding `a` before. -/
abbrev runB (c : Dev nD) (t : Fin cfg0.N) (h0 : ¬ t.val % 33 = 0) (h2 : ¬ t.val % 33 = 32) (a : Vec F S8448x128 .f32 × Vec F S8448x128 .f32 × Vec F S8x2x64x512 .f32) :=
  naRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => h0 ((cond1_iff t).mp h))
    (fun h => h2 ((cond2_iff t).mp h)) ((cond3_iff t).mpr h2) (iblk m c 0 t) (X0_1 m c t) (X0_2 m c t) (iblk m c 3 t) (iblk m c 4 t) (iblk m c 5 t) (iblk m c 6 t) (iblk m c 7 t) (iblk m c 8 t) a.1 a.2.1 a.2.2

/-- The last step of a head block. -/
abbrev runC (c : Dev nD) (t : Fin cfg0.N) (h2 : t.val % 33 = 32) (a : Vec F S8448x128 .f32 × Vec F S8448x128 .f32 × Vec F S8x2x64x512 .f32) :=
  naRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun h => by have := (cond1_iff t).mp h; omega)
    ((cond2_iff t).mpr h2) (fun h => (cond3_iff t).mp h h2) (iblk m c 0 t) (X0_1 m c t) (X0_2 m c t) (iblk m c 3 t) (iblk m c 4 t) (iblk m c 5 t) (iblk m c 6 t) (iblk m c 7 t) (iblk m c 8 t) a.1 a.2.1 a.2.2

theorem cov9_A (c : Dev nD) (t : Fin cfg0.N) (h0 : t.val % 33 = 0) (y : S256x128.Idx) :
    ∃ pc ∈ (runA m c t h0).1, y ∈ pc.1.set :=
  View.cover_of_tiledL (runA m c t h0).1 S64x128.size (by sl_kernel_rfl) y

theorem cov9_B (c : Dev nD) (t : Fin cfg0.N) (h0 : ¬ t.val % 33 = 0) (h2 : ¬ t.val % 33 = 32) (a : Vec F S8448x128 .f32 × Vec F S8448x128 .f32 × Vec F S8x2x64x512 .f32) (y : S256x128.Idx) :
    ∃ pc ∈ (runB m c t h0 h2 a).1, y ∈ pc.1.set :=
  View.cover_of_tiledL (runB m c t h0 h2 a).1 S64x128.size (by sl_kernel_rfl) y

theorem cov9_C (c : Dev nD) (t : Fin cfg0.N) (h2 : t.val % 33 = 32) (a : Vec F S8448x128 .f32 × Vec F S8448x128 .f32 × Vec F S8x2x64x512 .f32) (y : S256x128.Idx) :
    ∃ pc ∈ (runC m c t h2 a).1, y ∈ pc.1.set :=
  View.cover_of_wholeMem (runC m c t h2 a).1 (by sl_whole_mem) y

theorem cov10_A (c : Dev nD) (t : Fin cfg0.N) (h0 : t.val % 33 = 0) (y : S8448x128.Idx) :
    ∃ pc ∈ (runA m c t h0).2.1, y ∈ pc.1.set :=
  View.cover_of_wholeMem (runA m c t h0).2.1 (by sl_whole_mem) y

theorem cov11_A (c : Dev nD) (t : Fin cfg0.N) (h0 : t.val % 33 = 0) (y : S8448x128.Idx) :
    ∃ pc ∈ (runA m c t h0).2.2.1, y ∈ pc.1.set :=
  View.cover_of_wholeMem (runA m c t h0).2.2.1 (by sl_whole_mem) y

theorem cov12_A (c : Dev nD) (t : Fin cfg0.N) (h0 : t.val % 33 = 0) (y : S8x2x64x512.Idx) :
    ∃ pc ∈ (runA m c t h0).2.2.2.1, y ∈ pc.1.set :=
  View.cover_of_wholeMem (runA m c t h0).2.2.2.1 (by sl_whole_mem) y

/-! ## What the results hold after each point -/

/-- The three accumulated results after the first step of a head block. -/
def accA (c : Dev nD) (t : Fin cfg0.N) (h0 : t.val % 33 = 0) : Vec F S8448x128 .f32 × Vec F S8448x128 .f32 × Vec F S8x2x64x512 .f32 :=
  ((ms10 t).view.read (Elt F) ((ms10 t).view.writes (Elt F) (ms10 t).view.junk (runA m c t h0).2.1),
   (ms11 t).view.read (Elt F) ((ms11 t).view.writes (Elt F) (ms11 t).view.junk (runA m c t h0).2.2.1),
   (ms12 t).view.read (Elt F) ((ms12 t).view.writes (Elt F) (ms12 t).view.junk (runA m c t h0).2.2.2.1))

/-- The three accumulated results after a later step, which found them at `a`. -/
def accB (c : Dev nD) (t : Fin cfg0.N) (h0 : ¬ t.val % 33 = 0) (h2 : ¬ t.val % 33 = 32) (a : Vec F S8448x128 .f32 × Vec F S8448x128 .f32 × Vec F S8x2x64x512 .f32) : Vec F S8448x128 .f32 × Vec F S8448x128 .f32 × Vec F S8x2x64x512 .f32 :=
  ((ms10 t).view.read (Elt F) ((ms10 t).view.writes (Elt F) ((hs10 t).unread a.1) (runB m c t h0 h2 a).2.1),
   (ms11 t).view.read (Elt F) ((ms11 t).view.writes (Elt F) ((hs11 t).unread a.2.1) (runB m c t h0 h2 a).2.2.1),
   (ms12 t).view.read (Elt F) ((ms12 t).view.writes (Elt F) ((hs12 t).unread a.2.2) (runB m c t h0 h2 a).2.2.2.1))

/-- The three accumulated results after the step at position `n`: begun anew at the first step of a head block, left
    alone at its last. -/
def acc (c : Dev nD) : (n : ℕ) → n < cfg0.N → Vec F S8448x128 .f32 × Vec F S8448x128 .f32 × Vec F S8x2x64x512 .f32
  | 0, hn => accA m c ⟨0, hn⟩ (Nat.zero_mod _)
  | n + 1, hn =>
    if h0 : (n + 1) % 33 = 0 then accA m c ⟨n + 1, hn⟩ h0
    else if h2 : (n + 1) % 33 = 32 then acc c n (Nat.lt_of_succ_lt hn)
    else accB m c ⟨n + 1, hn⟩ h0 h2 (acc c n (Nat.lt_of_succ_lt hn))

/-- The same before the step at position `n` (at the very first, after it). -/
abbrev accPrev (c : Dev nD) (t : Fin cfg0.N) : Vec F S8448x128 .f32 × Vec F S8448x128 .f32 × Vec F S8x2x64x512 .f32 :=
  acc m c (t.val - 1) (Nat.lt_of_le_of_lt (Nat.sub_le _ _) t.isLt)

theorem acc_A (c : Dev nD) (t : Fin cfg0.N) (h0 : t.val % 33 = 0) : acc m c t.val t.isLt = accA m c t h0 := by
  obtain ⟨n, hn⟩ := t
  cases n with
  | zero => rfl
  | succ n => exact dif_pos h0
theorem acc_B (c : Dev nD) (t : Fin cfg0.N) (h0 : ¬ t.val % 33 = 0) (h2 : ¬ t.val % 33 = 32) :
    acc m c t.val t.isLt = accB m c t h0 h2 (accPrev m c t) := by
  obtain ⟨n, hn⟩ := t
  cases n with
  | zero => exact absurd (Nat.zero_mod _) h0
  | succ n => exact (dif_neg h0).trans (dif_neg h2)
theorem acc_C (c : Dev nD) (t : Fin cfg0.N) (h2 : t.val % 33 = 32) : acc m c t.val t.isLt = accPrev m c t := by
  obtain ⟨n, hn⟩ := t
  cases n with
  | zero => exact absurd (h2.symm.trans (Nat.zero_mod _)) (by decide)
  | succ n => exact (dif_neg (by dsimp only at h2; omega)).trans (dif_pos h2)

/-- The query gradient's tile after the step at `t`. -/
def dqAt (c : Dev nD) (t : Fin cfg0.N) : Vec F S256x128 .f32 :=
  if h0 : t.val % 33 = 0 then
    (ms9 t).view.read (Elt F) ((ms9 t).view.writes (Elt F) (ms9 t).view.junk (runA m c t h0).1)
  else if h2 : t.val % 33 = 32 then
    (ms9 t).view.read (Elt F) ((ms9 t).view.writes (Elt F) (ms9 t).view.junk (runC m c t h2 (accPrev m c t)).1)
  else (ms9 t).view.read (Elt F) ((ms9 t).view.writes (Elt F) (ms9 t).view.junk (runB m c t h0 h2 (accPrev m c t)).1)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqAt m c t
    | ⟨10, _⟩ => (acc m c t.val t.isLt).1
    | ⟨11, _⟩ => (acc m c t.val t.isLt).2.1
    | ⟨12, _⟩ => (acc m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = dqAt m c t := by dsimp only [dats]
theorem after10 (c : Dev nD) (t : Fin cfg0.N) : (dats m 0 c).after 10 t = (acc m c t.val t.isLt).1 := by dsimp only [dats]
theorem after11 (c : Dev nD) (t : Fin cfg0.N) : (dats m 0 c).after 11 t = (acc m c t.val t.isLt).2.1 := by dsimp only [dats]
theorem after12 (c : Dev nD) (t : Fin cfg0.N) : (dats m 0 c).after 12 t = (acc m c t.val t.isLt).2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## Where the accumulated results are idle, and what a step finds in them -/

theorem idle10_iff : ∀ t : Fin cfg0.N, cfg0.idle 10 (grid0.coords t) = decide (t.val % 33 = 32) :=
  (by decide +kernel : ∀ t : Fin grid0.N, idle0 10 (grid0.coords t) = decide (t.val % 33 = 32))
theorem fresh10 (n : ℕ) (hn : n ≤ cfg0.N) : cfg0.fresh 10 n = decide (n % 33 = 0) :=
  Pipeline.Cfg.fresh_tab (cfg := cfg0) 10 (fun n => decide (n % 33 = 0)) rfl (fun t => by
    rw [idle10_iff t]
    have hf := flush0_10 t
    by_cases h : t.val % 33 = 32
    · rw [hf.mpr h]; simp only [Bool.true_or, decide_eq_true_eq]; omega
    · have h' : (cfg0.win 10).flush t = false := by
        cases hh : (cfg0.win 10).flush t
        · rfl
        · exact absurd (hf.mp hh) h
      rw [h']; simp only [h, decide_false, Bool.false_and, Bool.or_false, decide_eq_false_iff_not]; omega) n hn
theorem before10_pos (c : Dev nD) (t : Fin cfg0.N) (h0 : ¬ t.val % 33 = 0) (d) :
    (dats m 0 c).before 10 t d = (accPrev m c t).1 := by
  rw [Pipeline.Dat.before_out_traj (dats m 0 c) 10 rfl (fun _ _ => rfl) (fun t ht hi _ => by
    rw [idle10_iff t, decide_eq_true_eq] at hi
    rw [after10, after10, acc_C m c t hi]) t.val t rfl d, fresh10 t.val (Nat.le_of_lt t.isLt),
    if_neg (by simpa only [decide_eq_true_eq] using h0), after10]
theorem idle11_iff : ∀ t : Fin cfg0.N, cfg0.idle 11 (grid0.coords t) = decide (t.val % 33 = 32) :=
  (by decide +kernel : ∀ t : Fin grid0.N, idle0 11 (grid0.coords t) = decide (t.val % 33 = 32))
theorem fresh11 (n : ℕ) (hn : n ≤ cfg0.N) : cfg0.fresh 11 n = decide (n % 33 = 0) :=
  Pipeline.Cfg.fresh_tab (cfg := cfg0) 11 (fun n => decide (n % 33 = 0)) rfl (fun t => by
    rw [idle11_iff t]
    have hf := flush0_11 t
    by_cases h : t.val % 33 = 32
    · rw [hf.mpr h]; simp only [Bool.true_or, decide_eq_true_eq]; omega
    · have h' : (cfg0.win 11).flush t = false := by
        cases hh : (cfg0.win 11).flush t
        · rfl
        · exact absurd (hf.mp hh) h
      rw [h']; simp only [h, decide_false, Bool.false_and, Bool.or_false, decide_eq_false_iff_not]; omega) n hn
theorem before11_pos (c : Dev nD) (t : Fin cfg0.N) (h0 : ¬ t.val % 33 = 0) (d) :
    (dats m 0 c).before 11 t d = (accPrev m c t).2.1 := by
  rw [Pipeline.Dat.before_out_traj (dats m 0 c) 11 rfl (fun _ _ => rfl) (fun t ht hi _ => by
    rw [idle11_iff t, decide_eq_true_eq] at hi
    rw [after11, after11, acc_C m c t hi]) t.val t rfl d, fresh11 t.val (Nat.le_of_lt t.isLt),
    if_neg (by simpa only [decide_eq_true_eq] using h0), after11]
theorem idle12_iff : ∀ t : Fin cfg0.N, cfg0.idle 12 (grid0.coords t) = decide (t.val % 33 = 32) :=
  (by decide +kernel : ∀ t : Fin grid0.N, idle0 12 (grid0.coords t) = decide (t.val % 33 = 32))
theorem fresh12 (n : ℕ) (hn : n ≤ cfg0.N) : cfg0.fresh 12 n = decide (n % 33 = 0) :=
  Pipeline.Cfg.fresh_tab (cfg := cfg0) 12 (fun n => decide (n % 33 = 0)) rfl (fun t => by
    rw [idle12_iff t]
    have hf := flush0_12 t
    by_cases h : t.val % 33 = 32
    · rw [hf.mpr h]; simp only [Bool.true_or, decide_eq_true_eq]; omega
    · have h' : (cfg0.win 12).flush t = false := by
        cases hh : (cfg0.win 12).flush t
        · rfl
        · exact absurd (hf.mp hh) h
      rw [h']; simp only [h, decide_false, Bool.false_and, Bool.or_false, decide_eq_false_iff_not]; omega) n hn
theorem before12_pos (c : Dev nD) (t : Fin cfg0.N) (h0 : ¬ t.val % 33 = 0) (d) :
    (dats m 0 c).before 12 t d = (accPrev m c t).2.2 := by
  rw [Pipeline.Dat.before_out_traj (dats m 0 c) 12 rfl (fun _ _ => rfl) (fun t ht hi _ => by
    rw [idle12_iff t, decide_eq_true_eq] at hi
    rw [after12, after12, acc_C m c t hi]) t.val t rfl d, fresh12 t.val (Nat.le_of_lt t.isLt),
    if_neg (by simpa only [decide_eq_true_eq] using h0), after12]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (X0_1 m c t) := by
  rw [← after1]
theorem leaves2 (c : Dev nD) (t : Fin cfg0.N) : (dats m 0 c).leavesExact 2 t = owns (c : Thread nD τ) (ms2 t) fullShare (X0_2 m c t) := by
  rw [← after2]
theorem leaves3 (c : Dev nD) (t : Fin cfg0.N) : (dats m 0 c).leavesExact 3 t = owns (c : Thread nD τ) (ms3 t) fullShare (iblk m c 3 t) := by
  rw [← after3]
theorem leaves4 (c : Dev nD) (t : Fin cfg0.N) : (dats m 0 c).leavesExact 4 t = owns (c : Thread nD τ) (ms4 t) fullShare (iblk m c 4 t) := by
  rw [← after4]
theorem leaves5 (c : Dev nD) (t : Fin cfg0.N) : (dats m 0 c).leavesExact 5 t = owns (c : Thread nD τ) (ms5 t) fullShare (iblk m c 5 t) := by
  rw [← after5]
theorem leaves6 (c : Dev nD) (t : Fin cfg0.N) : (dats m 0 c).leavesExact 6 t = owns (c : Thread nD τ) (ms6 t) fullShare (iblk m c 6 t) := by
  rw [← after6]
theorem leaves7 (c : Dev nD) (t : Fin cfg0.N) : (dats m 0 c).leavesExact 7 t = owns (c : Thread nD τ) (ms7 t) fullShare (iblk m c 7 t) := by
  rw [← after7]
theorem leaves8 (c : Dev nD) (t : Fin cfg0.N) : (dats m 0 c).leavesExact 8 t = owns (c : Thread nD τ) (ms8 t) fullShare (iblk m c 8 t) := by
  rw [← after8]
theorem live9 : ∀ t : Fin cfg0.N, cfg0.idle 9 (grid0.coords t) = false :=
  (by decide +kernel : ∀ t : Fin grid0.N, idle0 9 (grid0.coords t) = false)
theorem leaves9 (c : Dev nD) (t : Fin cfg0.N) : (dats m 0 c).leavesExact 9 t = owns (c : Thread nD τ) (ms9 t) fullShare (dqAt m c t) := by
  rw [← after9]; unfold Dat.leavesExact; rw [live9 t]
theorem leaves10 (c : Dev nD) (t : Fin cfg0.N) :
    (dats m 0 c).leavesExact 10 t = owns (c : Thread nD τ) (ms10 t) fullShare ((acc m c t.val t.isLt).1) := by
  rw [← after10]; unfold Dat.leavesExact; rw [idle10_iff t]
  by_cases h : t.val % 33 = 32
  · rw [(flush0_10 t).mpr h, decide_eq_true h]
  · rw [decide_eq_false h]
theorem leaves11 (c : Dev nD) (t : Fin cfg0.N) :
    (dats m 0 c).leavesExact 11 t = owns (c : Thread nD τ) (ms11 t) fullShare ((acc m c t.val t.isLt).2.1) := by
  rw [← after11]; unfold Dat.leavesExact; rw [idle11_iff t]
  by_cases h : t.val % 33 = 32
  · rw [(flush0_11 t).mpr h, decide_eq_true h]
  · rw [decide_eq_false h]
theorem leaves12 (c : Dev nD) (t : Fin cfg0.N) :
    (dats m 0 c).leavesExact 12 t = owns (c : Thread nD τ) (ms12 t) fullShare ((acc m c t.val t.isLt).2.2) := by
  rw [← after12]; unfold Dat.leavesExact; rw [idle12_iff t]
  by_cases h : t.val % 33 = 32
  · rw [(flush0_12 t).mpr h, decide_eq_true h]
  · rw [decide_eq_false h]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8, leaves9, leaves10, leaves11, leaves12]
  rw [show (dats m 0 c).owesAt () t.succ = (dats m 0 c).owesAt () t.castSucc from rfl]
  rw [show (dats m 0 c).Φ t.succ = (dats m 0 c).Φ t.castSucc from rfl]
  by_cases h0 : t.val % 33 = 0
  · rw [acc_A m c t h0]
    unfold dqAt; rw [dif_pos h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    iintro ⟨H0, H1, H2, H3, H4, H5, H6, H7, H8, ⟨%e9, H9⟩, ⟨%e10, H10⟩, ⟨%e11, H11⟩, ⟨%e12, H12⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cov9_A m c t h0)
    isplitl [H10]
    · unfold owns; iexists _; isplitr
      swap; · iexact H10
      ipureintro; exact View.read_writes_of_cover _ _ _ _ _ (cov10_A m c t h0)
    isplitl [H11]
    · unfold owns; iexists _; isplitr
      swap; · iexact H11
      ipureintro; exact View.read_writes_of_cover _ _ _ _ _ (cov11_A m c t h0)
    unfold owns; iexists _; isplitr
    swap; · iexact H12
    ipureintro; exact View.read_writes_of_cover _ _ _ _ _ (cov12_A m c t h0)
  · by_cases h2 : t.val % 33 = 32
    · rw [acc_C m c t h2]
      simp only [before10_pos m c t h0, before11_pos m c t h0, before12_pos m c t h0]
      unfold dqAt; rw [dif_neg h0, dif_pos h2]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runC m c t h2 (accPrev m c t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [H12]; · iexact H12
      iintro ⟨H0, H1, H2, H3, H4, H5, H6, H7, H8, ⟨%e9, H9⟩, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cov9_C m c t h2 _)
      isplitl [H10]; · iexact H10
      isplitl [H11]; · iexact H11
      iexact H12
    · rw [acc_B m c t h0 h2]
      simp only [before10_pos m c t h0, before11_pos m c t h0, before12_pos m c t h0]
      unfold dqAt; rw [dif_neg h0, dif_neg h2]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB m c t h0 h2 (accPrev m c t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [H12]; · iexact H12
      iintro ⟨H0, H1, H2, H3, H4, H5, H6, H7, H8, ⟨%e9, H9⟩, H10, H11, H12⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cov9_B m c t h0 h2 _)
      isplitl [H10]
      · unfold owns; iexists _; isplitr
        swap; · iexact H10
        ipureintro; rfl
      isplitl [H11]
      · unfold owns; iexists _; isplitr
        swap; · iexact H11
        ipureintro; rfl
      unfold owns; iexists _; isplitr
      swap; · iexact H12
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run of the program ends, with every array at what the proof data says and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Na

end
-- ==== Proof.SumEarly.lean ====
module

public import proofs.«01_k».proof.Proof.Gen.Kernel19Ideal.Value
public import proofs.«01_k».proof.Proof.Gen.Reference19Ideal.Read
public import Idealize.ShloMosaic.Lib.Pipeline.ReadBack
public import Idealize.ShloMosaic.Lib.Pipeline.ValueKit

/-! The sum over the devices of the early small gradients: each grid point's block, the array the blocks fill, and the reference's. -/

@[expose] public section

set_option maxHeartbeats 1000000

noncomputable section

namespace Cert.Kernel19Ideal.Sum

open Cert.Kernel19Ideal Cert.Kernel19Ideal.Gen Idealize.ShloMosaic Idealize.ShloMosaic.TcCoe Idealize.SL.Sem
open Idealize.ShloMosaic.Tactic

/-- A block: the eight devices' pieces added up. -/
def acc (x0 : Vec Ideal S8x64x1024 .f32) (i : S64x1024.Idx) : EReal := ∑ p : Fin 8, x0 (ix3 p (i 0) (i 1))

theorem added (x0 : Vec Ideal S8x64x1024 .f32) (j : S64x1024.Idx) :
    (k0_pay1 (F := Ideal) (View.ld x0 r0_0) (View.ld x0 r0_1) (View.ld x0 r0_2) (View.ld x0 r0_3) (View.ld x0 r0_4) (View.ld x0 r0_5) (View.ld x0 r0_6) (View.ld x0 r0_7) j : EReal) = acc x0 j := by
  unfold acc
  rw [Fin.sum_univ_eight]
  pointwise [k0_pay1, View.ld]

/-- The block stored whole is read whole. -/
theorem whole (x : Vec Ideal S64x1024 .f32) : View.ld x r0_8 = x := by
  funext y
  show x ((r0_8).emb y) = x y
  congr 1
  funext a
  apply Fin.ext
  match a with
  | ⟨0, _⟩ => show 0 + 1 * (y 0).val = (y 0).val; omega
  | ⟨1, _⟩ => show 0 + 1 * (y 1).val = (y 1).val; omega

theorem one (p : Vec Ideal S64x1024 .f32) : View.canon [⟨r0_8, p⟩] = p := by
  funext y
  refine View.canon_append_of_piecesOf p [] [_] ⟨fun x => ?_, trivial⟩ y (cover0_1 p y)
  exact congrFun (whole p).symm x

theorem out1 (x0 : Vec Ideal S8x64x1024 .f32) : out0_1 (F := Ideal) x0 = acc x0 := by
  unfold out0_1
  rw [one]
  funext y
  exact added x0 y

variable (m : (ℓ : Loc nD τ sig) → Buf (Elt Ideal) ℓ)

/-- The sum as a function of the argument array. -/
def total (c : Dev nD) : S192x1024.Idx → EReal := fun i => ∑ p : Fin 8, (show EReal from m ((c : Thread nD τ).loc main_arg0) (ix3 p (i 0) (i 1)))

/-- The windows' block indices at a point. -/
theorem idx : ∀ t : Fin cfg0.N, win0_0.index t = ![0, t.val, 0] ∧ win0_1.index t = ![t.val, 0] :=
  (by decide +kernel : ∀ t : Fin grid0.N, _)

/-- A point's block is its rows' part of the sum. -/
theorem block0 (c : Dev nD) (t : Fin cfg0.N) (x : S64x1024.Idx) (z : S192x1024.Idx) (h0 : (z 0).val = t.val * 64 + (x 0).val) (h1 : (z 1).val = (x 1).val) :
    (acc (iblk m c 0 t) x : EReal) = total m c z := by
  obtain ⟨i0, -⟩ := idx t
  unfold acc total
  refine Finset.sum_congr rfl fun p _ => ?_
  blk_ext [iblk, V, i0]

theorem flushed (c : Dev nD) (t : Fin cfg0.N) : (dats m 0 c).flushed 1 t = ((cfg0.win 1).blk t).view.read (Elt Ideal) (total m c) := by
  rw [Value.flushed1, out1]
  obtain ⟨-, q⟩ := idx t
  funext y
  have hb0 : (((cfg0.win 1).blk t).view.emb y 0).val = win0_1.index t (0 : Fin 2) * 64 + 1 * (y 0).val := rfl
  have hb1 : (((cfg0.win 1).blk t).view.emb y 1).val = win0_1.index t (1 : Fin 2) * 1024 + 1 * (y 1).val := rfl
  have q0 : win0_1.index t (0 : Fin 2) = t.val := congrFun q 0
  have q1 : win0_1.index t (1 : Fin 2) = 0 := congrFun q 1
  have e0 : (((cfg0.win 1).blk t).view.emb y 0).val = t.val * 64 + ((cfg0.win 1).xinj (grid0.coords t) y 0).val := by
    show _ = t.val * 64 + (y 0).val
    rw [hb0, q0]; omega
  have e1 : (((cfg0.win 1).blk t).view.emb y 1).val = ((cfg0.win 1).xinj (grid0.coords t) y 1).val := by
    show _ = (y 1).val
    rw [hb1, q1]; omega
  show (show EReal from acc (iblk m c 0 t) ((cfg0.win 1).xinj (grid0.coords t) y)) = total m c (((cfg0.win 1).blk t).view.emb y)
  exact block0 m c t _ _ e0 e1

/-- The blocks fill the array. -/
theorem filled (i : S192x1024.Idx) : ∃ t : Fin cfg0.N, (cfg0.win 1).flush t = true ∧ i ∈ ((cfg0.win 1).blk t).view.set := by
  have h0 : (i 0).val < 192 := (i 0).isLt
  have h1 : (i 1).val < 1024 := (i 1).isLt
  have hN : cfg0.N = 3 := N_0
  have ht : (i 0).val / 64 < cfg0.N := by omega
  obtain ⟨-, q⟩ := idx ⟨(i 0).val / 64, ht⟩
  refine ⟨⟨(i 0).val / 64, ht⟩, flush0_1 _, ?_⟩
  show i ∈ ((View.whole main_v0).slice (win0_1.rect ⟨(i 0).val / 64, ht⟩)).set
  rw [View.set_slice_whole, Rect.mem_set_unit]
  have q0 : win0_1.index ⟨(i 0).val / 64, ht⟩ (0 : Fin 2) = (i 0).val / 64 := congrFun q 0
  have q1 : win0_1.index ⟨(i 0).val / 64, ht⟩ (1 : Fin 2) = 0 := congrFun q 1
  intro a
  match a with
  | ⟨0, _⟩ => show win0_1.index ⟨(i 0).val / 64, ht⟩ (0 : Fin 2) * 64 ≤ (i 0).val ∧ (i 0).val < win0_1.index ⟨(i 0).val / 64, ht⟩ (0 : Fin 2) * 64 + 64; omega
  | ⟨1, _⟩ => show win0_1.index ⟨(i 0).val / 64, ht⟩ (1 : Fin 2) * 1024 ≤ (i 1).val ∧ (i 1).val < win0_1.index ⟨(i 0).val / 64, ht⟩ (1 : Fin 2) * 1024 + 1024; omega

theorem final (c : Dev nD) : (dats m 0 c).arrAt 1 cfg0.N = total m c :=
  (dats m 0 c).arrAt_eq_of_cover 1 _ (fun t _ => flushed m c t) filled

open Cert.Reference19Ideal.Read

/-- The reference's sum over the devices. -/
theorem ref (a : (⟨S8x192x1024, .f32⟩ : BufTy).Contents (Elt Ideal)) (i : S192x1024.Idx) :
    (val_main_v0 (F := Ideal) a i : EReal) = ∑ p : Fin 8, (show EReal from a (ix3 p (i 0) (i 1))) := by
  pointwise [val_main_v0, val_main_cst]

theorem final_eq (c : Dev nD) (a : (⟨S8x192x1024, .f32⟩ : BufTy).Contents (Elt Ideal)) (ha : a = m ((c : Thread nD τ).loc main_arg0)) :
    val_main_v0 (F := Ideal) a = (dats m 0 c).arrAt 1 cfg0.N := by
  rw [final]
  subst ha
  funext i
  exact ref _ i

end Cert.Kernel19Ideal.Sum

end
-- ==== Proof.SumSmall.lean ====
module

public import proofs.«01_k».proof.Proof.Gen.Kernel20Ideal.Value
public import proofs.«01_k».proof.Proof.Gen.Reference20Ideal.Read
public import Idealize.ShloMosaic.Lib.Pipeline.ReadBack
public import Idealize.ShloMosaic.Lib.Pipeline.ValueKit

/-! The sum over the devices of the late small gradients: each grid point's block, the array the blocks fill, and the reference's. -/

@[expose] public section

set_option maxHeartbeats 1000000

noncomputable section

namespace Cert.Kernel20Ideal.Sum

open Cert.Kernel20Ideal Cert.Kernel20Ideal.Gen Idealize.ShloMosaic Idealize.ShloMosaic.TcCoe Idealize.SL.Sem
open Idealize.ShloMosaic.Tactic

/-- A block: the eight devices' pieces added up. -/
def acc (x0 : Vec Ideal S8x64x1024 .f32) (i : S64x1024.Idx) : EReal := ∑ p : Fin 8, x0 (ix3 p (i 0) (i 1))

theorem added (x0 : Vec Ideal S8x64x1024 .f32) (j : S64x1024.Idx) :
    (k0_pay1 (F := Ideal) (View.ld x0 r0_0) (View.ld x0 r0_1) (View.ld x0 r0_2) (View.ld x0 r0_3) (View.ld x0 r0_4) (View.ld x0 r0_5) (View.ld x0 r0_6) (View.ld x0 r0_7) j : EReal) = acc x0 j := by
  unfold acc
  rw [Fin.sum_univ_eight]
  pointwise [k0_pay1, View.ld]

/-- The block stored whole is read whole. -/
theorem whole (x : Vec Ideal S64x1024 .f32) : View.ld x r0_8 = x := by
  funext y
  show x ((r0_8).emb y) = x y
  congr 1
  funext a
  apply Fin.ext
  match a with
  | ⟨0, _⟩ => show 0 + 1 * (y 0).val = (y 0).val; omega
  | ⟨1, _⟩ => show 0 + 1 * (y 1).val = (y 1).val; omega

theorem one (p : Vec Ideal S64x1024 .f32) : View.canon [⟨r0_8, p⟩] = p := by
  funext y
  refine View.canon_append_of_piecesOf p [] [_] ⟨fun x => ?_, trivial⟩ y (cover0_1 p y)
  exact congrFun (whole p).symm x

theorem out1 (x0 : Vec Ideal S8x64x1024 .f32) : out0_1 (F := Ideal) x0 = acc x0 := by
  unfold out0_1
  rw [one]
  funext y
  exact added x0 y

variable (m : (ℓ : Loc nD τ sig) → Buf (Elt Ideal) ℓ)

/-- The sum as a function of the argument array. -/
def total (c : Dev nD) : S64x1024.Idx → EReal := fun i => ∑ p : Fin 8, (show EReal from m ((c : Thread nD τ).loc main_arg0) (ix3 p (i 0) (i 1)))

/-- The windows' block indices at a point. -/
theorem idx : ∀ t : Fin cfg0.N, win0_0.index t = ![0, t.val, 0] ∧ win0_1.index t = ![t.val, 0] :=
  (by decide +kernel : ∀ t : Fin grid0.N, _)

/-- A point's block is its rows' part of the sum. -/
theorem block0 (c : Dev nD) (t : Fin cfg0.N) (x : S64x1024.Idx) (z : S64x1024.Idx) (h0 : (z 0).val = t.val * 64 + (x 0).val) (h1 : (z 1).val = (x 1).val) :
    (acc (iblk m c 0 t) x : EReal) = total m c z := by
  obtain ⟨i0, -⟩ := idx t
  unfold acc total
  refine Finset.sum_congr rfl fun p _ => ?_
  blk_ext [iblk, V, i0]

theorem flushed (c : Dev nD) (t : Fin cfg0.N) : (dats m 0 c).flushed 1 t = ((cfg0.win 1).blk t).view.read (Elt Ideal) (total m c) := by
  rw [Value.flushed1, out1]
  obtain ⟨-, q⟩ := idx t
  funext y
  have hb0 : (((cfg0.win 1).blk t).view.emb y 0).val = win0_1.index t (0 : Fin 2) * 64 + 1 * (y 0).val := rfl
  have hb1 : (((cfg0.win 1).blk t).view.emb y 1).val = win0_1.index t (1 : Fin 2) * 1024 + 1 * (y 1).val := rfl
  have q0 : win0_1.index t (0 : Fin 2) = t.val := congrFun q 0
  have q1 : win0_1.index t (1 : Fin 2) = 0 := congrFun q 1
  have e0 : (((cfg0.win 1).blk t).view.emb y 0).val = t.val * 64 + ((cfg0.win 1).xinj (grid0.coords t) y 0).val := by
    show _ = t.val * 64 + (y 0).val
    rw [hb0, q0]; omega
  have e1 : (((cfg0.win 1).blk t).view.emb y 1).val = ((cfg0.win 1).xinj (grid0.coords t) y 1).val := by
    show _ = (y 1).val
    rw [hb1, q1]; omega
  show (show EReal from acc (iblk m c 0 t) ((cfg0.win 1).xinj (grid0.coords t) y)) = total m c (((cfg0.win 1).blk t).view.emb y)
  exact block0 m c t _ _ e0 e1

/-- The blocks fill the array. -/
theorem filled (i : S64x1024.Idx) : ∃ t : Fin cfg0.N, (cfg0.win 1).flush t = true ∧ i ∈ ((cfg0.win 1).blk t).view.set := by
  have h0 : (i 0).val < 64 := (i 0).isLt
  have h1 : (i 1).val < 1024 := (i 1).isLt
  have hN : cfg0.N = 1 := N_0
  have ht : (i 0).val / 64 < cfg0.N := by omega
  obtain ⟨-, q⟩ := idx ⟨(i 0).val / 64, ht⟩
  refine ⟨⟨(i 0).val / 64, ht⟩, flush0_1 _, ?_⟩
  show i ∈ ((View.whole main_v0).slice (win0_1.rect ⟨(i 0).val / 64, ht⟩)).set
  rw [View.set_slice_whole, Rect.mem_set_unit]
  have q0 : win0_1.index ⟨(i 0).val / 64, ht⟩ (0 : Fin 2) = (i 0).val / 64 := congrFun q 0
  have q1 : win0_1.index ⟨(i 0).val / 64, ht⟩ (1 : Fin 2) = 0 := congrFun q 1
  intro a
  match a with
  | ⟨0, _⟩ => show win0_1.index ⟨(i 0).val / 64, ht⟩ (0 : Fin 2) * 64 ≤ (i 0).val ∧ (i 0).val < win0_1.index ⟨(i 0).val / 64, ht⟩ (0 : Fin 2) * 64 + 64; omega
  | ⟨1, _⟩ => show win0_1.index ⟨(i 0).val / 64, ht⟩ (1 : Fin 2) * 1024 ≤ (i 1).val ∧ (i 1).val < win0_1.index ⟨(i 0).val / 64, ht⟩ (1 : Fin 2) * 1024 + 1024; omega

theorem final (c : Dev nD) : (dats m 0 c).arrAt 1 cfg0.N = total m c :=
  (dats m 0 c).arrAt_eq_of_cover 1 _ (fun t _ => flushed m c t) filled

open Cert.Reference20Ideal.Read

/-- The reference's sum over the devices. -/
theorem ref (a : (⟨S8x64x1024, .f32⟩ : BufTy).Contents (Elt Ideal)) (i : S64x1024.Idx) :
    (val_main_v0 (F := Ideal) a i : EReal) = ∑ p : Fin 8, (show EReal from a (ix3 p (i 0) (i 1))) := by
  pointwise [val_main_v0, val_main_cst]

theorem final_eq (c : Dev nD) (a : (⟨S8x64x1024, .f32⟩ : BufTy).Contents (Elt Ideal)) (ha : a = m ((c : Thread nD τ).loc main_arg0)) :
    val_main_v0 (F := Ideal) a = (dats m 0 c).arrAt 1 cfg0.N := by
  rw [final]
  subst ha
  funext i
  exact ref _ i

end Cert.Kernel20Ideal.Sum

end
-- ==== Proof.CctxValue.lean ====
module

public import proofs.«01_k».proof.Proof.Gen.Kernel21Ideal.Value
public import proofs.«01_k».proof.Proof.Gen.Reference21Ideal.Read
public import proofs.«01_k».proof.Pre_finite21
public import Idealize.ShloMosaic.Lib.Pipeline.ReadBack
public import Idealize.ShloMosaic.Lib.Pipeline.ValueKit
public import Idealize.ShloMosaic.Lib.ReduceAll

/-! The gradient of the context's vector: the devices' parts added up, times the derivative of silu, beside the reference's. -/

@[expose] public section

set_option maxHeartbeats 1000000

noncomputable section

namespace Cert.Kernel21Ideal.Cctx

open Cert.Kernel21Ideal Cert.Kernel21Ideal.Gen Idealize.ShloMosaic Idealize.ShloMosaic.TcCoe Idealize.SL.Sem
open Idealize.ShloMosaic.Tactic

/-- The derivative of silu as the kernel writes it. -/
def slope (x : EReal) : EReal := Ideal.logistic x * (1 + x * (1 - Ideal.logistic x))

/-- Row 8 of the sum over the devices. -/
def row (a : Vec Ideal S8x16x1024 .f32) (i : S1x1024.Idx) : EReal := ∑ p : Fin 8, a (ix3 p (8 : Fin 16) (i 1))

theorem added (a : Vec Ideal S8x16x1024 .f32) (i : S1x1024.Idx) :
    (k0_pay2 (F := Ideal) (View.ld a r0_0) (View.ld a r0_1) (View.ld a r0_2) (View.ld a r0_3) (View.ld a r0_4) (View.ld a r0_5) (View.ld a r0_6) (View.ld a r0_7) i : EReal) = row a i := by
  have hi : (i 0).val = 0 := by have h : (i 0).val < 1 := (i 0).isLt; omega
  unfold row
  rw [Fin.sum_univ_eight]
  pointwise [k0_pay2, View.ld]

theorem pay3 (x : Vec Ideal S1x1024 .f32) (i : S1x1024.Idx) : (k0_pay3 (F := Ideal) x i : EReal) = slope (x i) := by
  unfold slope
  pointwise [k0_pay3]

/-- What the kernel leaves. -/
theorem result (a : Vec Ideal S8x16x1024 .f32) (x : Vec Ideal S1x1024 .f32) (i : S1x1024.Idx) :
    (Value.G2 (F := Ideal) a x i : EReal) = row a i * slope (x i) := by
  rw [← added a i, ← pay3 x i]
  rfl

/-- On a finite cotangent the derivative as the reference writes it is the kernel's. -/
theorem slope_eq (r : ℝ) (x : EReal) : (r : EReal) * Ideal.logistic x + x * (r : EReal) * (Ideal.logistic x * (1 - Ideal.logistic x)) = (r : EReal) * slope x := by
  unfold slope
  induction x with
  | bot => simp
  | top =>
    have h : (1 : EReal) - 1 = 0 := by rw [← EReal.coe_one, ← EReal.coe_sub]; simp
    simp [h]
  | coe x =>
    rw [Ideal.logistic_coe, ← EReal.coe_one]
    simp only [← EReal.coe_mul, ← EReal.coe_add, ← EReal.coe_sub]
    congr 1
    ring

/-- A number whose absolute value is under infinity is a real. -/
theorem real_of (x : EReal) (h : Ideal.cmp .olt (max x (-x)) ⊤ = 1#1) : ∃ r : ℝ, x = r := by
  induction x with
  | bot => simp [Ideal.cmp] at h
  | top => simp [Ideal.cmp] at h
  | coe r => exact ⟨r, rfl⟩

open Cert.Pre_finite21 in
/-- What the precondition says of each element of the parts. -/
theorem finite [Cert.Pre_finite21.Facts] (a : Vec Ideal S8x16x1024 .f32) (x : Vec Ideal S1x1024 .f32)
    (h : fn (F := Ideal) a x = fun _ => 1#1) : ∀ i, ∃ r : ℝ, (a i : EReal) = r := by
  have e := congrFun h (fun x => x.elim0)
  unfold fn at e
  dsimp only at e
  haveI : Subsingleton Cert.Pre_finite21.S_.Idx := ⟨fun p q => funext fun x => x.elim0⟩
  exact fun i => real_of _ (Host.reduce_andi_all _ _ _ _ _ e i)

theorem row_real (a : Vec Ideal S8x16x1024 .f32) (i : S1x1024.Idx) (f : ∀ i, ∃ r : ℝ, (a i : EReal) = r) : ∃ r : ℝ, row a i = r := by
  choose p hp using f
  refine ⟨∑ k : Fin 8, p (ix3 k (8 : Fin 16) (i 1)), ?_⟩
  unfold row
  simp only [hp]
  exact (map_sum (⟨⟨fun x : ℝ => (x : EReal), EReal.coe_zero⟩, EReal.coe_add⟩ : ℝ →+ EReal) (fun k : Fin 8 => p (ix3 k (8 : Fin 16) (i 1))) Finset.univ).symm

open Cert.Reference21Ideal.Read

theorem ref_row (a : Vec Ideal S8x16x1024 .f32) (i : S1x1024.Idx) : (val_main_v2 (F := Ideal) a i : EReal) = row a i := by
  have hi : (i 0).val = 0 := by have h : (i 0).val < 1 := (i 0).isLt; omega
  unfold row
  pointwise [val_main_v2, val_main_v1, val_main_cst]

theorem ref_slope (x : Vec Ideal S1x1024 .f32) (i : S1x1024.Idx) : (val_main_v0_2 (F := Ideal) x i : EReal) = Ideal.logistic (x i) := by
  pointwise [val_main_v0_2, val_main_call0_v4, val_main_call0_v3, val_main_call0_v2, val_main_call0_v1, val_main_call0_v0, val_main_call0_cst, val_main_call0_cst_0]
  rfl

theorem ref_one (i : S1x1024.Idx) : (val_main_call0_v6 (F := Ideal) i : EReal) = 1 := by
  pointwise [val_main_call0_v6, val_main_call0_cst_1]

/-- The result is the reference's, on finite parts. -/
theorem final_eq [Cert.Pre_finite21.Facts] (a : Vec Ideal S8x16x1024 .f32) (x : Vec Ideal S1x1024 .f32)
    (h : Cert.Pre_finite21.fn (F := Ideal) a x = fun _ => 1#1) : val_main_v3 (F := Ideal) a x = Value.G2 (F := Ideal) a x := by
  funext i
  obtain ⟨r, hr⟩ := row_real a i (finite a x h)
  have e1 : (val_main_v3 (F := Ideal) a x i : EReal) = val_main_v2 (F := Ideal) a i * val_main_v0_2 (F := Ideal) x i
      + x i * val_main_v2 (F := Ideal) a i * (val_main_v0_2 (F := Ideal) x i * (val_main_call0_v6 (F := Ideal) i - val_main_v0_2 (F := Ideal) x i)) := rfl
  refine e1.trans ?_
  rw [ref_row, ref_slope, ref_one, hr, slope_eq, ← hr]
  exact (result a x i).symm

end Cert.Kernel21Ideal.Cctx

end
-- ==== Proof.ModValue.lean ====
module

public import proofs.«01_k».proof.Proof.Gen.Kernel22Ideal.Value
public import proofs.«01_k».proof.Proof.Gen.Reference22Ideal.Read
public import Idealize.ShloMosaic.Lib.Pipeline.ReadBack
public import Idealize.ShloMosaic.Lib.Pipeline.ValueKit

/-! The gradient of `w_mod` and of the modulation's activation: each grid point's products, the two arrays they fill, and the reference's. -/

@[expose] public section

set_option maxHeartbeats 1000000

noncomputable section

namespace Cert.Kernel22Ideal.Md

open Cert.Kernel22Ideal Cert.Kernel22Ideal.Gen Idealize.ShloMosaic Idealize.ShloMosaic.TcCoe Idealize.SL.Sem
open Idealize.ShloMosaic.Tactic

/-- The activation. -/
def silu (x : EReal) : EReal := x * Ideal.logistic x

/-- A point's block of the gradient of the weight: the products contracted over the sixteen vectors. -/
def dw (x0 : Vec Ideal S16x1024 .f32) (x1 : Vec Ideal S1x16x384 .f32) (j : S1x1024x384.Idx) : EReal :=
  ∑ k : Fin 16, silu (x0 (ix2 k (j 1))) * x1 (ix3 (0 : Fin 1) k (j 2))

/-- A point's products for the activation's gradient, contracted over its 384 columns. -/
def part (x1 : Vec Ideal S1x16x384 .f32) (x2 : Vec Ideal S1x1024x384 .f32) (j : S16x1024.Idx) : EReal :=
  ∑ k : Fin 384, x1 (ix3 (0 : Fin 1) (j 0) k) * x2 (ix3 (0 : Fin 1) (j 1) k)

theorem pay1 (j : S16x1024.Idx) : (k0_pay1 (F := Ideal) j : EReal) = 0 := by
  pointwise [k0_pay1]

theorem pay3 (x0 : Vec Ideal S16x1024 .f32) (x1 : Vec Ideal S1x16x384 .f32) (j : S1x1024x384.Idx) : (k0_pay3 (F := Ideal) x0 x1 j : EReal) = dw x0 x1 j := by
  unfold dw silu
  pointwise [k0_pay3, k0_pay2]

theorem pay4 (x1 : Vec Ideal S1x16x384 .f32) (v : Vec Ideal S16x1024 .f32) (x2 : Vec Ideal S1x1024x384 .f32) (j : S16x1024.Idx) :
    (k0_pay4 (F := Ideal) x1 v x2 j : EReal) = v j + part x1 x2 j := by
  unfold part
  pointwise [k0_pay4, k0_pay2]

theorem outA3 (c : Dev nD) (i : grid0.Coords) (arg2 : Memref sig .tc .vmem S16x1024 .f32) (harg2 : arg2.IsWhole) (arg3 : Memref sig .tc .vmem S1x16x384 .f32) (harg3 : arg3.IsWhole) (arg4 : Memref sig .tc .vmem S1x1024x384 .f32) (harg4 : arg4.IsWhole) (arg5 : Memref sig .tc .vmem S1x1024x384 .f32) (harg5 : arg5.IsWhole) (arg6 : Memref sig .tc .vmem S16x1024 .f32) (harg6 : arg6.IsWhole) (hc0 : cond0_0 i) (x0 : Vec Ideal S16x1024 .f32) (x1 : Vec Ideal S1x16x384 .f32) (x2 : Vec Ideal S1x1024x384 .f32) :
    out0_A_3 c i arg2 harg2 arg3 harg3 arg4 harg4 arg5 harg5 arg6 harg6 hc0 x0 x1 x2 = k0_pay3 (F := Ideal) x0 x1 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]

theorem outB3 (c : Dev nD) (i : grid0.Coords) (arg2 : Memref sig .tc .vmem S16x1024 .f32) (harg2 : arg2.IsWhole) (arg3 : Memref sig .tc .vmem S1x16x384 .f32) (harg3 : arg3.IsWhole) (arg4 : Memref sig .tc .vmem S1x1024x384 .f32) (harg4 : arg4.IsWhole) (arg5 : Memref sig .tc .vmem S1x1024x384 .f32) (harg5 : arg5.IsWhole) (arg6 : Memref sig .tc .vmem S16x1024 .f32) (harg6 : arg6.IsWhole) (hc0 : ¬cond0_0 i) (x0 : Vec Ideal S16x1024 .f32) (x1 : Vec Ideal S1x16x384 .f32) (x2 : Vec Ideal S1x1024x384 .f32) (xo4 : Vec Ideal S16x1024 .f32) :
    out0_B_3 c i arg2 harg2 arg3 harg3 arg4 harg4 arg5 harg5 arg6 harg6 hc0 x0 x1 x2 xo4 = k0_pay3 (F := Ideal) x0 x1 := by
  frame_open
  simp (disch := decide) only [View.read_writes_junk_eq_canon, View.canon_cons_unit_lit', View.ld_unit_lit', View.readCov_unit_lit', View.readCov_cons_unit_lit', View.readAt_eq_ld, Memref.IsWhole.read_unread]

theorem outA4 (c : Dev nD) (i : grid0.Coords) (arg2 : Memref sig .tc .vmem S16x1024 .f32) (harg2 : arg2.IsWhole) (arg3 : Memref sig .tc .vmem S1x16x384 .f32) (harg3 : arg3.IsWhole) (arg4 : Memref sig .tc .vmem S1x1024x384 .f32) (harg4 : arg4.IsWhole) (arg5 : Memref sig .tc .vmem S1x1024x384 .f32) (harg5 : arg5.IsWhole) (arg6 : Memref sig .tc .vmem S16x1024 .f32) (harg6 : arg6.IsWhole) (hc0 : cond0_0 i) (x0 : Vec Ideal S16x1024 .f32) (x1 : Vec Ideal S1x16x384 .f32) (x2 : Vec Ideal S1x1024x384 .f32) :
    out0_A_4 c i arg2 harg2 arg3 harg3 arg4 harg4 arg5 harg5 arg6 harg6 hc0 x0 x1 x2 = k0_pay4 (F := Ideal) x1 (k0_pay1 (F := Ideal)) x2 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]

theorem outB4 (c : Dev nD) (i : grid0.Coords) (arg2 : Memref sig .tc .vmem S16x1024 .f32) (harg2 : arg2.IsWhole) (arg3 : Memref sig .tc .vmem S1x16x384 .f32) (harg3 : arg3.IsWhole) (arg4 : Memref sig .tc .vmem S1x1024x384 .f32) (harg4 : arg4.IsWhole) (arg5 : Memref sig .tc .vmem S1x1024x384 .f32) (harg5 : arg5.IsWhole) (arg6 : Memref sig .tc .vmem S16x1024 .f32) (harg6 : arg6.IsWhole) (hc0 : ¬cond0_0 i) (x0 : Vec Ideal S16x1024 .f32) (x1 : Vec Ideal S1x16x384 .f32) (x2 : Vec Ideal S1x1024x384 .f32) (xo4 : Vec Ideal S16x1024 .f32) :
    out0_B_4 c i arg2 harg2 arg3 harg3 arg4 harg4 arg5 harg5 arg6 harg6 hc0 x0 x1 x2 xo4 = k0_pay4 (F := Ideal) x1 xo4 x2 := by
  frame_open
  simp (disch := decide) only [View.read_writes_junk_eq_canon, View.canon_cons_unit_lit', View.ld_unit_lit', View.readCov_unit_lit', View.readCov_cons_unit_lit', View.readAt_eq_ld, Memref.IsWhole.read_unread]

variable (m : (ℓ : Loc nD τ sig) → Buf (Elt Ideal) ℓ)

/-- The windows' block indices at a point. -/
theorem idx : ∀ t : Fin cfg0.N, win0_0.index t = ![0, 0] ∧ win0_1.index t = ![t.val / 3, 0, t.val % 3] ∧ win0_2.index t = ![t.val / 3, 0, t.val % 3]
    ∧ win0_3.index t = ![t.val / 3, 0, t.val % 3] ∧ win0_4.index t = ![0, 0] :=
  (by decide +kernel : ∀ t : Fin grid0.N, _)

/-- The arguments read as numbers. -/
def a0 (c : Dev nD) (i : S16x1024.Idx) : EReal := m ((c : Thread nD τ).loc main_arg0) i
def a1 (c : Dev nD) (i : S2x16x1152.Idx) : EReal := m ((c : Thread nD τ).loc main_arg1) i
def a2 (c : Dev nD) (i : S2x1024x1152.Idx) : EReal := m ((c : Thread nD τ).loc main_arg2) i

/-- The two gradients as functions of the arguments. -/
def G3 (c : Dev nD) : S2x1024x1152.Idx → EReal := fun i => ∑ k : Fin 16, silu (a0 m c (ix2 k (i 1))) * a1 m c (ix3 (i 0) k (i 2))
def G4 (c : Dev nD) : S16x1024.Idx → EReal := fun i =>
  (∑ k : Fin 1152, a1 m c (ix3 (0 : Fin 2) (i 0) k) * a2 m c (ix3 (0 : Fin 2) (i 1) k)) + ∑ k : Fin 1152, a1 m c (ix3 (1 : Fin 2) (i 0) k) * a2 m c (ix3 (1 : Fin 2) (i 1) k)

theorem out3 (c : Dev nD) (t : Fin cfg0.N) : ((outsAt0 m c t.val t.isLt).1 : S1x1024x384.Idx → EReal) = k0_pay3 (F := Ideal) (iblk m c 0 t) (iblk m c 1 t) := by
  by_cases h : t.val % 6 = 0
  · rw [outsAt0_A m c t h]; dsimp only; rw [outA3]
  · rw [outsAt0_B m c t h]; dsimp only; rw [outB3]

theorem block3 (c : Dev nD) (t : Fin cfg0.N) (x : S1x1024x384.Idx) (z : S2x1024x1152.Idx) (h0 : (z 0).val = t.val / 3) (h1 : (z 1).val = (x 1).val)
    (h2 : (z 2).val = t.val % 3 * 384 + (x 2).val) : (dw (iblk m c 0 t) (iblk m c 1 t) x : EReal) = G3 m c z := by
  obtain ⟨i0, i1, -⟩ := idx t
  unfold dw G3
  refine Finset.sum_congr rfl fun k _ => congrArg₂ (fun a b : EReal => silu a * b) ?_ ?_
  · unfold a0
    blk_ext [iblk, V, i0]
  · unfold a1
    blk_ext [iblk, V, i1]

theorem flushed3 (c : Dev nD) (t : Fin cfg0.N) : (dats m 0 c).flushed 3 t = ((cfg0.win 3).blk t).view.read (Elt Ideal) (G3 m c) := by
  rw [Value.flushed3, out3]
  obtain ⟨-, -, -, q, -⟩ := idx t
  funext y
  have hb0 : (((cfg0.win 3).blk t).view.emb y 0).val = win0_3.index t (0 : Fin 3) * 1 + 1 * (y 0).val := rfl
  have hb1 : (((cfg0.win 3).blk t).view.emb y 1).val = win0_3.index t (1 : Fin 3) * 1024 + 1 * (y 1).val := rfl
  have hb2 : (((cfg0.win 3).blk t).view.emb y 2).val = win0_3.index t (2 : Fin 3) * 384 + 1 * (y 2).val := rfl
  have q0 : win0_3.index t (0 : Fin 3) = t.val / 3 := congrFun q 0
  have q1 : win0_3.index t (1 : Fin 3) = 0 := congrFun q 1
  have q2 : win0_3.index t (2 : Fin 3) = t.val % 3 := congrFun q 2
  have hy : (y 0).val < 1 := (y 0).isLt
  show (show EReal from k0_pay3 (F := Ideal) (iblk m c 0 t) (iblk m c 1 t) ((cfg0.win 3).xinj (grid0.coords t) y)) = G3 m c (((cfg0.win 3).blk t).view.emb y)
  rw [pay3]
  refine block3 m c t _ _ ?_ ?_ ?_
  · show (((cfg0.win 3).blk t).view.emb y 0).val = _
    rw [hb0, q0]; omega
  · show (((cfg0.win 3).blk t).view.emb y 1).val = (y 1).val
    rw [hb1, q1]; omega
  · show (((cfg0.win 3).blk t).view.emb y 2).val = t.val % 3 * 384 + (y 2).val
    rw [hb2, q2]; omega

/-- The blocks fill the array. -/
theorem filled3 (i : S2x1024x1152.Idx) : ∃ t : Fin cfg0.N, (cfg0.win 3).flush t = true ∧ i ∈ ((cfg0.win 3).blk t).view.set := by
  have h0 : (i 0).val < 2 := (i 0).isLt
  have h1 : (i 1).val < 1024 := (i 1).isLt
  have h2 : (i 2).val < 1152 := (i 2).isLt
  have hN : cfg0.N = 6 := N_0
  have ht : (i 0).val * 3 + (i 2).val / 384 < cfg0.N := by omega
  obtain ⟨-, -, -, q, -⟩ := idx ⟨(i 0).val * 3 + (i 2).val / 384, ht⟩
  refine ⟨⟨(i 0).val * 3 + (i 2).val / 384, ht⟩, flush0_3 _, ?_⟩
  show i ∈ ((View.whole main_v0_0).slice (win0_3.rect ⟨(i 0).val * 3 + (i 2).val / 384, ht⟩)).set
  rw [View.set_slice_whole, Rect.mem_set_unit]
  have q0 : win0_3.index ⟨(i 0).val * 3 + (i 2).val / 384, ht⟩ (0 : Fin 3) = ((i 0).val * 3 + (i 2).val / 384) / 3 := congrFun q 0
  have q1 : win0_3.index ⟨(i 0).val * 3 + (i 2).val / 384, ht⟩ (1 : Fin 3) = 0 := congrFun q 1
  have q2 : win0_3.index ⟨(i 0).val * 3 + (i 2).val / 384, ht⟩ (2 : Fin 3) = ((i 0).val * 3 + (i 2).val / 384) % 3 := congrFun q 2
  intro a
  match a with
  | ⟨0, _⟩ => show win0_3.index ⟨(i 0).val * 3 + (i 2).val / 384, ht⟩ (0 : Fin 3) * 1 ≤ (i 0).val ∧ (i 0).val < win0_3.index ⟨(i 0).val * 3 + (i 2).val / 384, ht⟩ (0 : Fin 3) * 1 + 1; omega
  | ⟨1, _⟩ => show win0_3.index ⟨(i 0).val * 3 + (i 2).val / 384, ht⟩ (1 : Fin 3) * 1024 ≤ (i 1).val ∧ (i 1).val < win0_3.index ⟨(i 0).val * 3 + (i 2).val / 384, ht⟩ (1 : Fin 3) * 1024 + 1024; omega
  | ⟨2, _⟩ => show win0_3.index ⟨(i 0).val * 3 + (i 2).val / 384, ht⟩ (2 : Fin 3) * 384 ≤ (i 2).val ∧ (i 2).val < win0_3.index ⟨(i 0).val * 3 + (i 2).val / 384, ht⟩ (2 : Fin 3) * 384 + 384; omega

theorem final3 (c : Dev nD) : (dats m 0 c).arrAt 3 cfg0.N = G3 m c :=
  (dats m 0 c).arrAt_eq_of_cover 3 _ (fun t _ => flushed3 m c t) filled3

theorem lt5 : 5 < cfg0.N := lt_of_lt_of_eq (by decide) N_0.symm

/-- The second result's block after the last point: all the points' products. -/
theorem acc_last (c : Dev nD) (j : S16x1024.Idx) :
    ((outsAt0 m c 5 lt5).2 j : EReal) = ∑ p : Fin cfg0.N, part (iblk m c 1 p) (iblk m c 2 p) j := by
  have e := Pipeline.eq_sum_fin_of_reset_step_apply_last (M := EReal) (fun n h => (outsAt0 m c n h).2) 6 (fun _ => 0)
    (fun p i => part (iblk m c 1 p) (iblk m c 2 p) i)
    (fun t h i => by
      rw [outsAt0_A m c t h]; dsimp only; rw [outA4]; exact (pay4 _ _ _ i).trans (congrArg (· + part (iblk m c 1 t) (iblk m c 2 t) i) (pay1 i)))
    (fun t h i => by
      rw [outsAt0_B m c t h]; dsimp only; rw [outB4]; exact pay4 _ _ _ i)
    (le_of_eq N_0) ⟨5, lt5⟩ N_0.symm j
  simpa using e

theorem part_eq (c : Dev nD) (j : S16x1024.Idx) (l : Fin 2) (s : Fin 3) (h : 3 * l.val + s.val < cfg0.N) :
    part (iblk m c 1 ⟨3 * l.val + s.val, h⟩) (iblk m c 2 ⟨3 * l.val + s.val, h⟩) j
      = ∑ k : Fin 384, (fun q : Fin 1152 => a1 m c (ix3 l (j 0) q) * a2 m c (ix3 l (j 1) q)) ⟨s.val * 384 + k.val, by omega⟩ := by
  obtain ⟨-, i1, i2, -⟩ := idx ⟨3 * l.val + s.val, h⟩
  unfold part
  have hl : l.val < 2 := l.isLt
  have hs : s.val < 3 := s.isLt
  have d1 : (3 * l.val + s.val) / 3 = l.val := by omega
  have d2 : (3 * l.val + s.val) % 3 = s.val := by omega
  refine Finset.sum_congr rfl fun k _ => congrArg₂ (fun a b : EReal => a * b) ?_ ?_
  · unfold a1
    blk_ext [iblk, V, i1, d1, d2]
  · unfold a2
    blk_ext [iblk, V, i2, d1, d2]

/-- The points' products add up to the two layers'. -/
theorem total (c : Dev nD) (j : S16x1024.Idx) : ∑ p : Fin cfg0.N, part (iblk m c 1 p) (iblk m c 2 p) j = G4 m c j := by
  have hN : cfg0.N = 6 := N_0
  have s0 : ∑ s : Fin 3, ∑ k : Fin 384, (fun q : Fin 1152 => a1 m c (ix3 (0 : Fin 2) (j 0) q) * a2 m c (ix3 (0 : Fin 2) (j 1) q)) ⟨s.val * 384 + k.val, by omega⟩ = ∑ q : Fin 1152, (fun q : Fin 1152 => a1 m c (ix3 (0 : Fin 2) (j 0) q) * a2 m c (ix3 (0 : Fin 2) (j 1) q)) q :=
    Fin.sum_mul_add_congr (fun _ _ _ => rfl)
  have s1 : ∑ s : Fin 3, ∑ k : Fin 384, (fun q : Fin 1152 => a1 m c (ix3 (1 : Fin 2) (j 0) q) * a2 m c (ix3 (1 : Fin 2) (j 1) q)) ⟨s.val * 384 + k.val, by omega⟩ = ∑ q : Fin 1152, (fun q : Fin 1152 => a1 m c (ix3 (1 : Fin 2) (j 0) q) * a2 m c (ix3 (1 : Fin 2) (j 1) q)) q :=
    Fin.sum_mul_add_congr (fun _ _ _ => rfl)
  have e : ∑ p : Fin cfg0.N, part (iblk m c 1 p) (iblk m c 2 p) j
      = ∑ l : Fin 2, ∑ s : Fin 3, part (iblk m c 1 ⟨3 * l.val + s.val, by omega⟩) (iblk m c 2 ⟨3 * l.val + s.val, by omega⟩) j :=
    (Fin.sum_mul_add_congr (M := EReal) (S := 2) (n := 3) (L := cfg0.N)
      (F := fun l s => part (iblk m c 1 ⟨3 * l.val + s.val, by omega⟩) (iblk m c 2 ⟨3 * l.val + s.val, by omega⟩) j)
      (f := fun p => part (iblk m c 1 p) (iblk m c 2 p) j)
      (fun l s hl => by
        have hp : (⟨3 * l.val + s.val, by omega⟩ : Fin cfg0.N) = ⟨l.val * 3 + s.val, hl⟩ := Fin.ext (by show 3 * l.val + s.val = l.val * 3 + s.val; omega)
        show part (iblk m c 1 ⟨3 * l.val + s.val, by omega⟩) (iblk m c 2 ⟨3 * l.val + s.val, by omega⟩) j = part (iblk m c 1 ⟨l.val * 3 + s.val, hl⟩) (iblk m c 2 ⟨l.val * 3 + s.val, hl⟩) j
        rw [hp]) hN).symm
  rw [e, Fin.sum_univ_two]
  unfold G4
  exact congrArg₂ (fun a b : EReal => a + b) ((Finset.sum_congr rfl fun s _ => part_eq m c j 0 s (by simp only [Fin.val_zero]; omega)).trans s0) ((Finset.sum_congr rfl fun s _ => part_eq m c j 1 s (by simp only [Fin.val_one]; omega)).trans s1)

theorem flushed4 (c : Dev nD) (t : Fin cfg0.N) (h : (cfg0.win 4).flush t = true) : (dats m 0 c).flushed 4 t = ((cfg0.win 4).blk t).view.read (Elt Ideal) (G4 m c) := by
  have h5 := (flush0_4 t).mp h
  have hN : t.val < 6 := lt_of_lt_of_eq t.isLt N_0
  have ht : t = ⟨5, lt5⟩ := Fin.ext (by show t.val = 5; omega)
  subst ht
  rw [Value.flushed4]
  obtain ⟨-, -, -, -, q⟩ := idx ⟨5, lt5⟩
  funext y
  have hb0 : (((cfg0.win 4).blk ⟨5, lt5⟩).view.emb y 0).val = win0_4.index ⟨5, lt5⟩ (0 : Fin 2) * 16 + 1 * (y 0).val := rfl
  have hb1 : (((cfg0.win 4).blk ⟨5, lt5⟩).view.emb y 1).val = win0_4.index ⟨5, lt5⟩ (1 : Fin 2) * 1024 + 1 * (y 1).val := rfl
  have q0 : win0_4.index ⟨5, lt5⟩ (0 : Fin 2) = 0 := congrFun q 0
  have q1 : win0_4.index ⟨5, lt5⟩ (1 : Fin 2) = 0 := congrFun q 1
  have ey : (cfg0.win 4).xinj (grid0.coords ⟨5, lt5⟩) y = ((cfg0.win 4).blk ⟨5, lt5⟩).view.emb y := by
    funext a
    apply Fin.ext
    match a with
    | ⟨0, _⟩ => show (y 0).val = (((cfg0.win 4).blk ⟨5, lt5⟩).view.emb y 0).val; rw [hb0, q0]; omega
    | ⟨1, _⟩ => show (y 1).val = (((cfg0.win 4).blk ⟨5, lt5⟩).view.emb y 1).val; rw [hb1, q1]; omega
  show (show EReal from (outsAt0 m c 5 lt5).2 ((cfg0.win 4).xinj (grid0.coords ⟨5, lt5⟩) y)) = G4 m c (((cfg0.win 4).blk ⟨5, lt5⟩).view.emb y)
  rw [acc_last, total, ey]

theorem filled4 (i : S16x1024.Idx) : ∃ t : Fin cfg0.N, (cfg0.win 4).flush t = true ∧ i ∈ ((cfg0.win 4).blk t).view.set := by
  have h0 : (i 0).val < 16 := (i 0).isLt
  have h1 : (i 1).val < 1024 := (i 1).isLt
  obtain ⟨-, -, -, -, q⟩ := idx ⟨5, lt5⟩
  refine ⟨⟨5, lt5⟩, (flush0_4 _).mpr (by decide), ?_⟩
  show i ∈ ((View.whole main_v0_1).slice (win0_4.rect ⟨5, lt5⟩)).set
  rw [View.set_slice_whole, Rect.mem_set_unit]
  have q0 : win0_4.index ⟨5, lt5⟩ (0 : Fin 2) = 0 := congrFun q 0
  have q1 : win0_4.index ⟨5, lt5⟩ (1 : Fin 2) = 0 := congrFun q 1
  intro a
  match a with
  | ⟨0, _⟩ => show win0_4.index ⟨5, lt5⟩ (0 : Fin 2) * 16 ≤ (i 0).val ∧ (i 0).val < win0_4.index ⟨5, lt5⟩ (0 : Fin 2) * 16 + 16; omega
  | ⟨1, _⟩ => show win0_4.index ⟨5, lt5⟩ (1 : Fin 2) * 1024 ≤ (i 1).val ∧ (i 1).val < win0_4.index ⟨5, lt5⟩ (1 : Fin 2) * 1024 + 1024; omega

theorem final4 (c : Dev nD) : (dats m 0 c).arrAt 4 cfg0.N = G4 m c :=
  (dats m 0 c).arrAt_eq_of_cover 4 _ (fun t h => flushed4 m c t h) filled4

open Cert.Reference22Ideal.Read

theorem ref_act (a : Vec Ideal S16x1024 .f32) (i : S16x1024.Idx) : (val_main_v0 (F := Ideal) a i : EReal) = silu (a i) := by
  unfold silu
  pointwise [val_main_v0, val_main_call0_v5, val_main_call0_v4, val_main_call0_v3, val_main_call0_v2, val_main_call0_v1, val_main_call0_v0, val_main_call0_cst, val_main_call0_cst_0]
  rfl

theorem ref_dw0 (a : Vec Ideal S16x1024 .f32) (b : Vec Ideal S2x16x1152 .f32) (i : Cert.Reference22Ideal.S1024x1152.Idx) :
    (val_main_v7 (F := Ideal) a b i : EReal) = ∑ k : Fin 16, (show EReal from b (ix3 (0 : Fin 2) k (i 1))) * val_main_v0 (F := Ideal) a (ix2 k (i 0)) := by
  pointwise [val_main_v7, val_main_v6, val_main_v5, val_main_v4]

theorem ref_dw1 (a : Vec Ideal S16x1024 .f32) (b : Vec Ideal S2x16x1152 .f32) (i : Cert.Reference22Ideal.S1024x1152.Idx) :
    (val_main_v15 (F := Ideal) a b i : EReal) = ∑ k : Fin 16, (show EReal from b (ix3 (1 : Fin 2) k (i 1))) * val_main_v0 (F := Ideal) a (ix2 k (i 0)) := by
  pointwise [val_main_v15, val_main_v14, val_main_v13, val_main_v12]

theorem ref_da (b : Vec Ideal S2x16x1152 .f32) (w : Vec Ideal S2x1024x1152 .f32) (i : S16x1024.Idx) :
    (val_main_v20 (F := Ideal) b w i : EReal) = (∑ k : Fin 1152, (show EReal from b (ix3 (0 : Fin 2) (i 0) k)) * (show EReal from w (ix3 (0 : Fin 2) (i 1) k)))
      + ∑ k : Fin 1152, (show EReal from b (ix3 (1 : Fin 2) (i 0) k)) * (show EReal from w (ix3 (1 : Fin 2) (i 1) k)) := by
  pointwise [val_main_v20, val_main_v8, val_main_v16, val_main_v5, val_main_v4, val_main_v13, val_main_v12, val_main_v2, val_main_v1, val_main_v10, val_main_v9]

theorem final_eq3 (c : Dev nD) (a : (⟨S16x1024, .f32⟩ : BufTy).Contents (Elt Ideal)) (b : (⟨S2x16x1152, .f32⟩ : BufTy).Contents (Elt Ideal))
    (ha : a = m ((c : Thread nD τ).loc main_arg0)) (hb : b = m ((c : Thread nD τ).loc main_arg1)) :
    val_main_v19 (F := Ideal) a b = (dats m 0 c).arrAt 3 cfg0.N := by
  rw [final3]
  funext i
  have hi : (i 0).val < 2 := (i 0).isLt
  have e : (val_main_v19 (F := Ideal) a b i : EReal) = if (i 0).val = 0 then val_main_v7 (F := Ideal) a b (ix2 (i 1) (i 2)) else val_main_v15 (F := Ideal) a b (ix2 (i 1) (i 2)) := by
    pointwise [val_main_v19, val_main_v18, val_main_v17]
    split <;> split <;> first | rfl | omega
  rw [e]
  subst ha hb
  unfold G3
  split
  · next h =>
    have hz : i 0 = (0 : Fin 2) := Fin.ext h
    rw [ref_dw0, hz]
    refine Finset.sum_congr rfl fun k _ => ?_
    rw [ref_act]
    exact mul_comm (G := EReal) _ _
  · next h =>
    have hz : i 0 = (1 : Fin 2) := Fin.ext (show (i 0).val = 1 by omega)
    rw [ref_dw1, hz]
    refine Finset.sum_congr rfl fun k _ => ?_
    rw [ref_act]
    exact mul_comm (G := EReal) _ _

theorem final_eq4 (c : Dev nD) (b : (⟨S2x16x1152, .f32⟩ : BufTy).Contents (Elt Ideal)) (w : (⟨S2x1024x1152, .f32⟩ : BufTy).Contents (Elt Ideal))
    (hb : b = m ((c : Thread nD τ).loc main_arg1)) (hw : w = m ((c : Thread nD τ).loc main_arg2)) :
    val_main_v20 (F := Ideal) b w = (dats m 0 c).arrAt 4 cfg0.N := by
  rw [final4]
  subst hb hw
  funext i
  exact ref_da _ _ i

end Cert.Kernel22Ideal.Md

end
-- ==== Proof.LossValue.lean ====
module

public import proofs.«01_k».proof.Proof.Gen.Kernel23Ideal.Value
public import proofs.«01_k».proof.Proof.Gen.Reference23Ideal.Read
public import Idealize.ShloMosaic.Lib.Pipeline.ReadBack
public import Idealize.ShloMosaic.Lib.Pipeline.ValueKit

/-! The loss and the gradient it starts the backward pass with: each block of tokens, what the blocks add up to, and the reference's. -/

@[expose] public section

set_option maxHeartbeats 1000000

noncomputable section

namespace Cert.Kernel23Ideal.Ls

open Cert.Kernel23Ideal Cert.Kernel23Ideal.Gen Idealize.ShloMosaic Idealize.ShloMosaic.TcCoe Idealize.SL.Sem
open Idealize.ShloMosaic.Tactic

/-- The words' numbers. -/
theorem w1024 : Ideal.ofBits .f32 1149239296#32 = ((1024 : ℝ) : EReal) := by
  simp [Ideal.ofBits, Ideal.ieee, -EReal.coe_mul]; norm_num
theorem whalf : Ideal.ofBits .f32 1056964608#32 = ((1 / 2 : ℝ) : EReal) := by
  simp [Ideal.ofBits, Ideal.ieee, -EReal.coe_mul]; norm_num
theorem wtwo : Ideal.ofBits .f32 1073741824#32 = ((2 : ℝ) : EReal) := by
  simp [Ideal.ofBits, Ideal.ieee, -EReal.coe_mul]; norm_num
theorem wrow : Ideal.ofBits .f32 981467136#32 = ((1 / 1024 : ℝ) : EReal) := by
  simp [Ideal.ofBits, Ideal.ieee, -EReal.coe_mul]; norm_num
theorem wloss : Ideal.ofBits .f32 973078528#32 = ((1 / 2048 : ℝ) : EReal) := by
  simp [Ideal.ofBits, Ideal.ieee, -EReal.coe_mul]; norm_num

/-- A square of an extended real is not negative. -/
theorem sq_nonneg' (x : EReal) : 0 ≤ x * x := by
  induction x with
  | bot => simp
  | top => simp
  | coe r => rw [← EReal.coe_mul]; exact_mod_cast mul_self_nonneg r

/-- A real factor that is not negative goes into a sum. -/
theorem sum_scale {n : ℕ} (f : Fin n → EReal) (r : ℝ) (hr : 0 ≤ r) : (∑ k, f k) * (r : EReal) = ∑ k, f k * (r : EReal) := by
  have h (s : Finset (Fin n)) : (∑ k ∈ s, f k) * (r : EReal) = ∑ k ∈ s, f k * (r : EReal) := by
    induction s using Finset.induction_on with
    | empty => simp
    | insert a s ha ih =>
      rw [Finset.sum_insert ha, Finset.sum_insert ha, ← ih, EReal.right_distrib_of_nonneg_of_ne_top (by exact_mod_cast hr) (EReal.coe_ne_top r)]
  exact h Finset.univ

theorem pay1 (j : S1x1024.Idx) : (k0_pay1 (F := Ideal) j : EReal) = 0 := by
  pointwise [k0_pay1]

theorem pay3 (x0 x1 : Vec Ideal S256x1024 .f32) (j : S256x1024.Idx) : (k0_pay3 (F := Ideal) x0 x1 j : EReal) = (x0 j - x1 j : EReal) * Ideal.ofBits .f32 981467136#32 := by
  pointwise [k0_pay3, k0_pay2]

theorem pay4 (x0 x1 : Vec Ideal S256x1024 .f32) (v : Vec Ideal S1x1024 .f32) (j : S1x1024.Idx) : (k0_pay4 (F := Ideal) x0 x1 v j : EReal)
    = v j + ∑ r : Fin 256, (x0 (ix2 r (j 1)) - x1 (ix2 r (j 1)) : EReal) * (x0 (ix2 r (j 1)) - x1 (ix2 r (j 1)) : EReal) := by
  pointwise [k0_pay4, k0_pay2]

theorem pay5 (j : S256x1024.Idx) : (k0_pay5 (F := Ideal) j : EReal) = 0 := by
  pointwise [k0_pay5]

theorem pay6 (v : Vec Ideal S1x1024 .f32) (j : S1x1.Idx) : (k0_pay6 (F := Ideal) v j : EReal) = (∑ k : Fin 1024, (show EReal from v (ix2 (0 : Fin 1) k))) * Ideal.ofBits .f32 973078528#32 := by
  pointwise [k0_pay6]

theorem outA3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1 .f32) (harg3 : arg3.IsWhole) (arg4 : Memref sig .tc .vmem S256x1024 .f32) (harg4 : arg4.IsWhole) (arg5 : Memref sig .tc .vmem S1x1024 .f32) (harg5 : arg5.IsWhole) (hc0 : cond0_0 i) (hc1 : cond0_1 i) (hc2 : ¬cond0_2 i) (hc3 : ¬cond0_3 i) (x0 x1 : Vec Ideal S256x1024 .f32) : out0_A_3 c i arg1 harg1 arg2 harg2 arg3 harg3 arg4 harg4 arg5 harg5 hc0 hc1 hc2 hc3 x0 x1 = k0_pay3 (F := Ideal) x0 x1 := by
  frame_open
  simp (disch := decide) only [View.read_writes_junk_eq_canon, View.canon_cons_unit_lit', View.ld_unit_lit', View.readCov_unit_lit', View.readCov_cons_unit_lit', View.readAt_eq_ld, Memref.IsWhole.read_unread]

theorem outB3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1 .f32) (harg3 : arg3.IsWhole) (arg4 : Memref sig .tc .vmem S256x1024 .f32) (harg4 : arg4.IsWhole) (arg5 : Memref sig .tc .vmem S1x1024 .f32) (harg5 : arg5.IsWhole) (hc0 : ¬cond0_0 i) (hc1 : cond0_1 i) (hc2 : ¬cond0_2 i) (hc3 : ¬cond0_3 i) (x0 x1 : Vec Ideal S256x1024 .f32) (y : Vec Ideal S1x1024 .f32) : out0_B_3 c i arg1 harg1 arg2 harg2 arg3 harg3 arg4 harg4 arg5 harg5 hc0 hc1 hc2 hc3 x0 x1 y = k0_pay3 (F := Ideal) x0 x1 := by
  frame_open
  simp (disch := decide) only [View.read_writes_junk_eq_canon, View.canon_cons_unit_lit', View.ld_unit_lit', View.readCov_unit_lit', View.readCov_cons_unit_lit', View.readAt_eq_ld, Memref.IsWhole.read_unread]

theorem outC3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1 .f32) (harg3 : arg3.IsWhole) (arg4 : Memref sig .tc .vmem S256x1024 .f32) (harg4 : arg4.IsWhole) (arg5 : Memref sig .tc .vmem S1x1024 .f32) (harg5 : arg5.IsWhole) (hc0 : ¬cond0_0 i) (hc1 : ¬cond0_1 i) (hc2 : cond0_2 i) (hc3 : cond0_3 i) (x0 x1 : Vec Ideal S256x1024 .f32) (y : Vec Ideal S1x1024 .f32) : out0_C_3 c i arg1 harg1 arg2 harg2 arg3 harg3 arg4 harg4 arg5 harg5 hc0 hc1 hc2 hc3 x0 x1 y = k0_pay5 (F := Ideal) := by
  frame_open
  simp (disch := decide) only [View.read_writes_junk_eq_canon, View.canon_cons_unit_lit', View.ld_unit_lit', View.readCov_unit_lit', View.readCov_cons_unit_lit', View.readAt_eq_ld, Memref.IsWhole.read_unread]

theorem outC2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1 .f32) (harg3 : arg3.IsWhole) (arg4 : Memref sig .tc .vmem S256x1024 .f32) (harg4 : arg4.IsWhole) (arg5 : Memref sig .tc .vmem S1x1024 .f32) (harg5 : arg5.IsWhole) (hc0 : ¬cond0_0 i) (hc1 : ¬cond0_1 i) (hc2 : cond0_2 i) (hc3 : cond0_3 i) (x0 x1 : Vec Ideal S256x1024 .f32) (y : Vec Ideal S1x1024 .f32) : out0_C_2 c i arg1 harg1 arg2 harg2 arg3 harg3 arg4 harg4 arg5 harg5 hc0 hc1 hc2 hc3 x0 x1 y = k0_pay6 (F := Ideal) y := by
  frame_open
  simp (disch := decide) only [View.read_writes_junk_eq_canon, View.canon_cons_unit_lit', View.ld_unit_lit', View.readCov_unit_lit', View.readCov_cons_unit_lit', View.readAt_eq_ld, Memref.IsWhole.read_unread]

theorem soutA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1 .f32) (harg3 : arg3.IsWhole) (arg4 : Memref sig .tc .vmem S256x1024 .f32) (harg4 : arg4.IsWhole) (arg5 : Memref sig .tc .vmem S1x1024 .f32) (harg5 : arg5.IsWhole) (hc0 : cond0_0 i) (hc1 : cond0_1 i) (hc2 : ¬cond0_2 i) (hc3 : ¬cond0_3 i) (x0 x1 : Vec Ideal S256x1024 .f32) : sout0_A_0 c i arg1 harg1 arg2 harg2 arg3 harg3 arg4 harg4 arg5 harg5 hc0 hc1 hc2 hc3 x0 x1 = k0_pay4 (F := Ideal) x0 x1 (k0_pay1 (F := Ideal)) := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]

theorem soutB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1 .f32) (harg3 : arg3.IsWhole) (arg4 : Memref sig .tc .vmem S256x1024 .f32) (harg4 : arg4.IsWhole) (arg5 : Memref sig .tc .vmem S1x1024 .f32) (harg5 : arg5.IsWhole) (hc0 : ¬cond0_0 i) (hc1 : cond0_1 i) (hc2 : ¬cond0_2 i) (hc3 : ¬cond0_3 i) (x0 x1 : Vec Ideal S256x1024 .f32) (y : Vec Ideal S1x1024 .f32) : sout0_B_0 c i arg1 harg1 arg2 harg2 arg3 harg3 arg4 harg4 arg5 harg5 hc0 hc1 hc2 hc3 x0 x1 y = k0_pay4 (F := Ideal) x0 x1 y := by
  frame_open
  simp (disch := decide) only [View.read_writes_junk_eq_canon, View.canon_cons_unit_lit', View.ld_unit_lit', View.readCov_unit_lit', View.readCov_cons_unit_lit', View.readAt_eq_ld, Memref.IsWhole.read_unread]

variable (m : (ℓ : Loc nD τ sig) → Buf (Elt Ideal) ℓ)

/-- The windows' block indices at a point. -/
theorem idx : ∀ t : Fin cfg0.N, (t.val < 32 → win0_0.index t = ![t.val, 0]) ∧ (t.val < 32 → win0_1.index t = ![t.val, 0])
    ∧ win0_2.index t = ![0, 0] ∧ win0_3.index t = ![t.val, 0] :=
  (by decide +kernel : ∀ t : Fin grid0.N, _)

/-- The arguments read as numbers. -/
def a0 (c : Dev nD) (i : S8448x1024.Idx) : EReal := m ((c : Thread nD τ).loc main_arg0) i
def a1 (c : Dev nD) (i : S8192x1024.Idx) : EReal := m ((c : Thread nD τ).loc main_arg1) i

/-- How far a latent token's entry is from the target's. -/
def dev (c : Dev nD) (l : Fin 8192) (k : Fin 1024) : EReal := a0 m c (ix2 (⟨l.val, by omega⟩ : Fin 8448) k) - a1 m c (ix2 l k)

/-- A block's squares in a column; the last block, of the context's rows, has none. -/
def col (c : Dev nD) (p : ℕ) (k : Fin 1024) : EReal :=
  if h : p < 32 then ∑ r : Fin 256, dev m c ⟨p * 256 + r.val, by omega⟩ k * dev m c ⟨p * 256 + r.val, by omega⟩ k else 0

theorem block (c : Dev nD) (t : Fin cfg0.N) (h : t.val < 32) (r : Fin 256) (k : Fin 1024) :
    (show EReal from (iblk m c 0 t : Vec Ideal S256x1024 .f32) (ix2 r k)) - (show EReal from (iblk m c 1 t : Vec Ideal S256x1024 .f32) (ix2 r k)) = dev m c ⟨t.val * 256 + r.val, by omega⟩ k := by
  obtain ⟨i0, i1, -⟩ := idx t
  replace i0 := i0 h
  replace i1 := i1 h
  unfold dev
  refine congrArg₂ (fun a b : EReal => a - b) ?_ ?_
  · unfold a0
    blk_ext [iblk, V, i0]
  · unfold a1
    blk_ext [iblk, V, i1]

theorem step (c : Dev nD) (t : Fin cfg0.N) (h : t.val < 32) (v : Vec Ideal S1x1024 .f32) (j : S1x1024.Idx) :
    (k0_pay4 (F := Ideal) (iblk m c 0 t) (iblk m c 1 t) v j : EReal) = v j + col m c t.val (j 1) := by
  refine (pay4 _ _ v j).trans ?_
  unfold col
  rw [dif_pos h]
  exact congrArg (fun s : EReal => v j + s) (Finset.sum_congr rfl fun r _ => congrArg₂ (fun a b : EReal => a * b) (block m c t h r (j 1)) (block m c t h r (j 1)))

theorem lt32 : 32 < cfg0.N := lt_of_lt_of_eq (by decide) N_0.symm

/-- The carried row of sums after the last point. -/
theorem acc_last (c : Dev nD) (j : S1x1024.Idx) : ((outsAt0 m c 32 lt32).2.2 j : EReal) = ∑ p : Fin 32, col m c p.val (j 1) := by
  have e := Pipeline.eq_sum_of_reset_step_apply (M := EReal) (fun n h => (outsAt0 m c n h).2.2) 33 (fun _ => 0) (fun p i => col m c p (i 1))
    (fun t h i => by
      have hN : t.val < 33 := lt_of_lt_of_eq t.isLt N_0
      rw [outsAt0_A m c t h (by omega) (by omega) (by omega)]; dsimp only; rw [soutA]
      exact (step m c t (by omega) _ i).trans (congrArg (fun s : EReal => s + col m c t.val (i 1)) (pay1 i)))
    (fun t h i => by
      have hN : t.val < 33 := lt_of_lt_of_eq t.isLt N_0
      by_cases h1 : t.val < 32
      · rw [outsAt0_B m c t h h1 (by omega) (by omega)]; dsimp only; rw [soutB]
        exact step m c t h1 _ i
      · rw [outsAt0_C m c t h h1 (by omega) (by omega)]; dsimp only
        have hz : col m c t.val (i 1) = 0 := by unfold col; rw [dif_neg h1]
        rw [hz]
        exact (add_zero (M := EReal) _).symm)
    ⟨32, lt32⟩ j
  have hz : col m c 32 (j 1) = 0 := by unfold col; rw [dif_neg (by omega)]
  refine e.trans ?_
  show (0 : EReal) + ∑ k ∈ Finset.range 33, col m c (33 * (32 / 33) + k) (j 1) = _
  have h33 : 33 * (32 / 33) = 0 := rfl
  simp only [h33, zero_add]
  rw [Finset.sum_range_succ, hz, add_zero, Finset.sum_range]

/-- The two results as functions of the arguments. -/
def lossG (c : Dev nD) : S1x1.Idx → EReal := fun _ => (∑ k : Fin 1024, ∑ l : Fin 8192, dev m c l k * dev m c l k) * Ideal.ofBits .f32 973078528#32
def dyG (c : Dev nD) : S8448x1024.Idx → EReal := fun i => if h : (i 0).val < 8192 then dev m c ⟨(i 0).val, h⟩ (i 1) * Ideal.ofBits .f32 981467136#32 else 0

theorem cols (c : Dev nD) (k : Fin 1024) : ∑ p : Fin 32, col m c p.val k = ∑ l : Fin 8192, dev m c l k * dev m c l k := by
  have e : ∑ p : Fin 32, ∑ r : Fin 256, (fun l : Fin 8192 => dev m c l k * dev m c l k) ⟨p.val * 256 + r.val, by omega⟩ = ∑ l : Fin 8192, (fun l : Fin 8192 => dev m c l k * dev m c l k) l :=
    Fin.sum_mul_add_congr (fun _ _ _ => rfl)
  refine Eq.trans (Finset.sum_congr rfl fun p _ => ?_) e
  unfold col
  rw [dif_pos p.isLt]

theorem out2 (c : Dev nD) (j : S1x1.Idx) : ((outsAt0 m c 32 lt32).1 j : EReal) = lossG m c j := by
  have a := outsAt0_C m c ⟨32, lt32⟩ (by decide) (by decide) (by decide) (by decide)
  have e1 : (outsAt0 m c 32 lt32).1 = k0_pay6 (F := Ideal) (outsAt0 m c 32 lt32).2.2 := by
    show (outsAt0 m c (⟨32, lt32⟩ : Fin cfg0.N).val (⟨32, lt32⟩ : Fin cfg0.N).isLt).1 = k0_pay6 (F := Ideal) (outsAt0 m c (⟨32, lt32⟩ : Fin cfg0.N).val (⟨32, lt32⟩ : Fin cfg0.N).isLt).2.2
    rw [a]; dsimp only; rw [outC2]; rfl
  rw [e1]
  refine (pay6 _ j).trans ?_
  unfold lossG
  exact congrArg (fun s : EReal => s * Ideal.ofBits .f32 973078528#32) (Finset.sum_congr rfl fun k _ => (acc_last m c (ix2 (0 : Fin 1) k)).trans (cols m c k))

theorem out3 (c : Dev nD) (t : Fin cfg0.N) (x : S256x1024.Idx) (z : S8448x1024.Idx) (h0 : (z 0).val = t.val * 256 + (x 0).val) (h1 : (z 1).val = (x 1).val) :
    ((outsAt0 m c t.val t.isLt).2.1 x : EReal) = dyG m c z := by
  have hN : t.val < 33 := lt_of_lt_of_eq t.isLt N_0
  have hx : (x 0).val < 256 := (x 0).isLt
  unfold dyG
  by_cases h : t.val < 32
  · have e : (outsAt0 m c t.val t.isLt).2.1 = k0_pay3 (F := Ideal) (iblk m c 0 t) (iblk m c 1 t) := by
      by_cases hz : t.val % 33 = 0
      · rw [outsAt0_A m c t hz h (by omega) (by omega)]; dsimp only; rw [outA3]
      · rw [outsAt0_B m c t hz h (by omega) (by omega)]; dsimp only; rw [outB3]
    rw [e, dif_pos (by omega)]
    refine (pay3 _ _ x).trans (congrArg (fun s : EReal => s * Ideal.ofBits .f32 981467136#32) ?_)
    have ex : x = ix2 (x 0) (x 1) := by
      funext a
      match a with
      | ⟨0, _⟩ => rfl
      | ⟨1, _⟩ => rfl
    have ez : (⟨(z 0).val, by omega⟩ : Fin 8192) = ⟨t.val * 256 + (x 0).val, by omega⟩ := Fin.ext h0
    have ek : z 1 = x 1 := Fin.ext h1
    have b := block m c t h (x 0) (x 1)
    rw [ez, ek]
    exact Eq.trans (congrArg (fun y : S256x1024.Idx => (show EReal from (iblk m c 0 t : Vec Ideal S256x1024 .f32) y) - (show EReal from (iblk m c 1 t : Vec Ideal S256x1024 .f32) y)) ex) b
  · rw [outsAt0_C m c t (by omega) h (by omega) (by omega)]; dsimp only
    rw [outC3, dif_neg (by omega)]
    exact pay5 x

theorem flushed2 (c : Dev nD) (t : Fin cfg0.N) (h : (cfg0.win 2).flush t = true) : (dats m 0 c).flushed 2 t = ((cfg0.win 2).blk t).view.read (Elt Ideal) (lossG m c) := by
  have h5 := (flush0_2 t).mp h
  have hN : t.val < 33 := lt_of_lt_of_eq t.isLt N_0
  have ht : t = ⟨32, lt32⟩ := Fin.ext (by show t.val = 32; omega)
  subst ht
  show (cfg0.win 2).cut (grid0.coords ⟨32, lt32⟩) ((dats m 0 c).after 2 ⟨32, lt32⟩) = _
  rw [after0_2]
  funext y
  exact out2 m c _

theorem final2 (c : Dev nD) : (dats m 0 c).arrAt 2 cfg0.N = lossG m c :=
  (dats m 0 c).arrAt_eq_of_cover 2 _ (fun t h => flushed2 m c t h) (fun i => (Value.covered_iff2 i).2 (by
    have h0 : (i 0).val < 1 := (i 0).isLt; have h1 : (i 1).val < 1 := (i 1).isLt; omega))

theorem flushed3 (c : Dev nD) (t : Fin cfg0.N) : (dats m 0 c).flushed 3 t = ((cfg0.win 3).blk t).view.read (Elt Ideal) (dyG m c) := by
  show (cfg0.win 3).cut (grid0.coords t) ((dats m 0 c).after 3 t) = _
  rw [after0_3]
  obtain ⟨-, -, -, q⟩ := idx t
  funext y
  have hb0 : (((cfg0.win 3).blk t).view.emb y 0).val = win0_3.index t (0 : Fin 2) * 256 + 1 * (y 0).val := rfl
  have hb1 : (((cfg0.win 3).blk t).view.emb y 1).val = win0_3.index t (1 : Fin 2) * 1024 + 1 * (y 1).val := rfl
  have q0 : win0_3.index t (0 : Fin 2) = t.val := congrFun q 0
  have q1 : win0_3.index t (1 : Fin 2) = 0 := congrFun q 1
  show (show EReal from (outsAt0 m c t.val t.isLt).2.1 ((cfg0.win 3).xinj (grid0.coords t) y)) = dyG m c (((cfg0.win 3).blk t).view.emb y)
  refine out3 m c t _ _ ?_ ?_
  · show (((cfg0.win 3).blk t).view.emb y 0).val = t.val * 256 + (y 0).val
    rw [hb0, q0]; omega
  · show (((cfg0.win 3).blk t).view.emb y 1).val = (y 1).val
    rw [hb1, q1]; omega

theorem final3 (c : Dev nD) : (dats m 0 c).arrAt 3 cfg0.N = dyG m c :=
  (dats m 0 c).arrAt_eq_of_cover 3 _ (fun t _ => flushed3 m c t) (fun i => (Value.covered_iff3 i).2 (by
    have h0 : (i 0).val < 8448 := (i 0).isLt; have h1 : (i 1).val < 1024 := (i 1).isLt; omega))

open Cert.Reference23Ideal.Read

theorem ref_dev (a : Vec Ideal S8448x1024 .f32) (b : Vec Ideal S8192x1024 .f32) (l : Fin 8192) (k : Fin 1024) :
    (val_main_v1 (F := Ideal) a b (ix2 l k) : EReal) = (show EReal from a (ix2 (⟨l.val, by omega⟩ : Fin 8448) k)) - (show EReal from b (ix2 l k)) := by
  pointwise [val_main_v1, val_main_v0]

theorem ref_token (a : Vec Ideal S8448x1024 .f32) (b : Vec Ideal S8192x1024 .f32) (l : Fin 8192) :
    (val_main_v7 (F := Ideal) a b (ix1 l) : EReal) = Ideal.div (∑ k : Fin 1024, (val_main_v1 (F := Ideal) a b (ix2 l k) : EReal) * val_main_v1 (F := Ideal) a b (ix2 l k)) (Ideal.ofBits .f32 1149239296#32) := by
  pointwise [val_main_v7, val_main_v6, val_main_v5, val_main_v2, val_main_cst_0, val_main_cst_1]

theorem ref_loss (a : Vec Ideal S8448x1024 .f32) (b : Vec Ideal S8192x1024 .f32) (i : S1x1.Idx) :
    (val_main_v10 (F := Ideal) a b i : EReal) = Ideal.ofBits .f32 1056964608#32 * ∑ l : Fin 8192, (val_main_v7 (F := Ideal) a b (ix1 l) : EReal) := by
  pointwise [val_main_v10, val_main_v9, val_main_v8, val_main_cst_2, val_main_cst_3]

theorem ref_dy (a : Vec Ideal S8448x1024 .f32) (b : Vec Ideal S8192x1024 .f32) (l : Fin 8192) (k : Fin 1024) :
    (val_main_v16 (F := Ideal) a b (ix2 l k) : EReal) = Ideal.div (Ideal.ofBits .f32 1056964608#32 * 1) (Ideal.ofBits .f32 1149239296#32) * (Ideal.ofBits .f32 1073741824#32 * val_main_v1 (F := Ideal) a b (ix2 l k)) := by
  pointwise [val_main_v16, val_main_v15, val_main_v14, val_main_v13, val_main_v12, val_main_v11, val_main_v4, val_main_v3, val_main_cst, val_main_cst_4, val_main_cst_5, val_main_cst_6]

/-- Both losses, of any deviations. -/
theorem loss_eq (d : Fin 8192 → Fin 1024 → EReal) :
    Ideal.ofBits .f32 1056964608#32 * ∑ l : Fin 8192, Ideal.div (∑ k : Fin 1024, d l k * d l k) (Ideal.ofBits .f32 1149239296#32)
      = (∑ k : Fin 1024, ∑ l : Fin 8192, d l k * d l k) * Ideal.ofBits .f32 973078528#32 := by
  rw [whalf, w1024, wloss]
  simp only [Ideal.div_coe (by norm_num : (1024 : ℝ) ≠ 0)]
  rw [← sum_scale (fun l : Fin 8192 => ∑ k : Fin 1024, d l k * d l k) (1 / 1024) (by norm_num), Finset.sum_comm, mul_comm (G := EReal), mul_assoc (G := EReal), ← EReal.coe_mul]
  congr 2
  norm_num

/-- Both factors of a deviation. -/
theorem dy_eq (x : EReal) : Ideal.div (Ideal.ofBits .f32 1056964608#32 * 1) (Ideal.ofBits .f32 1149239296#32) * (Ideal.ofBits .f32 1073741824#32 * x) = x * Ideal.ofBits .f32 981467136#32 := by
  rw [mul_one, whalf, wtwo, w1024, wrow, Ideal.div_coe (by norm_num), ← EReal.coe_mul, ← mul_assoc (G := EReal), ← EReal.coe_mul, mul_comm (G := EReal)]
  congr 2
  norm_num

theorem ref_dy' (a : Vec Ideal S8448x1024 .f32) (b : Vec Ideal S8192x1024 .f32) (l : Fin 8192) (k : Fin 1024) :
    (val_main_v16 (F := Ideal) a b (ix2 l k) : EReal) = ((show EReal from a (ix2 (⟨l.val, by omega⟩ : Fin 8448) k)) - (show EReal from b (ix2 l k))) * Ideal.ofBits .f32 981467136#32 := by
  rw [ref_dy, ref_dev]
  exact dy_eq _

theorem final_eq2 (c : Dev nD) (a : (⟨S8448x1024, .f32⟩ : BufTy).Contents (Elt Ideal)) (b : (⟨S8192x1024, .f32⟩ : BufTy).Contents (Elt Ideal))
    (ha : a = m ((c : Thread nD τ).loc main_arg0)) (hb : b = m ((c : Thread nD τ).loc main_arg1)) :
    val_main_v10 (F := Ideal) a b = (dats m 0 c).arrAt 2 cfg0.N := by
  rw [final2]
  subst ha hb
  funext i
  refine (ref_loss _ _ i).trans ?_
  simp only [ref_token, ref_dev]
  exact loss_eq (dev m c)

theorem final_eq3 (c : Dev nD) (a : (⟨S8448x1024, .f32⟩ : BufTy).Contents (Elt Ideal)) (b : (⟨S8192x1024, .f32⟩ : BufTy).Contents (Elt Ideal))
    (ha : a = m ((c : Thread nD τ).loc main_arg0)) (hb : b = m ((c : Thread nD τ).loc main_arg1)) :
    val_main_v18 (F := Ideal) a b = (dats m 0 c).arrAt 3 cfg0.N := by
  rw [final3]
  funext i
  have hi : (i 0).val < 8448 := (i 0).isLt
  have e : (val_main_v18 (F := Ideal) a b i : EReal) = if h : (i 0).val < 8192 then val_main_v16 (F := Ideal) a b (ix2 (⟨(i 0).val, h⟩ : Fin 8192) (i 1)) else 0 := by
    pointwise [val_main_v18, val_main_v17, val_main_cst_7]
  rw [e]
  subst ha hb
  unfold dyG
  split
  · next h =>
    exact ref_dy' _ _ ⟨(i 0).val, h⟩ (i 1)
  · rfl

end Cert.Kernel23Ideal.Ls

end
-- ==== Proof.DwValue.lean ====
module

public import proofs.«01_k».proof.Proof.Gen.Kernel2Ideal.Value
public import proofs.«01_k».proof.Proof.Gen.Reference2Ideal.Read
public import Idealize.ShloMosaic.Lib.Pipeline.ReadBack
public import Idealize.ShloMosaic.Lib.Pipeline.ValueKit

/-! The gradient of `w_ffn_down`: what each grid point of the kernel leaves in the accumulator and in the result, at the ideal instance. -/

@[expose] public section

set_option maxHeartbeats 1000000

noncomputable section

namespace Cert.Kernel2Ideal.Dw

open Cert.Kernel2Ideal Cert.Kernel2Ideal.Gen Idealize.ShloMosaic Idealize.ShloMosaic.TcCoe Idealize.SL.Sem
open Idealize.ShloMosaic.Tactic

/-- One chunk's products, contracted over its 1408 tokens. -/
def part (x0 : Vec Ideal S4x1408x704 .bf16) (x1 : Vec Ideal S1408x1024 .bf16) (i : S4x704x1024.Idx) : EReal :=
  ∑ k : Fin 1408, x0 (ix3 (i 0) k (i 1)) * x1 (ix2 k (i 2))

/-- The accumulator after a point: what it held, and the chunk's products. -/
def G (xs : Vec Ideal S4x704x1024 .f32) (x0 : Vec Ideal S4x1408x704 .bf16) (x1 : Vec Ideal S1408x1024 .bf16) : Vec Ideal S4x704x1024 .f32 :=
  fun i => (xs i : EReal) + part x0 x1 i

theorem pay7 (j : S4x704x1024.Idx) : (k0_pay7 (F := Ideal) j : EReal) = 0 := by
  pointwise [k0_pay7]

theorem pay8 (v : Vec Ideal S1x704x1024 .f32) (x : Vec Ideal S1x1408x704 .bf16) (w : Vec Ideal S1408x1024 .bf16) (j : S1x704x1024.Idx) :
    (k0_pay8 v x w j : EReal) = v j + ∑ k : Fin 1408, x (ix3 0 k (j 1)) * w (ix2 k (j 2)) := by
  have hj : (j 0).val = 0 := by have h : (j 0).val < 1 := (j 0).isLt; omega
  pointwise [k0_pay8]

theorem pay9 (v : Vec Ideal S1x704x1024 .f32) (x : Vec Ideal S1x1408x704 .bf16) (w : Vec Ideal S1408x1024 .bf16) (j : S1x704x1024.Idx) :
    (k0_pay9 v x w j : EReal) = v j + ∑ k : Fin 1408, x (ix3 0 k (j 1)) * w (ix2 k (j 2)) := by
  have hj : (j 0).val = 0 := by have h : (j 0).val < 1 := (j 0).isLt; omega
  pointwise [k0_pay9]

theorem pay1 (v : Vec Ideal S1x704x1024 .f32) (x : Vec Ideal S1x1408x704 .bf16) (w : Vec Ideal S1408x1024 .bf16) (j : S1x704x1024.Idx) :
    (k0_pay1 (k0_pay10 v) x w j : EReal) = v j + ∑ k : Fin 1408, x (ix3 0 k (j 1)) * w (ix2 k (j 2)) := by
  have hj : (j 0).val = 0 := by have h : (j 0).val < 1 := (j 0).isLt; omega
  pointwise [k0_pay1, k0_pay10]

theorem pay2 (v : Vec Ideal S1x704x1024 .f32) (x : Vec Ideal S1x1408x704 .bf16) (w : Vec Ideal S1408x1024 .bf16) (j : S1x704x1024.Idx) :
    (k0_pay2 v x w j : EReal) = v j + ∑ k : Fin 1408, x (ix3 0 k (j 1)) * w (ix2 k (j 2)) := by
  have hj : (j 0).val = 0 := by have h : (j 0).val < 1 := (j 0).isLt; omega
  pointwise [k0_pay2]

theorem pay3 (v : Vec Ideal S1x704x1024 .f32) (j : S1x704x1024.Idx) : (k0_pay3 v j : EReal) = v j := by
  pointwise [k0_pay3]

theorem pay4 (v : Vec Ideal S1x704x1024 .f32) (j : S1x704x1024.Idx) : (k0_pay4 v j : EReal) = v j := by
  pointwise [k0_pay4]

theorem pay5 (v : Vec Ideal S1x704x1024 .f32) (j : S1x704x1024.Idx) : (k0_pay5 v j : EReal) = v j := by
  pointwise [k0_pay5]

theorem pay6 (v : Vec Ideal S1x704x1024 .f32) (j : S1x704x1024.Idx) : (k0_pay6 v j : EReal) = v j := by
  pointwise [k0_pay6]

/-- Head group 0's store is its block of the accumulator after the point. -/
theorem piece0 (xs : Vec Ideal S4x704x1024 .f32) (x0 : Vec Ideal S4x1408x704 .bf16) (x1 : Vec Ideal S1408x1024 .bf16) (x : S1x704x1024.Idx) :
    (k0_pay8 (F := Ideal) (View.ld xs (Rect.unit (s := S4x704x1024) ![0, 0, 0] S1x704x1024.size inb_S4x704x1024_S1x704x1024_0_0_0)) (View.ld x0 (Rect.unit (s := S4x1408x704) ![0, 0, 0] S1x1408x704.size inb_S4x1408x704_S1x1408x704_0_0_0)) x1 x : EReal)
      = G xs x0 x1 ((Rect.unit (s := S4x704x1024) ![0, 0, 0] S1x704x1024.size inb_S4x704x1024_S1x704x1024_0_0_0).emb x) := by
  rw [pay8]
  unfold G part
  have hx : (x 0).val = 0 := by have h : (x 0).val < 1 := (x 0).isLt; omega
  pointwise [View.ld]
  blk_point []

/-- Head group 1's store is its block of the accumulator after the point. -/
theorem piece1 (xs : Vec Ideal S4x704x1024 .f32) (x0 : Vec Ideal S4x1408x704 .bf16) (x1 : Vec Ideal S1408x1024 .bf16) (x : S1x704x1024.Idx) :
    (k0_pay9 (F := Ideal) (View.ld xs (Rect.unit (s := S4x704x1024) ![1, 0, 0] S1x704x1024.size inb_S4x704x1024_S1x704x1024_1_0_0)) (View.ld x0 (Rect.unit (s := S4x1408x704) ![1, 0, 0] S1x1408x704.size inb_S4x1408x704_S1x1408x704_1_0_0)) x1 x : EReal)
      = G xs x0 x1 ((Rect.unit (s := S4x704x1024) ![1, 0, 0] S1x704x1024.size inb_S4x704x1024_S1x704x1024_1_0_0).emb x) := by
  rw [pay9]
  unfold G part
  have hx : (x 0).val = 0 := by have h : (x 0).val < 1 := (x 0).isLt; omega
  pointwise [View.ld]
  blk_point []

/-- Head group 2's store is its block of the accumulator after the point. -/
theorem piece2 (xs : Vec Ideal S4x704x1024 .f32) (x0 : Vec Ideal S4x1408x704 .bf16) (x1 : Vec Ideal S1408x1024 .bf16) (x : S1x704x1024.Idx) :
    (k0_pay1 (F := Ideal) (k0_pay10 (View.ld xs (Rect.unit (s := S4x704x1024) ![2, 0, 0] S1x704x1024.size inb_S4x704x1024_S1x704x1024_2_0_0))) (View.ld x0 (Rect.unit (s := S4x1408x704) ![2, 0, 0] S1x1408x704.size inb_S4x1408x704_S1x1408x704_2_0_0)) x1 x : EReal)
      = G xs x0 x1 ((Rect.unit (s := S4x704x1024) ![2, 0, 0] S1x704x1024.size inb_S4x704x1024_S1x704x1024_2_0_0).emb x) := by
  rw [pay1]
  unfold G part
  have hx : (x 0).val = 0 := by have h : (x 0).val < 1 := (x 0).isLt; omega
  pointwise [View.ld]
  blk_point []

/-- Head group 3's store is its block of the accumulator after the point. -/
theorem piece3 (xs : Vec Ideal S4x704x1024 .f32) (x0 : Vec Ideal S4x1408x704 .bf16) (x1 : Vec Ideal S1408x1024 .bf16) (x : S1x704x1024.Idx) :
    (k0_pay2 (F := Ideal) (View.ld xs (Rect.unit (s := S4x704x1024) ![3, 0, 0] S1x704x1024.size inb_S4x704x1024_S1x704x1024_3_0_0)) (View.ld x0 (Rect.unit (s := S4x1408x704) ![3, 0, 0] S1x1408x704.size inb_S4x1408x704_S1x1408x704_3_0_0)) x1 x : EReal)
      = G xs x0 x1 ((Rect.unit (s := S4x704x1024) ![3, 0, 0] S1x704x1024.size inb_S4x704x1024_S1x704x1024_3_0_0).emb x) := by
  rw [pay2]
  unfold G part
  have hx : (x 0).val = 0 := by have h : (x 0).val < 1 := (x 0).isLt; omega
  pointwise [View.ld]
  blk_point []

theorem soutB (c : Dev nD) (i : grid0.Coords) (arg2 : Memref sig .tc .vmem S4x1408x704 .bf16) (harg2 : arg2.IsWhole) (arg3 : Memref sig .tc .vmem S1408x1024 .bf16) (harg3 : arg3.IsWhole) (arg4 : Memref sig .tc .vmem S4x704x1024 .bf16) (harg4 : arg4.IsWhole) (arg5 : Memref sig .tc .vmem S4x704x1024 .f32) (harg5 : arg5.IsWhole) (hc0 : ¬cond0_0 i) (hc1 : ¬cond0_1 i) (x0 : Vec Ideal S4x1408x704 .bf16) (x1 : Vec Ideal S1408x1024 .bf16) (xs : Vec Ideal S4x704x1024 .f32) :
    sout0_B_0 c i arg2 harg2 arg3 harg3 arg4 harg4 arg5 harg5 hc0 hc1 x0 x1 xs = G xs x0 x1 := by
  frame_open
  simp (disch := decide) only [View.read_writes_junk_eq_canon, View.canon_cons_unit_lit', View.ld_unit_lit', View.readCov_unit_lit', View.readCov_cons_unit_lit', View.readAt_eq_ld, Memref.IsWhole.read_unread]
  funext y
  exact View.canon_append_of_piecesOf (G xs x0 x1) [] [_, _, _, _] ⟨piece3 xs x0 x1, piece2 xs x0 x1, piece1 xs x0 x1, piece0 xs x0 x1, trivial⟩ y (View.cover_of_tiledL (s := S4x704x1024) _ ![1, 704, 1024] (by sl_kernel_rfl) y)

theorem soutC (c : Dev nD) (i : grid0.Coords) (arg2 : Memref sig .tc .vmem S4x1408x704 .bf16) (harg2 : arg2.IsWhole) (arg3 : Memref sig .tc .vmem S1408x1024 .bf16) (harg3 : arg3.IsWhole) (arg4 : Memref sig .tc .vmem S4x704x1024 .bf16) (harg4 : arg4.IsWhole) (arg5 : Memref sig .tc .vmem S4x704x1024 .f32) (harg5 : arg5.IsWhole) (hc0 : ¬cond0_0 i) (hc1 : cond0_1 i) (x0 : Vec Ideal S4x1408x704 .bf16) (x1 : Vec Ideal S1408x1024 .bf16) (xs : Vec Ideal S4x704x1024 .f32) :
    sout0_C_0 c i arg2 harg2 arg3 harg3 arg4 harg4 arg5 harg5 hc0 hc1 x0 x1 xs = G xs x0 x1 := by
  frame_open
  simp (disch := decide) only [View.read_writes_junk_eq_canon, View.canon_cons_unit_lit', View.ld_unit_lit', View.readCov_unit_lit', View.readCov_cons_unit_lit', View.readAt_eq_ld, Memref.IsWhole.read_unread]
  funext y
  exact View.canon_append_of_piecesOf (G xs x0 x1) [] [_, _, _, _] ⟨piece3 xs x0 x1, piece2 xs x0 x1, piece1 xs x0 x1, piece0 xs x0 x1, trivial⟩ y (View.cover_of_tiledL (s := S4x704x1024) _ ![1, 704, 1024] (by sl_kernel_rfl) y)

theorem soutA (c : Dev nD) (i : grid0.Coords) (arg2 : Memref sig .tc .vmem S4x1408x704 .bf16) (harg2 : arg2.IsWhole) (arg3 : Memref sig .tc .vmem S1408x1024 .bf16) (harg3 : arg3.IsWhole) (arg4 : Memref sig .tc .vmem S4x704x1024 .bf16) (harg4 : arg4.IsWhole) (arg5 : Memref sig .tc .vmem S4x704x1024 .f32) (harg5 : arg5.IsWhole) (hc0 : cond0_0 i) (hc1 : ¬cond0_1 i) (x0 : Vec Ideal S4x1408x704 .bf16) (x1 : Vec Ideal S1408x1024 .bf16) :
    sout0_A_0 c i arg2 harg2 arg3 harg3 arg4 harg4 arg5 harg5 hc0 hc1 x0 x1 = G (fun _ => (0 : EReal)) x0 x1 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  funext y
  have h7 : k0_pay7 (F := Ideal) = fun _ => (0 : EReal) := funext pay7
  rw [h7]
  exact View.canon_append_of_piecesOf (G (fun _ => (0 : EReal)) x0 x1) [_] [_, _, _, _] ⟨piece3 (fun _ => (0 : EReal)) x0 x1, piece2 (fun _ => (0 : EReal)) x0 x1, piece1 (fun _ => (0 : EReal)) x0 x1, piece0 (fun _ => (0 : EReal)) x0 x1, trivial⟩ y (View.cover_of_tiledL (s := S4x704x1024) _ ![1, 704, 1024] (by sl_kernel_rfl) y)

theorem outC (c : Dev nD) (i : grid0.Coords) (arg2 : Memref sig .tc .vmem S4x1408x704 .bf16) (harg2 : arg2.IsWhole) (arg3 : Memref sig .tc .vmem S1408x1024 .bf16) (harg3 : arg3.IsWhole) (arg4 : Memref sig .tc .vmem S4x704x1024 .bf16) (harg4 : arg4.IsWhole) (arg5 : Memref sig .tc .vmem S4x704x1024 .f32) (harg5 : arg5.IsWhole) (hc0 : ¬cond0_0 i) (hc1 : cond0_1 i) (x0 : Vec Ideal S4x1408x704 .bf16) (x1 : Vec Ideal S1408x1024 .bf16) (xs : Vec Ideal S4x704x1024 .f32) :
    out0_C_2 c i arg2 harg2 arg3 harg3 arg4 harg4 arg5 harg5 hc0 hc1 x0 x1 xs = G xs x0 x1 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  funext y
  exact View.canon_append_of_piecesOf (G xs x0 x1) [] [_, _, _, _]
    ⟨fun x => (pay6 _ x).trans (piece3 xs x0 x1 x), fun x => (pay5 _ x).trans (piece2 xs x0 x1 x),
      fun x => (pay4 _ x).trans (piece1 xs x0 x1 x), fun x => (pay3 _ x).trans (piece0 xs x0 x1 x), trivial⟩ y (View.cover_of_tiledL (s := S4x704x1024) _ ![1, 704, 1024] (by sl_kernel_rfl) y)

variable (m : (ℓ : Loc nD τ sig) → Buf (Elt Ideal) ℓ)

/-- The windows' block indices at a point. -/
theorem idx : ∀ t : Fin cfg0.N, win0_0.index t = ![0, t.val, 0] ∧ win0_1.index t = ![t.val, 0] :=
  (by decide +kernel : ∀ t : Fin grid0.N, _)

theorem lt5 : 5 < cfg0.N := lt_of_lt_of_eq (by decide) N_0.symm

/-- The accumulator after the last point: all the chunks' products. -/
theorem acc_last (c : Dev nD) (j : S4x704x1024.Idx) :
    ((outsAt0 m c 5 lt5).2 j : EReal) = ∑ p : Fin cfg0.N, part (iblk m c 0 p) (iblk m c 1 p) j := by
  have e := Pipeline.eq_sum_fin_of_reset_step_apply_last (M := EReal) (fun n h => (outsAt0 m c n h).2) 6 (fun _ => 0)
    (fun p i => part (iblk m c 0 p) (iblk m c 1 p) i)
    (fun t h i => by
      rw [outsAt0_A m c t h (by omega)]; dsimp only; rw [soutA]; rfl)
    (fun t h i => by
      by_cases h5 : t.val % 6 = 5
      · rw [outsAt0_C m c t h h5]; dsimp only; rw [soutC]; rfl
      · rw [outsAt0_B m c t h h5]; dsimp only; rw [soutB]; rfl)
    (le_of_eq N_0) ⟨5, lt5⟩ N_0.symm j
  simpa using e

/-- At the last point the result is the accumulator. -/
theorem out_last (c : Dev nD) : ((outsAt0 m c 5 lt5).1 : S4x704x1024.Idx → EReal) = (outsAt0 m c 5 lt5).2 := by
  have e := outsAt0_C m c ⟨5, lt5⟩ (by decide) (by decide)
  dsimp only at e
  rw [e]; dsimp only; rw [outC, soutC]

/-- What the result array ends with: the products contracted over all 8448 tokens. -/
theorem final (c : Dev nD) (j : S4x704x1024.Idx) : (show EReal from Value.G2 (F := Ideal) m c j)
    = ∑ l : Fin 8448, (show EReal from m ((c : Thread nD τ).loc main_arg0) (ix3 (j 0) l (j 1))) * (show EReal from m ((c : Thread nD τ).loc main_arg1) (ix2 l (j 2))) := by
  rw [Value.G2_last, ← Value.outsAt0_sweep m c 5 lt5]
  rw [out_last m c]
  refine (acc_last m c j).trans ?_
  unfold part
  refine Fin.sum_mul_add_congr (fun t k hl => ?_) (show 8448 = cfg0.N * 1408 by rw [show cfg0.N = 6 from N_0])
  refine congrArg₂ (fun a b : EReal => a * b) ?_ ?_ <;> blk_ext [iblk, V, idx t]

/-- The result is the reference's, as the reference's run states it. -/
theorem final_eq (c : Dev nD) (a : (⟨S4x8448x704, .bf16⟩ : BufTy).Contents (Elt Ideal)) (b : (⟨S8448x1024, .bf16⟩ : BufTy).Contents (Elt Ideal))
    (ha : a = m ((c : Thread nD τ).loc main_arg0)) (hb : b = m ((c : Thread nD τ).loc main_arg1)) :
    Cert.Reference2Ideal.Read.val_main_v9 (F := Ideal) a b = Value.G2 (F := Ideal) m c := by
  subst ha hb
  funext j
  refine Eq.trans ?_ (final m c j).symm
  pointwise [Cert.Reference2Ideal.Read.val_main_v9, Cert.Reference2Ideal.Read.val_main_v8, Cert.Reference2Ideal.Read.val_main_v7, Cert.Reference2Ideal.Read.val_main_v6,
    Cert.Reference2Ideal.Read.val_main_v5, Cert.Reference2Ideal.Read.val_main_v2, Cert.Reference2Ideal.Read.val_main_v1, Cert.Reference2Ideal.Read.val_main_v0]
  exact Finset.sum_congr rfl fun x _ => mul_comm (G := EReal) _ _

end Cert.Kernel2Ideal.Dw

end
-- ==== Proof.DgValue.lean ====
module

public import proofs.«01_k».proof.Proof.Gen.Kernel3Ideal.Value
public import proofs.«01_k».proof.Proof.Gen.Reference3Ideal.Read
public import Idealize.ShloMosaic.Lib.Pipeline.ReadBack
public import Idealize.ShloMosaic.Lib.Pipeline.ValueKit

/-! The gradient of `w_ffn_gate_up`: what each grid point of the kernel leaves in the accumulator and in the result, at the ideal instance.
    The grid is two halves of the channel groups, each swept over the six chunks of tokens. -/

@[expose] public section

set_option maxHeartbeats 1000000

noncomputable section

namespace Cert.Kernel3Ideal.Dg

open Cert.Kernel3Ideal Cert.Kernel3Ideal.Gen Idealize.ShloMosaic Idealize.ShloMosaic.TcCoe Idealize.SL.Sem
open Idealize.ShloMosaic.Tactic

/-- One chunk's products, contracted over its 1408 tokens. -/
def part (x0 : Vec Ideal S1408x1024 .bf16) (x1 : Vec Ideal S4x1408x704 .bf16) (i : S4x1024x704.Idx) : EReal :=
  ∑ k : Fin 1408, x0 (ix2 k (i 1)) * x1 (ix3 (i 0) k (i 2))

/-- The accumulator after a point: what it held, and the chunk's products. -/
def G (xs : Vec Ideal S4x1024x704 .f32) (x0 : Vec Ideal S1408x1024 .bf16) (x1 : Vec Ideal S4x1408x704 .bf16) : Vec Ideal S4x1024x704 .f32 :=
  fun i => (xs i : EReal) + part x0 x1 i

theorem pay7 (j : S4x1024x704.Idx) : (k0_pay7 (F := Ideal) j : EReal) = 0 := by
  pointwise [k0_pay7]

theorem pay8 (v : Vec Ideal S1x1024x704 .f32) (x : Vec Ideal S1408x1024 .bf16) (w : Vec Ideal S1x1408x704 .bf16) (j : S1x1024x704.Idx) :
    (k0_pay8 v x w j : EReal) = v j + ∑ k : Fin 1408, x (ix2 k (j 1)) * w (ix3 0 k (j 2)) := by
  have hj : (j 0).val = 0 := by have h : (j 0).val < 1 := (j 0).isLt; omega
  pointwise [k0_pay8]

theorem pay9 (v : Vec Ideal S1x1024x704 .f32) (x : Vec Ideal S1408x1024 .bf16) (w : Vec Ideal S1x1408x704 .bf16) (j : S1x1024x704.Idx) :
    (k0_pay9 v x w j : EReal) = v j + ∑ k : Fin 1408, x (ix2 k (j 1)) * w (ix3 0 k (j 2)) := by
  have hj : (j 0).val = 0 := by have h : (j 0).val < 1 := (j 0).isLt; omega
  pointwise [k0_pay9]

theorem pay1 (v : Vec Ideal S1x1024x704 .f32) (x : Vec Ideal S1408x1024 .bf16) (w : Vec Ideal S1x1408x704 .bf16) (j : S1x1024x704.Idx) :
    (k0_pay1 (k0_pay10 v) x w j : EReal) = v j + ∑ k : Fin 1408, x (ix2 k (j 1)) * w (ix3 0 k (j 2)) := by
  have hj : (j 0).val = 0 := by have h : (j 0).val < 1 := (j 0).isLt; omega
  pointwise [k0_pay1, k0_pay10]

theorem pay2 (v : Vec Ideal S1x1024x704 .f32) (x : Vec Ideal S1408x1024 .bf16) (w : Vec Ideal S1x1408x704 .bf16) (j : S1x1024x704.Idx) :
    (k0_pay2 v x w j : EReal) = v j + ∑ k : Fin 1408, x (ix2 k (j 1)) * w (ix3 0 k (j 2)) := by
  have hj : (j 0).val = 0 := by have h : (j 0).val < 1 := (j 0).isLt; omega
  pointwise [k0_pay2]

theorem pay3 (v : Vec Ideal S1x1024x704 .f32) (j : S1x1024x704.Idx) : (k0_pay3 v j : EReal) = v j := by
  pointwise [k0_pay3]

theorem pay4 (v : Vec Ideal S1x1024x704 .f32) (j : S1x1024x704.Idx) : (k0_pay4 v j : EReal) = v j := by
  pointwise [k0_pay4]

theorem pay5 (v : Vec Ideal S1x1024x704 .f32) (j : S1x1024x704.Idx) : (k0_pay5 v j : EReal) = v j := by
  pointwise [k0_pay5]

theorem pay6 (v : Vec Ideal S1x1024x704 .f32) (j : S1x1024x704.Idx) : (k0_pay6 v j : EReal) = v j := by
  pointwise [k0_pay6]

/-- Channel group 0's store is its block of the accumulator after the point. -/
theorem piece0 (xs : Vec Ideal S4x1024x704 .f32) (x0 : Vec Ideal S1408x1024 .bf16) (x1 : Vec Ideal S4x1408x704 .bf16) (x : S1x1024x704.Idx) :
    (k0_pay8 (F := Ideal) (View.ld xs (Rect.unit (s := S4x1024x704) ![0, 0, 0] S1x1024x704.size inb_S4x1024x704_S1x1024x704_0_0_0)) x0 (View.ld x1 (Rect.unit (s := S4x1408x704) ![0, 0, 0] S1x1408x704.size inb_S4x1408x704_S1x1408x704_0_0_0)) x : EReal)
      = G xs x0 x1 ((Rect.unit (s := S4x1024x704) ![0, 0, 0] S1x1024x704.size inb_S4x1024x704_S1x1024x704_0_0_0).emb x) := by
  rw [pay8]
  unfold G part
  have hx : (x 0).val = 0 := by have h : (x 0).val < 1 := (x 0).isLt; omega
  pointwise [View.ld]
  blk_point []

/-- Channel group 1's store is its block of the accumulator after the point. -/
theorem piece1 (xs : Vec Ideal S4x1024x704 .f32) (x0 : Vec Ideal S1408x1024 .bf16) (x1 : Vec Ideal S4x1408x704 .bf16) (x : S1x1024x704.Idx) :
    (k0_pay9 (F := Ideal) (View.ld xs (Rect.unit (s := S4x1024x704) ![1, 0, 0] S1x1024x704.size inb_S4x1024x704_S1x1024x704_1_0_0)) x0 (View.ld x1 (Rect.unit (s := S4x1408x704) ![1, 0, 0] S1x1408x704.size inb_S4x1408x704_S1x1408x704_1_0_0)) x : EReal)
      = G xs x0 x1 ((Rect.unit (s := S4x1024x704) ![1, 0, 0] S1x1024x704.size inb_S4x1024x704_S1x1024x704_1_0_0).emb x) := by
  rw [pay9]
  unfold G part
  have hx : (x 0).val = 0 := by have h : (x 0).val < 1 := (x 0).isLt; omega
  pointwise [View.ld]
  blk_point []

/-- Channel group 2's store is its block of the accumulator after the point. -/
theorem piece2 (xs : Vec Ideal S4x1024x704 .f32) (x0 : Vec Ideal S1408x1024 .bf16) (x1 : Vec Ideal S4x1408x704 .bf16) (x : S1x1024x704.Idx) :
    (k0_pay1 (F := Ideal) (k0_pay10 (View.ld xs (Rect.unit (s := S4x1024x704) ![2, 0, 0] S1x1024x704.size inb_S4x1024x704_S1x1024x704_2_0_0))) x0 (View.ld x1 (Rect.unit (s := S4x1408x704) ![2, 0, 0] S1x1408x704.size inb_S4x1408x704_S1x1408x704_2_0_0)) x : EReal)
      = G xs x0 x1 ((Rect.unit (s := S4x1024x704) ![2, 0, 0] S1x1024x704.size inb_S4x1024x704_S1x1024x704_2_0_0).emb x) := by
  rw [pay1]
  unfold G part
  have hx : (x 0).val = 0 := by have h : (x 0).val < 1 := (x 0).isLt; omega
  pointwise [View.ld]
  blk_point []

/-- Channel group 3's store is its block of the accumulator after the point. -/
theorem piece3 (xs : Vec Ideal S4x1024x704 .f32) (x0 : Vec Ideal S1408x1024 .bf16) (x1 : Vec Ideal S4x1408x704 .bf16) (x : S1x1024x704.Idx) :
    (k0_pay2 (F := Ideal) (View.ld xs (Rect.unit (s := S4x1024x704) ![3, 0, 0] S1x1024x704.size inb_S4x1024x704_S1x1024x704_3_0_0)) x0 (View.ld x1 (Rect.unit (s := S4x1408x704) ![3, 0, 0] S1x1408x704.size inb_S4x1408x704_S1x1408x704_3_0_0)) x : EReal)
      = G xs x0 x1 ((Rect.unit (s := S4x1024x704) ![3, 0, 0] S1x1024x704.size inb_S4x1024x704_S1x1024x704_3_0_0).emb x) := by
  rw [pay2]
  unfold G part
  have hx : (x 0).val = 0 := by have h : (x 0).val < 1 := (x 0).isLt; omega
  pointwise [View.ld]
  blk_point []

theorem soutB (c : Dev nD) (i : grid0.Coords) (arg2 : Memref sig .tc .vmem S1408x1024 .bf16) (harg2 : arg2.IsWhole) (arg3 : Memref sig .tc .vmem S4x1408x704 .bf16) (harg3 : arg3.IsWhole) (arg4 : Memref sig .tc .vmem S4x1024x704 .bf16) (harg4 : arg4.IsWhole) (arg5 : Memref sig .tc .vmem S4x1024x704 .f32) (harg5 : arg5.IsWhole) (hc0 : ¬cond0_0 i) (hc1 : ¬cond0_1 i) (x0 : Vec Ideal S1408x1024 .bf16) (x1 : Vec Ideal S4x1408x704 .bf16) (xs : Vec Ideal S4x1024x704 .f32) :
    sout0_B_0 c i arg2 harg2 arg3 harg3 arg4 harg4 arg5 harg5 hc0 hc1 x0 x1 xs = G xs x0 x1 := by
  frame_open
  simp (disch := decide) only [View.read_writes_junk_eq_canon, View.canon_cons_unit_lit', View.ld_unit_lit', View.readCov_unit_lit', View.readCov_cons_unit_lit', View.readAt_eq_ld, Memref.IsWhole.read_unread]
  funext y
  exact View.canon_append_of_piecesOf (G xs x0 x1) [] [_, _, _, _] ⟨piece3 xs x0 x1, piece2 xs x0 x1, piece1 xs x0 x1, piece0 xs x0 x1, trivial⟩ y (View.cover_of_tiledL (s := S4x1024x704) _ ![1, 1024, 704] (by sl_kernel_rfl) y)

theorem soutC (c : Dev nD) (i : grid0.Coords) (arg2 : Memref sig .tc .vmem S1408x1024 .bf16) (harg2 : arg2.IsWhole) (arg3 : Memref sig .tc .vmem S4x1408x704 .bf16) (harg3 : arg3.IsWhole) (arg4 : Memref sig .tc .vmem S4x1024x704 .bf16) (harg4 : arg4.IsWhole) (arg5 : Memref sig .tc .vmem S4x1024x704 .f32) (harg5 : arg5.IsWhole) (hc0 : ¬cond0_0 i) (hc1 : cond0_1 i) (x0 : Vec Ideal S1408x1024 .bf16) (x1 : Vec Ideal S4x1408x704 .bf16) (xs : Vec Ideal S4x1024x704 .f32) :
    sout0_C_0 c i arg2 harg2 arg3 harg3 arg4 harg4 arg5 harg5 hc0 hc1 x0 x1 xs = G xs x0 x1 := by
  frame_open
  simp (disch := decide) only [View.read_writes_junk_eq_canon, View.canon_cons_unit_lit', View.ld_unit_lit', View.readCov_unit_lit', View.readCov_cons_unit_lit', View.readAt_eq_ld, Memref.IsWhole.read_unread]
  funext y
  exact View.canon_append_of_piecesOf (G xs x0 x1) [] [_, _, _, _] ⟨piece3 xs x0 x1, piece2 xs x0 x1, piece1 xs x0 x1, piece0 xs x0 x1, trivial⟩ y (View.cover_of_tiledL (s := S4x1024x704) _ ![1, 1024, 704] (by sl_kernel_rfl) y)

theorem soutA (c : Dev nD) (i : grid0.Coords) (arg2 : Memref sig .tc .vmem S1408x1024 .bf16) (harg2 : arg2.IsWhole) (arg3 : Memref sig .tc .vmem S4x1408x704 .bf16) (harg3 : arg3.IsWhole) (arg4 : Memref sig .tc .vmem S4x1024x704 .bf16) (harg4 : arg4.IsWhole) (arg5 : Memref sig .tc .vmem S4x1024x704 .f32) (harg5 : arg5.IsWhole) (hc0 : cond0_0 i) (hc1 : ¬cond0_1 i) (x0 : Vec Ideal S1408x1024 .bf16) (x1 : Vec Ideal S4x1408x704 .bf16) :
    sout0_A_0 c i arg2 harg2 arg3 harg3 arg4 harg4 arg5 harg5 hc0 hc1 x0 x1 = G (fun _ => (0 : EReal)) x0 x1 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  funext y
  have h7 : k0_pay7 (F := Ideal) = fun _ => (0 : EReal) := funext pay7
  rw [h7]
  exact View.canon_append_of_piecesOf (G (fun _ => (0 : EReal)) x0 x1) [_] [_, _, _, _] ⟨piece3 (fun _ => (0 : EReal)) x0 x1, piece2 (fun _ => (0 : EReal)) x0 x1, piece1 (fun _ => (0 : EReal)) x0 x1, piece0 (fun _ => (0 : EReal)) x0 x1, trivial⟩ y (View.cover_of_tiledL (s := S4x1024x704) _ ![1, 1024, 704] (by sl_kernel_rfl) y)

theorem outC (c : Dev nD) (i : grid0.Coords) (arg2 : Memref sig .tc .vmem S1408x1024 .bf16) (harg2 : arg2.IsWhole) (arg3 : Memref sig .tc .vmem S4x1408x704 .bf16) (harg3 : arg3.IsWhole) (arg4 : Memref sig .tc .vmem S4x1024x704 .bf16) (harg4 : arg4.IsWhole) (arg5 : Memref sig .tc .vmem S4x1024x704 .f32) (harg5 : arg5.IsWhole) (hc0 : ¬cond0_0 i) (hc1 : cond0_1 i) (x0 : Vec Ideal S1408x1024 .bf16) (x1 : Vec Ideal S4x1408x704 .bf16) (xs : Vec Ideal S4x1024x704 .f32) :
    out0_C_2 c i arg2 harg2 arg3 harg3 arg4 harg4 arg5 harg5 hc0 hc1 x0 x1 xs = G xs x0 x1 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  funext y
  exact View.canon_append_of_piecesOf (G xs x0 x1) [] [_, _, _, _]
    ⟨fun x => (pay6 _ x).trans (piece3 xs x0 x1 x), fun x => (pay5 _ x).trans (piece2 xs x0 x1 x),
      fun x => (pay4 _ x).trans (piece1 xs x0 x1 x), fun x => (pay3 _ x).trans (piece0 xs x0 x1 x), trivial⟩ y (View.cover_of_tiledL (s := S4x1024x704) _ ![1, 1024, 704] (by sl_kernel_rfl) y)

variable (m : (ℓ : Loc nD τ sig) → Buf (Elt Ideal) ℓ)

/-- The windows' block indices at a point. -/
theorem idx : ∀ t : Fin cfg0.N, win0_0.index t = ![t.val % 6, 0] ∧ win0_1.index t = ![t.val / 6, t.val % 6, 0] :=
  (by decide +kernel : ∀ t : Fin grid0.N, _)

/-- The points of the run that ends at a point. -/
theorem run_lt (t : Fin cfg0.N) (h5 : t.val % 6 = 5) (s : Fin 6) : 6 * (t.val / 6) + s.val < cfg0.N := by
  have h := t.isLt
  have := s.isLt
  omega

/-- The accumulator after a run's last point: all its chunks' products. -/
theorem acc_at (c : Dev nD) (t : Fin cfg0.N) (h5 : t.val % 6 = 5) (j : S4x1024x704.Idx) :
    ((outsAt0 m c t.val t.isLt).2 j : EReal) = ∑ s : Fin 6, part (iblk m c 0 ⟨6 * (t.val / 6) + s.val, run_lt t h5 s⟩) (iblk m c 1 ⟨6 * (t.val / 6) + s.val, run_lt t h5 s⟩) j := by
  have e := Pipeline.eq_sum_fin_of_reset_step_apply_of_flush (M := EReal) (fun n h => (outsAt0 m c n h).2) 6 (fun _ => 0)
    (fun p i => part (iblk m c 0 p) (iblk m c 1 p) i)
    (fun t h i => by
      rw [outsAt0_A m c t h (by omega)]; dsimp only; rw [soutA]; rfl)
    (fun t h i => by
      by_cases h5 : t.val % 6 = 5
      · rw [outsAt0_C m c t h h5]; dsimp only; rw [soutC]; rfl
      · rw [outsAt0_B m c t h h5]; dsimp only; rw [soutB]; rfl)
    t h5 j
  simpa using e

/-- At a run's last point the result's block is the accumulator. -/
theorem out_at (c : Dev nD) (t : Fin cfg0.N) (h5 : t.val % 6 = 5) : ((outsAt0 m c t.val t.isLt).1 : S4x1024x704.Idx → EReal) = (outsAt0 m c t.val t.isLt).2 := by
  have e := outsAt0_C m c t (by omega) h5
  rw [e]; dsimp only; rw [outC, soutC]

/-- What the result array ends with: the products contracted over all 8448 tokens. -/
theorem final (c : Dev nD) (j : S8x1024x704.Idx) : (show EReal from Value.G2 (F := Ideal) m c j)
    = ∑ l : Fin 8448, (show EReal from m ((c : Thread nD τ).loc main_arg0) (ix2 l (j 1))) * (show EReal from m ((c : Thread nD τ).loc main_arg1) (ix3 (j 0) l (j 2))) := by
  have h0 : (j 0).val < 8 := (j 0).isLt
  have h1 : (j 1).val < 1024 := (j 1).isLt
  have h2 : (j 2).val < 704 := (j 2).isLt
  have e : Value.pt2Of j = 6 * ((j 0).val / 4) + 5 := by
    show 6 * (1 * ((j 0).val / 4 - 0) + 1 * ((j 1).val / 1024 - 0) + 1 * ((j 2).val / 704 - 0)) + 5 = _
    omega
  have hp : Value.pt2Of j < cfg0.N := lt_of_lt_of_eq (by omega) (show 12 = cfg0.N from N_0.symm)
  have h5 : Value.pt2Of j % 6 = 5 := by omega
  have e6 : Value.pt2Of j / 6 = (j 0).val / 4 := by omega
  unfold Value.G2
  rw [dif_pos hp, ← Value.outsAt0_sweep m c _ hp]
  rw [out_at m c ⟨Value.pt2Of j, hp⟩ h5]
  refine (acc_at m c ⟨Value.pt2Of j, hp⟩ h5 _).trans ?_
  unfold part
  refine Fin.sum_mul_add_congr (fun s k hl => ?_) (show 8448 = 6 * 1408 by decide)
  have hs := s.isLt
  have q1 : (6 * (Value.pt2Of j / 6) + s.val) % 6 = s.val := by omega
  have q2 : (6 * (Value.pt2Of j / 6) + s.val) / 6 = (j 0).val / 4 := by omega
  have i0 := (idx ⟨6 * (Value.pt2Of j / 6) + s.val, run_lt ⟨Value.pt2Of j, hp⟩ h5 s⟩).1
  have i1 := (idx ⟨6 * (Value.pt2Of j / 6) + s.val, run_lt ⟨Value.pt2Of j, hp⟩ h5 s⟩).2
  dsimp only at i0 i1
  rw [q1] at i0 i1
  rw [q2] at i1
  refine congrArg₂ (fun a b : EReal => a * b) ?_ ?_
  · blk_ext [iblk, V, i0]
  · blk_ext [iblk, V, i1]

/-- The result is the reference's, as the reference's run states it. -/
theorem final_eq (c : Dev nD) (a : (⟨S8448x1024, .bf16⟩ : BufTy).Contents (Elt Ideal)) (b : (⟨S8x8448x704, .bf16⟩ : BufTy).Contents (Elt Ideal))
    (ha : a = m ((c : Thread nD τ).loc main_arg0)) (hb : b = m ((c : Thread nD τ).loc main_arg1)) :
    Cert.Reference3Ideal.Read.val_main_v10 (F := Ideal) a b = Value.G2 (F := Ideal) m c := by
  subst ha hb
  funext j
  refine Eq.trans ?_ (final m c j).symm
  pointwise [Cert.Reference3Ideal.Read.val_main_v10, Cert.Reference3Ideal.Read.val_main_v9, Cert.Reference3Ideal.Read.val_main_v8, Cert.Reference3Ideal.Read.val_main_v7, Cert.Reference3Ideal.Read.val_main_v6,
    Cert.Reference3Ideal.Read.val_main_v3, Cert.Reference3Ideal.Read.val_main_v2, Cert.Reference3Ideal.Read.val_main_v1, Cert.Reference3Ideal.Read.val_main_v0]
  exact Finset.sum_congr rfl fun l _ => mul_comm _ _

end Cert.Kernel3Ideal.Dg

end
-- ==== Proof.DaValue.lean ====
module

public import proofs.«01_k».proof.Proof.Gen.Kernel4Ideal.Value
public import proofs.«01_k».proof.Proof.Gen.Reference4Ideal.Read
public import proofs.«01_k».proof.Pre_finite4
public import Idealize.ShloMosaic.Lib.Pipeline.ReadBack
public import Idealize.ShloMosaic.Lib.Pipeline.ValueKit
public import Idealize.ShloMosaic.Lib.ReduceAll

/-! The gradient at the gate and the up halves of the feed-forward: what each grid point of the kernel leaves in its block
    of 528 tokens, at the ideal instance, and the reference's value beside it on finite arguments. -/

@[expose] public section

set_option maxHeartbeats 1000000

noncomputable section

namespace Cert.Kernel4Ideal.Da

open Cert.Kernel4Ideal Cert.Kernel4Ideal.Gen Idealize.ShloMosaic Idealize.ShloMosaic.TcCoe Idealize.SL.Sem
open Idealize.ShloMosaic.Tactic

/-- The gradient at the gate: `a` the gradient at the product, `g` the gate, `u` the up half. -/
def dgate (a g u : EReal) : EReal := a * (u * (Ideal.logistic g * (1 + g * (1 - Ideal.logistic g))))

/-- The gradient at the up half. -/
def dup (a g : EReal) : EReal := a * (g * Ideal.logistic g)

/-- A block's products with one channel group's rows of `w_ffn_down`. -/
def part (x0 : Vec Ideal S528x1024 .bf16) (w : Vec Ideal S1x704x1024 .bf16) (j : S1x1x528x704.Idx) : EReal :=
  ∑ k : Fin 1024, x0 (ix2 (j 2) k) * w (ix3 0 (j 3) k)

/-- A block's products with all of `w_ffn_down`. -/
def prod (x0 : Vec Ideal S528x1024 .bf16) (x1 : Vec Ideal S4x704x1024 .bf16) (i : S2x4x528x704.Idx) : EReal :=
  ∑ k : Fin 1024, x0 (ix2 (i 2) k) * x1 (ix3 (i 1) (i 3) k)

/-- A block of the result: slot 0 the gate's gradient, slot 1 the up half's. -/
def G (x0 : Vec Ideal S528x1024 .bf16) (x1 : Vec Ideal S4x704x1024 .bf16) (x2 : Vec Ideal S2x4x528x704 .bf16) : Vec Ideal S2x4x528x704 .bf16 :=
  fun i => if (i 0).val = 0 then dgate (prod x0 x1 i) (x2 (ix4 0 (i 1) (i 2) (i 3))) (x2 (ix4 1 (i 1) (i 2) (i 3)))
    else dup (prod x0 x1 i) (x2 (ix4 0 (i 1) (i 2) (i 3)))

theorem gate0 (x : Vec Ideal S528x1024 .bf16) (w : Vec Ideal S1x704x1024 .bf16) (g u : Vec Ideal S1x1x528x704 .bf16) (j : S1x1x528x704.Idx) :
    (k0_pay6 (F := Ideal) x w g u j : EReal) = dgate (part x w j) (g j) (u j) := by
  have h0 : (j 0).val = 0 := by have h : (j 0).val < 1 := (j 0).isLt; omega
  have h1 : (j 1).val = 0 := by have h : (j 1).val < 1 := (j 1).isLt; omega
  unfold dgate part
  pointwise [k0_pay3, k0_pay4, k0_pay5, k0_pay6]

theorem up0 (x : Vec Ideal S528x1024 .bf16) (w : Vec Ideal S1x704x1024 .bf16) (g : Vec Ideal S1x1x528x704 .bf16) (j : S1x1x528x704.Idx) :
    (k0_pay7 (F := Ideal) x w g j : EReal) = dup (part x w j) (g j) := by
  have h0 : (j 0).val = 0 := by have h : (j 0).val < 1 := (j 0).isLt; omega
  have h1 : (j 1).val = 0 := by have h : (j 1).val < 1 := (j 1).isLt; omega
  unfold dup part
  pointwise [k0_pay3, k0_pay4, k0_pay5, k0_pay7]

theorem gate1 (x : Vec Ideal S528x1024 .bf16) (w : Vec Ideal S1x704x1024 .bf16) (g u : Vec Ideal S1x1x528x704 .bf16) (j : S1x1x528x704.Idx) :
    (k0_pay12 (F := Ideal) x (k0_pay8 w) g u j : EReal) = dgate (part x w j) (g j) (u j) := by
  have h0 : (j 0).val = 0 := by have h : (j 0).val < 1 := (j 0).isLt; omega
  have h1 : (j 1).val = 0 := by have h : (j 1).val < 1 := (j 1).isLt; omega
  unfold dgate part
  pointwise [k0_pay8, k0_pay9, k0_pay10, k0_pay11, k0_pay12]

theorem up1 (x : Vec Ideal S528x1024 .bf16) (w : Vec Ideal S1x704x1024 .bf16) (g : Vec Ideal S1x1x528x704 .bf16) (j : S1x1x528x704.Idx) :
    (k0_pay13 (F := Ideal) x (k0_pay8 w) g j : EReal) = dup (part x w j) (g j) := by
  have h0 : (j 0).val = 0 := by have h : (j 0).val < 1 := (j 0).isLt; omega
  have h1 : (j 1).val = 0 := by have h : (j 1).val < 1 := (j 1).isLt; omega
  unfold dup part
  pointwise [k0_pay8, k0_pay9, k0_pay10, k0_pay11, k0_pay13]

theorem gate2 (x : Vec Ideal S528x1024 .bf16) (w : Vec Ideal S1x704x1024 .bf16) (g u : Vec Ideal S1x1x528x704 .bf16) (j : S1x1x528x704.Idx) :
    (k0_pay17 (F := Ideal) (k0_pay14 x w) (k0_pay15 g) u j : EReal) = dgate (part x w j) (g j) (u j) := by
  have h0 : (j 0).val = 0 := by have h : (j 0).val < 1 := (j 0).isLt; omega
  have h1 : (j 1).val = 0 := by have h : (j 1).val < 1 := (j 1).isLt; omega
  unfold dgate part
  pointwise [k0_pay14, k0_pay15, k0_pay16, k0_pay17]

theorem up2 (x : Vec Ideal S528x1024 .bf16) (w : Vec Ideal S1x704x1024 .bf16) (g : Vec Ideal S1x1x528x704 .bf16) (j : S1x1x528x704.Idx) :
    (k0_pay18 (F := Ideal) (k0_pay14 x w) (k0_pay15 g) j : EReal) = dup (part x w j) (g j) := by
  have h0 : (j 0).val = 0 := by have h : (j 0).val < 1 := (j 0).isLt; omega
  have h1 : (j 1).val = 0 := by have h : (j 1).val < 1 := (j 1).isLt; omega
  unfold dup part
  pointwise [k0_pay14, k0_pay15, k0_pay16, k0_pay18]

theorem gate3 (x : Vec Ideal S528x1024 .bf16) (w : Vec Ideal S1x704x1024 .bf16) (g u : Vec Ideal S1x1x528x704 .bf16) (j : S1x1x528x704.Idx) :
    (k0_pay1 (F := Ideal) (k0_pay19 x w) (k0_pay20 g) (k0_pay21 u) (k0_pay22 g) j : EReal) = dgate (part x w j) (g j) (u j) := by
  have h0 : (j 0).val = 0 := by have h : (j 0).val < 1 := (j 0).isLt; omega
  have h1 : (j 1).val = 0 := by have h : (j 1).val < 1 := (j 1).isLt; omega
  unfold dgate part
  pointwise [k0_pay19, k0_pay20, k0_pay21, k0_pay22, k0_pay1]

theorem up3 (x : Vec Ideal S528x1024 .bf16) (w : Vec Ideal S1x704x1024 .bf16) (g : Vec Ideal S1x1x528x704 .bf16) (j : S1x1x528x704.Idx) :
    (k0_pay2 (F := Ideal) (k0_pay19 x w) (k0_pay20 g) (k0_pay22 g) j : EReal) = dup (part x w j) (g j) := by
  have h0 : (j 0).val = 0 := by have h : (j 0).val < 1 := (j 0).isLt; omega
  have h1 : (j 1).val = 0 := by have h : (j 1).val < 1 := (j 1).isLt; omega
  unfold dup part
  pointwise [k0_pay19, k0_pay20, k0_pay22, k0_pay2]

/-- Channel group 0's two stores are their blocks of the result's block. -/
theorem gpiece0 (x0 : Vec Ideal S528x1024 .bf16) (x1 : Vec Ideal S4x704x1024 .bf16) (x2 : Vec Ideal S2x4x528x704 .bf16) (y : S1x1x528x704.Idx) :
    (k0_pay6 (F := Ideal) x0 (View.ld x1 r0_1) (View.ld x2 r0_2) (View.ld x2 r0_3) y : EReal) = G x0 x1 x2 ((r0_2).emb y) := by
  rw [gate0]
  have h0 : (y 0).val = 0 := by have h : (y 0).val < 1 := (y 0).isLt; omega
  have h1 : (y 1).val = 0 := by have h : (y 1).val < 1 := (y 1).isLt; omega
  unfold G part prod
  rw [if_pos (show ((r0_2.emb y) 0).val = 0 by blk_point [])]
  pointwise [View.ld]
  blk_point []

theorem upiece0 (x0 : Vec Ideal S528x1024 .bf16) (x1 : Vec Ideal S4x704x1024 .bf16) (x2 : Vec Ideal S2x4x528x704 .bf16) (y : S1x1x528x704.Idx) :
    (k0_pay7 (F := Ideal) x0 (View.ld x1 r0_1) (View.ld x2 r0_2) y : EReal) = G x0 x1 x2 ((r0_3).emb y) := by
  rw [up0]
  have h0 : (y 0).val = 0 := by have h : (y 0).val < 1 := (y 0).isLt; omega
  have h1 : (y 1).val = 0 := by have h : (y 1).val < 1 := (y 1).isLt; omega
  unfold G part prod
  rw [if_neg (show ¬((r0_3.emb y) 0).val = 0 by
    have e : ((r0_3.emb y) 0).val = 1 := by blk_point []
    omega)]
  pointwise [View.ld]
  blk_point []

/-- Channel group 1's two stores are their blocks of the result's block. -/
theorem gpiece1 (x0 : Vec Ideal S528x1024 .bf16) (x1 : Vec Ideal S4x704x1024 .bf16) (x2 : Vec Ideal S2x4x528x704 .bf16) (y : S1x1x528x704.Idx) :
    (k0_pay12 (F := Ideal) x0 (k0_pay8 (View.ld x1 r0_4)) (View.ld x2 r0_5) (View.ld x2 r0_6) y : EReal) = G x0 x1 x2 ((r0_5).emb y) := by
  rw [gate1]
  have h0 : (y 0).val = 0 := by have h : (y 0).val < 1 := (y 0).isLt; omega
  have h1 : (y 1).val = 0 := by have h : (y 1).val < 1 := (y 1).isLt; omega
  unfold G part prod
  rw [if_pos (show ((r0_5.emb y) 0).val = 0 by blk_point [])]
  pointwise [View.ld]
  blk_point []

theorem upiece1 (x0 : Vec Ideal S528x1024 .bf16) (x1 : Vec Ideal S4x704x1024 .bf16) (x2 : Vec Ideal S2x4x528x704 .bf16) (y : S1x1x528x704.Idx) :
    (k0_pay13 (F := Ideal) x0 (k0_pay8 (View.ld x1 r0_4)) (View.ld x2 r0_5) y : EReal) = G x0 x1 x2 ((r0_6).emb y) := by
  rw [up1]
  have h0 : (y 0).val = 0 := by have h : (y 0).val < 1 := (y 0).isLt; omega
  have h1 : (y 1).val = 0 := by have h : (y 1).val < 1 := (y 1).isLt; omega
  unfold G part prod
  rw [if_neg (show ¬((r0_6.emb y) 0).val = 0 by
    have e : ((r0_6.emb y) 0).val = 1 := by blk_point []
    omega)]
  pointwise [View.ld]
  blk_point []

/-- Channel group 2's two stores are their blocks of the result's block. -/
theorem gpiece2 (x0 : Vec Ideal S528x1024 .bf16) (x1 : Vec Ideal S4x704x1024 .bf16) (x2 : Vec Ideal S2x4x528x704 .bf16) (y : S1x1x528x704.Idx) :
    (k0_pay17 (F := Ideal) (k0_pay14 x0 (View.ld x1 r0_7)) (k0_pay15 (View.ld x2 r0_8)) (View.ld x2 r0_9) y : EReal) = G x0 x1 x2 ((r0_8).emb y) := by
  rw [gate2]
  have h0 : (y 0).val = 0 := by have h : (y 0).val < 1 := (y 0).isLt; omega
  have h1 : (y 1).val = 0 := by have h : (y 1).val < 1 := (y 1).isLt; omega
  unfold G part prod
  rw [if_pos (show ((r0_8.emb y) 0).val = 0 by blk_point [])]
  pointwise [View.ld]
  blk_point []

theorem upiece2 (x0 : Vec Ideal S528x1024 .bf16) (x1 : Vec Ideal S4x704x1024 .bf16) (x2 : Vec Ideal S2x4x528x704 .bf16) (y : S1x1x528x704.Idx) :
    (k0_pay18 (F := Ideal) (k0_pay14 x0 (View.ld x1 r0_7)) (k0_pay15 (View.ld x2 r0_8)) y : EReal) = G x0 x1 x2 ((r0_9).emb y) := by
  rw [up2]
  have h0 : (y 0).val = 0 := by have h : (y 0).val < 1 := (y 0).isLt; omega
  have h1 : (y 1).val = 0 := by have h : (y 1).val < 1 := (y 1).isLt; omega
  unfold G part prod
  rw [if_neg (show ¬((r0_9.emb y) 0).val = 0 by
    have e : ((r0_9.emb y) 0).val = 1 := by blk_point []
    omega)]
  pointwise [View.ld]
  blk_point []

/-- Channel group 3's two stores are their blocks of the result's block. -/
theorem gpiece3 (x0 : Vec Ideal S528x1024 .bf16) (x1 : Vec Ideal S4x704x1024 .bf16) (x2 : Vec Ideal S2x4x528x704 .bf16) (y : S1x1x528x704.Idx) :
    (k0_pay1 (F := Ideal) (k0_pay19 x0 (View.ld x1 r0_10)) (k0_pay20 (View.ld x2 r0_11)) (k0_pay21 (View.ld x2 r0_12)) (k0_pay22 (View.ld x2 r0_11)) y : EReal) = G x0 x1 x2 ((r0_11).emb y) := by
  rw [gate3]
  have h0 : (y 0).val = 0 := by have h : (y 0).val < 1 := (y 0).isLt; omega
  have h1 : (y 1).val = 0 := by have h : (y 1).val < 1 := (y 1).isLt; omega
  unfold G part prod
  rw [if_pos (show ((r0_11.emb y) 0).val = 0 by blk_point [])]
  pointwise [View.ld]
  blk_point []

theorem upiece3 (x0 : Vec Ideal S528x1024 .bf16) (x1 : Vec Ideal S4x704x1024 .bf16) (x2 : Vec Ideal S2x4x528x704 .bf16) (y : S1x1x528x704.Idx) :
    (k0_pay2 (F := Ideal) (k0_pay19 x0 (View.ld x1 r0_10)) (k0_pay20 (View.ld x2 r0_11)) (k0_pay22 (View.ld x2 r0_11)) y : EReal) = G x0 x1 x2 ((r0_12).emb y) := by
  rw [up3]
  have h0 : (y 0).val = 0 := by have h : (y 0).val < 1 := (y 0).isLt; omega
  have h1 : (y 1).val = 0 := by have h : (y 1).val < 1 := (y 1).isLt; omega
  unfold G part prod
  rw [if_neg (show ¬((r0_12.emb y) 0).val = 0 by
    have e : ((r0_12.emb y) 0).val = 1 := by blk_point []
    omega)]
  pointwise [View.ld]
  blk_point []

/-- The whole block read through its rectangle. -/
theorem ld0 (x0 : Vec Ideal S528x1024 .bf16) : View.ld x0 r0_0 = x0 := by
  funext y
  show x0 ((r0_0).emb y) = x0 y
  congr 1
  funext a
  apply Fin.ext
  match a with
  | ⟨0, _⟩ => show 0 + 1 * (y 0).val = (y 0).val; omega
  | ⟨1, _⟩ => show 0 + 1 * (y 1).val = (y 1).val; omega

/-- What a grid point leaves in the result's staging block. -/
theorem out_eq (x0 : Vec Ideal S528x1024 .bf16) (x1 : Vec Ideal S4x704x1024 .bf16) (x2 : Vec Ideal S2x4x528x704 .bf16) :
    out0_3 (F := Ideal) x0 x1 x2 = G x0 x1 x2 := by
  unfold out0_3 k0_pay28 k0_pay27 k0_pay26 k0_pay25 k0_pay24 k0_pay23
  rw [ld0]
  funext y
  exact View.canon_append_of_piecesOf (G x0 x1 x2) [] [_, _, _, _, _, _, _, _]
    ⟨upiece3 x0 x1 x2, gpiece3 x0 x1 x2, upiece2 x0 x1 x2, gpiece2 x0 x1 x2, upiece1 x0 x1 x2, gpiece1 x0 x1 x2,
      upiece0 x0 x1 x2, gpiece0 x0 x1 x2, trivial⟩ y
    (View.cover_of_tiledL (s := S2x4x528x704) _ ![1, 1, 528, 704] (by sl_kernel_rfl) y)

variable (m : (ℓ : Loc nD τ sig) → Buf (Elt Ideal) ℓ)

/-- The result as one function of the argument arrays. -/
def G3 (c : Dev nD) : S2x4x8448x704.Idx → EReal := fun i =>
  let p : EReal := ∑ k : Fin 1024, (show EReal from m ((c : Thread nD τ).loc main_arg0) (ix2 (i 2) k)) * (show EReal from m ((c : Thread nD τ).loc main_arg1) (ix3 (i 1) (i 3) k))
  if (i 0).val = 0 then dgate p (m ((c : Thread nD τ).loc main_arg2) (ix4 0 (i 1) (i 2) (i 3))) (m ((c : Thread nD τ).loc main_arg2) (ix4 1 (i 1) (i 2) (i 3)))
  else dup p (m ((c : Thread nD τ).loc main_arg2) (ix4 0 (i 1) (i 2) (i 3)))

/-- The windows' block indices at a point. -/
theorem idx : ∀ t : Fin cfg0.N, win0_0.index t = ![t.val, 0] ∧ win0_1.index t = ![0, 0, 0] ∧ win0_2.index t = ![0, 0, t.val, 0]
    ∧ win0_3.index t = ![0, 0, t.val, 0] :=
  (by decide +kernel : ∀ t : Fin grid0.N, _)

/-- Every point writes its block back. -/
theorem flush : ∀ t : Fin cfg0.N, (cfg0.win 3).flush t = true :=
  (by decide +kernel : ∀ t : Fin grid0.N, _)

/-- A point's block of the result is its tokens' part of the whole. -/
theorem block_eq (c : Dev nD) (t : Fin cfg0.N) (x : S2x4x528x704.Idx) (z : S2x4x8448x704.Idx) (h0 : (z 0).val = (x 0).val)
    (h1 : (z 1).val = (x 1).val) (h2 : (z 2).val = t.val * 528 + (x 2).val) (h3 : (z 3).val = (x 3).val) :
    (G (iblk m c 0 t) (iblk m c 1 t) (iblk m c 2 t) x : EReal) = G3 m c z := by
  obtain ⟨i0, i1, i2, -⟩ := idx t
  have hp : prod (iblk m c 0 t) (iblk m c 1 t) x
      = ∑ k : Fin 1024, (show EReal from m ((c : Thread nD τ).loc main_arg0) (ix2 (z 2) k)) * (show EReal from m ((c : Thread nD τ).loc main_arg1) (ix3 (z 1) (z 3) k)) := by
    unfold prod
    refine Finset.sum_congr rfl fun k _ => congrArg₂ (fun a b : EReal => a * b) ?_ ?_
    · blk_ext [iblk, V, i0]
    · blk_ext [iblk, V, i1]
  have hg : (show EReal from iblk m c 2 t (ix4 0 (x 1) (x 2) (x 3))) = m ((c : Thread nD τ).loc main_arg2) (ix4 0 (z 1) (z 2) (z 3)) := by
    blk_ext [iblk, V, i2]
  have hu : (show EReal from iblk m c 2 t (ix4 1 (x 1) (x 2) (x 3))) = m ((c : Thread nD τ).loc main_arg2) (ix4 1 (z 1) (z 2) (z 3)) := by
    blk_ext [iblk, V, i2]
  dsimp only at hg hu
  unfold G G3
  dsimp only
  rw [hp, hg, hu, h0]

theorem flushed_eq (c : Dev nD) (t : Fin cfg0.N) :
    (dats m 0 c).flushed 3 t = ((cfg0.win 3).blk t).view.read (Elt Ideal) (G3 m c) := by
  rw [Value.flushed3, out_eq]
  obtain ⟨-, -, -, i3⟩ := idx t
  funext y
  have hb0 : (((cfg0.win 3).blk t).view.emb y 0).val = win0_3.index t (0 : Fin 4) * 2 + 1 * (y 0).val := rfl
  have hb1 : (((cfg0.win 3).blk t).view.emb y 1).val = win0_3.index t (1 : Fin 4) * 4 + 1 * (y 1).val := rfl
  have hb2 : (((cfg0.win 3).blk t).view.emb y 2).val = win0_3.index t (2 : Fin 4) * 528 + 1 * (y 2).val := rfl
  have hb3 : (((cfg0.win 3).blk t).view.emb y 3).val = win0_3.index t (3 : Fin 4) * 704 + 1 * (y 3).val := rfl
  have q0 : win0_3.index t (0 : Fin 4) = 0 := congrFun i3 0
  have q1 : win0_3.index t (1 : Fin 4) = 0 := congrFun i3 1
  have q2 : win0_3.index t (2 : Fin 4) = t.val := congrFun i3 2
  have q3 : win0_3.index t (3 : Fin 4) = 0 := congrFun i3 3
  show G (iblk m c 0 t) (iblk m c 1 t) (iblk m c 2 t) ((cfg0.win 3).xinj (grid0.coords t) y) = G3 m c (((cfg0.win 3).blk t).view.emb y)
  refine block_eq m c t _ _ ?_ ?_ ?_ ?_
  · show (((cfg0.win 3).blk t).view.emb y 0).val = (y 0).val
    rw [hb0, q0]; omega
  · show (((cfg0.win 3).blk t).view.emb y 1).val = (y 1).val
    rw [hb1, q1]; omega
  · show (((cfg0.win 3).blk t).view.emb y 2).val = t.val * 528 + (y 2).val
    rw [hb2, q2]; omega
  · show (((cfg0.win 3).blk t).view.emb y 3).val = (y 3).val
    rw [hb3, q3]; omega

/-- The blocks fill the array. -/
theorem covered (i : S2x4x8448x704.Idx) : ∃ t : Fin cfg0.N, (cfg0.win 3).flush t = true ∧ i ∈ ((cfg0.win 3).blk t).view.set := by
  have h0 : (i 0).val < 2 := (i 0).isLt
  have h1 : (i 1).val < 4 := (i 1).isLt
  have h2 : (i 2).val < 8448 := (i 2).isLt
  have h3 : (i 3).val < 704 := (i 3).isLt
  have hN : cfg0.N = 16 := N_0
  have ht : (i 2).val / 528 < cfg0.N := by omega
  obtain ⟨-, -, -, i3⟩ := idx ⟨(i 2).val / 528, ht⟩
  refine ⟨⟨(i 2).val / 528, ht⟩, flush _, ?_⟩
  show i ∈ ((View.whole main_v0).slice (win0_3.rect ⟨(i 2).val / 528, ht⟩)).set
  rw [View.set_slice_whole, Rect.mem_set_unit]
  have q0 : win0_3.index ⟨(i 2).val / 528, ht⟩ (0 : Fin 4) = 0 := congrFun i3 0
  have q1 : win0_3.index ⟨(i 2).val / 528, ht⟩ (1 : Fin 4) = 0 := congrFun i3 1
  have q2 : win0_3.index ⟨(i 2).val / 528, ht⟩ (2 : Fin 4) = (i 2).val / 528 := congrFun i3 2
  have q3 : win0_3.index ⟨(i 2).val / 528, ht⟩ (3 : Fin 4) = 0 := congrFun i3 3
  intro a
  match a with
  | ⟨0, _⟩ => show win0_3.index ⟨(i 2).val / 528, ht⟩ (0 : Fin 4) * 2 ≤ (i 0).val ∧ (i 0).val < win0_3.index ⟨(i 2).val / 528, ht⟩ (0 : Fin 4) * 2 + 2; omega
  | ⟨1, _⟩ => show win0_3.index ⟨(i 2).val / 528, ht⟩ (1 : Fin 4) * 4 ≤ (i 1).val ∧ (i 1).val < win0_3.index ⟨(i 2).val / 528, ht⟩ (1 : Fin 4) * 4 + 4; omega
  | ⟨2, _⟩ => show win0_3.index ⟨(i 2).val / 528, ht⟩ (2 : Fin 4) * 528 ≤ (i 2).val ∧ (i 2).val < win0_3.index ⟨(i 2).val / 528, ht⟩ (2 : Fin 4) * 528 + 528; omega
  | ⟨3, _⟩ => show win0_3.index ⟨(i 2).val / 528, ht⟩ (3 : Fin 4) * 704 ≤ (i 3).val ∧ (i 3).val < win0_3.index ⟨(i 2).val / 528, ht⟩ (3 : Fin 4) * 704 + 704; omega

/-- What the result array ends with. -/
theorem final (c : Dev nD) : (dats m 0 c).arrAt 3 cfg0.N = G3 m c :=
  (dats m 0 c).arrAt_eq_of_cover 3 _ (fun t _ => flushed_eq m c t) covered

/-- The gate's gradient as the derivative of the reference's lines writes it, on finite numbers. -/
theorem dgate_eq (a g u : ℝ) : (a : EReal) * u * Ideal.logistic g + g * (a * u) * (Ideal.logistic g * (1 - Ideal.logistic g)) = dgate a g u := by
  unfold dgate
  rw [Ideal.logistic_coe]
  rw [← EReal.coe_one]
  simp only [← EReal.coe_mul, ← EReal.coe_add, ← EReal.coe_sub]
  congr 1
  ring

/-- A finite sum of finite products is finite. -/
theorem sum_real {n : Nat} (f g : Fin n → EReal) (hf : ∀ k, ∃ r : ℝ, f k = r) (hg : ∀ k, ∃ r : ℝ, g k = r) : ∃ r : ℝ, ∑ k, f k * g k = r := by
  choose p hp using hf
  choose q hq using hg
  refine ⟨∑ k, p k * q k, ?_⟩
  simp only [hp, hq, ← EReal.coe_mul]
  exact (map_sum (⟨⟨fun x : ℝ => (x : EReal), EReal.coe_zero⟩, EReal.coe_add⟩ : ℝ →+ EReal) (fun k => p k * q k) Finset.univ).symm

/-- A number whose absolute value is under infinity is a real. -/
theorem real_of (x : EReal) (h : Ideal.cmp .olt (max x (-x)) ⊤ = 1#1) : ∃ r : ℝ, x = r := by
  induction x with
  | bot => simp [Ideal.cmp] at h
  | top => simp [Ideal.cmp] at h
  | coe r => exact ⟨r, rfl⟩

open Cert.Pre_finite4 in
/-- What the precondition says of each element. -/
theorem finite [Cert.Pre_finite4.Facts] (a : Vec Ideal S8448x1024 .bf16) (b : Vec Ideal S4x704x1024 .bf16) (d : Vec Ideal S2x4x8448x704 .bf16)
    (h : fn (F := Ideal) a b d = fun _ => 1#1) :
    (∀ i, ∃ r : ℝ, (a i : EReal) = r) ∧ (∀ i, ∃ r : ℝ, (b i : EReal) = r) ∧ (∀ i, ∃ r : ℝ, (d i : EReal) = r) := by
  have e := congrFun h (fun x => x.elim0)
  unfold fn at e
  dsimp only at e
  obtain ⟨e, e3⟩ := IntOp.andi_eq_one.mp e
  obtain ⟨e1, e2⟩ := IntOp.andi_eq_one.mp e
  haveI : Subsingleton Cert.Pre_finite4.S_.Idx := ⟨fun p q => funext fun x => x.elim0⟩
  refine ⟨fun i => real_of _ ?_, fun i => real_of _ ?_, fun i => real_of _ ?_⟩
  · have q := Host.reduce_andi_all _ _ _ _ _ e1 i
    exact q
  · have q := Host.reduce_andi_all _ _ _ _ _ e2 i
    exact q
  · have q := Host.reduce_andi_all _ _ _ _ _ e3 i
    exact q

open Cert.Reference4Ideal.Read in
/-- The result is the reference's, as the reference's run states it, on finite arguments. -/
theorem final_eq [Cert.Pre_finite4.Facts] (c : Dev nD) (a : (⟨S8448x1024, .bf16⟩ : BufTy).Contents (Elt Ideal)) (b : (⟨S4x704x1024, .bf16⟩ : BufTy).Contents (Elt Ideal))
    (d : (⟨S2x4x8448x704, .bf16⟩ : BufTy).Contents (Elt Ideal)) (ha : a = m ((c : Thread nD τ).loc main_arg0)) (hb : b = m ((c : Thread nD τ).loc main_arg1))
    (hd : d = m ((c : Thread nD τ).loc main_arg2)) (h : Cert.Pre_finite4.fn (F := Ideal) a b d = fun _ => 1#1) :
    val_main_v27 (F := Ideal) a b d = (dats m 0 c).arrAt 3 cfg0.N := by
  rw [final]
  obtain ⟨fa, fb, fd⟩ := finite a b d h
  funext i
  obtain ⟨p, hp⟩ := sum_real (fun k : Fin 1024 => (a (ix2 (i 2) k) : EReal)) (fun k : Fin 1024 => (b (ix3 (i 1) (i 3) k) : EReal)) (fun _ => fa _) (fun _ => fb _)
  obtain ⟨g, hg⟩ := fd (ix4 0 (i 1) (i 2) (i 3))
  obtain ⟨u, hu⟩ := fd (ix4 1 (i 1) (i 2) (i 3))
  have hi : (i 0).val < 2 := (i 0).isLt
  subst ha hb hd
  unfold G3
  dsimp only at hp ⊢
  pointwise [val_main_call1_v2, val_main_call1_v1, val_main_call1_v0, val_main_call0_v7, val_main_call0_v6, val_main_call0_v4, val_main_call0_v3, val_main_call0_v2, val_main_call0_v1, val_main_call0_v0, val_main_call0_cst_1, val_main_call0_cst_0, val_main_call0_cst, val_main_v12_0, val_main_v12_1, val_main_v12_2, val_main_v27, val_main_v26, val_main_v25, val_main_v24, val_main_v23, val_main_v22, val_main_v21, val_main_v20, val_main_v19, val_main_v18, val_main_v17, val_main_v16, val_main_v15, val_main_v11, val_main_v10, val_main_v9, val_main_v8, val_main_v7, val_main_v6, val_main_v5, val_main_v4, val_main_v3, val_main_v2, val_main_v1, val_main_v0]
  rw [hp, hg, hu]
  by_cases h0 : (i 0).val = 0
  · rw [dif_pos (by omega), if_pos h0]
    exact dgate_eq p g u
  · rw [dif_neg (by omega), if_neg h0]
    exact mul_comm _ _

end Cert.Kernel4Ideal.Da

end
-- ==== Proof.UpValue.lean ====
module

public import proofs.«01_k».proof.Proof.Gen.Kernel5Ideal.Value
public import proofs.«01_k».proof.Proof.Gen.Reference5Ideal.Read
public import Idealize.ShloMosaic.Lib.Pipeline.ReadBack
public import Idealize.ShloMosaic.Lib.Pipeline.ValueKit

/-! The feed-forward's first product: what each grid point of the kernel leaves in its blocks of 528 tokens (the modulated
    rows, the gate and the up halves, the activations), at the ideal instance, and the reference's values beside them. -/

@[expose] public section

set_option maxHeartbeats 1000000

noncomputable section

namespace Cert.Kernel5Ideal.Up

open Cert.Kernel5Ideal Cert.Kernel5Ideal.Gen Idealize.ShloMosaic Idealize.ShloMosaic.TcCoe Idealize.SL.Sem
open Idealize.ShloMosaic.Tactic

/-- A token's row `f` normalised, scaled by `g` and modulated by the scale `s` and the shift `h`. -/
def norm (f : Fin 1024 → EReal) (j : Fin 1024) (g s h : EReal) : EReal :=
  f j * Ideal.rsqrt (Ideal.div (∑ k : Fin 1024, f k * f k) (Ideal.ofBits .f32 1149239296#32) + Ideal.ofBits .f32 897988541#32) * g * (1 + s) + h

/-- The kind of a token: 1 for the context's, 0 for the latent's. -/
def kind (n : ℕ) : Fin 2 := if 8192 ≤ n then 1 else 0

/-- The gated activation. -/
def act (a b : EReal) : EReal := a * Ideal.logistic a * b

/-- A block's modulated rows at point `t`. -/
def H (t : ℕ) (x0 : Vec Ideal S528x1024 .f32) (x1 : Vec Ideal S1x1024 .f32) (x2 : Vec Ideal S2x9x1024 .f32) : Vec Ideal S528x1024 .bf16 :=
  fun i => norm (fun k => x0 (ix2 (i 0) k)) (i 1) (x1 (ix2 0 (i 1))) (x2 (ix3 (kind (t * 528 + (i 0).val)) 1 (i 1))) (x2 (ix3 (kind (t * 528 + (i 0).val)) 0 (i 1)))

/-- A block's rows times one channel of one group of one half of `w_ffn_gate_up`. -/
def dot (h : Vec Ideal S528x1024 .bf16) (x3 : Vec Ideal S2x4x1024x704 .bf16) (s : Fin 2) (g : Fin 4) (r : Fin 528) (j : Fin 704) : EReal :=
  ∑ k : Fin 1024, h (ix2 r k) * x3 (ix4 s g k j)

/-- The block of the gate and the up halves. -/
def GU (h : Vec Ideal S528x1024 .bf16) (x3 : Vec Ideal S2x4x1024x704 .bf16) : Vec Ideal S2x4x528x704 .bf16 :=
  fun i => dot h x3 (i 0) (i 1) (i 2) (i 3)

/-- The block of the activations. -/
def AC (h : Vec Ideal S528x1024 .bf16) (x3 : Vec Ideal S2x4x1024x704 .bf16) : Vec Ideal S4x528x704 .bf16 :=
  fun i => act (dot h x3 0 (i 0) (i 1) (i 2)) (dot h x3 1 (i 0) (i 1) (i 2))

theorem rowsA (x : Vec Ideal S528x1024 .f32) (g : Vec Ideal S1x1024 .f32) (s h : Vec Ideal S1x1x1024 .f32) (j : S528x1024.Idx) :
    (k0_pay7 (F := Ideal) x g s h j : EReal) = norm (fun k => x (ix2 (j 0) k)) (j 1) (g (ix2 0 (j 1))) (s (ix3 0 0 (j 1))) (h (ix3 0 0 (j 1))) := by
  unfold norm
  pointwise [k0_pay7]

/-- The last point's test of a token: the context's begin at its row 272. -/
theorem ctx : ∀ r : Fin 528, IntOp.cmpi .sge (IntOp.addi (Scalar.muli (BitVec.ofNat 32 15) 528#32) (BitVec.ofNat 32 r.val)) 8192#32
    = if 8192 ≤ 15 * 528 + r.val then 1#1 else 0#1 := by
  decide +kernel

theorem rowsB (x : Vec Ideal S528x1024 .f32) (g : Vec Ideal S1x1024 .f32) (s s' h h' : Vec Ideal S1x1x1024 .f32) (j : S528x1024.Idx) :
    (k0_pay8 (F := Ideal) (k0_pay3 (BitVec.ofNat 32 15)) (k0_pay4 (BitVec.ofNat 32 15) x g s s') (k0_pay5 h) (k0_pay6 h') j : EReal)
      = norm (fun k => x (ix2 (j 0) k)) (j 1) (g (ix2 0 (j 1))) (if 8192 ≤ 15 * 528 + (j 0).val then s (ix3 0 0 (j 1)) else s' (ix3 0 0 (j 1)))
          (if 8192 ≤ 15 * 528 + (j 0).val then h (ix3 0 0 (j 1)) else h' (ix3 0 0 (j 1))) := by
  unfold norm
  have e := ctx (j 0)
  pointwise [k0_pay3, k0_pay4, k0_pay5, k0_pay6, k0_pay8]
  rw [e]
  by_cases hc : 8192 ≤ 15 * 528 + (j 0).val
  · rw [if_pos hc, if_pos (by omega), if_pos (by omega)]; rfl
  · rw [if_neg hc, if_neg (by omega), if_neg (by omega)]; rfl

theorem mod00 (x2 : Vec Ideal S2x9x1024 .f32) (j : Fin 1024) : ((View.ld x2 (Rect.unit (s := S2x9x1024) ![0, 0, 0] S1x1x1024.size inb_S2x9x1024_S1x1x1024_0_0_0)) (ix3 0 0 j) : EReal) = x2 (ix3 0 0 j) := by
  pointwise [View.ld]

theorem mod01 (x2 : Vec Ideal S2x9x1024 .f32) (j : Fin 1024) : ((View.ld x2 (Rect.unit (s := S2x9x1024) ![0, 1, 0] S1x1x1024.size inb_S2x9x1024_S1x1x1024_0_1_0)) (ix3 0 0 j) : EReal) = x2 (ix3 0 1 j) := by
  pointwise [View.ld]

theorem mod10 (x2 : Vec Ideal S2x9x1024 .f32) (j : Fin 1024) : ((View.ld x2 (Rect.unit (s := S2x9x1024) ![1, 0, 0] S1x1x1024.size inb_S2x9x1024_S1x1x1024_1_0_0)) (ix3 0 0 j) : EReal) = x2 (ix3 1 0 j) := by
  pointwise [View.ld]

theorem mod11 (x2 : Vec Ideal S2x9x1024 .f32) (j : Fin 1024) : ((View.ld x2 (Rect.unit (s := S2x9x1024) ![1, 1, 0] S1x1x1024.size inb_S2x9x1024_S1x1x1024_1_1_0)) (ix3 0 0 j) : EReal) = x2 (ix3 1 1 j) := by
  pointwise [View.ld]

/-- The modulated rows of a block whose tokens are all the latent's. -/
theorem hA (t : ℕ) (ht : t < 15) (x0 : Vec Ideal S528x1024 .f32) (x1 : Vec Ideal S1x1024 .f32) (x2 : Vec Ideal S2x9x1024 .f32) :
    k0_pay7 (F := Ideal) x0 x1 (View.ld x2 (Rect.unit (s := S2x9x1024) ![0, 1, 0] S1x1x1024.size inb_S2x9x1024_S1x1x1024_0_1_0)) (View.ld x2 (Rect.unit (s := S2x9x1024) ![0, 0, 0] S1x1x1024.size inb_S2x9x1024_S1x1x1024_0_0_0)) = H t x0 x1 x2 := by
  funext j
  have hj : (j 0).val < 528 := (j 0).isLt
  have hk : kind (t * 528 + (j 0).val) = 0 := if_neg (by omega)
  refine (rowsA x0 x1 _ _ j).trans ?_
  unfold H
  rw [hk]
  exact congrArg₂ (norm _ _ _) (mod01 x2 (j 1)) (mod00 x2 (j 1))

/-- The modulated rows of the last block, which holds the context's tokens. -/
theorem hB (x0 : Vec Ideal S528x1024 .f32) (x1 : Vec Ideal S1x1024 .f32) (x2 : Vec Ideal S2x9x1024 .f32) :
    k0_pay8 (F := Ideal) (k0_pay3 (BitVec.ofNat 32 15)) (k0_pay4 (BitVec.ofNat 32 15) x0 x1 (View.ld x2 (Rect.unit (s := S2x9x1024) ![1, 1, 0] S1x1x1024.size inb_S2x9x1024_S1x1x1024_1_1_0)) (View.ld x2 (Rect.unit (s := S2x9x1024) ![0, 1, 0] S1x1x1024.size inb_S2x9x1024_S1x1x1024_0_1_0))) (k0_pay5 (View.ld x2 (Rect.unit (s := S2x9x1024) ![1, 0, 0] S1x1x1024.size inb_S2x9x1024_S1x1x1024_1_0_0))) (k0_pay6 (View.ld x2 (Rect.unit (s := S2x9x1024) ![0, 0, 0] S1x1x1024.size inb_S2x9x1024_S1x1x1024_0_0_0))) = H 15 x0 x1 x2 := by
  funext j
  refine (rowsB x0 x1 _ _ _ _ j).trans ?_
  unfold H
  by_cases hc : 8192 ≤ 15 * 528 + (j 0).val
  · rw [show kind (15 * 528 + (j 0).val) = 1 from if_pos hc, if_pos hc, if_pos hc]
    exact congrArg₂ (norm _ _ _) (mod11 x2 (j 1)) (mod10 x2 (j 1))
  · rw [show kind (15 * 528 + (j 0).val) = 0 from if_neg hc, if_neg hc, if_neg hc]
    exact congrArg₂ (norm _ _ _) (mod01 x2 (j 1)) (mod00 x2 (j 1))

theorem half13 (h : Vec Ideal S528x1024 .bf16) (w : Vec Ideal S1x1x1024x704 .bf16) (j : S1x1x528x704.Idx) :
    (k0_pay1 (F := Ideal) (k0_pay29 (k0_pay9 h) w) j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay1, k0_pay29, k0_pay27, k0_pay9]

theorem piece13 (h : Vec Ideal S528x1024 .bf16) (x3 : Vec Ideal S2x4x1024x704 .bf16) (j : S1x1x528x704.Idx) :
    (k0_pay1 (F := Ideal) (k0_pay29 (k0_pay9 h) (View.ld x3 (Rect.unit (s := S2x4x1024x704) ![1, 3, 0, 0] S1x1x1024x704.size inb_S2x4x1024x704_S1x1x1024x704_1_3_0_0))) j : EReal)
      = GU h x3 ((Rect.unit (s := S2x4x528x704) ![1, 3, 0, 0] S1x1x528x704.size inb_S2x4x528x704_S1x1x528x704_1_3_0_0).emb j) := by
  have h0 : (j 0).val = 0 := by have q : (j 0).val < 1 := (j 0).isLt; omega
  have h1 : (j 1).val = 0 := by have q : (j 1).val < 1 := (j 1).isLt; omega
  rw [half13]
  unfold GU dot
  pointwise [View.ld]
  blk_point []

theorem half03 (h : Vec Ideal S528x1024 .bf16) (w : Vec Ideal S1x1x1024x704 .bf16) (j : S1x1x528x704.Idx) :
    (k0_pay28 (F := Ideal) (k0_pay9 h) w j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay28, k0_pay26, k0_pay9]

theorem piece03 (h : Vec Ideal S528x1024 .bf16) (x3 : Vec Ideal S2x4x1024x704 .bf16) (j : S1x1x528x704.Idx) :
    (k0_pay28 (F := Ideal) (k0_pay9 h) (View.ld x3 (Rect.unit (s := S2x4x1024x704) ![0, 3, 0, 0] S1x1x1024x704.size inb_S2x4x1024x704_S1x1x1024x704_0_3_0_0)) j : EReal)
      = GU h x3 ((Rect.unit (s := S2x4x528x704) ![0, 3, 0, 0] S1x1x528x704.size inb_S2x4x528x704_S1x1x528x704_0_3_0_0).emb j) := by
  have h0 : (j 0).val = 0 := by have q : (j 0).val < 1 := (j 0).isLt; omega
  have h1 : (j 1).val = 0 := by have q : (j 1).val < 1 := (j 1).isLt; omega
  rw [half03]
  unfold GU dot
  pointwise [View.ld]
  blk_point []

theorem half12 (h : Vec Ideal S528x1024 .bf16) (w : Vec Ideal S1x1x1024x704 .bf16) (j : S1x1x528x704.Idx) :
    (k0_pay24 (F := Ideal) (k0_pay9 h) w j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay24, k0_pay22, k0_pay9]

theorem piece12 (h : Vec Ideal S528x1024 .bf16) (x3 : Vec Ideal S2x4x1024x704 .bf16) (j : S1x1x528x704.Idx) :
    (k0_pay24 (F := Ideal) (k0_pay9 h) (View.ld x3 (Rect.unit (s := S2x4x1024x704) ![1, 2, 0, 0] S1x1x1024x704.size inb_S2x4x1024x704_S1x1x1024x704_1_2_0_0)) j : EReal)
      = GU h x3 ((Rect.unit (s := S2x4x528x704) ![1, 2, 0, 0] S1x1x528x704.size inb_S2x4x528x704_S1x1x528x704_1_2_0_0).emb j) := by
  have h0 : (j 0).val = 0 := by have q : (j 0).val < 1 := (j 0).isLt; omega
  have h1 : (j 1).val = 0 := by have q : (j 1).val < 1 := (j 1).isLt; omega
  rw [half12]
  unfold GU dot
  pointwise [View.ld]
  blk_point []

theorem half02 (h : Vec Ideal S528x1024 .bf16) (w : Vec Ideal S1x1x1024x704 .bf16) (j : S1x1x528x704.Idx) :
    (k0_pay23 (F := Ideal) (k0_pay21 (k0_pay9 h) w) j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay23, k0_pay21, k0_pay9]

theorem piece02 (h : Vec Ideal S528x1024 .bf16) (x3 : Vec Ideal S2x4x1024x704 .bf16) (j : S1x1x528x704.Idx) :
    (k0_pay23 (F := Ideal) (k0_pay21 (k0_pay9 h) (View.ld x3 (Rect.unit (s := S2x4x1024x704) ![0, 2, 0, 0] S1x1x1024x704.size inb_S2x4x1024x704_S1x1x1024x704_0_2_0_0))) j : EReal)
      = GU h x3 ((Rect.unit (s := S2x4x528x704) ![0, 2, 0, 0] S1x1x528x704.size inb_S2x4x528x704_S1x1x528x704_0_2_0_0).emb j) := by
  have h0 : (j 0).val = 0 := by have q : (j 0).val < 1 := (j 0).isLt; omega
  have h1 : (j 1).val = 0 := by have q : (j 1).val < 1 := (j 1).isLt; omega
  rw [half02]
  unfold GU dot
  pointwise [View.ld]
  blk_point []

theorem half11 (h : Vec Ideal S528x1024 .bf16) (w : Vec Ideal S1x1x1024x704 .bf16) (j : S1x1x528x704.Idx) :
    (k0_pay19 (F := Ideal) (k0_pay9 h) w j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay19, k0_pay17, k0_pay9]

theorem piece11 (h : Vec Ideal S528x1024 .bf16) (x3 : Vec Ideal S2x4x1024x704 .bf16) (j : S1x1x528x704.Idx) :
    (k0_pay19 (F := Ideal) (k0_pay9 h) (View.ld x3 (Rect.unit (s := S2x4x1024x704) ![1, 1, 0, 0] S1x1x1024x704.size inb_S2x4x1024x704_S1x1x1024x704_1_1_0_0)) j : EReal)
      = GU h x3 ((Rect.unit (s := S2x4x528x704) ![1, 1, 0, 0] S1x1x528x704.size inb_S2x4x528x704_S1x1x528x704_1_1_0_0).emb j) := by
  have h0 : (j 0).val = 0 := by have q : (j 0).val < 1 := (j 0).isLt; omega
  have h1 : (j 1).val = 0 := by have q : (j 1).val < 1 := (j 1).isLt; omega
  rw [half11]
  unfold GU dot
  pointwise [View.ld]
  blk_point []

theorem half01 (h : Vec Ideal S528x1024 .bf16) (w : Vec Ideal S1x1x1024x704 .bf16) (j : S1x1x528x704.Idx) :
    (k0_pay18 (F := Ideal) (k0_pay9 h) w j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay18, k0_pay16, k0_pay9]

theorem piece01 (h : Vec Ideal S528x1024 .bf16) (x3 : Vec Ideal S2x4x1024x704 .bf16) (j : S1x1x528x704.Idx) :
    (k0_pay18 (F := Ideal) (k0_pay9 h) (View.ld x3 (Rect.unit (s := S2x4x1024x704) ![0, 1, 0, 0] S1x1x1024x704.size inb_S2x4x1024x704_S1x1x1024x704_0_1_0_0)) j : EReal)
      = GU h x3 ((Rect.unit (s := S2x4x528x704) ![0, 1, 0, 0] S1x1x528x704.size inb_S2x4x528x704_S1x1x528x704_0_1_0_0).emb j) := by
  have h0 : (j 0).val = 0 := by have q : (j 0).val < 1 := (j 0).isLt; omega
  have h1 : (j 1).val = 0 := by have q : (j 1).val < 1 := (j 1).isLt; omega
  rw [half01]
  unfold GU dot
  pointwise [View.ld]
  blk_point []

theorem half10 (h : Vec Ideal S528x1024 .bf16) (w : Vec Ideal S1x1x1024x704 .bf16) (j : S1x1x528x704.Idx) :
    (k0_pay13 (F := Ideal) h w j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay13, k0_pay11, k0_pay9]

theorem piece10 (h : Vec Ideal S528x1024 .bf16) (x3 : Vec Ideal S2x4x1024x704 .bf16) (j : S1x1x528x704.Idx) :
    (k0_pay13 (F := Ideal) h (View.ld x3 (Rect.unit (s := S2x4x1024x704) ![1, 0, 0, 0] S1x1x1024x704.size inb_S2x4x1024x704_S1x1x1024x704_1_0_0_0)) j : EReal)
      = GU h x3 ((Rect.unit (s := S2x4x528x704) ![1, 0, 0, 0] S1x1x528x704.size inb_S2x4x528x704_S1x1x528x704_1_0_0_0).emb j) := by
  have h0 : (j 0).val = 0 := by have q : (j 0).val < 1 := (j 0).isLt; omega
  have h1 : (j 1).val = 0 := by have q : (j 1).val < 1 := (j 1).isLt; omega
  rw [half10]
  unfold GU dot
  pointwise [View.ld]
  blk_point []

theorem half00 (h : Vec Ideal S528x1024 .bf16) (w : Vec Ideal S1x1x1024x704 .bf16) (j : S1x1x528x704.Idx) :
    (k0_pay12 (F := Ideal) h w j : EReal) = ∑ k : Fin 1024, h (ix2 (j 2) k) * w (ix4 0 0 k (j 3)) := by
  have h0 : (j 0).val = 0 := by have q : (j 0).val < 1 := (j 0).isLt; omega
  have h1 : (j 1).val = 0 := by have q : (j 1).val < 1 := (j 1).isLt; omega
  pointwise [k0_pay12, k0_pay10, k0_pay9]

theorem piece00 (h : Vec Ideal S528x1024 .bf16) (x3 : Vec Ideal S2x4x1024x704 .bf16) (j : S1x1x528x704.Idx) :
    (k0_pay12 (F := Ideal) h (View.ld x3 (Rect.unit (s := S2x4x1024x704) ![0, 0, 0, 0] S1x1x1024x704.size inb_S2x4x1024x704_S1x1x1024x704_0_0_0_0)) j : EReal)
      = GU h x3 ((Rect.unit (s := S2x4x528x704) ![0, 0, 0, 0] S1x1x528x704.size inb_S2x4x528x704_S1x1x528x704_0_0_0_0).emb j) := by
  have h0 : (j 0).val = 0 := by have q : (j 0).val < 1 := (j 0).isLt; omega
  have h1 : (j 1).val = 0 := by have q : (j 1).val < 1 := (j 1).isLt; omega
  rw [half00]
  unfold GU dot
  pointwise [View.ld]
  blk_point []

theorem acth3 (h : Vec Ideal S528x1024 .bf16) (w u : Vec Ideal S1x1x1024x704 .bf16) (j : S1x528x704.Idx) :
    (k0_pay2 (F := Ideal) (k0_pay26 (k0_pay9 h) w) (k0_pay27 (k0_pay9 h) u) j : EReal)
      = act (∑ k : Fin 1024, h (ix2 (j 1) k) * w (ix4 0 0 k (j 2))) (∑ k : Fin 1024, h (ix2 (j 1) k) * u (ix4 0 0 k (j 2))) := by
  have h0 : (j 0).val = 0 := by have q : (j 0).val < 1 := (j 0).isLt; omega
  unfold act
  pointwise [k0_pay2, k0_pay26, k0_pay27, k0_pay9]

theorem apiece3 (h : Vec Ideal S528x1024 .bf16) (x3 : Vec Ideal S2x4x1024x704 .bf16) (j : S1x528x704.Idx) :
    (k0_pay2 (F := Ideal) (k0_pay26 (k0_pay9 h) (View.ld x3 (Rect.unit (s := S2x4x1024x704) ![0, 3, 0, 0] S1x1x1024x704.size inb_S2x4x1024x704_S1x1x1024x704_0_3_0_0))) (k0_pay27 (k0_pay9 h) (View.ld x3 (Rect.unit (s := S2x4x1024x704) ![1, 3, 0, 0] S1x1x1024x704.size inb_S2x4x1024x704_S1x1x1024x704_1_3_0_0))) j : EReal)
      = AC h x3 ((Rect.unit (s := S4x528x704) ![3, 0, 0] S1x528x704.size inb_S4x528x704_S1x528x704_3_0_0).emb j) := by
  have h0 : (j 0).val = 0 := by have q : (j 0).val < 1 := (j 0).isLt; omega
  rw [acth3]
  unfold AC dot
  pointwise [View.ld]
  blk_point []

theorem acth2 (h : Vec Ideal S528x1024 .bf16) (w u : Vec Ideal S1x1x1024x704 .bf16) (j : S1x528x704.Idx) :
    (k0_pay25 (F := Ideal) (k0_pay9 h) (k0_pay21 (k0_pay9 h) w) u j : EReal)
      = act (∑ k : Fin 1024, h (ix2 (j 1) k) * w (ix4 0 0 k (j 2))) (∑ k : Fin 1024, h (ix2 (j 1) k) * u (ix4 0 0 k (j 2))) := by
  have h0 : (j 0).val = 0 := by have q : (j 0).val < 1 := (j 0).isLt; omega
  unfold act
  pointwise [k0_pay25, k0_pay21, k0_pay22, k0_pay9]

theorem apiece2 (h : Vec Ideal S528x1024 .bf16) (x3 : Vec Ideal S2x4x1024x704 .bf16) (j : S1x528x704.Idx) :
    (k0_pay25 (F := Ideal) (k0_pay9 h) (k0_pay21 (k0_pay9 h) (View.ld x3 (Rect.unit (s := S2x4x1024x704) ![0, 2, 0, 0] S1x1x1024x704.size inb_S2x4x1024x704_S1x1x1024x704_0_2_0_0))) (View.ld x3 (Rect.unit (s := S2x4x1024x704) ![1, 2, 0, 0] S1x1x1024x704.size inb_S2x4x1024x704_S1x1x1024x704_1_2_0_0)) j : EReal)
      = AC h x3 ((Rect.unit (s := S4x528x704) ![2, 0, 0] S1x528x704.size inb_S4x528x704_S1x528x704_2_0_0).emb j) := by
  have h0 : (j 0).val = 0 := by have q : (j 0).val < 1 := (j 0).isLt; omega
  rw [acth2]
  unfold AC dot
  pointwise [View.ld]
  blk_point []

theorem acth1 (h : Vec Ideal S528x1024 .bf16) (w u : Vec Ideal S1x1x1024x704 .bf16) (j : S1x528x704.Idx) :
    (k0_pay20 (F := Ideal) (k0_pay9 h) w u j : EReal)
      = act (∑ k : Fin 1024, h (ix2 (j 1) k) * w (ix4 0 0 k (j 2))) (∑ k : Fin 1024, h (ix2 (j 1) k) * u (ix4 0 0 k (j 2))) := by
  have h0 : (j 0).val = 0 := by have q : (j 0).val < 1 := (j 0).isLt; omega
  unfold act
  pointwise [k0_pay20, k0_pay16, k0_pay17, k0_pay9]

theorem apiece1 (h : Vec Ideal S528x1024 .bf16) (x3 : Vec Ideal S2x4x1024x704 .bf16) (j : S1x528x704.Idx) :
    (k0_pay20 (F := Ideal) (k0_pay9 h) (View.ld x3 (Rect.unit (s := S2x4x1024x704) ![0, 1, 0, 0] S1x1x1024x704.size inb_S2x4x1024x704_S1x1x1024x704_0_1_0_0)) (View.ld x3 (Rect.unit (s := S2x4x1024x704) ![1, 1, 0, 0] S1x1x1024x704.size inb_S2x4x1024x704_S1x1x1024x704_1_1_0_0)) j : EReal)
      = AC h x3 ((Rect.unit (s := S4x528x704) ![1, 0, 0] S1x528x704.size inb_S4x528x704_S1x528x704_1_0_0).emb j) := by
  have h0 : (j 0).val = 0 := by have q : (j 0).val < 1 := (j 0).isLt; omega
  rw [acth1]
  unfold AC dot
  pointwise [View.ld]
  blk_point []

theorem acth0 (h : Vec Ideal S528x1024 .bf16) (w u : Vec Ideal S1x1x1024x704 .bf16) (j : S1x528x704.Idx) :
    (k0_pay15 (F := Ideal) (k0_pay14 h w u) j : EReal)
      = act (∑ k : Fin 1024, h (ix2 (j 1) k) * w (ix4 0 0 k (j 2))) (∑ k : Fin 1024, h (ix2 (j 1) k) * u (ix4 0 0 k (j 2))) := by
  have h0 : (j 0).val = 0 := by have q : (j 0).val < 1 := (j 0).isLt; omega
  unfold act
  pointwise [k0_pay15, k0_pay14, k0_pay10, k0_pay11, k0_pay9]

theorem apiece0 (h : Vec Ideal S528x1024 .bf16) (x3 : Vec Ideal S2x4x1024x704 .bf16) (j : S1x528x704.Idx) :
    (k0_pay15 (F := Ideal) (k0_pay14 h (View.ld x3 (Rect.unit (s := S2x4x1024x704) ![0, 0, 0, 0] S1x1x1024x704.size inb_S2x4x1024x704_S1x1x1024x704_0_0_0_0)) (View.ld x3 (Rect.unit (s := S2x4x1024x704) ![1, 0, 0, 0] S1x1x1024x704.size inb_S2x4x1024x704_S1x1x1024x704_1_0_0_0))) j : EReal)
      = AC h x3 ((Rect.unit (s := S4x528x704) ![0, 0, 0] S1x528x704.size inb_S4x528x704_S1x528x704_0_0_0).emb j) := by
  have h0 : (j 0).val = 0 := by have q : (j 0).val < 1 := (j 0).isLt; omega
  rw [acth0]
  unfold AC dot
  pointwise [View.ld]
  blk_point []

theorem outA4 (c : Dev nD) (i : grid0.Coords) (arg1 : Memref sig .tc .vmem S528x1024 .f32) (harg1 : arg1.IsWhole) (arg2 : Memref sig .tc .vmem S1x1024 .f32) (harg2 : arg2.IsWhole) (arg3 : Memref sig .tc .vmem S2x9x1024 .f32) (harg3 : arg3.IsWhole) (arg4 : Memref sig .tc .vmem S2x4x1024x704 .bf16) (harg4 : arg4.IsWhole) (arg5 : Memref sig .tc .vmem S528x1024 .bf16) (harg5 : arg5.IsWhole) (arg6 : Memref sig .tc .vmem S2x4x528x704 .bf16) (harg6 : arg6.IsWhole) (arg7 : Memref sig .tc .vmem S4x528x704 .bf16) (harg7 : arg7.IsWhole) (hc0 : cond0_0 i) (hc1 : ¬cond0_1 i)
    (x0 : Vec Ideal S528x1024 .f32) (x1 : Vec Ideal S1x1024 .f32) (x2 : Vec Ideal S2x9x1024 .f32) (x3 : Vec Ideal S2x4x1024x704 .bf16) (t : ℕ) (ht : t < 15) :
    out0_A_4 c i arg1 harg1 arg2 harg2 arg3 harg3 arg4 harg4 arg5 harg5 arg6 harg6 arg7 harg7 hc0 hc1 x0 x1 x2 x3 = H t x0 x1 x2 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  exact hA t ht x0 x1 x2

theorem outA5 (c : Dev nD) (i : grid0.Coords) (arg1 : Memref sig .tc .vmem S528x1024 .f32) (harg1 : arg1.IsWhole) (arg2 : Memref sig .tc .vmem S1x1024 .f32) (harg2 : arg2.IsWhole) (arg3 : Memref sig .tc .vmem S2x9x1024 .f32) (harg3 : arg3.IsWhole) (arg4 : Memref sig .tc .vmem S2x4x1024x704 .bf16) (harg4 : arg4.IsWhole) (arg5 : Memref sig .tc .vmem S528x1024 .bf16) (harg5 : arg5.IsWhole) (arg6 : Memref sig .tc .vmem S2x4x528x704 .bf16) (harg6 : arg6.IsWhole) (arg7 : Memref sig .tc .vmem S4x528x704 .bf16) (harg7 : arg7.IsWhole) (hc0 : cond0_0 i) (hc1 : ¬cond0_1 i)
    (x0 : Vec Ideal S528x1024 .f32) (x1 : Vec Ideal S1x1024 .f32) (x2 : Vec Ideal S2x9x1024 .f32) (x3 : Vec Ideal S2x4x1024x704 .bf16) (t : ℕ) (ht : t < 15) :
    out0_A_5 c i arg1 harg1 arg2 harg2 arg3 harg3 arg4 harg4 arg5 harg5 arg6 harg6 arg7 harg7 hc0 hc1 x0 x1 x2 x3 = GU (H t x0 x1 x2) x3 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  rw [← hA t ht x0 x1 x2]
  funext y
  exact View.canon_append_of_piecesOf (GU (k0_pay7 (F := Ideal) x0 x1 (View.ld x2 (Rect.unit (s := S2x9x1024) ![0, 1, 0] S1x1x1024.size inb_S2x9x1024_S1x1x1024_0_1_0)) (View.ld x2 (Rect.unit (s := S2x9x1024) ![0, 0, 0] S1x1x1024.size inb_S2x9x1024_S1x1x1024_0_0_0))) x3) [] [_, _, _, _, _, _, _, _]
    ⟨piece13 _ x3, piece03 _ x3, piece12 _ x3, piece02 _ x3, piece11 _ x3, piece01 _ x3, piece10 _ x3, piece00 _ x3, trivial⟩ y
    (View.cover_of_tiledL (s := S2x4x528x704) _ ![1, 1, 528, 704] (by sl_kernel_rfl) y)

theorem outA6 (c : Dev nD) (i : grid0.Coords) (arg1 : Memref sig .tc .vmem S528x1024 .f32) (harg1 : arg1.IsWhole) (arg2 : Memref sig .tc .vmem S1x1024 .f32) (harg2 : arg2.IsWhole) (arg3 : Memref sig .tc .vmem S2x9x1024 .f32) (harg3 : arg3.IsWhole) (arg4 : Memref sig .tc .vmem S2x4x1024x704 .bf16) (harg4 : arg4.IsWhole) (arg5 : Memref sig .tc .vmem S528x1024 .bf16) (harg5 : arg5.IsWhole) (arg6 : Memref sig .tc .vmem S2x4x528x704 .bf16) (harg6 : arg6.IsWhole) (arg7 : Memref sig .tc .vmem S4x528x704 .bf16) (harg7 : arg7.IsWhole) (hc0 : cond0_0 i) (hc1 : ¬cond0_1 i)
    (x0 : Vec Ideal S528x1024 .f32) (x1 : Vec Ideal S1x1024 .f32) (x2 : Vec Ideal S2x9x1024 .f32) (x3 : Vec Ideal S2x4x1024x704 .bf16) (t : ℕ) (ht : t < 15) :
    out0_A_6 c i arg1 harg1 arg2 harg2 arg3 harg3 arg4 harg4 arg5 harg5 arg6 harg6 arg7 harg7 hc0 hc1 x0 x1 x2 x3 = AC (H t x0 x1 x2) x3 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  rw [← hA t ht x0 x1 x2]
  funext y
  exact View.canon_append_of_piecesOf (AC (k0_pay7 (F := Ideal) x0 x1 (View.ld x2 (Rect.unit (s := S2x9x1024) ![0, 1, 0] S1x1x1024.size inb_S2x9x1024_S1x1x1024_0_1_0)) (View.ld x2 (Rect.unit (s := S2x9x1024) ![0, 0, 0] S1x1x1024.size inb_S2x9x1024_S1x1x1024_0_0_0))) x3) [] [_, _, _, _]
    ⟨apiece3 _ x3, apiece2 _ x3, apiece1 _ x3, apiece0 _ x3, trivial⟩ y
    (View.cover_of_tiledL (s := S4x528x704) _ ![1, 528, 704] (by sl_kernel_rfl) y)

theorem outB4 (c : Dev nD) (i : grid0.Coords) (arg1 : Memref sig .tc .vmem S528x1024 .f32) (harg1 : arg1.IsWhole) (arg2 : Memref sig .tc .vmem S1x1024 .f32) (harg2 : arg2.IsWhole) (arg3 : Memref sig .tc .vmem S2x9x1024 .f32) (harg3 : arg3.IsWhole) (arg4 : Memref sig .tc .vmem S2x4x1024x704 .bf16) (harg4 : arg4.IsWhole) (arg5 : Memref sig .tc .vmem S528x1024 .bf16) (harg5 : arg5.IsWhole) (arg6 : Memref sig .tc .vmem S2x4x528x704 .bf16) (harg6 : arg6.IsWhole) (arg7 : Memref sig .tc .vmem S4x528x704 .bf16) (harg7 : arg7.IsWhole) (hc0 : ¬cond0_0 i) (hc1 : cond0_1 i)
    (x0 : Vec Ideal S528x1024 .f32) (x1 : Vec Ideal S1x1024 .f32) (x2 : Vec Ideal S2x9x1024 .f32) (x3 : Vec Ideal S2x4x1024x704 .bf16) (hi : (i 0).val = 15) :
    out0_B_4 c i arg1 harg1 arg2 harg2 arg3 harg3 arg4 harg4 arg5 harg5 arg6 harg6 arg7 harg7 hc0 hc1 x0 x1 x2 x3 = H 15 x0 x1 x2 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  rw [hi]
  exact hB x0 x1 x2

theorem outB5 (c : Dev nD) (i : grid0.Coords) (arg1 : Memref sig .tc .vmem S528x1024 .f32) (harg1 : arg1.IsWhole) (arg2 : Memref sig .tc .vmem S1x1024 .f32) (harg2 : arg2.IsWhole) (arg3 : Memref sig .tc .vmem S2x9x1024 .f32) (harg3 : arg3.IsWhole) (arg4 : Memref sig .tc .vmem S2x4x1024x704 .bf16) (harg4 : arg4.IsWhole) (arg5 : Memref sig .tc .vmem S528x1024 .bf16) (harg5 : arg5.IsWhole) (arg6 : Memref sig .tc .vmem S2x4x528x704 .bf16) (harg6 : arg6.IsWhole) (arg7 : Memref sig .tc .vmem S4x528x704 .bf16) (harg7 : arg7.IsWhole) (hc0 : ¬cond0_0 i) (hc1 : cond0_1 i)
    (x0 : Vec Ideal S528x1024 .f32) (x1 : Vec Ideal S1x1024 .f32) (x2 : Vec Ideal S2x9x1024 .f32) (x3 : Vec Ideal S2x4x1024x704 .bf16) (hi : (i 0).val = 15) :
    out0_B_5 c i arg1 harg1 arg2 harg2 arg3 harg3 arg4 harg4 arg5 harg5 arg6 harg6 arg7 harg7 hc0 hc1 x0 x1 x2 x3 = GU (H 15 x0 x1 x2) x3 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  rw [hi]
  rw [← hB x0 x1 x2]
  funext y
  exact View.canon_append_of_piecesOf (GU (k0_pay8 (F := Ideal) (k0_pay3 (BitVec.ofNat 32 15)) (k0_pay4 (BitVec.ofNat 32 15) x0 x1 (View.ld x2 (Rect.unit (s := S2x9x1024) ![1, 1, 0] S1x1x1024.size inb_S2x9x1024_S1x1x1024_1_1_0)) (View.ld x2 (Rect.unit (s := S2x9x1024) ![0, 1, 0] S1x1x1024.size inb_S2x9x1024_S1x1x1024_0_1_0))) (k0_pay5 (View.ld x2 (Rect.unit (s := S2x9x1024) ![1, 0, 0] S1x1x1024.size inb_S2x9x1024_S1x1x1024_1_0_0))) (k0_pay6 (View.ld x2 (Rect.unit (s := S2x9x1024) ![0, 0, 0] S1x1x1024.size inb_S2x9x1024_S1x1x1024_0_0_0)))) x3) [] [_, _, _, _, _, _, _, _]
    ⟨piece13 _ x3, piece03 _ x3, piece12 _ x3, piece02 _ x3, piece11 _ x3, piece01 _ x3, piece10 _ x3, piece00 _ x3, trivial⟩ y
    (View.cover_of_tiledL (s := S2x4x528x704) _ ![1, 1, 528, 704] (by sl_kernel_rfl) y)

theorem outB6 (c : Dev nD) (i : grid0.Coords) (arg1 : Memref sig .tc .vmem S528x1024 .f32) (harg1 : arg1.IsWhole) (arg2 : Memref sig .tc .vmem S1x1024 .f32) (harg2 : arg2.IsWhole) (arg3 : Memref sig .tc .vmem S2x9x1024 .f32) (harg3 : arg3.IsWhole) (arg4 : Memref sig .tc .vmem S2x4x1024x704 .bf16) (harg4 : arg4.IsWhole) (arg5 : Memref sig .tc .vmem S528x1024 .bf16) (harg5 : arg5.IsWhole) (arg6 : Memref sig .tc .vmem S2x4x528x704 .bf16) (harg6 : arg6.IsWhole) (arg7 : Memref sig .tc .vmem S4x528x704 .bf16) (harg7 : arg7.IsWhole) (hc0 : ¬cond0_0 i) (hc1 : cond0_1 i)
    (x0 : Vec Ideal S528x1024 .f32) (x1 : Vec Ideal S1x1024 .f32) (x2 : Vec Ideal S2x9x1024 .f32) (x3 : Vec Ideal S2x4x1024x704 .bf16) (hi : (i 0).val = 15) :
    out0_B_6 c i arg1 harg1 arg2 harg2 arg3 harg3 arg4 harg4 arg5 harg5 arg6 harg6 arg7 harg7 hc0 hc1 x0 x1 x2 x3 = AC (H 15 x0 x1 x2) x3 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  rw [hi]
  rw [← hB x0 x1 x2]
  funext y
  exact View.canon_append_of_piecesOf (AC (k0_pay8 (F := Ideal) (k0_pay3 (BitVec.ofNat 32 15)) (k0_pay4 (BitVec.ofNat 32 15) x0 x1 (View.ld x2 (Rect.unit (s := S2x9x1024) ![1, 1, 0] S1x1x1024.size inb_S2x9x1024_S1x1x1024_1_1_0)) (View.ld x2 (Rect.unit (s := S2x9x1024) ![0, 1, 0] S1x1x1024.size inb_S2x9x1024_S1x1x1024_0_1_0))) (k0_pay5 (View.ld x2 (Rect.unit (s := S2x9x1024) ![1, 0, 0] S1x1x1024.size inb_S2x9x1024_S1x1x1024_1_0_0))) (k0_pay6 (View.ld x2 (Rect.unit (s := S2x9x1024) ![0, 0, 0] S1x1x1024.size inb_S2x9x1024_S1x1x1024_0_0_0)))) x3) [] [_, _, _, _]
    ⟨apiece3 _ x3, apiece2 _ x3, apiece1 _ x3, apiece0 _ x3, trivial⟩ y
    (View.cover_of_tiledL (s := S4x528x704) _ ![1, 528, 704] (by sl_kernel_rfl) y)

variable (m : (ℓ : Loc nD τ sig) → Buf (Elt Ideal) ℓ)

/-- A token's modulated row, as a function of the argument arrays. -/
def row (c : Dev nD) (r : Fin 8448) (j : Fin 1024) : EReal :=
  norm (fun k => m ((c : Thread nD τ).loc main_arg0) (ix2 r k)) j (m ((c : Thread nD τ).loc main_arg1) (ix2 0 j))
    (m ((c : Thread nD τ).loc main_arg2) (ix3 (kind r.val) 1 j)) (m ((c : Thread nD τ).loc main_arg2) (ix3 (kind r.val) 0 j))

/-- One number of the product. -/
def prod (c : Dev nD) (s : Fin 2) (g : Fin 4) (r : Fin 8448) (j : Fin 704) : EReal :=
  ∑ k : Fin 1024, row m c r k * (show EReal from m ((c : Thread nD τ).loc main_arg3) (ix4 s g k j))

/-- The whole results. -/
def A4 (c : Dev nD) : S8448x1024.Idx → EReal := fun i => row m c (i 0) (i 1)

def A5 (c : Dev nD) : S2x4x8448x704.Idx → EReal := fun i => prod m c (i 0) (i 1) (i 2) (i 3)

def A6 (c : Dev nD) : S4x8448x704.Idx → EReal := fun i => act (prod m c 0 (i 0) (i 1) (i 2)) (prod m c 1 (i 0) (i 1) (i 2))

/-- The windows' block indices at a point. -/
theorem idx : ∀ t : Fin cfg0.N, win0_0.index t = ![t.val, 0] ∧ win0_1.index t = ![0, 0] ∧ win0_2.index t = ![0, 0, 0] ∧ win0_3.index t = ![0, 0, 0, 0] :=
  (by decide +kernel : ∀ t : Fin grid0.N, _)

theorem idx4 : ∀ t : Fin cfg0.N, win0_4.index t = ![t.val, 0] :=
  (by decide +kernel : ∀ t : Fin grid0.N, _)

theorem idx5 : ∀ t : Fin cfg0.N, win0_5.index t = ![0, 0, t.val, 0] :=
  (by decide +kernel : ∀ t : Fin grid0.N, _)

theorem idx6 : ∀ t : Fin cfg0.N, win0_6.index t = ![0, t.val, 0] :=
  (by decide +kernel : ∀ t : Fin grid0.N, _)

/-- The grid's one coordinate is the point. -/
theorem coord : ∀ t : Fin cfg0.N, (grid0.coords t 0).val = t.val :=
  (by decide +kernel : ∀ t : Fin grid0.N, _)

theorem flush4 : ∀ t : Fin cfg0.N, (cfg0.win 4).flush t = true :=
  (by decide +kernel : ∀ t : Fin grid0.N, _)

/-- The blocks fill the array. -/
theorem covered4 (i : S8448x1024.Idx) : ∃ t : Fin cfg0.N, (cfg0.win 4).flush t = true ∧ i ∈ ((cfg0.win 4).blk t).view.set := by
  have h0 : (i 0).val < 8448 := (i 0).isLt
  have h1 : (i 1).val < 1024 := (i 1).isLt
  have hN : cfg0.N = 16 := N_0
  have ht : (i 0).val / 528 < cfg0.N := by omega
  have hi := idx4 ⟨(i 0).val / 528, ht⟩
  refine ⟨⟨(i 0).val / 528, ht⟩, flush4 _, ?_⟩
  show i ∈ ((View.whole main_v0_0).slice (win0_4.rect ⟨(i 0).val / 528, ht⟩)).set
  rw [View.set_slice_whole, Rect.mem_set_unit]
  have q0 : win0_4.index ⟨(i 0).val / 528, ht⟩ (0 : Fin 2) = (i 0).val / 528 := congrFun hi 0
  have q1 : win0_4.index ⟨(i 0).val / 528, ht⟩ (1 : Fin 2) = 0 := congrFun hi 1
  intro a
  match a with
  | ⟨0, _⟩ => show win0_4.index ⟨(i 0).val / 528, ht⟩ (0 : Fin 2) * 528 ≤ (i 0).val ∧ (i 0).val < win0_4.index ⟨(i 0).val / 528, ht⟩ (0 : Fin 2) * 528 + 528; omega
  | ⟨1, _⟩ => show win0_4.index ⟨(i 0).val / 528, ht⟩ (1 : Fin 2) * 1024 ≤ (i 1).val ∧ (i 1).val < win0_4.index ⟨(i 0).val / 528, ht⟩ (1 : Fin 2) * 1024 + 1024; omega

theorem flush5 : ∀ t : Fin cfg0.N, (cfg0.win 5).flush t = true :=
  (by decide +kernel : ∀ t : Fin grid0.N, _)

/-- The blocks fill the array. -/
theorem covered5 (i : S2x4x8448x704.Idx) : ∃ t : Fin cfg0.N, (cfg0.win 5).flush t = true ∧ i ∈ ((cfg0.win 5).blk t).view.set := by
  have h0 : (i 0).val < 2 := (i 0).isLt
  have h1 : (i 1).val < 4 := (i 1).isLt
  have h2 : (i 2).val < 8448 := (i 2).isLt
  have h3 : (i 3).val < 704 := (i 3).isLt
  have hN : cfg0.N = 16 := N_0
  have ht : (i 2).val / 528 < cfg0.N := by omega
  have hi := idx5 ⟨(i 2).val / 528, ht⟩
  refine ⟨⟨(i 2).val / 528, ht⟩, flush5 _, ?_⟩
  show i ∈ ((View.whole main_v0_1).slice (win0_5.rect ⟨(i 2).val / 528, ht⟩)).set
  rw [View.set_slice_whole, Rect.mem_set_unit]
  have q0 : win0_5.index ⟨(i 2).val / 528, ht⟩ (0 : Fin 4) = 0 := congrFun hi 0
  have q1 : win0_5.index ⟨(i 2).val / 528, ht⟩ (1 : Fin 4) = 0 := congrFun hi 1
  have q2 : win0_5.index ⟨(i 2).val / 528, ht⟩ (2 : Fin 4) = (i 2).val / 528 := congrFun hi 2
  have q3 : win0_5.index ⟨(i 2).val / 528, ht⟩ (3 : Fin 4) = 0 := congrFun hi 3
  intro a
  match a with
  | ⟨0, _⟩ => show win0_5.index ⟨(i 2).val / 528, ht⟩ (0 : Fin 4) * 2 ≤ (i 0).val ∧ (i 0).val < win0_5.index ⟨(i 2).val / 528, ht⟩ (0 : Fin 4) * 2 + 2; omega
  | ⟨1, _⟩ => show win0_5.index ⟨(i 2).val / 528, ht⟩ (1 : Fin 4) * 4 ≤ (i 1).val ∧ (i 1).val < win0_5.index ⟨(i 2).val / 528, ht⟩ (1 : Fin 4) * 4 + 4; omega
  | ⟨2, _⟩ => show win0_5.index ⟨(i 2).val / 528, ht⟩ (2 : Fin 4) * 528 ≤ (i 2).val ∧ (i 2).val < win0_5.index ⟨(i 2).val / 528, ht⟩ (2 : Fin 4) * 528 + 528; omega
  | ⟨3, _⟩ => show win0_5.index ⟨(i 2).val / 528, ht⟩ (3 : Fin 4) * 704 ≤ (i 3).val ∧ (i 3).val < win0_5.index ⟨(i 2).val / 528, ht⟩ (3 : Fin 4) * 704 + 704; omega

theorem flush6 : ∀ t : Fin cfg0.N, (cfg0.win 6).flush t = true :=
  (by decide +kernel : ∀ t : Fin grid0.N, _)

/-- The blocks fill the array. -/
theorem covered6 (i : S4x8448x704.Idx) : ∃ t : Fin cfg0.N, (cfg0.win 6).flush t = true ∧ i ∈ ((cfg0.win 6).blk t).view.set := by
  have h0 : (i 0).val < 4 := (i 0).isLt
  have h1 : (i 1).val < 8448 := (i 1).isLt
  have h2 : (i 2).val < 704 := (i 2).isLt
  have hN : cfg0.N = 16 := N_0
  have ht : (i 1).val / 528 < cfg0.N := by omega
  have hi := idx6 ⟨(i 1).val / 528, ht⟩
  refine ⟨⟨(i 1).val / 528, ht⟩, flush6 _, ?_⟩
  show i ∈ ((View.whole main_v0_2).slice (win0_6.rect ⟨(i 1).val / 528, ht⟩)).set
  rw [View.set_slice_whole, Rect.mem_set_unit]
  have q0 : win0_6.index ⟨(i 1).val / 528, ht⟩ (0 : Fin 3) = 0 := congrFun hi 0
  have q1 : win0_6.index ⟨(i 1).val / 528, ht⟩ (1 : Fin 3) = (i 1).val / 528 := congrFun hi 1
  have q2 : win0_6.index ⟨(i 1).val / 528, ht⟩ (2 : Fin 3) = 0 := congrFun hi 2
  intro a
  match a with
  | ⟨0, _⟩ => show win0_6.index ⟨(i 1).val / 528, ht⟩ (0 : Fin 3) * 4 ≤ (i 0).val ∧ (i 0).val < win0_6.index ⟨(i 1).val / 528, ht⟩ (0 : Fin 3) * 4 + 4; omega
  | ⟨1, _⟩ => show win0_6.index ⟨(i 1).val / 528, ht⟩ (1 : Fin 3) * 528 ≤ (i 1).val ∧ (i 1).val < win0_6.index ⟨(i 1).val / 528, ht⟩ (1 : Fin 3) * 528 + 528; omega
  | ⟨2, _⟩ => show win0_6.index ⟨(i 1).val / 528, ht⟩ (2 : Fin 3) * 704 ≤ (i 2).val ∧ (i 2).val < win0_6.index ⟨(i 1).val / 528, ht⟩ (2 : Fin 3) * 704 + 704; omega

/-- A block's modulated rows are their tokens' rows. -/
theorem row_eq (c : Dev nD) (t : Fin cfg0.N) (r : Fin 528) (q : Fin 8448) (h : q.val = t.val * 528 + r.val) (j : Fin 1024) :
    ((H t.val (iblk m c 0 t) (iblk m c 1 t) (iblk m c 2 t)) (ix2 r j) : EReal) = row m c q j := by
  obtain ⟨i0, i1, i2, -⟩ := idx t
  have e0 : (fun k : Fin 1024 => (show EReal from iblk m c 0 t (ix2 r k))) = fun k => m ((c : Thread nD τ).loc main_arg0) (ix2 q k) := by
    funext k
    blk_ext [iblk, V, i0]
  have e1 : (show EReal from iblk m c 1 t (ix2 0 j)) = m ((c : Thread nD τ).loc main_arg1) (ix2 0 j) := by
    blk_ext [iblk, V, i1]
  have e2 : ∀ s : Fin 9, (show EReal from iblk m c 2 t (ix3 (kind (t.val * 528 + r.val)) s j)) = m ((c : Thread nD τ).loc main_arg2) (ix3 (kind q.val) s j) := by
    intro s
    rw [h]
    blk_ext [iblk, V, i2]
  show norm (fun k => (show EReal from iblk m c 0 t (ix2 r k))) j (show EReal from iblk m c 1 t (ix2 0 j)) (show EReal from iblk m c 2 t (ix3 (kind (t.val * 528 + r.val)) 1 j))
    (show EReal from iblk m c 2 t (ix3 (kind (t.val * 528 + r.val)) 0 j)) = _
  rw [e0, e1, e2 1, e2 0]
  rfl

/-- A block's numbers of the product are the whole's. -/
theorem dot_eq (c : Dev nD) (t : Fin cfg0.N) (s : Fin 2) (g : Fin 4) (r : Fin 528) (q : Fin 8448) (h : q.val = t.val * 528 + r.val) (j : Fin 704) :
    dot (H t.val (iblk m c 0 t) (iblk m c 1 t) (iblk m c 2 t)) (iblk m c 3 t) s g r j = prod m c s g q j := by
  obtain ⟨-, -, -, i3⟩ := idx t
  unfold dot prod
  refine Finset.sum_congr rfl fun k _ => congrArg₂ (fun a b : EReal => a * b) (row_eq m c t r q h k) ?_
  blk_ext [iblk, V, i3]

/-- A point's block of result 0 is its tokens' part of the whole. -/
theorem at4 (c : Dev nD) (t : Fin cfg0.N) (x : S528x1024.Idx) (z : S8448x1024.Idx) (h0 : (z 0).val = t.val * 528 + (x 0).val) (h1 : (z 1).val = (x 1).val) :
    ((H t.val (iblk m c 0 t) (iblk m c 1 t) (iblk m c 2 t)) x : EReal) = A4 m c z := by
  have e : (x 1 : Fin 1024) = z 1 := Fin.ext h1.symm
  refine Eq.trans (congrArg _ (ix2_eta x).symm) ?_
  refine (row_eq m c t (x 0) (z 0) h0 (x 1)).trans ?_
  exact congrArg (row m c (z 0)) e

/-- What a point leaves in result 0's block. -/
theorem left4 (c : Dev nD) (t : Fin cfg0.N) : (outsAt0 m c t.val t.isLt).1 = (H t.val (iblk m c 0 t) (iblk m c 1 t) (iblk m c 2 t)) := by
  have hN : cfg0.N = 16 := N_0
  have hl := t.isLt
  by_cases h : t.val < 15
  · rw [outsAt0_A m c t h (by omega)]; dsimp only; rw [outA4 (t := t.val) (ht := h)]
  · have e : t.val = 15 := by omega
    rw [outsAt0_B m c t h (by omega)]; dsimp only; rw [outB4 (hi := (coord t).trans e)]; rw [e]

theorem flushed4 (c : Dev nD) (t : Fin cfg0.N) :
    (dats m 0 c).flushed 4 t = ((cfg0.win 4).blk t).view.read (Elt Ideal) (A4 m c) := by
  rw [Value.flushed4, left4]
  have hi := idx4 t
  funext y
  have hb0 : (((cfg0.win 4).blk t).view.emb y 0).val = win0_4.index t (0 : Fin 2) * 528 + 1 * (y 0).val := rfl
  have q0 : win0_4.index t (0 : Fin 2) = t.val := congrFun hi 0
  have hb1 : (((cfg0.win 4).blk t).view.emb y 1).val = win0_4.index t (1 : Fin 2) * 1024 + 1 * (y 1).val := rfl
  have q1 : win0_4.index t (1 : Fin 2) = 0 := congrFun hi 1
  show ((H t.val (iblk m c 0 t) (iblk m c 1 t) (iblk m c 2 t))) ((cfg0.win 4).xinj (grid0.coords t) y) = A4 m c (((cfg0.win 4).blk t).view.emb y)
  refine at4 m c t _ _ ?_ ?_
  · show (((cfg0.win 4).blk t).view.emb y 0).val = t.val * 528 + (y 0).val
    rw [hb0, q0]; omega
  · show (((cfg0.win 4).blk t).view.emb y 1).val = (y 1).val
    rw [hb1, q1]; omega

/-- What result 0's array ends with. -/
theorem final4 (c : Dev nD) : (dats m 0 c).arrAt 4 cfg0.N = A4 m c :=
  (dats m 0 c).arrAt_eq_of_cover 4 _ (fun t _ => flushed4 m c t) covered4

/-- A point's block of result 1 is its tokens' part of the whole. -/
theorem at5 (c : Dev nD) (t : Fin cfg0.N) (x : S2x4x528x704.Idx) (z : S2x4x8448x704.Idx) (h0 : (z 0).val = (x 0).val) (h1 : (z 1).val = (x 1).val) (h2 : (z 2).val = t.val * 528 + (x 2).val) (h3 : (z 3).val = (x 3).val) :
    (GU (H t.val (iblk m c 0 t) (iblk m c 1 t) (iblk m c 2 t)) (iblk m c 3 t) x : EReal) = A5 m c z := by
  have e0 : (x 0 : Fin 2) = z 0 := Fin.ext h0.symm
  have e1 : (x 1 : Fin 4) = z 1 := Fin.ext h1.symm
  have e3 : (x 3 : Fin 704) = z 3 := Fin.ext h3.symm
  refine (dot_eq m c t (x 0) (x 1) (x 2) (z 2) h2 (x 3)).trans ?_
  show prod m c (x 0) (x 1) (z 2) (x 3) = prod m c (z 0) (z 1) (z 2) (z 3)
  rw [e0, e1, e3]

/-- What a point leaves in result 1's block. -/
theorem left5 (c : Dev nD) (t : Fin cfg0.N) : (outsAt0 m c t.val t.isLt).2.1 = GU (H t.val (iblk m c 0 t) (iblk m c 1 t) (iblk m c 2 t)) (iblk m c 3 t) := by
  have hN : cfg0.N = 16 := N_0
  have hl := t.isLt
  by_cases h : t.val < 15
  · rw [outsAt0_A m c t h (by omega)]; dsimp only; rw [outA5 (t := t.val) (ht := h)]
  · have e : t.val = 15 := by omega
    rw [outsAt0_B m c t h (by omega)]; dsimp only; rw [outB5 (hi := (coord t).trans e)]; rw [e]

theorem flushed5 (c : Dev nD) (t : Fin cfg0.N) :
    (dats m 0 c).flushed 5 t = ((cfg0.win 5).blk t).view.read (Elt Ideal) (A5 m c) := by
  rw [Value.flushed5, left5]
  have hi := idx5 t
  funext y
  have hb0 : (((cfg0.win 5).blk t).view.emb y 0).val = win0_5.index t (0 : Fin 4) * 2 + 1 * (y 0).val := rfl
  have q0 : win0_5.index t (0 : Fin 4) = 0 := congrFun hi 0
  have hb1 : (((cfg0.win 5).blk t).view.emb y 1).val = win0_5.index t (1 : Fin 4) * 4 + 1 * (y 1).val := rfl
  have q1 : win0_5.index t (1 : Fin 4) = 0 := congrFun hi 1
  have hb2 : (((cfg0.win 5).blk t).view.emb y 2).val = win0_5.index t (2 : Fin 4) * 528 + 1 * (y 2).val := rfl
  have q2 : win0_5.index t (2 : Fin 4) = t.val := congrFun hi 2
  have hb3 : (((cfg0.win 5).blk t).view.emb y 3).val = win0_5.index t (3 : Fin 4) * 704 + 1 * (y 3).val := rfl
  have q3 : win0_5.index t (3 : Fin 4) = 0 := congrFun hi 3
  show (GU (H t.val (iblk m c 0 t) (iblk m c 1 t) (iblk m c 2 t)) (iblk m c 3 t)) ((cfg0.win 5).xinj (grid0.coords t) y) = A5 m c (((cfg0.win 5).blk t).view.emb y)
  refine at5 m c t _ _ ?_ ?_ ?_ ?_
  · show (((cfg0.win 5).blk t).view.emb y 0).val = (y 0).val
    rw [hb0, q0]; omega
  · show (((cfg0.win 5).blk t).view.emb y 1).val = (y 1).val
    rw [hb1, q1]; omega
  · show (((cfg0.win 5).blk t).view.emb y 2).val = t.val * 528 + (y 2).val
    rw [hb2, q2]; omega
  · show (((cfg0.win 5).blk t).view.emb y 3).val = (y 3).val
    rw [hb3, q3]; omega

/-- What result 1's array ends with. -/
theorem final5 (c : Dev nD) : (dats m 0 c).arrAt 5 cfg0.N = A5 m c :=
  (dats m 0 c).arrAt_eq_of_cover 5 _ (fun t _ => flushed5 m c t) covered5

/-- A point's block of result 2 is its tokens' part of the whole. -/
theorem at6 (c : Dev nD) (t : Fin cfg0.N) (x : S4x528x704.Idx) (z : S4x8448x704.Idx) (h0 : (z 0).val = (x 0).val) (h1 : (z 1).val = t.val * 528 + (x 1).val) (h2 : (z 2).val = (x 2).val) :
    (AC (H t.val (iblk m c 0 t) (iblk m c 1 t) (iblk m c 2 t)) (iblk m c 3 t) x : EReal) = A6 m c z := by
  have e0 : (x 0 : Fin 4) = z 0 := Fin.ext h0.symm
  have e2 : (x 2 : Fin 704) = z 2 := Fin.ext h2.symm
  refine (congrArg₂ act (dot_eq m c t 0 (x 0) (x 1) (z 1) h1 (x 2)) (dot_eq m c t 1 (x 0) (x 1) (z 1) h1 (x 2))).trans ?_
  show act (prod m c 0 (x 0) (z 1) (x 2)) (prod m c 1 (x 0) (z 1) (x 2)) = act (prod m c 0 (z 0) (z 1) (z 2)) (prod m c 1 (z 0) (z 1) (z 2))
  rw [e0, e2]

/-- What a point leaves in result 2's block. -/
theorem left6 (c : Dev nD) (t : Fin cfg0.N) : (outsAt0 m c t.val t.isLt).2.2 = AC (H t.val (iblk m c 0 t) (iblk m c 1 t) (iblk m c 2 t)) (iblk m c 3 t) := by
  have hN : cfg0.N = 16 := N_0
  have hl := t.isLt
  by_cases h : t.val < 15
  · rw [outsAt0_A m c t h (by omega)]; dsimp only; rw [outA6 (t := t.val) (ht := h)]
  · have e : t.val = 15 := by omega
    rw [outsAt0_B m c t h (by omega)]; dsimp only; rw [outB6 (hi := (coord t).trans e)]; rw [e]

theorem flushed6 (c : Dev nD) (t : Fin cfg0.N) :
    (dats m 0 c).flushed 6 t = ((cfg0.win 6).blk t).view.read (Elt Ideal) (A6 m c) := by
  rw [Value.flushed6, left6]
  have hi := idx6 t
  funext y
  have hb0 : (((cfg0.win 6).blk t).view.emb y 0).val = win0_6.index t (0 : Fin 3) * 4 + 1 * (y 0).val := rfl
  have q0 : win0_6.index t (0 : Fin 3) = 0 := congrFun hi 0
  have hb1 : (((cfg0.win 6).blk t).view.emb y 1).val = win0_6.index t (1 : Fin 3) * 528 + 1 * (y 1).val := rfl
  have q1 : win0_6.index t (1 : Fin 3) = t.val := congrFun hi 1
  have hb2 : (((cfg0.win 6).blk t).view.emb y 2).val = win0_6.index t (2 : Fin 3) * 704 + 1 * (y 2).val := rfl
  have q2 : win0_6.index t (2 : Fin 3) = 0 := congrFun hi 2
  show (AC (H t.val (iblk m c 0 t) (iblk m c 1 t) (iblk m c 2 t)) (iblk m c 3 t)) ((cfg0.win 6).xinj (grid0.coords t) y) = A6 m c (((cfg0.win 6).blk t).view.emb y)
  refine at6 m c t _ _ ?_ ?_ ?_
  · show (((cfg0.win 6).blk t).view.emb y 0).val = (y 0).val
    rw [hb0, q0]; omega
  · show (((cfg0.win 6).blk t).view.emb y 1).val = t.val * 528 + (y 1).val
    rw [hb1, q1]; omega
  · show (((cfg0.win 6).blk t).view.emb y 2).val = (y 2).val
    rw [hb2, q2]; omega

/-- What result 2's array ends with. -/
theorem final6 (c : Dev nD) : (dats m 0 c).arrAt 6 cfg0.N = A6 m c :=
  (dats m 0 c).arrAt_eq_of_cover 6 _ (fun t _ => flushed6 m c t) covered6

open Cert.Reference5Ideal.Read in
/-- The modulated rows are the reference's. -/
theorem h_eq (c : Dev nD) (x : (⟨S8448x1024, .f32⟩ : BufTy).Contents (Elt Ideal)) (g : (⟨S1x1024, .f32⟩ : BufTy).Contents (Elt Ideal)) (w : (⟨S2x9x1024, .f32⟩ : BufTy).Contents (Elt Ideal)) (hx : x = m ((c : Thread nD τ).loc main_arg0)) (hg : g = m ((c : Thread nD τ).loc main_arg1)) (hw : w = m ((c : Thread nD τ).loc main_arg2)) (p : Fin 8448) (q : Fin 1024) :
    (val_main_v54 (F := Ideal) x g w (ix2 p q) : EReal) = row m c p q := by
  unfold row
  subst hx hg hw
  pointwise [val_main_v54, val_main_v53, val_main_v52, val_main_v51, val_main_v50, val_main_v49, val_main_v48, val_main_v47, val_main_v46, val_main_cst_6, val_main_v45, val_main_v44, val_main_v43, val_main_v42, val_main_v41, val_main_v40, val_main_v39, val_main_v38, val_main_v37, val_main_v36, val_main_v35, val_main_v34, val_main_cst_5, val_main_v33, val_main_v32, val_main_cst_4, val_main_v31, val_main_v30, val_main_cst_3, val_main_v29, val_main_v28, val_main_v27, val_main_v26, val_main_v25, val_main_v24, val_main_v23, val_main_v22, val_main_v21, val_main_v20, val_main_v19, val_main_cst_2, val_main_v18, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  by_cases h : p.val < 8192
  · have hk : kind p.val = 0 := if_neg (by omega)
    rw [dif_pos h, hk]
    rfl
  · have hk : kind p.val = 1 := if_pos (by omega)
    rw [dif_neg h, hk]
    have e : (⟨8192 + (p.val - 8192), by omega⟩ : Fin 8448) = p := Fin.ext (by show 8192 + (p.val - 8192) = p.val; omega)
    exact congrArg (fun p : Fin 8448 => norm (fun l => m ((c : Thread nD τ).loc main_arg0) (ix2 p l)) q (m ((c : Thread nD τ).loc main_arg1) (ix2 0 q)) (m ((c : Thread nD τ).loc main_arg2) (ix3 1 1 q)) (m ((c : Thread nD τ).loc main_arg2) (ix3 1 0 q))) e

open Cert.Reference5Ideal.Read in
/-- The modulated rows are the reference's, as the reference's run states them. -/
theorem final_eq4 (c : Dev nD) (x : (⟨S8448x1024, .f32⟩ : BufTy).Contents (Elt Ideal)) (g : (⟨S1x1024, .f32⟩ : BufTy).Contents (Elt Ideal)) (w : (⟨S2x9x1024, .f32⟩ : BufTy).Contents (Elt Ideal)) (u : (⟨S2x4x1024x704, .bf16⟩ : BufTy).Contents (Elt Ideal)) (hx : x = m ((c : Thread nD τ).loc main_arg0)) (hg : g = m ((c : Thread nD τ).loc main_arg1)) (hw : w = m ((c : Thread nD τ).loc main_arg2)) (hu : u = m ((c : Thread nD τ).loc main_arg3)) :
    val_main_v63 (F := Ideal) x g w = (dats m 0 c).arrAt 4 cfg0.N := by
  rw [final4]
  funext i
  obtain ⟨p, q, rfl⟩ : ∃ (p : Fin 8448) (q : Fin 1024), i = ix2 p q := ⟨i 0, i 1, (ix2_eta i).symm⟩
  exact h_eq m c x g w hx hg hw p q

open Cert.Reference5Ideal.Read in
/-- The gate and the up halves are the reference's, as the reference's run states them. -/
theorem final_eq5 (c : Dev nD) (x : (⟨S8448x1024, .f32⟩ : BufTy).Contents (Elt Ideal)) (g : (⟨S1x1024, .f32⟩ : BufTy).Contents (Elt Ideal)) (w : (⟨S2x9x1024, .f32⟩ : BufTy).Contents (Elt Ideal)) (u : (⟨S2x4x1024x704, .bf16⟩ : BufTy).Contents (Elt Ideal)) (hx : x = m ((c : Thread nD τ).loc main_arg0)) (hg : g = m ((c : Thread nD τ).loc main_arg1)) (hw : w = m ((c : Thread nD τ).loc main_arg2)) (hu : u = m ((c : Thread nD τ).loc main_arg3)) :
    val_main_v71 (F := Ideal) x g w u = (dats m 0 c).arrAt 5 cfg0.N := by
  rw [final5]
  funext i
  obtain ⟨s, e, p, q, rfl⟩ : ∃ (s : Fin 2) (e : Fin 4) (p : Fin 8448) (q : Fin 704), i = ix4 s e p q := ⟨i 0, i 1, i 2, i 3, (ix4_eta i).symm⟩
  show (val_main_v71 (F := Ideal) x g w u (ix4 s e p q) : EReal) = prod m c s e p q
  have he := e.isLt
  have hq := q.isLt
  have hs := s.isLt
  unfold prod
  pointwise [val_main_v74, val_main_v73, val_main_v72, val_main_v71, val_main_v70, val_main_v69, val_main_v68, val_main_v67, val_main_v66, val_main_v65, val_main_v64, val_main_v63, val_main_v62, val_main_v61, val_main_call0_v5, val_main_call0_v4, val_main_call0_cst_0, val_main_call0_v3, val_main_call0_v2, val_main_call0_cst, val_main_call0_v1, val_main_call0_v0, val_main_v60, val_main_v59, val_main_v58, val_main_v57, val_main_v56, val_main_v55]
  by_cases h0 : s.val < 1
  · rw [dif_pos h0]
    refine Finset.sum_congr rfl fun k _ => congrArg₂ (fun a b : EReal => a * b) (h_eq m c x g w hx hg hw p k) ?_
    subst hu
    blk_ext []
  · rw [dif_neg h0]
    refine Finset.sum_congr rfl fun k _ => congrArg₂ (fun a b : EReal => a * b) (h_eq m c x g w hx hg hw p k) ?_
    subst hu
    blk_ext []

open Cert.Reference5Ideal.Read in
/-- The activations are the reference's, as the reference's run states them. -/
theorem final_eq6 (c : Dev nD) (x : (⟨S8448x1024, .f32⟩ : BufTy).Contents (Elt Ideal)) (g : (⟨S1x1024, .f32⟩ : BufTy).Contents (Elt Ideal)) (w : (⟨S2x9x1024, .f32⟩ : BufTy).Contents (Elt Ideal)) (u : (⟨S2x4x1024x704, .bf16⟩ : BufTy).Contents (Elt Ideal)) (hx : x = m ((c : Thread nD τ).loc main_arg0)) (hg : g = m ((c : Thread nD τ).loc main_arg1)) (hw : w = m ((c : Thread nD τ).loc main_arg2)) (hu : u = m ((c : Thread nD τ).loc main_arg3)) :
    val_main_v74 (F := Ideal) x g w u = (dats m 0 c).arrAt 6 cfg0.N := by
  rw [final6]
  funext i
  obtain ⟨e, p, q, rfl⟩ : ∃ (e : Fin 4) (p : Fin 8448) (q : Fin 704), i = ix3 e p q := ⟨i 0, i 1, i 2, (ix3_eta i).symm⟩
  show (val_main_v74 (F := Ideal) x g w u (ix3 e p q) : EReal) = act (prod m c 0 e p q) (prod m c 1 e p q)
  have he := e.isLt
  have hq := q.isLt
  have g0 : ∀ s : Fin 2, s.val = 0 → (∑ k : Fin 1024, val_main_v54 (F := Ideal) x g w (ix2 p k) * (show EReal from u (ix4 s e k q))) = prod m c 0 e p q := by
    intro s hs
    obtain rfl : s = 0 := Fin.ext hs
    subst hu
    exact Finset.sum_congr rfl fun k _ => congrArg₂ (fun a b : EReal => a * b) (h_eq m c x g w hx hg hw p k) rfl
  have g1 : ∀ s : Fin 2, s.val = 1 → (∑ k : Fin 1024, val_main_v54 (F := Ideal) x g w (ix2 p k) * (show EReal from u (ix4 s e k q))) = prod m c 1 e p q := by
    intro s hs
    obtain rfl : s = 1 := Fin.ext hs
    subst hu
    exact Finset.sum_congr rfl fun k _ => congrArg₂ (fun a b : EReal => a * b) (h_eq m c x g w hx hg hw p k) rfl
  rw [← g0 ⟨(e.val * 704 + q.val) / 2816, by omega⟩ (by show (e.val * 704 + q.val) / 2816 = 0; omega),
    ← g1 ⟨(2816 + (e.val * 704 + q.val)) / 2816, by omega⟩ (by show (2816 + (e.val * 704 + q.val)) / 2816 = 1; omega)]
  unfold act
  pointwise [val_main_v74, val_main_v73, val_main_v72, val_main_v71, val_main_v70, val_main_v69, val_main_v68, val_main_v67, val_main_v66, val_main_v65, val_main_v64, val_main_v63, val_main_v62, val_main_v61, val_main_call0_v5, val_main_call0_v4, val_main_call0_cst_0, val_main_call0_v3, val_main_call0_v2, val_main_call0_cst, val_main_call0_v1, val_main_call0_v0, val_main_v60, val_main_v59, val_main_v58, val_main_v57, val_main_v56, val_main_v55]
  rfl

end Cert.Kernel5Ideal.Up

end
-- ==== Proof.DownValue.lean ====
module

public import proofs.«01_k».proof.Proof.Gen.Kernel6Ideal.Value
public import proofs.«01_k».proof.Proof.Gen.Reference6Ideal.Read
public import Idealize.ShloMosaic.Lib.Pipeline.ReadBack
public import Idealize.ShloMosaic.Lib.Pipeline.ValueKit

/-! The feed-forward's second product and the layer's residual: what each grid point of the kernel leaves in its two blocks
    of 528 tokens, at the ideal instance, and the reference's values beside them. -/

@[expose] public section

set_option maxHeartbeats 1000000

noncomputable section

namespace Cert.Kernel6Ideal.Down

open Cert.Kernel6Ideal Cert.Kernel6Ideal.Gen Idealize.ShloMosaic Idealize.ShloMosaic.TcCoe Idealize.SL.Sem
open Idealize.ShloMosaic.Tactic

/-- A token's row after the residual: `x` the layer's input there, `f` the row of the product, `g` the scale of the
    normalisation and `w` the gate. -/
def res (x : EReal) (f : Fin 1024 → EReal) (j : Fin 1024) (g w : EReal) : EReal :=
  x + Ideal.ofBits .f32 1056964608#32 * w * (f j * Ideal.rsqrt (Ideal.div (∑ k : Fin 1024, f k * f k) (Ideal.ofBits .f32 1149239296#32) + Ideal.ofBits .f32 897988541#32) * g)

/-- The kind of a token: 1 for the context's, 0 for the latent's. -/
def kind (n : ℕ) : Fin 2 := if 8192 ≤ n then 1 else 0

/-- A block's product with all of `w_ffn_down`, group by group. -/
def prod (x0 : Vec Ideal S4x528x704 .bf16) (x1 : Vec Ideal S4x704x1024 .bf16) (r : Fin 528) (j : Fin 1024) : EReal :=
  ∑ s : Fin 4, ∑ k : Fin 704, x0 (ix3 s r k) * x1 (ix3 s k j)

/-- The block of the product. -/
def G5 (x0 : Vec Ideal S4x528x704 .bf16) (x1 : Vec Ideal S4x704x1024 .bf16) : Vec Ideal S528x1024 .f32 :=
  fun i => prod x0 x1 (i 0) (i 1)

/-- The block of the layer's output at point `t`. -/
def G6 (t : ℕ) (x0 : Vec Ideal S4x528x704 .bf16) (x1 : Vec Ideal S4x704x1024 .bf16) (x2 : Vec Ideal S528x1024 .f32) (x3 : Vec Ideal S1x1024 .f32)
    (x4 : Vec Ideal S2x9x1024 .f32) : Vec Ideal S528x1024 .f32 :=
  fun i => res (x2 i) (prod x0 x1 (i 0)) (i 1) (x3 (ix2 0 (i 1))) (x4 (ix3 (kind (t * 528 + (i 0).val)) 2 (i 1)))

theorem pay1 (x y : Vec Ideal S528x1024 .f32) (g : Vec Ideal S1x1024 .f32) (w : Vec Ideal S1x1x1024 .f32) (j : S528x1024.Idx) :
    (k0_pay1 (F := Ideal) x y g w j : EReal) = res (x j) (fun k => y (ix2 (j 0) k)) (j 1) (g (ix2 0 (j 1))) (w (ix3 0 0 (j 1))) := by
  unfold res
  pointwise [k0_pay1]

/-- The last point's test of a token: the context's begin at its row 272. -/
theorem ctx : ∀ r : Fin 528, IntOp.cmpi .sge (IntOp.addi (Scalar.muli (BitVec.ofNat 32 15) 528#32) (BitVec.ofNat 32 r.val)) 8192#32
    = if 8192 ≤ 15 * 528 + r.val then 1#1 else 0#1 := by
  decide +kernel

theorem pay2 (x y : Vec Ideal S528x1024 .f32) (g : Vec Ideal S1x1024 .f32) (w z : Vec Ideal S1x1x1024 .f32) (j : S528x1024.Idx) :
    (k0_pay2 (F := Ideal) (BitVec.ofNat 32 15) x y g w z j : EReal)
      = res (x j) (fun k => y (ix2 (j 0) k)) (j 1) (g (ix2 0 (j 1))) (if 8192 ≤ 15 * 528 + (j 0).val then w (ix3 0 0 (j 1)) else z (ix3 0 0 (j 1))) := by
  unfold res
  have h := ctx (j 0)
  pointwise [k0_pay2]
  rw [h]
  by_cases hc : 8192 ≤ 15 * 528 + (j 0).val
  · rw [if_pos hc, if_pos (by omega)]; rfl
  · rw [if_neg hc, if_neg (by omega)]; rfl

theorem pay3 (a b c d : Vec Ideal S1x528x704 .bf16) (p q r s : Vec Ideal S1x704x1024 .bf16) (j : S528x1024.Idx) :
    (k0_pay3 (F := Ideal) a p b q c r d s j : EReal) = ∑ k : Fin 704, a (ix3 0 (j 0) k) * p (ix3 0 k (j 1)) + ∑ k : Fin 704, b (ix3 0 (j 0) k) * q (ix3 0 k (j 1))
      + ∑ k : Fin 704, c (ix3 0 (j 0) k) * r (ix3 0 k (j 1)) + ∑ k : Fin 704, d (ix3 0 (j 0) k) * s (ix3 0 k (j 1)) := by
  pointwise [k0_pay3]

/-- The four groups' products are the block's product. -/
theorem block5 (x0 : Vec Ideal S4x528x704 .bf16) (x1 : Vec Ideal S4x704x1024 .bf16) :
    k0_pay3 (F := Ideal) (View.ld x0 (Rect.unit (s := S4x528x704) ![0, 0, 0] S1x528x704.size inb_S4x528x704_S1x528x704_0_0_0)) (View.ld x1 (Rect.unit (s := S4x704x1024) ![0, 0, 0] S1x704x1024.size inb_S4x704x1024_S1x704x1024_0_0_0)) (View.ld x0 (Rect.unit (s := S4x528x704) ![1, 0, 0] S1x528x704.size inb_S4x528x704_S1x528x704_1_0_0)) (View.ld x1 (Rect.unit (s := S4x704x1024) ![1, 0, 0] S1x704x1024.size inb_S4x704x1024_S1x704x1024_1_0_0)) (View.ld x0 (Rect.unit (s := S4x528x704) ![2, 0, 0] S1x528x704.size inb_S4x528x704_S1x528x704_2_0_0)) (View.ld x1 (Rect.unit (s := S4x704x1024) ![2, 0, 0] S1x704x1024.size inb_S4x704x1024_S1x704x1024_2_0_0)) (View.ld x0 (Rect.unit (s := S4x528x704) ![3, 0, 0] S1x528x704.size inb_S4x528x704_S1x528x704_3_0_0)) (View.ld x1 (Rect.unit (s := S4x704x1024) ![3, 0, 0] S1x704x1024.size inb_S4x704x1024_S1x704x1024_3_0_0)) = G5 x0 x1 := by
  funext j
  rw [pay3]
  unfold G5 prod
  rw [Fin.sum_univ_four]
  pointwise [View.ld]

/-- The gate's row of `mod` for one kind of token. -/
theorem gate0 (x4 : Vec Ideal S2x9x1024 .f32) (j : Fin 1024) : ((View.ld x4 (Rect.unit (s := S2x9x1024) ![0, 2, 0] S1x1x1024.size inb_S2x9x1024_S1x1x1024_0_2_0)) (ix3 0 0 j) : EReal) = x4 (ix3 0 2 j) := by
  pointwise [View.ld]

theorem gate1 (x4 : Vec Ideal S2x9x1024 .f32) (j : Fin 1024) : ((View.ld x4 (Rect.unit (s := S2x9x1024) ![1, 2, 0] S1x1x1024.size inb_S2x9x1024_S1x1x1024_1_2_0)) (ix3 0 0 j) : EReal) = x4 (ix3 1 2 j) := by
  pointwise [View.ld]

/-- The layer's output of a block whose tokens are all the latent's. -/
theorem block6A (t : ℕ) (ht : t < 15) (x0 : Vec Ideal S4x528x704 .bf16) (x1 : Vec Ideal S4x704x1024 .bf16) (x2 : Vec Ideal S528x1024 .f32) (x3 : Vec Ideal S1x1024 .f32)
    (x4 : Vec Ideal S2x9x1024 .f32) : k0_pay1 (F := Ideal) x2 (G5 x0 x1) x3 (View.ld x4 (Rect.unit (s := S2x9x1024) ![0, 2, 0] S1x1x1024.size inb_S2x9x1024_S1x1x1024_0_2_0)) = G6 t x0 x1 x2 x3 x4 := by
  funext j
  have hj : (j 0).val < 528 := (j 0).isLt
  have hk : kind (t * 528 + (j 0).val) = 0 := if_neg (by omega)
  refine (pay1 x2 (G5 x0 x1) x3 _ j).trans ?_
  unfold G6
  rw [hk]
  exact congrArg (res _ _ _ _) (gate0 x4 (j 1))

/-- The layer's output of the last block, which holds the context's tokens. -/
theorem block6B (x0 : Vec Ideal S4x528x704 .bf16) (x1 : Vec Ideal S4x704x1024 .bf16) (x2 : Vec Ideal S528x1024 .f32) (x3 : Vec Ideal S1x1024 .f32)
    (x4 : Vec Ideal S2x9x1024 .f32) : k0_pay2 (F := Ideal) (BitVec.ofNat 32 15) x2 (G5 x0 x1) x3 (View.ld x4 (Rect.unit (s := S2x9x1024) ![1, 2, 0] S1x1x1024.size inb_S2x9x1024_S1x1x1024_1_2_0)) (View.ld x4 (Rect.unit (s := S2x9x1024) ![0, 2, 0] S1x1x1024.size inb_S2x9x1024_S1x1x1024_0_2_0)) = G6 15 x0 x1 x2 x3 x4 := by
  funext j
  refine (pay2 x2 (G5 x0 x1) x3 _ _ j).trans ?_
  unfold G6
  by_cases hc : 8192 ≤ 15 * 528 + (j 0).val
  · rw [show kind (15 * 528 + (j 0).val) = 1 from if_pos hc, if_pos hc]
    exact congrArg (res _ _ _ _) (gate1 x4 (j 1))
  · rw [show kind (15 * 528 + (j 0).val) = 0 from if_neg hc, if_neg hc]
    exact congrArg (res _ _ _ _) (gate0 x4 (j 1))

theorem outA5 (c : Dev nD) (i : grid0.Coords) (arg1 : Memref sig .tc .vmem S4x528x704 .bf16) (harg1 : arg1.IsWhole) (arg2 : Memref sig .tc .vmem S4x704x1024 .bf16) (harg2 : arg2.IsWhole) (arg3 : Memref sig .tc .vmem S528x1024 .f32) (harg3 : arg3.IsWhole) (arg4 : Memref sig .tc .vmem S1x1024 .f32) (harg4 : arg4.IsWhole) (arg5 : Memref sig .tc .vmem S2x9x1024 .f32) (harg5 : arg5.IsWhole) (arg6 : Memref sig .tc .vmem S528x1024 .f32) (harg6 : arg6.IsWhole) (arg7 : Memref sig .tc .vmem S528x1024 .f32) (harg7 : arg7.IsWhole) (hc0 : cond0_0 i) (hc1 : ¬cond0_1 i)
    (x0 : Vec Ideal S4x528x704 .bf16) (x1 : Vec Ideal S4x704x1024 .bf16) (x2 : Vec Ideal S528x1024 .f32) (x3 : Vec Ideal S1x1024 .f32) (x4 : Vec Ideal S2x9x1024 .f32) :
    out0_A_5 c i arg1 harg1 arg2 harg2 arg3 harg3 arg4 harg4 arg5 harg5 arg6 harg6 arg7 harg7 hc0 hc1 x0 x1 x2 x3 x4 = G5 x0 x1 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  exact block5 x0 x1

theorem outB5 (c : Dev nD) (i : grid0.Coords) (arg1 : Memref sig .tc .vmem S4x528x704 .bf16) (harg1 : arg1.IsWhole) (arg2 : Memref sig .tc .vmem S4x704x1024 .bf16) (harg2 : arg2.IsWhole) (arg3 : Memref sig .tc .vmem S528x1024 .f32) (harg3 : arg3.IsWhole) (arg4 : Memref sig .tc .vmem S1x1024 .f32) (harg4 : arg4.IsWhole) (arg5 : Memref sig .tc .vmem S2x9x1024 .f32) (harg5 : arg5.IsWhole) (arg6 : Memref sig .tc .vmem S528x1024 .f32) (harg6 : arg6.IsWhole) (arg7 : Memref sig .tc .vmem S528x1024 .f32) (harg7 : arg7.IsWhole) (hc0 : ¬cond0_0 i) (hc1 : cond0_1 i)
    (x0 : Vec Ideal S4x528x704 .bf16) (x1 : Vec Ideal S4x704x1024 .bf16) (x2 : Vec Ideal S528x1024 .f32) (x3 : Vec Ideal S1x1024 .f32) (x4 : Vec Ideal S2x9x1024 .f32) :
    out0_B_5 c i arg1 harg1 arg2 harg2 arg3 harg3 arg4 harg4 arg5 harg5 arg6 harg6 arg7 harg7 hc0 hc1 x0 x1 x2 x3 x4 = G5 x0 x1 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  exact block5 x0 x1

theorem outA6 (c : Dev nD) (i : grid0.Coords) (arg1 : Memref sig .tc .vmem S4x528x704 .bf16) (harg1 : arg1.IsWhole) (arg2 : Memref sig .tc .vmem S4x704x1024 .bf16) (harg2 : arg2.IsWhole) (arg3 : Memref sig .tc .vmem S528x1024 .f32) (harg3 : arg3.IsWhole) (arg4 : Memref sig .tc .vmem S1x1024 .f32) (harg4 : arg4.IsWhole) (arg5 : Memref sig .tc .vmem S2x9x1024 .f32) (harg5 : arg5.IsWhole) (arg6 : Memref sig .tc .vmem S528x1024 .f32) (harg6 : arg6.IsWhole) (arg7 : Memref sig .tc .vmem S528x1024 .f32) (harg7 : arg7.IsWhole) (hc0 : cond0_0 i) (hc1 : ¬cond0_1 i)
    (x0 : Vec Ideal S4x528x704 .bf16) (x1 : Vec Ideal S4x704x1024 .bf16) (x2 : Vec Ideal S528x1024 .f32) (x3 : Vec Ideal S1x1024 .f32) (x4 : Vec Ideal S2x9x1024 .f32) (t : ℕ) (ht : t < 15) :
    out0_A_6 c i arg1 harg1 arg2 harg2 arg3 harg3 arg4 harg4 arg5 harg5 arg6 harg6 arg7 harg7 hc0 hc1 x0 x1 x2 x3 x4 = G6 t x0 x1 x2 x3 x4 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  refine Eq.trans ?_ (block6A t ht x0 x1 x2 x3 x4)
  rw [← block5 x0 x1]

theorem outB6 (c : Dev nD) (i : grid0.Coords) (arg1 : Memref sig .tc .vmem S4x528x704 .bf16) (harg1 : arg1.IsWhole) (arg2 : Memref sig .tc .vmem S4x704x1024 .bf16) (harg2 : arg2.IsWhole) (arg3 : Memref sig .tc .vmem S528x1024 .f32) (harg3 : arg3.IsWhole) (arg4 : Memref sig .tc .vmem S1x1024 .f32) (harg4 : arg4.IsWhole) (arg5 : Memref sig .tc .vmem S2x9x1024 .f32) (harg5 : arg5.IsWhole) (arg6 : Memref sig .tc .vmem S528x1024 .f32) (harg6 : arg6.IsWhole) (arg7 : Memref sig .tc .vmem S528x1024 .f32) (harg7 : arg7.IsWhole) (hc0 : ¬cond0_0 i) (hc1 : cond0_1 i)
    (x0 : Vec Ideal S4x528x704 .bf16) (x1 : Vec Ideal S4x704x1024 .bf16) (x2 : Vec Ideal S528x1024 .f32) (x3 : Vec Ideal S1x1024 .f32) (x4 : Vec Ideal S2x9x1024 .f32) (hi : (i 0).val = 15) :
    out0_B_6 c i arg1 harg1 arg2 harg2 arg3 harg3 arg4 harg4 arg5 harg5 arg6 harg6 arg7 harg7 hc0 hc1 x0 x1 x2 x3 x4 = G6 15 x0 x1 x2 x3 x4 := by
  frame_open
  simp (disch := decide) only [↓ View.readCov_skip, ↓ View.readCov_fill, ↓ View.readCov_cons_toLoadRect]
  simp (disch := decide) only [View.read_writes_junk_eq_canon, View.canon_cons_unit_lit', View.ld_unit_lit', View.readCov_unit_lit', View.readCov_cons_unit_lit', View.readAt_eq_ld, Memref.IsWhole.read_unread]
  rw [hi]
  refine Eq.trans ?_ (block6B x0 x1 x2 x3 x4)
  rw [← block5 x0 x1]

variable (m : (ℓ : Loc nD τ sig) → Buf (Elt Ideal) ℓ)

/-- A token's row of the product, as a function of the argument arrays. -/
def row (c : Dev nD) (r : Fin 8448) (j : Fin 1024) : EReal :=
  ∑ s : Fin 4, ∑ k : Fin 704, (show EReal from m ((c : Thread nD τ).loc main_arg0) (ix3 s r k)) * (show EReal from m ((c : Thread nD τ).loc main_arg1) (ix3 s k j))

/-- The whole product. -/
def A5 (c : Dev nD) : S8448x1024.Idx → EReal := fun i => row m c (i 0) (i 1)

/-- The layer's whole output. -/
def A6 (c : Dev nD) : S8448x1024.Idx → EReal := fun i =>
  res (m ((c : Thread nD τ).loc main_arg2) i) (row m c (i 0)) (i 1) (m ((c : Thread nD τ).loc main_arg3) (ix2 0 (i 1)))
    (m ((c : Thread nD τ).loc main_arg4) (ix3 (kind (i 0).val) 2 (i 1)))

/-- The windows' block indices at a point. -/
theorem idx : ∀ t : Fin cfg0.N, win0_0.index t = ![0, t.val, 0] ∧ win0_1.index t = ![0, 0, 0] ∧ win0_2.index t = ![t.val, 0]
    ∧ win0_3.index t = ![0, 0] ∧ win0_4.index t = ![0, 0, 0] :=
  (by decide +kernel : ∀ t : Fin grid0.N, _)

theorem idx5 : ∀ t : Fin cfg0.N, win0_5.index t = ![t.val, 0] :=
  (by decide +kernel : ∀ t : Fin grid0.N, _)

theorem idx6 : ∀ t : Fin cfg0.N, win0_6.index t = ![t.val, 0] :=
  (by decide +kernel : ∀ t : Fin grid0.N, _)

/-- The grid's one coordinate is the point. -/
theorem coord : ∀ t : Fin cfg0.N, (grid0.coords t 0).val = t.val :=
  (by decide +kernel : ∀ t : Fin grid0.N, _)

theorem flush5 : ∀ t : Fin cfg0.N, (cfg0.win 5).flush t = true :=
  (by decide +kernel : ∀ t : Fin grid0.N, _)

/-- The blocks fill the array. -/
theorem covered5 (i : S8448x1024.Idx) : ∃ t : Fin cfg0.N, (cfg0.win 5).flush t = true ∧ i ∈ ((cfg0.win 5).blk t).view.set := by
  have h0 : (i 0).val < 8448 := (i 0).isLt
  have h1 : (i 1).val < 1024 := (i 1).isLt
  have hN : cfg0.N = 16 := N_0
  have ht : (i 0).val / 528 < cfg0.N := by omega
  have hi := idx5 ⟨(i 0).val / 528, ht⟩
  refine ⟨⟨(i 0).val / 528, ht⟩, flush5 _, ?_⟩
  show i ∈ ((View.whole main_v0_0).slice (win0_5.rect ⟨(i 0).val / 528, ht⟩)).set
  rw [View.set_slice_whole, Rect.mem_set_unit]
  have q0 : win0_5.index ⟨(i 0).val / 528, ht⟩ (0 : Fin 2) = (i 0).val / 528 := congrFun hi 0
  have q1 : win0_5.index ⟨(i 0).val / 528, ht⟩ (1 : Fin 2) = 0 := congrFun hi 1
  intro a
  match a with
  | ⟨0, _⟩ => show win0_5.index ⟨(i 0).val / 528, ht⟩ (0 : Fin 2) * 528 ≤ (i 0).val ∧ (i 0).val < win0_5.index ⟨(i 0).val / 528, ht⟩ (0 : Fin 2) * 528 + 528; omega
  | ⟨1, _⟩ => show win0_5.index ⟨(i 0).val / 528, ht⟩ (1 : Fin 2) * 1024 ≤ (i 1).val ∧ (i 1).val < win0_5.index ⟨(i 0).val / 528, ht⟩ (1 : Fin 2) * 1024 + 1024; omega

theorem flush6 : ∀ t : Fin cfg0.N, (cfg0.win 6).flush t = true :=
  (by decide +kernel : ∀ t : Fin grid0.N, _)

/-- The blocks fill the array. -/
theorem covered6 (i : S8448x1024.Idx) : ∃ t : Fin cfg0.N, (cfg0.win 6).flush t = true ∧ i ∈ ((cfg0.win 6).blk t).view.set := by
  have h0 : (i 0).val < 8448 := (i 0).isLt
  have h1 : (i 1).val < 1024 := (i 1).isLt
  have hN : cfg0.N = 16 := N_0
  have ht : (i 0).val / 528 < cfg0.N := by omega
  have hi := idx6 ⟨(i 0).val / 528, ht⟩
  refine ⟨⟨(i 0).val / 528, ht⟩, flush6 _, ?_⟩
  show i ∈ ((View.whole main_v0_1).slice (win0_6.rect ⟨(i 0).val / 528, ht⟩)).set
  rw [View.set_slice_whole, Rect.mem_set_unit]
  have q0 : win0_6.index ⟨(i 0).val / 528, ht⟩ (0 : Fin 2) = (i 0).val / 528 := congrFun hi 0
  have q1 : win0_6.index ⟨(i 0).val / 528, ht⟩ (1 : Fin 2) = 0 := congrFun hi 1
  intro a
  match a with
  | ⟨0, _⟩ => show win0_6.index ⟨(i 0).val / 528, ht⟩ (0 : Fin 2) * 528 ≤ (i 0).val ∧ (i 0).val < win0_6.index ⟨(i 0).val / 528, ht⟩ (0 : Fin 2) * 528 + 528; omega
  | ⟨1, _⟩ => show win0_6.index ⟨(i 0).val / 528, ht⟩ (1 : Fin 2) * 1024 ≤ (i 1).val ∧ (i 1).val < win0_6.index ⟨(i 0).val / 528, ht⟩ (1 : Fin 2) * 1024 + 1024; omega

/-- A block's rows of the product are their tokens' rows. -/
theorem prod_eq (c : Dev nD) (t : Fin cfg0.N) (r : Fin 528) (q : Fin 8448) (h : q.val = t.val * 528 + r.val) :
    prod (iblk m c 0 t) (iblk m c 1 t) r = row m c q := by
  obtain ⟨i0, i1, -⟩ := idx t
  funext j
  unfold prod row
  refine Finset.sum_congr rfl fun s _ => Finset.sum_congr rfl fun k _ => congrArg₂ (fun a b : EReal => a * b) ?_ ?_
  · blk_ext [iblk, V, i0]
  · blk_ext [iblk, V, i1]

/-- A point's block of the product is its tokens' part of the whole. -/
theorem at5 (c : Dev nD) (t : Fin cfg0.N) (x : S528x1024.Idx) (z : S8448x1024.Idx) (h0 : (z 0).val = t.val * 528 + (x 0).val) (h1 : (z 1).val = (x 1).val) :
    (G5 (iblk m c 0 t) (iblk m c 1 t) x : EReal) = A5 m c z := by
  have e : (x 1 : Fin 1024) = z 1 := Fin.ext h1.symm
  show prod (iblk m c 0 t) (iblk m c 1 t) (x 0) (x 1) = row m c (z 0) (z 1)
  rw [prod_eq m c t (x 0) (z 0) h0, e]

/-- A point's block of the layer's output is its tokens' part of the whole. -/
theorem at6 (c : Dev nD) (t : Fin cfg0.N) (x : S528x1024.Idx) (z : S8448x1024.Idx) (h0 : (z 0).val = t.val * 528 + (x 0).val) (h1 : (z 1).val = (x 1).val) :
    (G6 t.val (iblk m c 0 t) (iblk m c 1 t) (iblk m c 2 t) (iblk m c 3 t) (iblk m c 4 t) x : EReal) = A6 m c z := by
  obtain ⟨-, -, i2, i3, i4⟩ := idx t
  have e : (x 1 : Fin 1024) = z 1 := Fin.ext h1.symm
  have e2 : (show EReal from iblk m c 2 t x) = m ((c : Thread nD τ).loc main_arg2) z := by
    blk_ext [iblk, V, i2]
  have e3 : (show EReal from iblk m c 3 t (ix2 0 (x 1))) = m ((c : Thread nD τ).loc main_arg3) (ix2 0 (z 1)) := by
    blk_ext [iblk, V, i3]
  have e4 : (show EReal from iblk m c 4 t (ix3 (kind (t.val * 528 + (x 0).val)) 2 (x 1))) = m ((c : Thread nD τ).loc main_arg4) (ix3 (kind (z 0).val) 2 (z 1)) := by
    rw [h0]
    blk_ext [iblk, V, i4]
  dsimp only at e2 e3 e4
  unfold G6 A6
  dsimp only
  rw [prod_eq m c t (x 0) (z 0) h0, e2, e3, e4, e]

/-- What a point leaves in result 0's block. -/
theorem left5 (c : Dev nD) (t : Fin cfg0.N) : (outsAt0 m c t.val t.isLt).1 = G5 (iblk m c 0 t) (iblk m c 1 t) := by
  have hN : cfg0.N = 16 := N_0
  have hl := t.isLt
  by_cases h : t.val < 15
  · rw [outsAt0_A m c t h (by omega)]; dsimp only; rw [outA5]
  · have e : t.val = 15 := by omega
    rw [outsAt0_B m c t h (by omega)]; dsimp only; rw [outB5]

theorem flushed5 (c : Dev nD) (t : Fin cfg0.N) :
    (dats m 0 c).flushed 5 t = ((cfg0.win 5).blk t).view.read (Elt Ideal) (A5 m c) := by
  rw [Value.flushed5, left5]
  have hi := idx5 t
  funext y
  have hb0 : (((cfg0.win 5).blk t).view.emb y 0).val = win0_5.index t (0 : Fin 2) * 528 + 1 * (y 0).val := rfl
  have hb1 : (((cfg0.win 5).blk t).view.emb y 1).val = win0_5.index t (1 : Fin 2) * 1024 + 1 * (y 1).val := rfl
  have q0 : win0_5.index t (0 : Fin 2) = t.val := congrFun hi 0
  have q1 : win0_5.index t (1 : Fin 2) = 0 := congrFun hi 1
  show G5 (iblk m c 0 t) (iblk m c 1 t) ((cfg0.win 5).xinj (grid0.coords t) y) = A5 m c (((cfg0.win 5).blk t).view.emb y)
  refine at5 m c t _ _ ?_ ?_
  · show (((cfg0.win 5).blk t).view.emb y 0).val = t.val * 528 + (y 0).val
    rw [hb0, q0]; omega
  · show (((cfg0.win 5).blk t).view.emb y 1).val = (y 1).val
    rw [hb1, q1]; omega

/-- What result 0's array ends with. -/
theorem final5 (c : Dev nD) : (dats m 0 c).arrAt 5 cfg0.N = A5 m c :=
  (dats m 0 c).arrAt_eq_of_cover 5 _ (fun t _ => flushed5 m c t) covered5

/-- What a point leaves in result 1's block. -/
theorem left6 (c : Dev nD) (t : Fin cfg0.N) : (outsAt0 m c t.val t.isLt).2 = G6 t.val (iblk m c 0 t) (iblk m c 1 t) (iblk m c 2 t) (iblk m c 3 t) (iblk m c 4 t) := by
  have hN : cfg0.N = 16 := N_0
  have hl := t.isLt
  by_cases h : t.val < 15
  · rw [outsAt0_A m c t h (by omega)]; dsimp only; rw [outA6 (t := t.val) (ht := h)]
  · have e : t.val = 15 := by omega
    rw [outsAt0_B m c t h (by omega)]; dsimp only; rw [outB6 (hi := (coord t).trans e)]; rw [e]

theorem flushed6 (c : Dev nD) (t : Fin cfg0.N) :
    (dats m 0 c).flushed 6 t = ((cfg0.win 6).blk t).view.read (Elt Ideal) (A6 m c) := by
  rw [Value.flushed6, left6]
  have hi := idx6 t
  funext y
  have hb0 : (((cfg0.win 6).blk t).view.emb y 0).val = win0_6.index t (0 : Fin 2) * 528 + 1 * (y 0).val := rfl
  have hb1 : (((cfg0.win 6).blk t).view.emb y 1).val = win0_6.index t (1 : Fin 2) * 1024 + 1 * (y 1).val := rfl
  have q0 : win0_6.index t (0 : Fin 2) = t.val := congrFun hi 0
  have q1 : win0_6.index t (1 : Fin 2) = 0 := congrFun hi 1
  show G6 t.val (iblk m c 0 t) (iblk m c 1 t) (iblk m c 2 t) (iblk m c 3 t) (iblk m c 4 t) ((cfg0.win 6).xinj (grid0.coords t) y) = A6 m c (((cfg0.win 6).blk t).view.emb y)
  refine at6 m c t _ _ ?_ ?_
  · show (((cfg0.win 6).blk t).view.emb y 0).val = t.val * 528 + (y 0).val
    rw [hb0, q0]; omega
  · show (((cfg0.win 6).blk t).view.emb y 1).val = (y 1).val
    rw [hb1, q1]; omega

/-- What result 1's array ends with. -/
theorem final6 (c : Dev nD) : (dats m 0 c).arrAt 6 cfg0.N = A6 m c :=
  (dats m 0 c).arrAt_eq_of_cover 6 _ (fun t _ => flushed6 m c t) covered6

open Cert.Reference6Ideal.Read in
/-- The product is the reference's, contracted over all the 2816 channels. -/
theorem ff_eq (c : Dev nD) (a : (⟨S4x8448x704, .bf16⟩ : BufTy).Contents (Elt Ideal)) (b : (⟨S4x704x1024, .bf16⟩ : BufTy).Contents (Elt Ideal)) (ha : a = m ((c : Thread nD τ).loc main_arg0)) (hb : b = m ((c : Thread nD τ).loc main_arg1)) (i : S8448x1024.Idx) :
    (val_main_v5 (F := Ideal) a b i : EReal) = row m c (i 0) (i 1) := by
  unfold row
  subst ha hb
  pointwise [val_main_v5, val_main_v0, val_main_v1, val_main_v2, val_main_v3, val_main_v4]
  symm
  refine Fin.sum_mul_add_congr (fun s k hl => ?_) (show 2816 = 4 * 704 by decide)
  have hk := k.isLt
  refine congrArg₂ (fun a b : EReal => a * b) ?_ ?_
  · blk_ext []
  · blk_ext []

open Cert.Reference6Ideal.Read in
/-- The product is the reference's, as the reference's run states it. -/
theorem final_eq5 (c : Dev nD) (a : (⟨S4x8448x704, .bf16⟩ : BufTy).Contents (Elt Ideal)) (b : (⟨S4x704x1024, .bf16⟩ : BufTy).Contents (Elt Ideal)) (ha : a = m ((c : Thread nD τ).loc main_arg0)) (hb : b = m ((c : Thread nD τ).loc main_arg1)) :
    val_main_v5 (F := Ideal) a b = (dats m 0 c).arrAt 5 cfg0.N := by
  rw [final5]
  funext i
  exact ff_eq m c a b ha hb i

open Cert.Reference6Ideal.Read in
/-- The layer's output is the reference's, as the reference's run states it. -/
theorem final_eq6 (c : Dev nD) (a : (⟨S4x8448x704, .bf16⟩ : BufTy).Contents (Elt Ideal)) (b : (⟨S4x704x1024, .bf16⟩ : BufTy).Contents (Elt Ideal)) (x : (⟨S8448x1024, .f32⟩ : BufTy).Contents (Elt Ideal)) (g : (⟨S1x1024, .f32⟩ : BufTy).Contents (Elt Ideal)) (w : (⟨S2x9x1024, .f32⟩ : BufTy).Contents (Elt Ideal)) (ha : a = m ((c : Thread nD τ).loc main_arg0)) (hb : b = m ((c : Thread nD τ).loc main_arg1))
    (hx : x = m ((c : Thread nD τ).loc main_arg2)) (hg : g = m ((c : Thread nD τ).loc main_arg3)) (hw : w = m ((c : Thread nD τ).loc main_arg4)) :
    val_main_v54 (F := Ideal) a b x g w = (dats m 0 c).arrAt 6 cfg0.N := by
  rw [final6]
  funext i
  obtain ⟨p, q, rfl⟩ : ∃ (p : Fin 8448) (q : Fin 1024), i = ix2 p q := ⟨i 0, i 1, (ix2_eta i).symm⟩
  have hf : ∀ p : Fin 8448, (fun k : Fin 1024 => val_main_v5 (F := Ideal) a b (ix2 p k)) = row m c p := fun p => funext fun k => ff_eq m c a b ha hb (ix2 p k)
  show val_main_v54 (F := Ideal) a b x g w (ix2 p q) = res (m ((c : Thread nD τ).loc main_arg2) (ix2 p q)) (row m c p) q (m ((c : Thread nD τ).loc main_arg3) (ix2 0 q))
    (m ((c : Thread nD τ).loc main_arg4) (ix3 (kind p.val) 2 q))
  subst hx hg hw
  dsimp only
  pointwise [val_main_v54, val_main_v53, val_main_v52, val_main_v51, val_main_v50, val_main_v49, val_main_v48, val_main_v47, val_main_v46, val_main_v45, val_main_v44, val_main_v43, val_main_v42, val_main_cst_6, val_main_v41, val_main_v40, val_main_cst_5, val_main_v39, val_main_v38, val_main_cst_4, val_main_v37, val_main_v36, val_main_v35, val_main_v34, val_main_cst_3, val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_v17, val_main_v16, val_main_cst_1, val_main_v15, val_main_v14, val_main_cst_0, val_main_v13, val_main_v12, val_main_v11, val_main_v10, val_main_cst, val_main_v9, val_main_v8, val_main_v7, val_main_v6]
  by_cases h : p.val < 8192
  · have hk : kind p.val = 0 := if_neg (by omega)
    rw [dif_pos h, hk]
    exact congrArg (fun f : Fin 1024 → EReal => res (m ((c : Thread nD τ).loc main_arg2) (ix2 p q)) f q (m ((c : Thread nD τ).loc main_arg3) (ix2 0 q))
      (m ((c : Thread nD τ).loc main_arg4) (ix3 0 2 q))) (hf p)
  · have hk : kind p.val = 1 := if_pos (by omega)
    rw [dif_neg h, hk]
    have e : (⟨8192 + (p.val - 8192), by omega⟩ : Fin 8448) = p := Fin.ext (by show 8192 + (p.val - 8192) = p.val; omega)
    refine Eq.trans (congrArg (fun f : Fin 1024 → EReal => res (m ((c : Thread nD τ).loc main_arg2) (ix2 ⟨8192 + (p.val - 8192), by omega⟩ q)) f q (m ((c : Thread nD τ).loc main_arg3) (ix2 0 q))
      (m ((c : Thread nD τ).loc main_arg4) (ix3 1 2 q))) (hf ⟨8192 + (p.val - 8192), by omega⟩)) ?_
    rw [e]

end Cert.Kernel6Ideal.Down

end
-- ==== Proof.DhRunA.lean ====
module

public import proofs.«01_k».proof.Proof.Gen.Kernel7Ideal.Skeleton
public import proofs.«01_k».proof.Proof.Gen.Kernel7Ideal.Frame

@[expose] public section

set_option maxRecDepth 16384

noncomputable section

namespace Cert.Kernel7Ideal.Dh

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first point: what it stores into the two results, and that it runs to there. -/
noncomputable def runA (c : Dev nD) (i : grid0.Coords) (arg1 : Memref sig .tc .vmem S2x4x528x704 .bf16) (harg1 : arg1.IsWhole) (arg2 : Memref sig .tc .vmem S2x4x1024x704 .bf16) (harg2 : arg2.IsWhole) (arg3 : Memref sig .tc .vmem S528x1024 .f32) (harg3 : arg3.IsWhole) (arg4 : Memref sig .tc .vmem S528x1024 .f32) (harg4 : arg4.IsWhole) (arg5 : Memref sig .tc .vmem S1x1024 .f32) (harg5 : arg5.IsWhole) (arg6 : Memref sig .tc .vmem S2x9x1024 .f32) (harg6 : arg6.IsWhole) (arg7 : Memref sig .tc .vmem S528x1024 .f32) (harg7 : arg7.IsWhole) (arg8 : Memref sig .tc .vmem S2x8x1024 .f32) (harg8 : arg8.IsWhole) (arg9 : Memref sig .tc .vmem S528x1024 .f32) (harg9 : arg9.IsWhole) (hc1 : k0_cond1 i = 1#1) (hc2 : k0_cond2 i = 1#1) (hc3 : ¬k0_cond3 i = 1#1) (hc5 : ¬k0_cond5 i = 1#1)
    (x0 : Vec F S2x4x528x704 .bf16) (x1 : Vec F S2x4x1024x704 .bf16) (x2 : Vec F S528x1024 .f32) (x3 : Vec F S528x1024 .f32) (x4 : Vec F S1x1024 .f32) (x5 : Vec F S2x9x1024 .f32) :
    Σ' (L6 : List (View.Piece (Elt F) S528x1024 .f32)), { L7 : List (View.Piece (Elt F) S2x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0_dh i arg1 harg1 arg2 harg2 arg3 harg3 arg4 harg4 arg5 harg5 arg6 harg6 arg7 harg7 arg8 harg8 arg9 harg9) K } := by
  refine ⟨?_, ?_, fun E K => ?run⟩
  case run =>
    simp only [cc0_dh_eq_skeleton]; unfold cc0_dh_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc1 | sl_exact hc2 | sl_exact hc3 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexists _; isplitr; swap; · iexact H8
    ipureintro; rfl

end Cert.Kernel7Ideal.Dh

end
-- ==== Proof.DhRunB.lean ====
module

public import proofs.«01_k».proof.Proof.Gen.Kernel7Ideal.Skeleton
public import proofs.«01_k».proof.Proof.Gen.Kernel7Ideal.Frame

@[expose] public section

set_option maxRecDepth 16384

noncomputable section

namespace Cert.Kernel7Ideal.Dh

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later point whose tokens are all the latent's: what it stores into the two results, and that it runs to there; the sums held `x7` before. -/
noncomputable def runB (c : Dev nD) (i : grid0.Coords) (arg1 : Memref sig .tc .vmem S2x4x528x704 .bf16) (harg1 : arg1.IsWhole) (arg2 : Memref sig .tc .vmem S2x4x1024x704 .bf16) (harg2 : arg2.IsWhole) (arg3 : Memref sig .tc .vmem S528x1024 .f32) (harg3 : arg3.IsWhole) (arg4 : Memref sig .tc .vmem S528x1024 .f32) (harg4 : arg4.IsWhole) (arg5 : Memref sig .tc .vmem S1x1024 .f32) (harg5 : arg5.IsWhole) (arg6 : Memref sig .tc .vmem S2x9x1024 .f32) (harg6 : arg6.IsWhole) (arg7 : Memref sig .tc .vmem S528x1024 .f32) (harg7 : arg7.IsWhole) (arg8 : Memref sig .tc .vmem S2x8x1024 .f32) (harg8 : arg8.IsWhole) (arg9 : Memref sig .tc .vmem S528x1024 .f32) (harg9 : arg9.IsWhole) (hc1 : k0_cond1 i = 1#1) (hc2 : ¬k0_cond2 i = 1#1) (hc3 : ¬k0_cond3 i = 1#1) (hc5 : ¬k0_cond5 i = 1#1)
    (x0 : Vec F S2x4x528x704 .bf16) (x1 : Vec F S2x4x1024x704 .bf16) (x2 : Vec F S528x1024 .f32) (x3 : Vec F S528x1024 .f32) (x4 : Vec F S1x1024 .f32) (x5 : Vec F S2x9x1024 .f32) (x7 : Vec F S2x8x1024 .f32) :
    Σ' (L6 : List (View.Piece (Elt F) S528x1024 .f32)), { L7 : List (View.Piece (Elt F) S2x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread x7) L7) ∗ (∃ d, owns (c : Thread nD τ) arg9 fullShare d)) -∗ K ⟨⟩))
          ⊢ wp frame (wpE (defs₀ (F := F)) Variants.none c none) E (cc0_dh i arg1 harg1 arg2 harg2 arg3 harg3 arg4 harg4 arg5 harg5 arg6 harg6 arg7 harg7 arg8 harg8 arg9 harg9) K } := by
  refine ⟨?_, ?_, fun E K => ?run⟩
  case run =>
    simp only [cc0_dh_eq_skeleton]; unfold cc0_dh_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc1 | sl_exact hc2 | sl_exact hc3 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    iexists _; iexists _; isplitr; swap; · iexact H8
    ipureintro; rfl

end Cert.Kernel7Ideal.Dh

end
-- ==== Proof.DhRunC.lean ====
module

public import proofs.«01_k».proof.Proof.Gen.Kernel7Ideal.Skeleton
public import proofs.«01_k».proof.Proof.Gen.Kernel7Ideal.Frame

@[expose] public section

set_option maxRecDepth 16384

noncomputable section

namespace Cert.Kernel7Ideal.Dh

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the last point, which holds the context's tokens and finishes the sums: what it stores into the two results, and that it runs to there; the sums held `x7` before. -/
noncomputable def runC (c : Dev nD) (i : grid0.Coords) (arg1 : Memref sig .tc .vmem S2x4x528x704 .bf16) (harg1 : arg1.IsWhole) (arg2 : Memref sig .tc .vmem S2x4x1024x704 .bf16) (harg2 : arg2.IsWhole) (arg3 : Memref sig .tc .vmem S528x1024 .f32) (harg3 : arg3.IsWhole) (arg4 : Memref sig .tc .vmem S528x1024 .f32) (harg4 : arg4.IsWhole) (arg5 : Memref sig .tc .vmem S1x1024 .f32) (harg5 : arg5.IsWhole) (arg6 : Memref sig .tc .vmem S2x9x1024 .f32) (harg6 : arg6.IsWhole) (arg7 : Memref sig .tc .vmem S528x1024 .f32) (harg7 : arg7.IsWhole) (arg8 : Memref sig .tc .vmem S2x8x1024 .f32) (harg8 : arg8.IsWhole) (arg9 : Memref sig .tc .vmem S528x1024 .f32) (harg9 : arg9.IsWhole) (hc1 : ¬k0_cond1 i = 1#1) (hc3 : k0_cond3 i = 1#1) (hc4 : ¬k0_cond4 i = 1#1) (hc5 : k0_cond5 i = 1#1)
    (x0 : Vec F S2x4x528x704 .bf16) (x1 : Vec F S2x4x1024x704 .bf16) (x2 : Vec F S528x1024 .f32) (x3 : Vec F S528x1024 .f32) (x4 : Vec F S1x1024 .f32) (x5 : Vec F S2x9x1024 .f32) (x7 : Vec F S2x8x1024 .f32) :
    Σ' (L6 : List (View.Piece (Elt F) S528x1024 .f32)), { L7 : List (View.Piece (Elt F) S2x8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (arg8.view.loc (c : Thread nD τ) ↦[arg8.view.set]{fullShare} arg8.view.writes (Elt F) (harg8.unread x7) L7) ∗ (∃ d, owns (c : Thread nD τ) arg9 fullShare d)) -∗ K ⟨⟩))
          ⊢ wp frame (wpE (defs₀ (F := F)) Variants.none c none) E (cc0_dh i arg1 harg1 arg2 harg2 arg3 harg3 arg4 harg4 arg5 harg5 arg6 harg6 arg7 harg7 arg8 harg8 arg9 harg9) K } := by
  refine ⟨?_, ?_, fun E K => ?run⟩
  case run =>
    simp only [cc0_dh_eq_skeleton]; unfold cc0_dh_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc1 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexact H7
    iexists _; iexists _; isplitr; swap; · iexact H8
    ipureintro; rfl

end Cert.Kernel7Ideal.Dh

end
-- ==== Proof.DhFrame.lean ====
module

public import proofs.«01_k».proof.Proof.DhRunA
public import proofs.«01_k».proof.Proof.DhRunB
public import proofs.«01_k».proof.Proof.DhRunC
public import Idealize.ShloMosaic.Lib.Pipeline.TableIdle
public import Idealize.ShloMosaic.Lib.Claim

@[expose] public section

set_option maxRecDepth 16384

noncomputable section

namespace Cert.Kernel7Ideal.Dh

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem cond1_iff : ∀ t : Fin cfg0.N, k0_cond1 (grid0.coords t) = 1#1 ↔ ¬ t.val = 15 :=
  (by decide +kernel : ∀ t : Fin grid0.N, k0_cond1 (grid0.coords t) = 1#1 ↔ ¬ t.val = 15)
theorem cond2_iff : ∀ t : Fin cfg0.N, k0_cond2 (grid0.coords t) = 1#1 ↔ t.val = 0 :=
  (by decide +kernel : ∀ t : Fin grid0.N, k0_cond2 (grid0.coords t) = 1#1 ↔ t.val = 0)
theorem cond3_iff : ∀ t : Fin cfg0.N, k0_cond3 (grid0.coords t) = 1#1 ↔ t.val = 15 :=
  (by decide +kernel : ∀ t : Fin grid0.N, k0_cond3 (grid0.coords t) = 1#1 ↔ t.val = 15)
theorem cond4_iff : ∀ t : Fin cfg0.N, k0_cond4 (grid0.coords t) = 1#1 ↔ t.val = 0 :=
  (by decide +kernel : ∀ t : Fin grid0.N, k0_cond4 (grid0.coords t) = 1#1 ↔ t.val = 0)
theorem cond5_iff : ∀ t : Fin cfg0.N, k0_cond5 (grid0.coords t) = 1#1 ↔ t.val = 15 :=
  (by decide +kernel : ∀ t : Fin grid0.N, k0_cond5 (grid0.coords t) = 1#1 ↔ t.val = 15)

/-! ## The memrefs at a point -/

abbrev ms0 (t : Fin cfg0.N) : Memref sig .tc .vmem S2x4x528x704 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x4x1024x704 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S528x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S528x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x9x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S528x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x8x1024 .f32 := win0_7.stage (cfg0.slots t 7)
abbrev hs7 (t : Fin cfg0.N) : (ms7 t).IsWhole := hstage0_7 ((cfg0.slots t 7).cast nbuf0_7)
/-- The scratch, which holds the token chunk's gradient within a point. -/
abbrev scM : Memref sig .tc .vmem S528x1024 .f32 := Memref.whole cc0_scratch0

/-- What the region keeps between points: the scratch at any contents, and the random register. -/
theorem PhiA_eq (c : Dev nD) : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

/-! ## The runs at a point -/

/-- The first point, on its memrefs and blocks. -/
abbrev rA (c : Dev nD) (t : Fin cfg0.N) (h0 : t.val = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((cond1_iff t).mpr (by omega)) ((cond2_iff t).mpr h0)
    (fun h => by have := (cond3_iff t).mp h; omega) (fun h => by have := (cond5_iff t).mp h; omega) (iblk m c 0 t) (iblk m c 1 t) (iblk m c 2 t) (iblk m c 3 t) (iblk m c 4 t) (iblk m c 5 t)

/-- A later point of the latent's tokens, the sums at `a` before. -/
abbrev rB (c : Dev nD) (t : Fin cfg0.N) (h0 : ¬ t.val = 0) (h2 : ¬ t.val = 15) (a : Vec F S2x8x1024 .f32) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((cond1_iff t).mpr h2) (fun h => h0 ((cond2_iff t).mp h))
    (fun h => h2 ((cond3_iff t).mp h)) (fun h => h2 ((cond5_iff t).mp h)) (iblk m c 0 t) (iblk m c 1 t) (iblk m c 2 t) (iblk m c 3 t) (iblk m c 4 t) (iblk m c 5 t) a

/-- The last point. -/
abbrev rC (c : Dev nD) (t : Fin cfg0.N) (h2 : t.val = 15) (a : Vec F S2x8x1024 .f32) :=
  runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => (cond1_iff t).mp h h2) ((cond3_iff t).mpr h2)
    (fun h => by have := (cond4_iff t).mp h; omega) ((cond5_iff t).mpr h2) (iblk m c 0 t) (iblk m c 1 t) (iblk m c 2 t) (iblk m c 3 t) (iblk m c 4 t) (iblk m c 5 t) a

theorem cov6_A (c : Dev nD) (t : Fin cfg0.N) (h0 : t.val = 0) (y : S528x1024.Idx) :
    ∃ pc ∈ (rA m c t h0).1, y ∈ pc.1.set :=
  View.cover_of_wholeMem (rA m c t h0).1 (by sl_whole_mem) y

theorem cov6_B (c : Dev nD) (t : Fin cfg0.N) (h0 : ¬ t.val = 0) (h2 : ¬ t.val = 15) (a : Vec F S2x8x1024 .f32) (y : S528x1024.Idx) :
    ∃ pc ∈ (rB m c t h0 h2 a).1, y ∈ pc.1.set :=
  View.cover_of_wholeMem (rB m c t h0 h2 a).1 (by sl_whole_mem) y

theorem cov6_C (c : Dev nD) (t : Fin cfg0.N) (h2 : t.val = 15) (a : Vec F S2x8x1024 .f32) (y : S528x1024.Idx) :
    ∃ pc ∈ (rC m c t h2 a).1, y ∈ pc.1.set :=
  View.cover_of_wholeMem (rC m c t h2 a).1 (by sl_whole_mem) y

theorem cov7_A (c : Dev nD) (t : Fin cfg0.N) (h0 : t.val = 0) (y : S2x8x1024.Idx) :
    ∃ pc ∈ (rA m c t h0).2.1, y ∈ pc.1.set :=
  View.cover_of_wholeMem (rA m c t h0).2.1 (by sl_whole_mem) y

/-! ## What the results hold after each point -/

/-- The sums after the first point. -/
def accA (c : Dev nD) (t : Fin cfg0.N) (h0 : t.val = 0) : Vec F S2x8x1024 .f32 :=
  (ms7 t).view.read (Elt F) ((ms7 t).view.writes (Elt F) (ms7 t).view.junk (rA m c t h0).2.1)

/-- The sums after a later point of the latent's, which found them at `a`. -/
def accB (c : Dev nD) (t : Fin cfg0.N) (h0 : ¬ t.val = 0) (h2 : ¬ t.val = 15) (a : Vec F S2x8x1024 .f32) : Vec F S2x8x1024 .f32 :=
  (ms7 t).view.read (Elt F) ((ms7 t).view.writes (Elt F) ((hs7 t).unread a) (rB m c t h0 h2 a).2.1)

/-- The finished sums, the last point having found them at `a`. -/
def accC (c : Dev nD) (t : Fin cfg0.N) (h2 : t.val = 15) (a : Vec F S2x8x1024 .f32) : Vec F S2x8x1024 .f32 :=
  (ms7 t).view.read (Elt F) ((ms7 t).view.writes (Elt F) ((hs7 t).unread a) (rC m c t h2 a).2.1)

/-- The sums after the point at position `n`. -/
def acc (c : Dev nD) : (n : ℕ) → n < cfg0.N → Vec F S2x8x1024 .f32
  | 0, hn => accA m c ⟨0, hn⟩ rfl
  | n + 1, hn =>
    if h2 : n + 1 = 15 then accC m c ⟨n + 1, hn⟩ h2 (acc c n (Nat.lt_of_succ_lt hn))
    else accB m c ⟨n + 1, hn⟩ (Nat.succ_ne_zero n) h2 (acc c n (Nat.lt_of_succ_lt hn))

/-- The same before the point at position `n` (at the very first, after it). -/
abbrev accPrev (c : Dev nD) (t : Fin cfg0.N) : Vec F S2x8x1024 .f32 :=
  acc m c (t.val - 1) (Nat.lt_of_le_of_lt (Nat.sub_le _ _) t.isLt)

theorem acc_A (c : Dev nD) (t : Fin cfg0.N) (h0 : t.val = 0) : acc m c t.val t.isLt = accA m c t h0 := by
  obtain ⟨n, hn⟩ := t
  cases n with
  | zero => rfl
  | succ n => exact absurd h0 (Nat.succ_ne_zero n)
theorem acc_B (c : Dev nD) (t : Fin cfg0.N) (h0 : ¬ t.val = 0) (h2 : ¬ t.val = 15) :
    acc m c t.val t.isLt = accB m c t h0 h2 (accPrev m c t) := by
  obtain ⟨n, hn⟩ := t
  cases n with
  | zero => exact absurd rfl h0
  | succ n => exact dif_neg h2
theorem acc_C (c : Dev nD) (t : Fin cfg0.N) (h2 : t.val = 15) : acc m c t.val t.isLt = accC m c t h2 (accPrev m c t) := by
  obtain ⟨n, hn⟩ := t
  cases n with
  | zero => exact absurd h2 (by decide : ¬ (0 : ℕ) = 15)
  | succ n => exact dif_pos h2

/-- The token chunk's gradient after the point at `t`. -/
def dxAt (c : Dev nD) (t : Fin cfg0.N) : Vec F S528x1024 .f32 :=
  if h0 : t.val = 0 then
    (ms6 t).view.read (Elt F) ((ms6 t).view.writes (Elt F) (ms6 t).view.junk (rA m c t h0).1)
  else if h2 : t.val = 15 then
    (ms6 t).view.read (Elt F) ((ms6 t).view.writes (Elt F) (ms6 t).view.junk (rC m c t h2 (accPrev m c t)).1)
  else (ms6 t).view.read (Elt F) ((ms6 t).view.writes (Elt F) (ms6 t).view.junk (rB m c t h0 h2 (accPrev m c t)).1)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxAt m c t
    | ⟨7, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dxAt m c t := by dsimp only [dats]
theorem after7 (c : Dev nD) (t : Fin cfg0.N) : (dats m 0 c).after 7 t = acc m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## No point leaves a result alone; what a point finds in the sums -/

theorem live6 : ∀ t : Fin cfg0.N, cfg0.idle 6 (grid0.coords t) = false :=
  (by decide +kernel : ∀ t : Fin grid0.N, idle0 6 (grid0.coords t) = false)
theorem live7 : ∀ t : Fin cfg0.N, cfg0.idle 7 (grid0.coords t) = false :=
  (by decide +kernel : ∀ t : Fin grid0.N, idle0 7 (grid0.coords t) = false)
theorem fresh7 (n : ℕ) (hn : n ≤ cfg0.N) : cfg0.fresh 7 n = decide (n % 16 = 0) :=
  Pipeline.Cfg.fresh_tab (cfg := cfg0) 7 (fun n => decide (n % 16 = 0)) rfl (fun t => by
    rw [live7 t]
    have hf := flush0_7 t
    by_cases h : t.val % 16 = 15
    · rw [hf.mpr h]; simp only [Bool.true_or, decide_eq_true_eq]; omega
    · have h' : (cfg0.win 7).flush t = false := by
        cases hh : (cfg0.win 7).flush t
        · rfl
        · exact absurd (hf.mp hh) h
      rw [h']; simp only [Bool.false_and, Bool.or_false, decide_eq_false_iff_not]; omega) n hn
theorem before7_pos (c : Dev nD) (t : Fin cfg0.N) (h0 : ¬ t.val = 0) (d) :
    (dats m 0 c).before 7 t d = accPrev m c t := by
  rw [Pipeline.Dat.before_out_traj (dats m 0 c) 7 rfl (fun _ _ => rfl) (fun t ht hi _ => by
    rw [live7 t] at hi; exact absurd hi (by decide)) t.val t rfl d, fresh7 t.val (Nat.le_of_lt t.isLt),
    if_neg (by
      have h := lt_of_lt_of_eq t.isLt (show cfg0.N = 16 from N_0)
      simp only [decide_eq_true_eq]; omega), after7]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]
theorem leaves4 (c : Dev nD) (t : Fin cfg0.N) : (dats m 0 c).leavesExact 4 t = owns (c : Thread nD τ) (ms4 t) fullShare (iblk m c 4 t) := by
  rw [← after4]
theorem leaves5 (c : Dev nD) (t : Fin cfg0.N) : (dats m 0 c).leavesExact 5 t = owns (c : Thread nD τ) (ms5 t) fullShare (iblk m c 5 t) := by
  rw [← after5]
theorem leaves6 (c : Dev nD) (t : Fin cfg0.N) : (dats m 0 c).leavesExact 6 t = owns (c : Thread nD τ) (ms6 t) fullShare (dxAt m c t) := by
  rw [← after6]; unfold Dat.leavesExact; rw [live6 t]
theorem leaves7 (c : Dev nD) (t : Fin cfg0.N) : (dats m 0 c).leavesExact 7 t = owns (c : Thread nD τ) (ms7 t) fullShare (acc m c t.val t.isLt) := by
  rw [← after7]; unfold Dat.leavesExact; rw [live7 t]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves0, leaves1, leaves2, leaves3, leaves4, leaves5, leaves6, leaves7]
  rw [show (dats m 0 c).owesAt () t.succ = (dats m 0 c).owesAt () t.castSucc from rfl]
  rw [show (dats m 0 c).Φ t.succ = Pipeline.ΦA spec0 c from rfl]
  rw [show (dats m 0 c).Φ t.castSucc = Pipeline.ΦA spec0 c from rfl]
  rw [PhiA_eq]
  by_cases h0 : t.val = 0
  · rw [acc_A m c t h0]
    unfold dxAt; rw [dif_pos h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rA m c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cov6_A m c t h0)
    unfold owns; iexists _; isplitr
    swap; · iexact H7
    ipureintro; exact View.read_writes_of_cover _ _ _ _ _ (cov7_A m c t h0)
  · by_cases h2 : t.val = 15
    · rw [acc_C m c t h2]
      simp only [before7_pos m c t h0]
      unfold dxAt; rw [dif_neg h0, dif_pos h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rC m c t h2 (accPrev m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cov6_C m c t h2 _)
      unfold owns; iexists _; isplitr
      swap; · iexact H7
      ipureintro; rfl
    · rw [acc_B m c t h0 h2]
      simp only [before7_pos m c t h0]
      unfold dxAt; rw [dif_neg h0, dif_neg h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rB m c t h0 h2 (accPrev m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cov6_B m c t h0 h2 _)
      unfold owns; iexists _; isplitr
      swap; · iexact H7
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run of the program ends, with every array at what the proof data says and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged. -/
theorem args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (args m ρ) ((θ_run defs _ _).mono (fun _ h => h.2) (run_quiescent m ρ))

/-- The two results end at what the points' writes left in them. -/
theorem results : θ_run defs (onTc (τ := τ) (main (F := F))) ⟨m, fun _ => 0, ρ⟩ (fun r => ∀ c : Dev nD,
      r.2.mem ((c.tc : Thread nD τ).loc (Pipeline.arrRef spec0 6)) = (dats m 0 c).arrAt 6 cfg0.N
      ∧ r.2.mem ((c.tc : Thread nD τ).loc (Pipeline.arrRef spec0 7)) = (dats m 0 c).arrAt 7 cfg0.N) :=
  (θ_run defs _ _).mono (fun _ h c => ⟨(h c).1 6, (h c).1 7⟩) (run_main m ρ)

end Cert.Kernel7Ideal.Dh

end
-- ==== Proof.DhPay.lean ====
module

public import proofs.«01_k».proof.Proof.DhFrame
public import Idealize.ShloMosaic.Lib.Pipeline.ReadBack
public import Idealize.ShloMosaic.Lib.Pipeline.ValueKit

/-! The gradient through `w_ffn_gate_up`, the modulation and the norm: what the body's stores hold, element by element, at
    the ideal instance. -/

@[expose] public section

set_option maxHeartbeats 1000000

noncomputable section

namespace Cert.Kernel7Ideal.Dh

open Cert.Kernel7Ideal Cert.Kernel7Ideal.Gen Idealize.ShloMosaic Idealize.ShloMosaic.TcCoe Idealize.SL.Sem
open Idealize.ShloMosaic.Tactic

/-- The reciprocal root mean square of a token's row. -/
def rms (x : Fin 1024 → EReal) : EReal :=
  Ideal.rsqrt (Ideal.div (∑ k : Fin 1024, x k * x k) (Ideal.ofBits .f32 1149239296#32) + Ideal.ofBits .f32 897988541#32)

/-- The gradient at the normalised row: `d` the gradient at the modulated row, `s` the scale and `g` the norm's weight. -/
def dn (d s g : Fin 1024 → EReal) (j : Fin 1024) : EReal := d j * (1 + s j) * g j

/-- The gradient at a token's row `x`, on top of the one `o` that arrives past the layer. -/
def dx (x d s g : Fin 1024 → EReal) (o : EReal) (j : Fin 1024) : EReal :=
  o + rms x * (dn d s g j - x j * rms x * Ideal.div (∑ k : Fin 1024, dn d s g k * (x k * rms x)) (Ideal.ofBits .f32 1149239296#32))

/-- A block's gradient at the modulated rows: the products of all eight groups of channels. -/
def prod (x0 : Vec Ideal S2x4x528x704 .bf16) (x1 : Vec Ideal S2x4x1024x704 .bf16) (r : Fin 528) (j : Fin 1024) : EReal :=
  ∑ s : Fin 2, ∑ q : Fin 4, ∑ k : Fin 704, x0 (ix4 s q r k) * x1 (ix4 s q j k)

theorem pay1 (v : Vec Ideal S528x1024 .f32) (j : S528x1024.Idx) : (k0_pay1 (F := Ideal) v j : EReal) = v j := by
  pointwise [k0_pay1]

theorem pay2 (j : S2x8x1024.Idx) : (k0_pay2 (F := Ideal) j : EReal) = 0 := by
  pointwise [k0_pay2]

theorem pay3 (v : Vec Ideal S528x1024 .f32) (u : Vec Ideal S1x1x1024 .f32) (j : S1x1x1024.Idx) :
    (k0_pay3 (F := Ideal) v u j : EReal) = u j + ∑ r : Fin 528, v (ix2 r (j 2)) := by
  pointwise [k0_pay3]

theorem pay4 (v : Vec Ideal S528x1024 .f32) (u : Vec Ideal S1x1x1024 .f32) (j : S1x1x1024.Idx) :
    (k0_pay4 (F := Ideal) v u j : EReal) = u j + ∑ r : Fin 528, v (ix2 r (j 2)) := by
  pointwise [k0_pay4]

/-- The last point's test of a token: the context's begin at its row 272. -/
theorem ctx : ∀ r : Fin 528, IntOp.cmpi .sge (IntOp.addi (Scalar.muli (BitVec.ofNat 32 15) 528#32) (BitVec.ofNat 32 r.val)) 8192#32
    = if 8192 ≤ 7920 + r.val then 1#1 else 0#1 := by
  decide +kernel

theorem pay15 (j : S528x1.Idx) : k0_pay15 (BitVec.ofNat 32 15) j = if 8192 ≤ 7920 + (j 0).val then 1#1 else 0#1 := by
  have h := ctx (j 0)
  pointwise [k0_pay15]
  exact h

theorem pay5 (b : IVec S528x1 1) (v : Vec Ideal S528x1024 .f32) (j : S1x1024.Idx) :
    (k0_pay5 (F := Ideal) b v j : EReal) = ∑ r : Fin 528, if b (ix2 r 0) = 1#1 then v (ix2 r (j 1)) else 0 := by
  pointwise [k0_pay5]
  exact Finset.sum_congr rfl fun r _ => rfl

theorem pay23 (b : IVec S528x1 1) (v : Vec Ideal S528x1024 .f32) (j : S1x1024.Idx) :
    (k0_pay23 (F := Ideal) b v j : EReal) = ∑ r : Fin 528, if b (ix2 r 0) = 1#1 then v (ix2 r (j 1)) else 0 := by
  pointwise [k0_pay23]
  exact Finset.sum_congr rfl fun r _ => rfl

theorem pay26 (v x : Vec Ideal S528x1024 .f32) (j : S1024.Idx) :
    (k0_pay26 (F := Ideal) v x j : EReal) = ∑ r : Fin 528, v (ix2 r (j 0)) * x (ix2 r (j 0)) := by
  pointwise [k0_pay26, k0_pay21]

theorem pay6 (b : IVec S528x1 1) (v : Vec Ideal S528x1024 .f32) (w : Vec Ideal S1024 .f32) (u : Vec Ideal S1x1x1024 .f32) (j : S1x1x1024.Idx) :
    (k0_pay6 (F := Ideal) b v w u j : EReal) = u j + (w (ix1 (j 2)) - k0_pay5 (F := Ideal) b v (ix2 0 (j 2))) := by
  pointwise [k0_pay6]

theorem pay7 (b : IVec S528x1 1) (v : Vec Ideal S528x1024 .f32) (u : Vec Ideal S1x1x1024 .f32) (j : S1x1x1024.Idx) :
    (k0_pay7 (F := Ideal) b v u j : EReal) = u j + k0_pay5 (F := Ideal) b v (ix2 0 (j 2)) := by
  pointwise [k0_pay7]

theorem pay24 (b : IVec S528x1 1) (v : Vec Ideal S528x1024 .f32) (u : Vec Ideal S1x1x1024 .f32) (j : S1x1x1024.Idx) :
    (k0_pay24 (F := Ideal) b v u j : EReal) = u j + ((∑ r : Fin 528, v (ix2 r (j 2))) - k0_pay23 (F := Ideal) b v (ix2 0 (j 2))) := by
  pointwise [k0_pay24]

theorem pay25 (b : IVec S528x1 1) (v : Vec Ideal S528x1024 .f32) (u : Vec Ideal S1x1x1024 .f32) (j : S1x1x1024.Idx) :
    (k0_pay25 (F := Ideal) b v u j : EReal) = u j + k0_pay23 (F := Ideal) b v (ix2 0 (j 2)) := by
  pointwise [k0_pay25]

theorem pay9 (u w : Vec Ideal S2x1x1024 .f32) (j : S2x1x1024.Idx) :
    (k0_pay9 (F := Ideal) u w j : EReal) = (1 + w j) * u j := by
  pointwise [k0_pay9, k0_pay8]

theorem pay10 (g : Vec Ideal S1x1024 .f32) (u : Vec Ideal S2x1x1024 .f32) (j : S2x1x1024.Idx) :
    (k0_pay10 (F := Ideal) g u j : EReal) = g (ix2 0 (j 2)) * u j := by
  pointwise [k0_pay10, k0_pay8]

theorem pay13 (x d o : Vec Ideal S528x1024 .f32) (g : Vec Ideal S1x1024 .f32) (w : Vec Ideal S1x1x1024 .f32) (j : S528x1024.Idx) :
    (k0_pay13 (F := Ideal) x d o g w j : EReal) = dx (fun k => x (ix2 (j 0) k)) (fun k => d (ix2 (j 0) k)) (fun k => w (ix3 0 0 k)) (fun k => g (ix2 0 k)) (o j) (j 1) := by
  unfold dx dn rms
  pointwise [k0_pay13, k0_pay12, k0_pay11]

theorem pay14 (x d : Vec Ideal S528x1024 .f32) (j : S528x1024.Idx) :
    (k0_pay14 (F := Ideal) x d j : EReal) = d j * (x j * rms (fun k => x (ix2 (j 0) k))) := by
  unfold rms
  pointwise [k0_pay14, k0_pay12, k0_pay11]

theorem pay17 (x : Vec Ideal S528x1024 .f32) (j : S528x1024.Idx) :
    (k0_pay17 (F := Ideal) x j : EReal) = x j * rms (fun k => x (ix2 (j 0) k)) := by
  unfold rms
  pointwise [k0_pay17, k0_pay16]

theorem pay16 (x : Vec Ideal S528x1024 .f32) (j : S528x1.Idx) :
    (k0_pay16 (F := Ideal) x j : EReal) = rms (fun k => x (ix2 (j 0) k)) := by
  unfold rms
  pointwise [k0_pay16]

theorem pay18 (d : Vec Ideal S528x1024 .f32) (g : Vec Ideal S1x1024 .f32) (w z : Vec Ideal S1x1x1024 .f32) (j : S528x1024.Idx) :
    (k0_pay18 (F := Ideal) (BitVec.ofNat 32 15) d g w z j : EReal)
      = dn (fun k => d (ix2 (j 0) k)) (fun k => if 8192 ≤ 7920 + (j 0).val then w (ix3 0 0 k) else z (ix3 0 0 k)) (fun k => g (ix2 0 k)) (j 1) := by
  have h := pay15 (ix2 (j 0) 0)
  unfold dn
  pointwise [k0_pay18]
  by_cases hc : 8192 ≤ 7920 + (j 0).val
  · have h' := h.trans (if_pos hc)
    rw [h', if_pos hc]; rfl
  · have h' := h.trans (if_neg hc)
    rw [h', if_neg hc]; rfl

theorem pay20 (x d o : Vec Ideal S528x1024 .f32) (g : Vec Ideal S1x1024 .f32) (w z : Vec Ideal S1x1x1024 .f32) (j : S528x1024.Idx) :
    (k0_pay20 (F := Ideal) o (k0_pay16 x) (k0_pay17 x) (k0_pay18 (BitVec.ofNat 32 15) d g w z) (k0_pay19 (BitVec.ofNat 32 15) x d g w z) j : EReal)
      = dx (fun k => x (ix2 (j 0) k)) (fun k => d (ix2 (j 0) k)) (fun k => if 8192 ≤ 7920 + (j 0).val then w (ix3 0 0 k) else z (ix3 0 0 k))
          (fun k => g (ix2 0 k)) (o j) (j 1) := by
  obtain ⟨r, q, rfl⟩ : ∃ r q, j = ix2 r q := ⟨j 0, j 1, (ix2_eta j).symm⟩
  have h16 : (k0_pay16 (F := Ideal) x (ix2 r 0) : EReal) = rms (fun k => x (ix2 r k)) := pay16 x (ix2 r 0)
  have h17 : ∀ k, (k0_pay17 (F := Ideal) x (ix2 r k) : EReal) = x (ix2 r k) * rms (fun k => x (ix2 r k)) := fun k => pay17 x (ix2 r k)
  have h18 : ∀ k, (k0_pay18 (F := Ideal) (BitVec.ofNat 32 15) d g w z (ix2 r k) : EReal)
      = dn (fun k => d (ix2 r k)) (fun k => if 8192 ≤ 7920 + r.val then w (ix3 0 0 k) else z (ix3 0 0 k)) (fun k => g (ix2 0 k)) k := fun k => pay18 d g w z (ix2 r k)
  refine Eq.trans ?_ (show (o (ix2 r q) : EReal) + k0_pay16 (F := Ideal) x (ix2 r 0) * (k0_pay18 (F := Ideal) (BitVec.ofNat 32 15) d g w z (ix2 r q) - k0_pay17 (F := Ideal) x (ix2 r q)
      * Ideal.div (∑ k : Fin 1024, (show EReal from k0_pay18 (F := Ideal) (BitVec.ofNat 32 15) d g w z (ix2 r k)) * k0_pay17 (F := Ideal) x (ix2 r k)) (Ideal.ofBits .f32 1149239296#32)) = _ from ?_)
  · pointwise [k0_pay20, k0_pay19]
  · simp only [h16, h17, h18]; rfl

theorem pay27 (a b c d : Vec Ideal S1x1x528x704 .bf16) (p q r s : Vec Ideal S1x1x1024x704 .bf16) (j : S528x1024.Idx) :
    (k0_pay27 (F := Ideal) a p b q c r d s j : EReal) = ∑ k : Fin 704, a (ix4 0 0 (j 0) k) * p (ix4 0 0 (j 1) k) + ∑ k : Fin 704, b (ix4 0 0 (j 0) k) * q (ix4 0 0 (j 1) k)
      + ∑ k : Fin 704, c (ix4 0 0 (j 0) k) * r (ix4 0 0 (j 1) k) + ∑ k : Fin 704, d (ix4 0 0 (j 0) k) * s (ix4 0 0 (j 1) k) := by
  pointwise [k0_pay27]

theorem pay28 (v : Vec Ideal S528x1024 .f32) (a b c d : Vec Ideal S1x1x528x704 .bf16) (p q r s : Vec Ideal S1x1x1024x704 .bf16) (j : S528x1024.Idx) :
    (k0_pay28 (F := Ideal) v a p b q c r d s j : EReal) = v j + ∑ k : Fin 704, a (ix4 0 0 (j 0) k) * p (ix4 0 0 (j 1) k) + ∑ k : Fin 704, b (ix4 0 0 (j 0) k) * q (ix4 0 0 (j 1) k)
      + ∑ k : Fin 704, c (ix4 0 0 (j 0) k) * r (ix4 0 0 (j 1) k) + ∑ k : Fin 704, d (ix4 0 0 (j 0) k) * s (ix4 0 0 (j 1) k) := by
  pointwise [k0_pay28]

end Cert.Kernel7Ideal.Dh

end
-- ==== Proof.DhBlocks.lean ====
module

public import proofs.«01_k».proof.Proof.DhPay
public import Idealize.ShloMosaic.Lib.WritesUnit

/-! The gradient through `w_ffn_gate_up`, the modulation and the norm: what each grid point of the kernel leaves in its two
    results, at the ideal instance. -/

@[expose] public section

set_option maxHeartbeats 2000000

noncomputable section

namespace Cert.Kernel7Ideal.Dh

open Cert.Kernel7Ideal Cert.Kernel7Ideal.Gen Idealize.ShloMosaic Idealize.ShloMosaic.TcCoe Idealize.SL.Sem
open Idealize.ShloMosaic.Tactic

/-- The block of products. -/
def PD (x0 : Vec Ideal S2x4x528x704 .bf16) (x1 : Vec Ideal S2x4x1024x704 .bf16) : Vec Ideal S528x1024 .f32 :=
  fun i => prod x0 x1 (i 0) (i 1)

/-- The eight groups' products are the block's product. -/
theorem blockD (x0 : Vec Ideal S2x4x528x704 .bf16) (x1 : Vec Ideal S2x4x1024x704 .bf16) :
    k0_pay1 (F := Ideal) (k0_pay28 (F := Ideal) (k0_pay27 (F := Ideal) (View.ld x0 (Rect.unit (s := S2x4x528x704) ![0, 0, 0, 0] S1x1x528x704.size inb_S2x4x528x704_S1x1x528x704_0_0_0_0)) (View.ld x1 (Rect.unit (s := S2x4x1024x704) ![0, 0, 0, 0] S1x1x1024x704.size inb_S2x4x1024x704_S1x1x1024x704_0_0_0_0)) (View.ld x0 (Rect.unit (s := S2x4x528x704) ![1, 0, 0, 0] S1x1x528x704.size inb_S2x4x528x704_S1x1x528x704_1_0_0_0)) (View.ld x1 (Rect.unit (s := S2x4x1024x704) ![1, 0, 0, 0] S1x1x1024x704.size inb_S2x4x1024x704_S1x1x1024x704_1_0_0_0)) (View.ld x0 (Rect.unit (s := S2x4x528x704) ![0, 1, 0, 0] S1x1x528x704.size inb_S2x4x528x704_S1x1x528x704_0_1_0_0)) (View.ld x1 (Rect.unit (s := S2x4x1024x704) ![0, 1, 0, 0] S1x1x1024x704.size inb_S2x4x1024x704_S1x1x1024x704_0_1_0_0)) (View.ld x0 (Rect.unit (s := S2x4x528x704) ![1, 1, 0, 0] S1x1x528x704.size inb_S2x4x528x704_S1x1x528x704_1_1_0_0)) (View.ld x1 (Rect.unit (s := S2x4x1024x704) ![1, 1, 0, 0] S1x1x1024x704.size inb_S2x4x1024x704_S1x1x1024x704_1_1_0_0))) (View.ld x0 (Rect.unit (s := S2x4x528x704) ![0, 2, 0, 0] S1x1x528x704.size inb_S2x4x528x704_S1x1x528x704_0_2_0_0)) (View.ld x1 (Rect.unit (s := S2x4x1024x704) ![0, 2, 0, 0] S1x1x1024x704.size inb_S2x4x1024x704_S1x1x1024x704_0_2_0_0)) (View.ld x0 (Rect.unit (s := S2x4x528x704) ![1, 2, 0, 0] S1x1x528x704.size inb_S2x4x528x704_S1x1x528x704_1_2_0_0)) (View.ld x1 (Rect.unit (s := S2x4x1024x704) ![1, 2, 0, 0] S1x1x1024x704.size inb_S2x4x1024x704_S1x1x1024x704_1_2_0_0)) (View.ld x0 (Rect.unit (s := S2x4x528x704) ![0, 3, 0, 0] S1x1x528x704.size inb_S2x4x528x704_S1x1x528x704_0_3_0_0)) (View.ld x1 (Rect.unit (s := S2x4x1024x704) ![0, 3, 0, 0] S1x1x1024x704.size inb_S2x4x1024x704_S1x1x1024x704_0_3_0_0)) (View.ld x0 (Rect.unit (s := S2x4x528x704) ![1, 3, 0, 0] S1x1x528x704.size inb_S2x4x528x704_S1x1x528x704_1_3_0_0)) (View.ld x1 (Rect.unit (s := S2x4x1024x704) ![1, 3, 0, 0] S1x1x1024x704.size inb_S2x4x1024x704_S1x1x1024x704_1_3_0_0))) = PD x0 x1 := by
  funext j
  rw [pay1, pay28, pay27]
  unfold PD prod
  rw [Fin.sum_univ_two, Fin.sum_univ_four, Fin.sum_univ_four]
  refine Eq.trans ?_ (show (∑ k : Fin 704, (x0 (ix4 0 0 (j 0) k) * x1 (ix4 0 0 (j 1) k) : EReal)) + (∑ k : Fin 704, (x0 (ix4 1 0 (j 0) k) * x1 (ix4 1 0 (j 1) k) : EReal))
      + (∑ k : Fin 704, (x0 (ix4 0 1 (j 0) k) * x1 (ix4 0 1 (j 1) k) : EReal)) + (∑ k : Fin 704, (x0 (ix4 1 1 (j 0) k) * x1 (ix4 1 1 (j 1) k) : EReal))
      + (∑ k : Fin 704, (x0 (ix4 0 2 (j 0) k) * x1 (ix4 0 2 (j 1) k) : EReal)) + (∑ k : Fin 704, (x0 (ix4 1 2 (j 0) k) * x1 (ix4 1 2 (j 1) k) : EReal))
      + (∑ k : Fin 704, (x0 (ix4 0 3 (j 0) k) * x1 (ix4 0 3 (j 1) k) : EReal)) + (∑ k : Fin 704, (x0 (ix4 1 3 (j 0) k) * x1 (ix4 1 3 (j 1) k) : EReal)) = _ from by abel)
  pointwise [View.ld]

/-! ## The buffer of the sums, read element by element -/

section Read

variable {sg : RefSig} {κ : Kind} {sp : Space} (v : View sg κ sp S2x8x1024 .f32) (f : v.ty.Contents (Elt Ideal))

/-- A store of one row of one kind. -/
theorem one (a b : ℕ) (inb : ∀ d, (![a, b, 0] : Fin 3 → ℕ) d + S1x1x1024.size d ≤ S2x8x1024.size d)
    (w : (Rect.unit (s := S2x8x1024) ![a, b, 0] S1x1x1024.size inb).shape.Idx → Elt Ideal .f32) (L : List (View.Piece (Elt Ideal) S2x8x1024 .f32)) (k : Fin 2) (i : Fin 8) (q : Fin 1024) :
    v.read (Elt Ideal) (v.writes (Elt Ideal) f ((⟨Rect.unit (s := S2x8x1024) ![a, b, 0] S1x1x1024.size inb, w⟩ : View.Piece (Elt Ideal) S2x8x1024 .f32) :: L)) (ix3 k i q)
      = if k.val = a ∧ i.val = b then w (ix3 (0 : Fin 1) (0 : Fin 1) q) else v.read (Elt Ideal) (v.writes (Elt Ideal) f L) (ix3 k i q) := by
  by_cases h : k.val = a ∧ i.val = b
  · rw [if_pos h]
    refine View.read_writes_cons_unit_of_mem v f inb w L _ (ix3 (0 : Fin 1) (0 : Fin 1) q) rfl fun d => ?_
    match d with
    | ⟨0, _⟩ => exact h.1
    | ⟨1, _⟩ => exact h.2
    | ⟨2, _⟩ => exact (Nat.zero_add _).symm
  · rw [if_neg h]
    by_cases hk : k.val = a
    · refine View.read_writes_cons_unit_of_not_mem v f inb w L _ rfl (1 : Fin 3) ?_
      show i.val < b ∨ b + 1 ≤ i.val
      omega
    · refine View.read_writes_cons_unit_of_not_mem v f inb w L _ rfl (0 : Fin 3) ?_
      show k.val < a ∨ a + 1 ≤ k.val
      omega

/-- A store of one row of both kinds. -/
theorem two (b : ℕ) (inb : ∀ d, (![0, b, 0] : Fin 3 → ℕ) d + S2x1x1024.size d ≤ S2x8x1024.size d)
    (w : (Rect.unit (s := S2x8x1024) ![0, b, 0] S2x1x1024.size inb).shape.Idx → Elt Ideal .f32) (L : List (View.Piece (Elt Ideal) S2x8x1024 .f32)) (k : Fin 2) (i : Fin 8) (q : Fin 1024) :
    v.read (Elt Ideal) (v.writes (Elt Ideal) f ((⟨Rect.unit (s := S2x8x1024) ![0, b, 0] S2x1x1024.size inb, w⟩ : View.Piece (Elt Ideal) S2x8x1024 .f32) :: L)) (ix3 k i q)
      = if i.val = b then w (ix3 k (0 : Fin 1) q) else v.read (Elt Ideal) (v.writes (Elt Ideal) f L) (ix3 k i q) := by
  by_cases h : i.val = b
  · rw [if_pos h]
    refine View.read_writes_cons_unit_of_mem v f inb w L _ (ix3 k (0 : Fin 1) q) rfl fun d => ?_
    match d with
    | ⟨0, _⟩ => exact (Nat.zero_add _).symm
    | ⟨1, _⟩ => exact h
    | ⟨2, _⟩ => exact (Nat.zero_add _).symm
  · rw [if_neg h]
    refine View.read_writes_cons_unit_of_not_mem v f inb w L _ rfl (1 : Fin 3) ?_
    show i.val < b ∨ b + 1 ≤ i.val
    omega

/-- A store of the whole buffer. -/
theorem all (inb : ∀ d, (![0, 0, 0] : Fin 3 → ℕ) d + S2x8x1024.size d ≤ S2x8x1024.size d)
    (w : (Rect.unit (s := S2x8x1024) ![0, 0, 0] S2x8x1024.size inb).shape.Idx → Elt Ideal .f32) (L : List (View.Piece (Elt Ideal) S2x8x1024 .f32)) (k : Fin 2) (i : Fin 8) (q : Fin 1024) :
    v.read (Elt Ideal) (v.writes (Elt Ideal) f ((⟨Rect.unit (s := S2x8x1024) ![0, 0, 0] S2x8x1024.size inb, w⟩ : View.Piece (Elt Ideal) S2x8x1024 .f32) :: L)) (ix3 k i q) = w (ix3 k i q) := by
  refine View.read_writes_cons_unit_of_mem v f inb w L _ (ix3 k i q) rfl fun d => ?_
  match d with
  | ⟨0, _⟩ => exact (Nat.zero_add _).symm
  | ⟨1, _⟩ => exact (Nat.zero_add _).symm
  | ⟨2, _⟩ => exact (Nat.zero_add _).symm

/-- The finished sums' load of row 1 of both kinds. -/
theorem load (L : List (View.Piece (Elt Ideal) S2x8x1024 .f32)) (inb : ∀ d, (![0, 1, 0] : Fin 3 → ℕ) d + S2x1x1024.size d ≤ S2x8x1024.size d) (k : Fin 2) (q : Fin 1024) :
    v.readCov L (Rect.unit (s := S2x8x1024) ![0, 1, 0] S2x1x1024.size inb).toLoadRect (ix3 k (0 : Fin 1) q)
      = v.read (Elt Ideal) (v.writes (Elt Ideal) v.junk L) (ix3 k (1 : Fin 8) q) := by
  have h : (Rect.unit (s := S2x8x1024) ![0, 1, 0] S2x1x1024.size inb).toLoadRect.idx (ix3 k (0 : Fin 1) q) = ix3 k (1 : Fin 8) q := by
    funext d
    match d with
    | ⟨0, _⟩ => exact Fin.ext (by show 0 + 1 * k.val = k.val; omega)
    | ⟨1, _⟩ => rfl
    | ⟨2, _⟩ => exact Fin.ext (by show 0 + 1 * q.val = q.val; omega)
  exact congrArg (v.read (Elt Ideal) (v.writes (Elt Ideal) v.junk L)) h

end Read

/-! ## What the points leave -/

/-- A token's gradient times its normalised row. -/
def d1 (x0 : Vec Ideal S2x4x528x704 .bf16) (x1 : Vec Ideal S2x4x1024x704 .bf16) (x2 : Vec Ideal S528x1024 .f32) (r : Fin 528) (q : Fin 1024) : EReal :=
  prod x0 x1 r q * (x2 (ix2 r q) * rms (fun k => x2 (ix2 r k)))

theorem lr00 (a : Vec Ideal S2x8x1024 .f32) (q : Fin 1024) : (View.ld a (Rect.unit (s := S2x8x1024) ![0, 0, 0] S1x1x1024.size inb_S2x8x1024_S1x1x1024_0_0_0) (ix3 0 0 q) : EReal) = a (ix3 0 0 q) := by
  pointwise [View.ld]
theorem lr01 (a : Vec Ideal S2x8x1024 .f32) (q : Fin 1024) : (View.ld a (Rect.unit (s := S2x8x1024) ![0, 1, 0] S1x1x1024.size inb_S2x8x1024_S1x1x1024_0_1_0) (ix3 0 0 q) : EReal) = a (ix3 0 1 q) := by
  pointwise [View.ld]
theorem lr10 (a : Vec Ideal S2x8x1024 .f32) (q : Fin 1024) : (View.ld a (Rect.unit (s := S2x8x1024) ![1, 0, 0] S1x1x1024.size inb_S2x8x1024_S1x1x1024_1_0_0) (ix3 0 0 q) : EReal) = a (ix3 1 0 q) := by
  pointwise [View.ld]
theorem lr11 (a : Vec Ideal S2x8x1024 .f32) (q : Fin 1024) : (View.ld a (Rect.unit (s := S2x8x1024) ![1, 1, 0] S1x1x1024.size inb_S2x8x1024_S1x1x1024_1_1_0) (ix3 0 0 q) : EReal) = a (ix3 1 1 q) := by
  pointwise [View.ld]
theorem lm01 (a : Vec Ideal S2x9x1024 .f32) (q : Fin 1024) : (View.ld a (Rect.unit (s := S2x9x1024) ![0, 1, 0] S1x1x1024.size inb_S2x9x1024_S1x1x1024_0_1_0) (ix3 0 0 q) : EReal) = a (ix3 0 1 q) := by
  pointwise [View.ld]
theorem lm11 (a : Vec Ideal S2x9x1024 .f32) (q : Fin 1024) : (View.ld a (Rect.unit (s := S2x9x1024) ![1, 1, 0] S1x1x1024.size inb_S2x9x1024_S1x1x1024_1_1_0) (ix3 0 0 q) : EReal) = a (ix3 1 1 q) := by
  pointwise [View.ld]
theorem lm1 (a : Vec Ideal S2x9x1024 .f32) (k : Fin 2) (q : Fin 1024) : (View.ld a (Rect.unit (s := S2x9x1024) ![0, 1, 0] S2x1x1024.size inb_S2x9x1024_S2x1x1024_0_1_0) (ix3 k 0 q) : EReal) = a (ix3 k 1 q) := by
  pointwise [View.ld]

/-- A row of the sums of one kind of token after the last point: the latent's share of the block is what the context's leaves. -/
def last (u : EReal) (f : Fin 528 → Fin 1024 → EReal) (k : Fin 2) (q : Fin 1024) : EReal :=
  if k.val = 0 then u + ((∑ r : Fin 528, f r q) - ∑ r : Fin 528, if 8192 ≤ 7920 + r.val then f r q else 0)
  else u + ∑ r : Fin 528, if 8192 ≤ 7920 + r.val then f r q else 0

theorem ctxsum (f : Fin 528 → EReal) :
    (∑ r : Fin 528, if k0_pay15 (BitVec.ofNat 32 15) (ix2 r 0) = 1#1 then f r else 0) = ∑ r : Fin 528, if 8192 ≤ 7920 + r.val then f r else 0 := by
  refine Finset.sum_congr rfl fun r _ => ?_
  have h := pay15 (ix2 r 0)
  by_cases hc : 8192 ≤ 7920 + r.val
  · rw [if_pos hc, if_pos (h.trans (if_pos hc))]
  · rw [if_neg hc, if_neg (by rw [h.trans (if_neg hc)]; decide)]

theorem last0 (x0 : Vec Ideal S2x4x528x704 .bf16) (x1 : Vec Ideal S2x4x1024x704 .bf16) (a : Vec Ideal S2x8x1024 .f32) (u : Vec Ideal S1x1x1024 .f32) (q : Fin 1024) :
    (k0_pay24 (F := Ideal) (k0_pay15 (BitVec.ofNat 32 15)) (PD x0 x1) u (ix3 0 0 q) : EReal) = last (u (ix3 0 0 q)) (prod x0 x1) 0 q
    ∧ (k0_pay25 (F := Ideal) (k0_pay15 (BitVec.ofNat 32 15)) (PD x0 x1) u (ix3 0 0 q) : EReal) = last (u (ix3 0 0 q)) (prod x0 x1) 1 q := by
  constructor
  · rw [pay24, pay23]
    exact congrArg (fun z => (u (ix3 0 0 q) : EReal) + ((∑ r : Fin 528, prod x0 x1 r q) - z)) (ctxsum fun r => prod x0 x1 r q)
  · rw [pay25, pay23]
    exact congrArg (fun z => (u (ix3 0 0 q) : EReal) + z) (ctxsum fun r => prod x0 x1 r q)

theorem last1 (x0 : Vec Ideal S2x4x528x704 .bf16) (x1 : Vec Ideal S2x4x1024x704 .bf16) (x2 : Vec Ideal S528x1024 .f32) (u : Vec Ideal S1x1x1024 .f32) (q : Fin 1024) :
    (k0_pay6 (F := Ideal) (k0_pay15 (BitVec.ofNat 32 15)) (k0_pay21 (PD x0 x1) (k0_pay17 x2)) (k0_pay26 (PD x0 x1) (k0_pay17 x2)) u (ix3 0 0 q) : EReal) = last (u (ix3 0 0 q)) (d1 x0 x1 x2) 0 q
    ∧ (k0_pay7 (F := Ideal) (k0_pay15 (BitVec.ofNat 32 15)) (k0_pay21 (PD x0 x1) (k0_pay17 x2)) u (ix3 0 0 q) : EReal) = last (u (ix3 0 0 q)) (d1 x0 x1 x2) 1 q := by
  have e : ∀ r : Fin 528, (k0_pay21 (F := Ideal) (PD x0 x1) (k0_pay17 x2) (ix2 r q) : EReal) = d1 x0 x1 x2 r q := fun r => by
    unfold d1
    have h := pay17 x2 (ix2 r q)
    refine Eq.trans (show _ = (PD x0 x1 (ix2 r q) : EReal) * k0_pay17 (F := Ideal) x2 (ix2 r q) by pointwise [k0_pay21]) ?_
    exact congrArg (fun z => prod x0 x1 r q * z) h
  have c : (k0_pay5 (F := Ideal) (k0_pay15 (BitVec.ofNat 32 15)) (k0_pay21 (PD x0 x1) (k0_pay17 x2)) (ix2 0 q) : EReal) = ∑ r : Fin 528, if 8192 ≤ 7920 + r.val then d1 x0 x1 x2 r q else 0 := by
    rw [pay5]
    refine Eq.trans (ctxsum fun r => k0_pay21 (F := Ideal) (PD x0 x1) (k0_pay17 x2) (ix2 r q)) ?_
    exact Finset.sum_congr rfl fun r _ => by rw [e r]
  constructor
  · rw [pay6, pay26]
    refine Eq.trans (congrArg (fun z => (u (ix3 0 0 q) : EReal) + ((∑ r : Fin 528, (show EReal from PD x0 x1 (ix2 r q)) * k0_pay17 (F := Ideal) x2 (ix2 r q)) - z)) c) ?_
    refine congrArg (fun z => (u (ix3 0 0 q) : EReal) + (z - _)) ?_
    exact Finset.sum_congr rfl fun r _ => congrArg (fun z => prod x0 x1 r q * z) (pay17 x2 (ix2 r q))
  · rw [pay7]
    exact congrArg (fun z => (u (ix3 0 0 q) : EReal) + z) c

theorem coord : ∀ t : Fin cfg0.N, (grid0.coords t 0).val = t.val :=
  (by decide +kernel : ∀ t : Fin grid0.N, _)

variable (m : (ℓ : Loc nD τ sig) → Buf (Elt Ideal) ℓ)

theorem sum1 (x0 : Vec Ideal S2x4x528x704 .bf16) (x1 : Vec Ideal S2x4x1024x704 .bf16) (x2 : Vec Ideal S528x1024 .f32) (q : Fin 1024) :
    (∑ r : Fin 528, (show EReal from k0_pay14 (F := Ideal) x2 (PD x0 x1) (ix2 r q))) = ∑ r : Fin 528, d1 x0 x1 x2 r q :=
  Finset.sum_congr rfl fun r _ => pay14 x2 (PD x0 x1) (ix2 r q)

theorem valA (c : Dev nD) (t : Fin cfg0.N) (h0 : t.val = 0) (k : Fin 2) (i : Fin 8) (q : Fin 1024) :
    (accA m c t h0 (ix3 k i q) : EReal) = if k.val = 0 ∧ i.val = 1 then ∑ r : Fin 528, d1 (iblk m c 0 t) (iblk m c 1 t) (iblk m c 2 t) r q
      else if k.val = 0 ∧ i.val = 0 then ∑ r : Fin 528, prod (iblk m c 0 t) (iblk m c 1 t) r q else 0 := by
  unfold accA rA
  frame_open
  simp (disch := decide) only [↓ View.readCov_skip, ↓ View.readCov_fill, ↓ View.readCov_cons_toLoadRect]
  simp (disch := decide) only [View.ld_unit_lit', View.readCov_unit_lit', View.readCov_cons_unit_lit', View.readAt_eq_ld, Memref.IsWhole.read_unread]
  simp only [blockD]
  rw [one, one, all, pay4, pay3, pay2]
  refine if_congr Iff.rfl ?_ (if_congr Iff.rfl ?_ rfl)
  · rw [lr01, pay2, zero_add]
    exact sum1 _ _ _ q
  · rw [lr00, pay2, zero_add]
    rfl

theorem valB (c : Dev nD) (t : Fin cfg0.N) (h0 : ¬ t.val = 0) (h2 : ¬ t.val = 15) (a : Vec Ideal S2x8x1024 .f32) (k : Fin 2) (i : Fin 8) (q : Fin 1024) :
    (accB m c t h0 h2 a (ix3 k i q) : EReal) = if k.val = 0 ∧ i.val = 1 then a (ix3 0 1 q) + ∑ r : Fin 528, d1 (iblk m c 0 t) (iblk m c 1 t) (iblk m c 2 t) r q
      else if k.val = 0 ∧ i.val = 0 then a (ix3 0 0 q) + ∑ r : Fin 528, prod (iblk m c 0 t) (iblk m c 1 t) r q else a (ix3 k i q) := by
  unfold accB rB
  frame_open
  simp (disch := decide) only [↓ View.readCov_skip, ↓ View.readCov_fill, ↓ View.readCov_cons_toLoadRect]
  simp (disch := decide) only [View.ld_unit_lit', View.readCov_unit_lit', View.readCov_cons_unit_lit', View.readAt_eq_ld, Memref.IsWhole.read_unread]
  simp only [blockD]
  rw [one, one, View.writes_nil, Memref.IsWhole.read_unread, pay4, pay3]
  refine if_congr Iff.rfl ?_ (if_congr Iff.rfl ?_ rfl)
  · rw [lr01]
    exact congrArg (fun z => (a (ix3 0 1 q) : EReal) + z) (sum1 _ _ _ q)
  · rw [lr00]
    rfl

theorem valC (c : Dev nD) (t : Fin cfg0.N) (h2 : t.val = 15) (a : Vec Ideal S2x8x1024 .f32) (k : Fin 2) (i : Fin 8) (q : Fin 1024) :
    (accC m c t h2 a (ix3 k i q) : EReal)
      = if i.val = 1 then (show EReal from iblk m c 4 t (ix2 0 q)) * last (a (ix3 k 1 q)) (d1 (iblk m c 0 t) (iblk m c 1 t) (iblk m c 2 t)) k q
        else if i.val = 2 then (1 + (show EReal from iblk m c 5 t (ix3 k 1 q))) * last (a (ix3 k 1 q)) (d1 (iblk m c 0 t) (iblk m c 1 t) (iblk m c 2 t)) k q
        else if i.val = 0 then last (a (ix3 k 0 q)) (prod (iblk m c 0 t) (iblk m c 1 t)) k q
        else a (ix3 k i q) := by
  have hi : (grid0.coords t 0).val = 15 := (coord t).trans h2
  unfold accC rC
  frame_open
  simp (disch := decide) only [↓ View.readCov_skip, ↓ View.readCov_fill, ↓ View.readCov_cons_toLoadRect]
  simp (disch := decide) only [View.ld_unit_lit', View.readCov_unit_lit', View.readCov_cons_unit_lit', View.readAt_eq_ld, Memref.IsWhole.read_unread]
  simp only [blockD]
  rw [two, two, one, one, one, one, View.writes_nil, Memref.IsWhole.read_unread]
  rw [pay10, pay9, load, lm1, hi]
  rw [one, one, one, one]
  rw [(last1 _ _ _ _ q).1, (last1 _ _ _ _ q).2, (last0 _ _ a _ q).1, (last0 _ _ a _ q).2, lr00, lr01, lr10, lr11]
  obtain ⟨k, hk⟩ := k
  obtain rfl | rfl : k = 0 ∨ k = 1 := by omega
  · by_cases e1 : i.val = 1
    · simp [e1]
    by_cases e2 : i.val = 2
    · simp [e2]
    by_cases e0 : i.val = 0
    · simp [e0]
    simp [e0, e1, e2]
  · by_cases e1 : i.val = 1
    · simp [e1]
    by_cases e2 : i.val = 2
    · simp [e2]
    by_cases e0 : i.val = 0
    · simp [e0]
    simp [e0, e1, e2]

/-- The kind of a token: 1 for the context's, 0 for the latent's. -/
def kind (n : ℕ) : Fin 2 := if 8192 ≤ n then 1 else 0

theorem valX (c : Dev nD) (t : Fin cfg0.N) (r : Fin 528) (q : Fin 1024) :
    (dxAt m c t (ix2 r q) : EReal) = dx (fun k => iblk m c 2 t (ix2 r k)) (prod (iblk m c 0 t) (iblk m c 1 t) r)
      (fun k => iblk m c 5 t (ix3 (kind (t.val * 528 + r.val)) 1 k)) (fun k => iblk m c 4 t (ix2 0 k)) (iblk m c 3 t (ix2 r q)) q := by
  have hN : cfg0.N = 16 := N_0
  have ht := t.isLt
  have hr := r.isLt
  unfold dxAt
  by_cases h0 : t.val = 0
  · rw [dif_pos h0]
    unfold rA
    frame_open
    simp (disch := decide) only [↓ View.readCov_skip, ↓ View.readCov_fill, ↓ View.readCov_cons_toLoadRect]
    simp (disch := decide) only [View.ld_unit_lit', View.readCov_unit_lit', View.readCov_cons_unit_lit', View.readAt_eq_ld, Memref.IsWhole.read_unread]
    simp only [View.read_writes_junk_eq_canon]
    rw [View.canon_cons_unit_lit' _ _ _ (by decide)]
    simp only [blockD]
    rw [show kind (t.val * 528 + r.val) = 0 from if_neg (by omega)]
    refine (pay13 _ _ _ _ _ (ix2 r q)).trans ?_
    refine congrArg (fun s => dx _ _ s _ _ q) (funext fun k => lm01 _ k)
  · rw [dif_neg h0]
    by_cases h2 : t.val = 15
    · rw [dif_pos h2]
      have hi : (grid0.coords t 0).val = 15 := (coord t).trans h2
      unfold rC
      frame_open
      simp (disch := decide) only [↓ View.readCov_skip, ↓ View.readCov_fill, ↓ View.readCov_cons_toLoadRect]
      simp (disch := decide) only [View.ld_unit_lit', View.readCov_unit_lit', View.readCov_cons_unit_lit', View.readAt_eq_ld, Memref.IsWhole.read_unread]
      simp only [View.read_writes_junk_eq_canon]
      rw [View.canon_cons_unit_lit' _ _ _ (by decide)]
      simp only [blockD]
      rw [hi]
      refine (pay20 _ _ _ _ _ _ (ix2 r q)).trans ?_
      refine congrArg (fun s => dx _ _ s _ _ q) (funext fun k => ?_)
      by_cases hc : 8192 ≤ 7920 + r.val
      · rw [show kind (t.val * 528 + r.val) = 1 from if_pos (by omega)]
        exact (if_pos hc).trans (lm11 _ k)
      · rw [show kind (t.val * 528 + r.val) = 0 from if_neg (by omega)]
        exact (if_neg hc).trans (lm01 _ k)
    · rw [dif_neg h2]
      unfold rB
      frame_open
      simp (disch := decide) only [↓ View.readCov_skip, ↓ View.readCov_fill, ↓ View.readCov_cons_toLoadRect]
      simp (disch := decide) only [View.ld_unit_lit', View.readCov_unit_lit', View.readCov_cons_unit_lit', View.readAt_eq_ld, Memref.IsWhole.read_unread]
      simp only [View.read_writes_junk_eq_canon]
      rw [View.canon_cons_unit_lit' _ _ _ (by decide)]
      simp only [blockD]
      rw [show kind (t.val * 528 + r.val) = 0 from if_neg (by omega)]
      refine (pay13 _ _ _ _ _ (ix2 r q)).trans ?_
      refine congrArg (fun s => dx _ _ s _ _ q) (funext fun k => lm01 _ k)

end Cert.Kernel7Ideal.Dh

end
-- ==== Proof.DhRef.lean ====
module

public import proofs.«01_k».proof.Proof.DhPay
public import proofs.«01_k».proof.Proof.Gen.Reference7Ideal.Read
public import Idealize.ShloMosaic.Lib.Pipeline.ValueKit

/-! The gradient through `w_ffn_gate_up`, the modulation and the norm: the reference's two results, element by element, at
    the ideal instance. -/

@[expose] public section

set_option maxHeartbeats 2000000

noncomputable section

namespace Cert.Kernel7Ideal.Dh

open Cert.Kernel7Ideal Cert.Kernel7Ideal.Gen Idealize.ShloMosaic Idealize.ShloMosaic.TcCoe Idealize.SL.Sem
open Idealize.ShloMosaic.Tactic

/-- The gradient at the modulated input: token `R`, channel `j`. -/
def H (x0 : Vec Ideal S2x4x8448x704 .bf16) (x1 : Vec Ideal S2x4x1024x704 .bf16) (R : Fin 8448) (j : Fin 1024) : EReal :=
  ∑ s : Fin 2, ∑ q : Fin 4, ∑ k : Fin 704, x0 (ix4 s q R k) * x1 (ix4 s q j k)

/-- The mean square of a token's row, kept away from zero. -/
def var (x : Fin 1024 → EReal) : EReal := Ideal.div (∑ k : Fin 1024, x k * x k) (Ideal.ofBits .f32 1149239296#32) + Ideal.ofBits .f32 897988541#32

/-- What the derivative of a token's mean square brings back, before it meets the row. -/
def back (x d s g : Fin 1024 → EReal) : EReal :=
  Ideal.div ((∑ k : Fin 1024, x k * dn d s g k) * (Ideal.ofBits .f32 3204448256#32 * Ideal.div (rms x) (var x))) (Ideal.ofBits .f32 1149239296#32)

/-- The gradient at the norm's input, as the derivative of the reference's lines writes it. -/
def dxr (x d s g : Fin 1024 → EReal) (j : Fin 1024) : EReal := dn d s g j * rms x + x j * back x d s g + back x d s g * x j

/-- A latent token's number among all the tokens. -/
def lat (p : Fin 8192) : Fin 8448 := ⟨p.val, by omega⟩

/-- A context token's number among all the tokens. -/
def con (p : Fin 256) : Fin 8448 := ⟨8192 + p.val, by omega⟩

open Cert.Reference7Ideal.Read

variable (x0 : Vec Ideal S2x4x8448x704 .bf16) (x1 : Vec Ideal S2x4x1024x704 .bf16) (x2 x3 : Vec Ideal S8448x1024 .f32) (x4 : Vec Ideal S1x1024 .f32) (x5 : Vec Ideal S2x9x1024 .f32)

theorem sum5632 (f : Fin 5632 → EReal) (G : Fin 2 → Fin 4 → Fin 704 → EReal)
    (h : ∀ (s : Fin 2) (q : Fin 4) (k : Fin 704) (hl : s.val * 2816 + (q.val * 704 + k.val) < 5632), G s q k = f ⟨s.val * 2816 + (q.val * 704 + k.val), hl⟩) :
    ∑ l, f l = ∑ s, ∑ q, ∑ k, G s q k := by
  symm
  refine Eq.trans (Finset.sum_congr rfl fun s _ => ?_) (Fin.sum_mul_add_congr (S := 2) (n := 2816) (F := fun s l => f ⟨s.val * 2816 + l.val, by omega⟩) (fun s l hl => rfl) (show 5632 = 2 * 2816 by decide))
  exact Fin.sum_mul_add_congr (fun q k hl => h s q k (by omega)) (show 2816 = 4 * 704 by decide)

theorem v38_eq (p : Fin 8192) (j : Fin 1024) : (val_main_v38 (F := Ideal) x0 x1 (ix2 p j) : EReal) = H x0 x1 (lat p) j := by
  unfold H lat
  pointwise [val_main_v38, val_main_v37, val_main_v2, val_main_v1, val_main_v0, val_main_v35, val_main_v34, val_main_v33]
  refine sum5632 _ _ fun s q k hl => ?_
  have hs := s.isLt
  have hq := q.isLt
  have hk := k.isLt
  refine congrArg₂ (fun a b : EReal => a * b) ?_ ?_
  · blk_ext []
  · blk_ext []

/-- The gradient at the shift. -/
theorem v41_eq (j : Fin 1024) : (val_main_v41 (F := Ideal) x0 x1 (ix1 j) : EReal) = ∑ p : Fin 8192, H x0 x1 (lat p) j := by
  pointwise [val_main_v41, val_main_v40, val_main_v39, val_main_cst_12, val_main_cst_11, val_main_cst_10, val_main_cst_9, val_main_cst_8, val_main_cst_7, val_main_cst_6, val_main_cst_5, val_main_cst_4, val_main_cst_3, val_main_cst_2, val_main_cst_1, val_main_cst_0, val_main_cst]
  simp only [v38_eq, Fin.sum_univ_one]

/-- The gradient at the scale. -/
theorem v47_eq (j : Fin 1024) : (val_main_v47 (F := Ideal) x0 x1 x2 x4 (ix1 j) : EReal)
    = ∑ p : Fin 8192, x2 (ix2 (lat p) j) * rms (fun k => x2 (ix2 (lat p) k)) * x4 (ix2 0 j) * H x0 x1 (lat p) j := by
  unfold rms
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_12, val_main_cst_11, val_main_cst_10, val_main_cst_9, val_main_cst_8, val_main_cst_7, val_main_cst_6, val_main_cst_5, val_main_cst_4, val_main_cst_3, val_main_cst_2, val_main_cst_1, val_main_cst_0, val_main_cst]
  simp only [v38_eq, Fin.sum_univ_one]
  rfl

/-- The gradient at the norm's weight. -/
theorem v53_eq (j : Fin 1024) : (val_main_v53 (F := Ideal) x0 x1 x2 x5 (ix1 j) : EReal)
    = ∑ p : Fin 8192, x2 (ix2 (lat p) j) * rms (fun k => x2 (ix2 (lat p) k)) * (H x0 x1 (lat p) j * (1 + x5 (ix3 0 1 j))) := by
  unfold rms
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_12, val_main_cst_11, val_main_cst_10, val_main_cst_9, val_main_cst_8, val_main_cst_7, val_main_cst_6, val_main_cst_5, val_main_cst_4, val_main_cst_3, val_main_cst_2, val_main_cst_1, val_main_cst_0, val_main_cst]
  simp only [v38_eq, Fin.sum_univ_one]
  rfl

/-- The gradient at the rows. -/
theorem v67_eq (p : Fin 8192) (j : Fin 1024) : (val_main_v67 (F := Ideal) x0 x1 x2 x4 x5 (ix2 p j) : EReal)
    = dxr (fun k => x2 (ix2 (lat p) k)) (H x0 x1 (lat p)) (fun k => x5 (ix3 0 1 k)) (fun k => x4 (ix2 0 k)) j := by
  unfold dxr back dn rms var
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_12, val_main_cst_11, val_main_cst_10, val_main_cst_9, val_main_cst_8, val_main_cst_7, val_main_cst_6, val_main_cst_5, val_main_cst_4, val_main_cst_3, val_main_cst_2, val_main_cst_1, val_main_cst_0, val_main_cst]
  simp only [v38_eq, Fin.sum_univ_one]
  rfl

theorem v103_eq (p : Fin 256) (j : Fin 1024) : (val_main_v103 (F := Ideal) x0 x1 (ix2 p j) : EReal) = H x0 x1 (con p) j := by
  unfold H con
  pointwise [val_main_v103, val_main_v102, val_main_v2, val_main_v1, val_main_v0, val_main_v100, val_main_v99, val_main_v98]
  refine sum5632 _ _ fun s q k hl => ?_
  have hs := s.isLt
  have hq := q.isLt
  have hk := k.isLt
  refine congrArg₂ (fun a b : EReal => a * b) ?_ ?_
  · blk_ext []
  · blk_ext []

/-- The gradient at the shift. -/
theorem v106_eq (j : Fin 1024) : (val_main_v106 (F := Ideal) x0 x1 (ix1 j) : EReal) = ∑ p : Fin 256, H x0 x1 (con p) j := by
  pointwise [val_main_v106, val_main_v105, val_main_v104, val_main_cst_26, val_main_cst_25, val_main_cst_24, val_main_cst_23, val_main_cst_22, val_main_cst_21, val_main_cst_20, val_main_cst_19, val_main_cst_18, val_main_cst_17, val_main_cst_16, val_main_cst_15, val_main_cst_14, val_main_cst_13]
  simp only [v103_eq, Fin.sum_univ_one]

/-- The gradient at the scale. -/
theorem v112_eq (j : Fin 1024) : (val_main_v112 (F := Ideal) x0 x1 x2 x4 (ix1 j) : EReal)
    = ∑ p : Fin 256, x2 (ix2 (con p) j) * rms (fun k => x2 (ix2 (con p) k)) * x4 (ix2 0 j) * H x0 x1 (con p) j := by
  unfold rms
  pointwise [val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_cst_26, val_main_cst_25, val_main_cst_24, val_main_cst_23, val_main_cst_22, val_main_cst_21, val_main_cst_20, val_main_cst_19, val_main_cst_18, val_main_cst_17, val_main_cst_16, val_main_cst_15, val_main_cst_14, val_main_cst_13]
  simp only [v103_eq, Fin.sum_univ_one]
  rfl

/-- The gradient at the norm's weight. -/
theorem v118_eq (j : Fin 1024) : (val_main_v118 (F := Ideal) x0 x1 x2 x5 (ix1 j) : EReal)
    = ∑ p : Fin 256, x2 (ix2 (con p) j) * rms (fun k => x2 (ix2 (con p) k)) * (H x0 x1 (con p) j * (1 + x5 (ix3 1 1 j))) := by
  unfold rms
  pointwise [val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_cst_26, val_main_cst_25, val_main_cst_24, val_main_cst_23, val_main_cst_22, val_main_cst_21, val_main_cst_20, val_main_cst_19, val_main_cst_18, val_main_cst_17, val_main_cst_16, val_main_cst_15, val_main_cst_14, val_main_cst_13]
  simp only [v103_eq, Fin.sum_univ_one]
  rfl

/-- The gradient at the rows. -/
theorem v132_eq (p : Fin 256) (j : Fin 1024) : (val_main_v132 (F := Ideal) x0 x1 x2 x4 x5 (ix2 p j) : EReal)
    = dxr (fun k => x2 (ix2 (con p) k)) (H x0 x1 (con p)) (fun k => x5 (ix3 1 1 k)) (fun k => x4 (ix2 0 k)) j := by
  unfold dxr back dn rms var
  pointwise [val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_cst_26, val_main_cst_25, val_main_cst_24, val_main_cst_23, val_main_cst_22, val_main_cst_21, val_main_cst_20, val_main_cst_19, val_main_cst_18, val_main_cst_17, val_main_cst_16, val_main_cst_15, val_main_cst_14, val_main_cst_13]
  simp only [v103_eq, Fin.sum_univ_one]
  rfl

/-- The reference's first result at a latent token. -/
theorem v134_lat (p : Fin 8192) (j : Fin 1024) : (val_main_v134 (F := Ideal) x0 x1 x2 x3 x4 x5 (ix2 (lat p) j) : EReal)
    = x3 (ix2 (lat p) j) + dxr (fun k => x2 (ix2 (lat p) k)) (H x0 x1 (lat p)) (fun k => x5 (ix3 0 1 k)) (fun k => x4 (ix2 0 k)) j := by
  rw [← v67_eq]
  pointwise [val_main_v134, val_main_v133]
  rw [dif_pos (show (lat p).val < 8192 from p.isLt)]
  rfl

/-- The reference's first result at a context token. -/
theorem v134_con (p : Fin 256) (j : Fin 1024) : (val_main_v134 (F := Ideal) x0 x1 x2 x3 x4 x5 (ix2 (con p) j) : EReal)
    = x3 (ix2 (con p) j) + dxr (fun k => x2 (ix2 (con p) k)) (H x0 x1 (con p)) (fun k => x5 (ix3 1 1 k)) (fun k => x4 (ix2 0 k)) j := by
  rw [← v132_eq]
  pointwise [val_main_v134, val_main_v133]
  rw [dif_neg (show ¬ (con p).val < 8192 by unfold con; simp)]
  refine congrArg (fun a : EReal => x3 (ix2 (con p) j) + a) (congrArg (fun a : Fin 256 => val_main_v132 (F := Ideal) x0 x1 x2 x4 x5 (ix2 a j)) (Fin.ext ?_))
  show 8192 + p.val - 8192 = p.val
  omega

/-- The reference's second result: the three rows of sums of each kind of token, and rows of zeros below them. -/
theorem v149_eq (k : Fin 2) (i : Fin 8) (q : Fin 1024) : (val_main_v149 (F := Ideal) x0 x1 x2 x4 x5 (ix3 k i q) : EReal)
    = if k.val = 0 then
        if i.val = 0 then val_main_v41 (F := Ideal) x0 x1 (ix1 q) else if i.val = 1 then val_main_v47 (F := Ideal) x0 x1 x2 x4 (ix1 q)
        else if i.val = 2 then val_main_v53 (F := Ideal) x0 x1 x2 x5 (ix1 q) else 0
      else
        if i.val = 0 then val_main_v106 (F := Ideal) x0 x1 (ix1 q) else if i.val = 1 then val_main_v112 (F := Ideal) x0 x1 x2 x4 (ix1 q)
        else if i.val = 2 then val_main_v118 (F := Ideal) x0 x1 x2 x5 (ix1 q) else 0 := by
  pointwise [val_main_v149, val_main_v148, val_main_v147, val_main_v146, val_main_v145, val_main_v144, val_main_v143, val_main_v142, val_main_v141, val_main_v140, val_main_v139, val_main_v138, val_main_v137, val_main_v136, val_main_v135, val_main_cst_27, val_main_cst_28]
  have hi := i.isLt
  split_ifs <;> first | (exfalso; omega) | rfl

end Cert.Kernel7Ideal.Dh

end
-- ==== Proof.DhValue.lean ====
module

public import proofs.«01_k».proof.Proof.DhBlocks
public import proofs.«01_k».proof.Proof.DhRef
public import Idealize.ShloMosaic.Lib.Pipeline.ReadBack

/-! The gradient through `w_ffn_gate_up`, the modulation and the norm: the two arrays the kernel ends with, in terms of its
    arguments, at the ideal instance. -/

@[expose] public section

set_option maxHeartbeats 2000000

noncomputable section

namespace Cert.Kernel7Ideal.Dh

open Cert.Kernel7Ideal Cert.Kernel7Ideal.Gen Idealize.ShloMosaic Idealize.ShloMosaic.TcCoe Idealize.SL.Sem
open Idealize.ShloMosaic.Tactic

variable (m : (ℓ : Loc nD τ sig) → Buf (Elt Ideal) ℓ)

/-- The six arguments. -/
abbrev a0 (c : Dev nD) : Vec Ideal S2x4x8448x704 .bf16 := m ((c : Thread nD τ).loc main_arg0)
abbrev a1 (c : Dev nD) : Vec Ideal S2x4x1024x704 .bf16 := m ((c : Thread nD τ).loc main_arg1)
abbrev a2 (c : Dev nD) : Vec Ideal S8448x1024 .f32 := m ((c : Thread nD τ).loc main_arg2)
abbrev a3 (c : Dev nD) : Vec Ideal S8448x1024 .f32 := m ((c : Thread nD τ).loc main_arg3)
abbrev a4 (c : Dev nD) : Vec Ideal S1x1024 .f32 := m ((c : Thread nD τ).loc main_arg4)
abbrev a5 (c : Dev nD) : Vec Ideal S2x9x1024 .f32 := m ((c : Thread nD τ).loc main_arg5)

/-- The gradient at the modulated input against the normalised row. -/
def Q (x0 : Vec Ideal S2x4x8448x704 .bf16) (x1 : Vec Ideal S2x4x1024x704 .bf16) (x2 : Vec Ideal S8448x1024 .f32) (R : Fin 8448) (j : Fin 1024) : EReal :=
  H x0 x1 R j * (x2 (ix2 R j) * rms (fun k => x2 (ix2 R k)))

/-- A function of a token's number, zero past the last token. -/
def row (f : Fin 8448 → Fin 1024 → EReal) (n : ℕ) (q : Fin 1024) : EReal := if h : n < 8448 then f ⟨n, h⟩ q else 0

/-- A block's sum. -/
def bsum (f : Fin 8448 → Fin 1024 → EReal) (t : ℕ) (q : Fin 1024) : EReal := ∑ r : Fin 528, row f (t * 528 + r.val) q

/-- The sums of each kind of token, as the last point finishes them. -/
def tot (f : Fin 8448 → Fin 1024 → EReal) (k : Fin 2) (q : Fin 1024) : EReal :=
  last (if k.val = 0 then ∑ p ∈ Finset.range 15, bsum f p q else 0) (fun r => row f (15 * 528 + r.val)) k q

/-- The gradients at the rows. -/
def A6 (c : Dev nD) : S8448x1024.Idx → EReal := fun i =>
  dx (fun k => a2 m c (ix2 (i 0) k)) (H (a0 m c) (a1 m c) (i 0)) (fun k => a5 m c (ix3 (kind (i 0).val) 1 k)) (fun k => a4 m c (ix2 0 k)) (a3 m c i) (i 1)

/-- The finished sums. -/
def A7 (c : Dev nD) : S2x8x1024.Idx → EReal := fun i =>
  if (i 1).val = 1 then a4 m c (ix2 0 (i 2)) * tot (Q (a0 m c) (a1 m c) (a2 m c)) (i 0) (i 2)
  else if (i 1).val = 2 then (1 + a5 m c (ix3 (i 0) 1 (i 2))) * tot (Q (a0 m c) (a1 m c) (a2 m c)) (i 0) (i 2)
  else if (i 1).val = 0 then tot (H (a0 m c) (a1 m c)) (i 0) (i 2)
  else 0

/-- The windows' block indices at a point. -/
theorem idx : ∀ t : Fin cfg0.N, win0_0.index t = ![0, 0, t.val, 0] ∧ win0_1.index t = ![0, 0, 0, 0] ∧ win0_2.index t = ![t.val, 0]
    ∧ win0_3.index t = ![t.val, 0] ∧ win0_4.index t = ![0, 0] ∧ win0_5.index t = ![0, 0, 0] :=
  (by decide +kernel : ∀ t : Fin grid0.N, _)

theorem idx6 : ∀ t : Fin cfg0.N, win0_6.index t = ![t.val, 0] :=
  (by decide +kernel : ∀ t : Fin grid0.N, _)

theorem idx7 : ∀ t : Fin cfg0.N, win0_7.index t = ![0, 0, 0] :=
  (by decide +kernel : ∀ t : Fin grid0.N, _)

theorem flush6 : ∀ t : Fin cfg0.N, (cfg0.win 6).flush t = true :=
  (by decide +kernel : ∀ t : Fin grid0.N, _)

/-- The blocks fill the array. -/
theorem covered6 (i : S8448x1024.Idx) : ∃ t : Fin cfg0.N, (cfg0.win 6).flush t = true ∧ i ∈ ((cfg0.win 6).blk t).view.set := by
  have h0 : (i 0).val < 8448 := (i 0).isLt
  have h1 : (i 1).val < 1024 := (i 1).isLt
  have hN : cfg0.N = 16 := N_0
  have ht : (i 0).val / 528 < cfg0.N := by omega
  have hi := idx6 ⟨(i 0).val / 528, ht⟩
  refine ⟨⟨(i 0).val / 528, ht⟩, flush6 _, ?_⟩
  show i ∈ ((View.whole (Pipeline.arrRef spec0 6)).slice (win0_6.rect ⟨(i 0).val / 528, ht⟩)).set
  rw [View.set_slice_whole, Rect.mem_set_unit]
  have q0 : win0_6.index ⟨(i 0).val / 528, ht⟩ (0 : Fin 2) = (i 0).val / 528 := congrFun hi 0
  have q1 : win0_6.index ⟨(i 0).val / 528, ht⟩ (1 : Fin 2) = 0 := congrFun hi 1
  intro a
  match a with
  | ⟨0, _⟩ => show win0_6.index ⟨(i 0).val / 528, ht⟩ (0 : Fin 2) * 528 ≤ (i 0).val ∧ (i 0).val < win0_6.index ⟨(i 0).val / 528, ht⟩ (0 : Fin 2) * 528 + 528; omega
  | ⟨1, _⟩ => show win0_6.index ⟨(i 0).val / 528, ht⟩ (1 : Fin 2) * 1024 ≤ (i 1).val ∧ (i 1).val < win0_6.index ⟨(i 0).val / 528, ht⟩ (1 : Fin 2) * 1024 + 1024; omega

/-- The one block of sums fills its array, and the last point leaves it. -/
theorem covered7 (i : S2x8x1024.Idx) : ∃ t : Fin cfg0.N, (cfg0.win 7).flush t = true ∧ i ∈ ((cfg0.win 7).blk t).view.set := by
  have h0 : (i 0).val < 2 := (i 0).isLt
  have h1 : (i 1).val < 8 := (i 1).isLt
  have h2 : (i 2).val < 1024 := (i 2).isLt
  have hN : cfg0.N = 16 := N_0
  have ht : 15 < cfg0.N := by omega
  have hi := idx7 ⟨15, ht⟩
  refine ⟨⟨15, ht⟩, (flush0_7 _).2 rfl, ?_⟩
  show i ∈ ((View.whole (Pipeline.arrRef spec0 7)).slice (win0_7.rect ⟨15, ht⟩)).set
  rw [View.set_slice_whole, Rect.mem_set_unit]
  have q0 : win0_7.index ⟨15, ht⟩ (0 : Fin 3) = 0 := congrFun hi 0
  have q1 : win0_7.index ⟨15, ht⟩ (1 : Fin 3) = 0 := congrFun hi 1
  have q2 : win0_7.index ⟨15, ht⟩ (2 : Fin 3) = 0 := congrFun hi 2
  intro a
  match a with
  | ⟨0, _⟩ => show win0_7.index ⟨15, ht⟩ (0 : Fin 3) * 2 ≤ (i 0).val ∧ (i 0).val < win0_7.index ⟨15, ht⟩ (0 : Fin 3) * 2 + 2; omega
  | ⟨1, _⟩ => show win0_7.index ⟨15, ht⟩ (1 : Fin 3) * 8 ≤ (i 1).val ∧ (i 1).val < win0_7.index ⟨15, ht⟩ (1 : Fin 3) * 8 + 8; omega
  | ⟨2, _⟩ => show win0_7.index ⟨15, ht⟩ (2 : Fin 3) * 1024 ≤ (i 2).val ∧ (i 2).val < win0_7.index ⟨15, ht⟩ (2 : Fin 3) * 1024 + 1024; omega

/-! ## A block's rows are their tokens' rows -/

theorem prod_eq (c : Dev nD) (t : Fin cfg0.N) (r : Fin 528) (R : Fin 8448) (h : R.val = t.val * 528 + r.val) :
    prod (iblk m c 0 t) (iblk m c 1 t) r = H (a0 m c) (a1 m c) R := by
  obtain ⟨i0, i1, -⟩ := idx t
  funext j
  unfold prod H
  refine Finset.sum_congr rfl fun s _ => Finset.sum_congr rfl fun q _ => Finset.sum_congr rfl fun k _ => congrArg₂ (fun a b : EReal => a * b) ?_ ?_
  · blk_ext [iblk, V, i0]
  · blk_ext [iblk, V, i1]

theorem x_eq (c : Dev nD) (t : Fin cfg0.N) (r : Fin 528) (R : Fin 8448) (h : R.val = t.val * 528 + r.val) (j : Fin 1024) :
    (show EReal from iblk m c 2 t (ix2 r j)) = a2 m c (ix2 R j) := by
  obtain ⟨-, -, i2, -⟩ := idx t
  blk_ext [iblk, V, i2]

theorem o_eq (c : Dev nD) (t : Fin cfg0.N) (r : Fin 528) (R : Fin 8448) (h : R.val = t.val * 528 + r.val) (j : Fin 1024) :
    (show EReal from iblk m c 3 t (ix2 r j)) = a3 m c (ix2 R j) := by
  obtain ⟨-, -, -, i3, -⟩ := idx t
  blk_ext [iblk, V, i3]

theorem g_eq (c : Dev nD) (t : Fin cfg0.N) (j : Fin 1024) : (show EReal from iblk m c 4 t (ix2 0 j)) = a4 m c (ix2 0 j) := by
  obtain ⟨-, -, -, -, i4, -⟩ := idx t
  blk_ext [iblk, V, i4]

theorem s_eq (c : Dev nD) (t : Fin cfg0.N) (k : Fin 2) (j : Fin 1024) : (show EReal from iblk m c 5 t (ix3 k 1 j)) = a5 m c (ix3 k 1 j) := by
  obtain ⟨-, -, -, -, -, i5⟩ := idx t
  blk_ext [iblk, V, i5]

theorem d1_eq (c : Dev nD) (t : Fin cfg0.N) (r : Fin 528) (R : Fin 8448) (h : R.val = t.val * 528 + r.val) :
    d1 (iblk m c 0 t) (iblk m c 1 t) (iblk m c 2 t) r = Q (a0 m c) (a1 m c) (a2 m c) R := by
  funext j
  have e : (fun k : Fin 1024 => (show EReal from iblk m c 2 t (ix2 r k))) = fun k => a2 m c (ix2 R k) := funext fun k => x_eq m c t r R h k
  unfold d1 Q
  refine congrArg₂ (fun a b : EReal => a * b) (congrFun (prod_eq m c t r R h) j) (congrArg₂ (fun a b : EReal => a * b) (x_eq m c t r R h j) (congrArg rms e))

theorem row_of (f : Fin 8448 → Fin 1024 → EReal) (n : ℕ) (h : n < 8448) : row f n = f ⟨n, h⟩ := funext fun _ => dif_pos h

theorem prod_row (c : Dev nD) (t : Fin cfg0.N) (r : Fin 528) :
    prod (iblk m c 0 t) (iblk m c 1 t) r = row (H (a0 m c) (a1 m c)) (t.val * 528 + r.val) := by
  have hN : cfg0.N = 16 := N_0
  have ht := t.isLt
  rw [row_of _ _ (by omega)]
  exact prod_eq m c t r _ rfl

theorem d1_row (c : Dev nD) (t : Fin cfg0.N) (r : Fin 528) :
    d1 (iblk m c 0 t) (iblk m c 1 t) (iblk m c 2 t) r = row (Q (a0 m c) (a1 m c) (a2 m c)) (t.val * 528 + r.val) := by
  have hN : cfg0.N = 16 := N_0
  have ht := t.isLt
  rw [row_of _ _ (by omega)]
  exact d1_eq m c t r _ rfl

/-! ## The gradients at the rows -/

theorem at6 (c : Dev nD) (t : Fin cfg0.N) (x : S528x1024.Idx) (z : S8448x1024.Idx) (h0 : (z 0).val = t.val * 528 + (x 0).val) (h1 : (z 1).val = (x 1).val) :
    (dxAt m c t x : EReal) = A6 m c z := by
  obtain ⟨r, q, rfl⟩ : ∃ (r : Fin 528) (q : Fin 1024), x = ix2 r q := ⟨x 0, x 1, (ix2_eta x).symm⟩
  obtain ⟨R, j, rfl⟩ : ∃ (R : Fin 8448) (j : Fin 1024), z = ix2 R j := ⟨z 0, z 1, (ix2_eta z).symm⟩
  have e : j = q := Fin.ext h1
  have h : R.val = t.val * 528 + r.val := h0
  subst e
  rw [valX]
  unfold A6
  have e2 : (fun k : Fin 1024 => (show EReal from iblk m c 2 t (ix2 r k))) = fun k => a2 m c (ix2 R k) := funext fun k => x_eq m c t r R h k
  have e4 : (fun k : Fin 1024 => (show EReal from iblk m c 4 t (ix2 0 k))) = fun k => a4 m c (ix2 0 k) := funext fun k => g_eq m c t k
  have e5 : (fun k : Fin 1024 => (show EReal from iblk m c 5 t (ix3 (kind (t.val * 528 + r.val)) 1 k))) = fun k => a5 m c (ix3 (kind R.val) 1 k) :=
    funext fun k => (s_eq m c t _ k).trans (by rw [h])
  have e3 := o_eq m c t r R h j
  dsimp only at e2 e3 e4 e5
  rw [e2, e3, e4, e5, prod_eq m c t r R h]
  rfl

theorem flushed6 (c : Dev nD) (t : Fin cfg0.N) :
    (dats m 0 c).flushed 6 t = ((cfg0.win 6).blk t).view.read (Elt Ideal) (A6 m c) := by
  have hi := idx6 t
  funext y
  have hb0 : (((cfg0.win 6).blk t).view.emb y 0).val = win0_6.index t (0 : Fin 2) * 528 + 1 * (y 0).val := rfl
  have hb1 : (((cfg0.win 6).blk t).view.emb y 1).val = win0_6.index t (1 : Fin 2) * 1024 + 1 * (y 1).val := rfl
  have q0 : win0_6.index t (0 : Fin 2) = t.val := congrFun hi 0
  have q1 : win0_6.index t (1 : Fin 2) = 0 := congrFun hi 1
  show dxAt m c t ((cfg0.win 6).xinj (grid0.coords t) y) = A6 m c (((cfg0.win 6).blk t).view.emb y)
  refine at6 m c t _ _ ?_ ?_
  · show (((cfg0.win 6).blk t).view.emb y 0).val = t.val * 528 + (y 0).val
    rw [hb0, q0]; omega
  · show (((cfg0.win 6).blk t).view.emb y 1).val = (y 1).val
    rw [hb1, q1]; omega

/-- What the array of gradients at the rows ends with. -/
theorem final6 (c : Dev nD) : (dats m 0 c).arrAt 6 cfg0.N = A6 m c :=
  (dats m 0 c).arrAt_eq_of_cover 6 _ (fun t _ => flushed6 m c t) covered6

/-! ## The sums -/

/-- The sums before the last point. -/
theorem acc_eq (c : Dev nD) : ∀ (n : ℕ) (hn : n < cfg0.N), n < 15 → ∀ (k : Fin 2) (i : Fin 8) (q : Fin 1024),
    (acc m c n hn (ix3 k i q) : EReal) = if k.val = 0 ∧ i.val = 1 then ∑ p ∈ Finset.range (n + 1), bsum (Q (a0 m c) (a1 m c) (a2 m c)) p q
      else if k.val = 0 ∧ i.val = 0 then ∑ p ∈ Finset.range (n + 1), bsum (H (a0 m c) (a1 m c)) p q else 0 := by
  intro n
  induction n with
  | zero =>
    intro hn _ k i q
    rw [acc_A m c ⟨0, hn⟩ rfl, valA, Finset.sum_range_one, Finset.sum_range_one]
    simp only [prod_row, d1_row]
    rfl
  | succ n ih =>
    intro hn hl k i q
    have h0 : ¬ (n + 1 = 0) := Nat.succ_ne_zero n
    have h2 : ¬ (n + 1 = 15) := by omega
    rw [acc_B m c ⟨n + 1, hn⟩ h0 h2, valB]
    have e := ih (Nat.lt_of_succ_lt hn) (by omega)
    have e1 := e 0 1 q
    have e0 := e 0 0 q
    have ek := e k i q
    rw [if_pos ⟨rfl, rfl⟩] at e1
    rw [if_neg (by decide), if_pos ⟨rfl, rfl⟩] at e0
    rw [Finset.sum_range_succ _ (n + 1), Finset.sum_range_succ _ (n + 1)]
    simp only [prod_row, d1_row]
    by_cases c1 : k.val = 0 ∧ i.val = 1
    · rw [if_pos c1, if_pos c1]
      exact congrArg (fun a : EReal => a + _) e1
    · rw [if_neg c1, if_neg c1]
      by_cases c0 : k.val = 0 ∧ i.val = 0
      · rw [if_pos c0, if_pos c0]
        exact congrArg (fun a : EReal => a + _) e0
      · rw [if_neg c0, if_neg c0]
        rw [if_neg c1, if_neg c0] at ek
        exact ek

/-- The finished sums. -/
theorem acc_last (c : Dev nD) (t : Fin cfg0.N) (h2 : t.val = 15) (z : S2x8x1024.Idx) : (acc m c t.val t.isLt z : EReal) = A7 m c z := by
  obtain ⟨k, i, q, rfl⟩ : ∃ (k : Fin 2) (i : Fin 8) (q : Fin 1024), z = ix3 k i q := ⟨z 0, z 1, z 2, (ix3_eta z).symm⟩
  have hk := k.isLt
  rw [acc_C m c t h2, valC]
  have e : ∀ (k : Fin 2) (i : Fin 8) (q : Fin 1024), (accPrev m c t (ix3 k i q) : EReal)
      = if k.val = 0 ∧ i.val = 1 then ∑ p ∈ Finset.range 15, bsum (Q (a0 m c) (a1 m c) (a2 m c)) p q
      else if k.val = 0 ∧ i.val = 0 then ∑ p ∈ Finset.range 15, bsum (H (a0 m c) (a1 m c)) p q else 0 := fun k i q => by
    have := acc_eq m c (t.val - 1) (Nat.lt_of_le_of_lt (Nat.sub_le _ _) t.isLt) (by omega) k i q
    rw [show t.val - 1 + 1 = 15 by omega] at this
    exact this
  have e1 : (accPrev m c t (ix3 k 1 q) : EReal) = if k.val = 0 then ∑ p ∈ Finset.range 15, bsum (Q (a0 m c) (a1 m c) (a2 m c)) p q else 0 := by
    rw [e]
    by_cases h : k.val = 0
    · rw [if_pos ⟨h, rfl⟩, if_pos h]
    · rw [if_neg (fun a => h a.1), if_neg (fun a => h a.1), if_neg h]
  have e0 : (accPrev m c t (ix3 k 0 q) : EReal) = if k.val = 0 then ∑ p ∈ Finset.range 15, bsum (H (a0 m c) (a1 m c)) p q else 0 := by
    rw [e]
    by_cases h : k.val = 0
    · rw [if_neg (fun a => absurd a.2 (by decide)), if_pos ⟨h, rfl⟩, if_pos h]
    · rw [if_neg (fun a => h a.1), if_neg (fun a => h a.1), if_neg h]
  have fd : d1 (iblk m c 0 t) (iblk m c 1 t) (iblk m c 2 t) = fun r => row (Q (a0 m c) (a1 m c) (a2 m c)) (15 * 528 + r.val) := funext fun r => by rw [d1_row, h2]
  have fp : prod (iblk m c 0 t) (iblk m c 1 t) = fun r => row (H (a0 m c) (a1 m c)) (15 * 528 + r.val) := funext fun r => by rw [prod_row, h2]
  have eg := g_eq m c t q
  have es := s_eq m c t k q
  dsimp only at eg es
  rw [e1, e0, fd, fp]
  show (if i.val = 1 then _ else _) = if i.val = 1 then _ else _
  by_cases c1 : i.val = 1
  · rw [if_pos c1, if_pos c1]
    exact congrArg (fun a : EReal => a * _) eg
  · rw [if_neg c1, if_neg c1]
    show (if i.val = 2 then _ else _) = if i.val = 2 then _ else _
    by_cases c2 : i.val = 2
    · rw [if_pos c2, if_pos c2]
      exact congrArg (fun a : EReal => (1 + a) * _) es
    · rw [if_neg c2, if_neg c2]
      show (if i.val = 0 then _ else _) = if i.val = 0 then _ else _
      by_cases c0 : i.val = 0
      · rw [if_pos c0, if_pos c0]
        rfl
      · rw [if_neg c0, if_neg c0, e, if_neg (fun a => c1 a.2), if_neg (fun a => c0 a.2)]

theorem flushed7 (c : Dev nD) (t : Fin cfg0.N) (hf : (cfg0.win 7).flush t = true) :
    (dats m 0 c).flushed 7 t = ((cfg0.win 7).blk t).view.read (Elt Ideal) (A7 m c) := by
  have hN : cfg0.N = 16 := N_0
  have hl := t.isLt
  have h2 : t.val = 15 := by
    have := (flush0_7 t).1 hf
    omega
  have hi := idx7 t
  funext y
  have hb0 : (((cfg0.win 7).blk t).view.emb y 0).val = win0_7.index t (0 : Fin 3) * 2 + 1 * (y 0).val := rfl
  have hb1 : (((cfg0.win 7).blk t).view.emb y 1).val = win0_7.index t (1 : Fin 3) * 8 + 1 * (y 1).val := rfl
  have hb2 : (((cfg0.win 7).blk t).view.emb y 2).val = win0_7.index t (2 : Fin 3) * 1024 + 1 * (y 2).val := rfl
  have q0 : win0_7.index t (0 : Fin 3) = 0 := congrFun hi 0
  have q1 : win0_7.index t (1 : Fin 3) = 0 := congrFun hi 1
  have q2 : win0_7.index t (2 : Fin 3) = 0 := congrFun hi 2
  show acc m c t.val t.isLt ((cfg0.win 7).xinj (grid0.coords t) y) = A7 m c (((cfg0.win 7).blk t).view.emb y)
  refine Eq.trans (acc_last m c t h2 _) (congrArg (A7 m c) ?_)
  funext a
  refine Fin.ext ?_
  match a with
  | ⟨0, _⟩ => show (y 0).val = (((cfg0.win 7).blk t).view.emb y 0).val; rw [hb0, q0]; omega
  | ⟨1, _⟩ => show (y 1).val = (((cfg0.win 7).blk t).view.emb y 1).val; rw [hb1, q1]; omega
  | ⟨2, _⟩ => show (y 2).val = (((cfg0.win 7).blk t).view.emb y 2).val; rw [hb2, q2]; omega

/-- What the array of sums ends with. -/
theorem final7 (c : Dev nD) : (dats m 0 c).arrAt 7 cfg0.N = A7 m c :=
  (dats m 0 c).arrAt_eq_of_cover 7 _ (fun t h => flushed7 m c t h) covered7

end Cert.Kernel7Ideal.Dh

end
-- ==== Proof.DhFinal.lean ====
module

public import proofs.«01_k».proof.Proof.DhValue
public import proofs.«01_k».proof.Pre_finite7
public import Idealize.ShloMosaic.Lib.ReduceAll

/-! The gradient through `w_ffn_gate_up`, the modulation and the norm: on finite arguments the kernel's two arrays are the
    reference's two results. -/

@[expose] public section

set_option maxHeartbeats 1000000

noncomputable section

namespace Cert.Kernel7Ideal.Dh

open Cert.Kernel7Ideal Cert.Kernel7Ideal.Gen Idealize.ShloMosaic Idealize.ShloMosaic.TcCoe Idealize.SL.Sem
open Idealize.ShloMosaic.Tactic

/-! ## The constants -/

theorem w1024 : Ideal.ofBits .f32 1149239296#32 = ((1024 : ℝ) : EReal) := by
  simp [Ideal.ofBits, Ideal.ieee, -EReal.coe_mul]; norm_num

theorem whalf : Ideal.ofBits .f32 3204448256#32 = ((-(1 / 2) : ℝ) : EReal) := by
  simp [Ideal.ofBits, Ideal.ieee, -EReal.coe_mul, -EReal.coe_neg]; norm_num

theorem weps : ∃ e : ℝ, 0 < e ∧ Ideal.ofBits .f32 897988541#32 = (e : EReal) := by
  refine ⟨(2 ^ 23 + 407485) * (2 : ℝ) ^ (-43 : Int), by positivity, ?_⟩
  simp [Ideal.ofBits, Ideal.ieee, -EReal.coe_mul]; norm_num

/-! ## Sums of finite numbers -/

/-- Says of an element that it is finite. -/
abbrev Fi (x : EReal) : Prop := ∃ r : ℝ, x = r

theorem fi_mul {x y : EReal} (hx : Fi x) (hy : Fi y) : Fi (x * y) := by
  obtain ⟨p, rfl⟩ := hx
  obtain ⟨q, rfl⟩ := hy
  exact ⟨p * q, (EReal.coe_mul p q).symm⟩

theorem fi_add {x y : EReal} (hx : Fi x) (hy : Fi y) : Fi (x + y) := by
  obtain ⟨p, rfl⟩ := hx
  obtain ⟨q, rfl⟩ := hy
  exact ⟨p + q, (EReal.coe_add p q).symm⟩

/-- The sum of reals is the real sum. -/
theorem coe_sum {ι : Type} (s : Finset ι) (f : ι → ℝ) : ∑ k ∈ s, (f k : EReal) = ((∑ k ∈ s, f k : ℝ) : EReal) :=
  (map_sum (⟨⟨fun x : ℝ => (x : EReal), EReal.coe_zero⟩, EReal.coe_add⟩ : ℝ →+ EReal) f s).symm

theorem fi_sum {ι : Type} (s : Finset ι) (f : ι → EReal) (hf : ∀ k, Fi (f k)) : Fi (∑ k ∈ s, f k) := by
  choose p hp using hf
  refine ⟨∑ k ∈ s, p k, ?_⟩
  simp only [hp]
  exact coe_sum s p

/-- A finite factor goes into a sum of finite numbers. -/
theorem fac {n : ℕ} (a : EReal) (f g : Fin n → EReal) (ha : Fi a) (hf : ∀ k, Fi (f k)) (h : ∀ k, a * f k = g k) : a * ∑ k, f k = ∑ k, g k := by
  obtain ⟨r, rfl⟩ := ha
  choose p hp using hf
  simp only [← h, hp, ← EReal.coe_mul, coe_sum, Finset.mul_sum]

/-! ## The sums of each kind of token -/

section Tot

variable (f : Fin 8448 → Fin 1024 → EReal) (q : Fin 1024)

theorem blocks (P : ℕ) : ∑ p ∈ Finset.range P, bsum f p q = ∑ n ∈ Finset.range (P * 528), row f n q := by
  induction P with
  | zero => rw [Nat.zero_mul, Finset.sum_range_zero, Finset.sum_range_zero]
  | succ P ih =>
    rw [Finset.sum_range_succ, ih, Nat.succ_mul, Finset.sum_range_add]
    congr 1

theorem latent_sum : ∑ n ∈ Finset.range 8192, row f n q = ∑ p : Fin 8192, f (lat p) q := by
  rw [Finset.sum_range]
  exact Finset.sum_congr rfl fun p _ => dif_pos (by omega)

theorem context_sum : ∑ n ∈ Finset.range 256, row f (8192 + n) q = ∑ p : Fin 256, f (con p) q := by
  rw [Finset.sum_range]
  exact Finset.sum_congr rfl fun p _ => dif_pos (by omega)

/-- The last block's context tokens. -/
theorem last_context : (∑ r : Fin 528, if 8192 ≤ 7920 + r.val then row f (15 * 528 + r.val) q else 0) = ∑ p : Fin 256, f (con p) q := by
  rw [← context_sum, ← Finset.sum_range (n := 528) fun n => if 8192 ≤ 7920 + n then row f (15 * 528 + n) q else 0,
    show (528 : ℕ) = 272 + 256 from rfl, Finset.sum_range_add, Finset.sum_eq_zero, zero_add]
  · refine Finset.sum_congr rfl fun n hn => ?_
    rw [if_pos (by omega)]
    exact congrArg (fun k => row f k q) (by omega)
  · intro n hn
    have := Finset.mem_range.mp hn
    exact if_neg (by omega)

/-- The last block's tokens. -/
theorem last_block : ∑ r : Fin 528, row f (15 * 528 + r.val) q = (∑ n ∈ Finset.range 272, row f (7920 + n) q) + ∑ p : Fin 256, f (con p) q := by
  rw [← context_sum, ← Finset.sum_range (n := 528) fun n => row f (15 * 528 + n) q,
    show (528 : ℕ) = 272 + 256 from rfl, Finset.sum_range_add]
  congr 1

theorem tot_context (k : Fin 2) (hk : ¬ k.val = 0) : tot f k q = ∑ p : Fin 256, f (con p) q := by
  unfold tot last
  rw [if_neg hk, if_neg hk, last_context, zero_add]

theorem tot_latent (k : Fin 2) (hk : k.val = 0) (hf : ∀ p : Fin 256, Fi (f (con p) q)) : tot f k q = ∑ p : Fin 8192, f (lat p) q := by
  obtain ⟨r, hr⟩ := fi_sum Finset.univ (fun p : Fin 256 => f (con p) q) hf
  unfold tot last
  rw [if_pos hk, if_pos hk, last_context, last_block, hr, EReal.add_sub_cancel_right, blocks, ← latent_sum,
    show (8192 : ℕ) = 15 * 528 + 272 from rfl, Finset.sum_range_add]

end Tot

/-! ## The row's gradient -/

/-- The mean square kept away from zero is a positive real. -/
theorem var_real (x : Fin 1024 → EReal) (hx : ∀ k, Fi (x k)) : ∃ v : ℝ, 0 < v ∧ var x = v := by
  choose p hp using hx
  obtain ⟨e, he, h⟩ := weps
  refine ⟨(∑ k, p k * p k) * (1 / 1024) + e, ?_, ?_⟩
  · have : 0 ≤ ∑ k, p k * p k := Finset.sum_nonneg fun k _ => mul_self_nonneg _
    positivity
  · unfold var
    rw [w1024, h, Ideal.div_coe (by norm_num)]
    simp only [hp, ← EReal.coe_mul, coe_sum, ← EReal.coe_add]

theorem rms_real (x : Fin 1024 → EReal) (v : ℝ) (hv : 0 < v) (h : var x = v) : rms x = (((Real.sqrt v)⁻¹ : ℝ) : EReal) := by
  have e : rms x = Ideal.rsqrt (var x) := rfl
  rw [e, h, Ideal.rsqrt_coe, if_neg (not_lt.mpr hv.le), if_neg hv.ne']

theorem fi_rms (x : Fin 1024 → EReal) (hx : ∀ k, Fi (x k)) : Fi (rms x) := by
  obtain ⟨v, hv, h⟩ := var_real x hx
  exact ⟨_, rms_real x v hv h⟩

theorem dx_eq (x d s g : Fin 1024 → EReal) (o : EReal) (j : Fin 1024) (hx : ∀ k, Fi (x k)) (hd : ∀ k, Fi (d k)) (hs : ∀ k, Fi (s k)) (hg : ∀ k, Fi (g k)) :
    o + dxr x d s g j = dx x d s g o j := by
  obtain ⟨v, hv, h⟩ := var_real x hx
  have hr := rms_real x v hv h
  have hn : ∀ k, Fi (dn d s g k) := fun k => fi_mul (fi_mul (hd k) (fi_add ⟨1, EReal.coe_one.symm⟩ (hs k))) (hg k)
  choose p hp using hx
  choose n hn using hn
  unfold dx dxr back
  refine congrArg (fun a : EReal => o + a) ?_
  rw [h, hr, w1024, whalf, Ideal.div_coe hv.ne', Ideal.div_coe (by norm_num : (1024 : ℝ) ≠ 0), Ideal.div_coe (by norm_num : (1024 : ℝ) ≠ 0)]
  simp only [hp, hn, ← EReal.coe_mul, coe_sum, ← EReal.coe_add, ← EReal.coe_sub]
  congr 1
  have e : ∑ k, n k * (p k * (Real.sqrt v)⁻¹) = (Real.sqrt v)⁻¹ * ∑ k, p k * n k := by
    rw [Finset.mul_sum]
    exact Finset.sum_congr rfl fun k _ => by ring
  have e2 : (Real.sqrt v)⁻¹ * (Real.sqrt v)⁻¹ = 1 / v := by
    rw [← mul_inv, Real.mul_self_sqrt hv.le, one_div]
  rw [e, ← e2]
  ring

/-! ## The arguments are finite -/

/-- A number whose absolute value is under infinity is a real. -/
theorem real_of (x : EReal) (h : Ideal.cmp .olt (max x (-x)) ⊤ = 1#1) : Fi x := by
  induction x with
  | bot => simp [Ideal.cmp] at h
  | top => simp [Ideal.cmp] at h
  | coe r => exact ⟨r, rfl⟩

open Cert.Pre_finite7 in
/-- What the precondition says of each element. -/
theorem finite [Cert.Pre_finite7.Facts] (x0 : Vec Ideal S2x4x8448x704 .bf16) (x1 : Vec Ideal S2x4x1024x704 .bf16) (x2 x3 : Vec Ideal S8448x1024 .f32) (x4 : Vec Ideal S1x1024 .f32) (x5 : Vec Ideal S2x9x1024 .f32)
    (h : fn (F := Ideal) x0 x1 x2 x3 x4 x5 = fun _ => 1#1) :
    (∀ i, Fi (x0 i)) ∧ (∀ i, Fi (x1 i)) ∧ (∀ i, Fi (x2 i)) ∧ (∀ i, Fi (x3 i)) ∧ (∀ i, Fi (x4 i)) ∧ (∀ i, Fi (x5 i)) := by
  have e := congrFun h (fun x => x.elim0)
  unfold fn fn_part1 at e
  dsimp only at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e1, e2⟩ := IntOp.andi_eq_one.mp e
  haveI : Subsingleton Cert.Pre_finite7.S_.Idx := ⟨fun p q => funext fun x => x.elim0⟩
  refine ⟨fun i => real_of _ ?_, fun i => real_of _ ?_, fun i => real_of _ ?_, fun i => real_of _ ?_, fun i => real_of _ ?_, fun i => real_of _ ?_⟩
  · exact Host.reduce_andi_all _ _ _ _ _ e1 i
  · exact Host.reduce_andi_all _ _ _ _ _ e2 i
  · exact Host.reduce_andi_all _ _ _ _ _ e3 i
  · exact Host.reduce_andi_all _ _ _ _ _ e4 i
  · exact Host.reduce_andi_all _ _ _ _ _ e5 i
  · exact Host.reduce_andi_all _ _ _ _ _ e6 i

/-! ## The two results -/

variable (m : (ℓ : Loc nD τ sig) → Buf (Elt Ideal) ℓ)

theorem fi_H (x0 : Vec Ideal S2x4x8448x704 .bf16) (x1 : Vec Ideal S2x4x1024x704 .bf16) (h0 : ∀ i, Fi (x0 i)) (h1 : ∀ i, Fi (x1 i)) (R : Fin 8448) (j : Fin 1024) : Fi (H x0 x1 R j) :=
  fi_sum _ _ fun s => fi_sum _ _ fun q => fi_sum _ _ fun k => fi_mul (h0 _) (h1 _)

theorem fi_Q (x0 : Vec Ideal S2x4x8448x704 .bf16) (x1 : Vec Ideal S2x4x1024x704 .bf16) (x2 : Vec Ideal S8448x1024 .f32) (h0 : ∀ i, Fi (x0 i)) (h1 : ∀ i, Fi (x1 i)) (h2 : ∀ i, Fi (x2 i)) (R : Fin 8448) (j : Fin 1024) :
    Fi (Q x0 x1 x2 R j) :=
  fi_mul (fi_H x0 x1 h0 h1 R j) (fi_mul (h2 _) (fi_rms _ fun k => h2 _))

open Cert.Reference7Ideal.Read in
/-- The gradients at the rows are the reference's, as the reference's run states them, on finite arguments. -/
theorem final_eq6 [Cert.Pre_finite7.Facts] (c : Dev nD) (x0 : Vec Ideal S2x4x8448x704 .bf16) (x1 : Vec Ideal S2x4x1024x704 .bf16) (x2 x3 : Vec Ideal S8448x1024 .f32) (x4 : Vec Ideal S1x1024 .f32) (x5 : Vec Ideal S2x9x1024 .f32)
    (e0 : x0 = a0 m c) (e1 : x1 = a1 m c) (e2 : x2 = a2 m c) (e3 : x3 = a3 m c) (e4 : x4 = a4 m c) (e5 : x5 = a5 m c)
    (h : Cert.Pre_finite7.fn (F := Ideal) x0 x1 x2 x3 x4 x5 = fun _ => 1#1) :
    val_main_v134 (F := Ideal) x0 x1 x2 x3 x4 x5 = (dats m 0 c).arrAt 6 cfg0.N := by
  rw [final6]
  obtain ⟨f0, f1, f2, -, f4, f5⟩ := finite x0 x1 x2 x3 x4 x5 h
  funext i
  obtain ⟨R, j, rfl⟩ : ∃ (R : Fin 8448) (j : Fin 1024), i = ix2 R j := ⟨i 0, i 1, (ix2_eta i).symm⟩
  show _ = dx (fun k => a2 m c (ix2 R k)) (H (a0 m c) (a1 m c) R) (fun k => a5 m c (ix3 (kind R.val) 1 k)) (fun k => a4 m c (ix2 0 k)) (a3 m c (ix2 R j)) j
  subst e0 e1 e2 e3 e4 e5
  by_cases hR : R.val < 8192
  · have hk : kind R.val = 0 := if_neg (by omega)
    obtain ⟨p, rfl⟩ : ∃ p : Fin 8192, R = lat p := ⟨⟨R.val, hR⟩, rfl⟩
    rw [hk]
    exact (v134_lat _ _ _ _ _ _ p j).trans (dx_eq _ _ _ _ _ j (fun k => f2 _) (fi_H _ _ f0 f1 _) (fun k => f5 _) (fun k => f4 _))
  · have hk : kind R.val = 1 := if_pos (by omega)
    obtain ⟨p, rfl⟩ : ∃ p : Fin 256, R = con p := ⟨⟨R.val - 8192, by omega⟩, Fin.ext (by show R.val = 8192 + (R.val - 8192); omega)⟩
    rw [hk]
    exact (v134_con _ _ _ _ _ _ p j).trans (dx_eq _ _ _ _ _ j (fun k => f2 _) (fi_H _ _ f0 f1 _) (fun k => f5 _) (fun k => f4 _))

open Cert.Reference7Ideal.Read in
/-- The sums are the reference's, as the reference's run states them, on finite arguments. -/
theorem final_eq7 [Cert.Pre_finite7.Facts] (c : Dev nD) (x0 : Vec Ideal S2x4x8448x704 .bf16) (x1 : Vec Ideal S2x4x1024x704 .bf16) (x2 x3 : Vec Ideal S8448x1024 .f32) (x4 : Vec Ideal S1x1024 .f32) (x5 : Vec Ideal S2x9x1024 .f32)
    (e0 : x0 = a0 m c) (e1 : x1 = a1 m c) (e2 : x2 = a2 m c) (e4 : x4 = a4 m c) (e5 : x5 = a5 m c)
    (h : Cert.Pre_finite7.fn (F := Ideal) x0 x1 x2 x3 x4 x5 = fun _ => 1#1) :
    val_main_v149 (F := Ideal) x0 x1 x2 x4 x5 = (dats m 0 c).arrAt 7 cfg0.N := by
  rw [final7]
  obtain ⟨f0, f1, f2, -, f4, f5⟩ := finite x0 x1 x2 x3 x4 x5 h
  have fH := fi_H x0 x1 f0 f1
  have fQ := fi_Q x0 x1 x2 f0 f1 f2
  funext z
  obtain ⟨k, i, q, rfl⟩ : ∃ (k : Fin 2) (i : Fin 8) (q : Fin 1024), z = ix3 k i q := ⟨z 0, z 1, z 2, (ix3_eta z).symm⟩
  show _ = if i.val = 1 then a4 m c (ix2 0 q) * tot (Q (a0 m c) (a1 m c) (a2 m c)) k q
    else if i.val = 2 then (1 + a5 m c (ix3 k 1 q)) * tot (Q (a0 m c) (a1 m c) (a2 m c)) k q
    else if i.val = 0 then tot (H (a0 m c) (a1 m c)) k q else 0
  subst e0 e1 e2 e4 e5
  refine (v149_eq _ _ _ _ _ k i q).trans ?_
  have fs : ∀ k : Fin 2, Fi (1 + a5 m c (ix3 k 1 q)) := fun k => fi_add ⟨1, EReal.coe_one.symm⟩ (f5 _)
  by_cases hk : k.val = 0
  · obtain rfl : k = 0 := Fin.ext hk
    rw [if_pos hk, tot_latent _ q 0 hk fun p => fQ _ q, tot_latent _ q 0 hk fun p => fH _ q]
    by_cases i1 : i.val = 1
    · rw [if_neg (by omega), if_pos i1, if_pos i1, v47_eq]
      exact (fac _ _ _ (f4 _) (fun p => fQ _ q) fun p => by unfold Q; ac_rfl).symm
    · by_cases i2 : i.val = 2
      · rw [if_neg (by omega), if_neg i1, if_pos i2, if_neg i1, if_pos i2, v53_eq]
        exact (fac _ _ _ (fs 0) (fun p => fQ _ q) fun p => by unfold Q; ac_rfl).symm
      · by_cases i0 : i.val = 0
        · rw [if_pos i0, if_neg i1, if_neg i2, if_pos i0, v41_eq]
        · rw [if_neg i0, if_neg i1, if_neg i2, if_neg i1, if_neg i2, if_neg i0]
  · obtain rfl : k = 1 := Fin.ext (by have := k.isLt; show k.val = 1; omega)
    rw [if_neg hk, tot_context _ q 1 hk, tot_context _ q 1 hk]
    by_cases i1 : i.val = 1
    · rw [if_neg (by omega), if_pos i1, if_pos i1, v112_eq]
      exact (fac _ _ _ (f4 _) (fun p => fQ _ q) fun p => by unfold Q; ac_rfl).symm
    · by_cases i2 : i.val = 2
      · rw [if_neg (by omega), if_neg i1, if_pos i2, if_neg i1, if_pos i2, v118_eq]
        exact (fac _ _ _ (fs 1) (fun p => fQ _ q) fun p => by unfold Q; ac_rfl).symm
      · by_cases i0 : i.val = 0
        · rw [if_pos i0, if_neg i1, if_neg i2, if_pos i0, v106_eq]
        · rw [if_neg i0, if_neg i1, if_neg i2, if_neg i1, if_neg i2, if_neg i0]

end Cert.Kernel7Ideal.Dh

end
-- ==== Proof.Adam.lean ====
module

public import Idealize.ShloMosaic.Lib.Pipeline.ReadBack
public import Idealize.ShloMosaic.Lib.Pipeline.ValueKit

/-! One step of AdamW on one number, at the ideal instance: the two new moments and the step itself. -/

@[expose] public section

set_option maxHeartbeats 1000000

noncomputable section

namespace Cert.Adam

open Idealize.ShloMosaic

/-- The new first moment. -/
def mNew (g m : Ideal .f32) : Ideal .f32 :=
  FloatOps.addf (FloatOps.mulf (Scalar.ofBits .f32 0x3F666666#32) m) (FloatOps.mulf (Scalar.ofBits .f32 0x3DCCCCCD#32) g)

/-- The new second moment. -/
def vNew (g v : Ideal .f32) : Ideal .f32 :=
  FloatOps.addf (FloatOps.mulf (Scalar.ofBits .f32 0x3F7FBE77#32) v) (FloatOps.mulf (Scalar.ofBits .f32 0x3A83126F#32) (FloatOps.mulf g g))

/-- The step: both moments freed of their bias, the decay of the weight beside their quotient. -/
def delta (w g m v : Ideal .f32) : Ideal .f32 :=
  FloatOps.mulf (Scalar.ofBits .f32 0xBA83126F#32) (FloatOps.addf
    (FloatOps.divf (FloatOps.divf (mNew g m) (Scalar.ofBits .f32 0x3F26BD02#32))
      (FloatOps.addf (FloatOps.sqrt (FloatOps.divf (vNew g v) (Scalar.ofBits .f32 0x3C231ACC#32))) (Scalar.ofBits .f32 0x322BCC77#32)))
    (FloatOps.mulf (Scalar.ofBits .f32 0x3C23D70A#32) w))

end Cert.Adam

end
-- ==== Proof.AdamGateUp.lean ====
module

public import proofs.«01_k».proof.Proof.Gen.Kernel8Ideal.Value
public import proofs.«01_k».proof.Proof.Gen.Reference8Ideal.Read
public import proofs.«01_k».proof.Proof.Adam

/-! The update of `w_ffn_gate_up` from the devices' pieces of its gradient: each grid point's blocks, the four arrays they fill, and the reference's. -/

@[expose] public section

set_option maxHeartbeats 1000000

noncomputable section

namespace Cert.Kernel8Ideal.Upd

open Cert.Kernel8Ideal Cert.Kernel8Ideal.Gen Idealize.ShloMosaic Idealize.ShloMosaic.TcCoe Idealize.SL.Sem
open Idealize.ShloMosaic.Tactic

/-- A block's gradient: the eight devices' pieces added up. -/
def acc (x0 : Vec Ideal S8x256x704 .bf16) (i : S256x704.Idx) : EReal := ∑ p : Fin 8, x0 (ix3 p (i 0) (i 1))

theorem gradient (x0 : Vec Ideal S8x256x704 .bf16) (j : S256x704.Idx) :
    (k0_pay4 (F := Ideal) (View.ld x0 r0_0) (View.ld x0 r0_1) (View.ld x0 r0_2) (View.ld x0 r0_3) (View.ld x0 r0_4) (View.ld x0 r0_5) (View.ld x0 r0_6) (View.ld x0 r0_7) j : EReal) = acc x0 j := by
  unfold acc
  rw [Fin.sum_univ_eight]
  pointwise [k0_pay4, View.ld]

/-- A whole block read through its rectangle. -/
theorem ld8 (x : Vec Ideal S256x704 .f32) : View.ld x r0_8 = x := by
  funext y
  show x ((r0_8).emb y) = x y
  congr 1
  funext a
  apply Fin.ext
  match a with
  | ⟨0, _⟩ => show 0 + 1 * (y 0).val = (y 0).val; omega
  | ⟨1, _⟩ => show 0 + 1 * (y 1).val = (y 1).val; omega

/-- A block stored whole is what is read back. -/
theorem one (p : Vec Ideal S256x704 .f32) : View.canon [⟨r0_8, p⟩] = p := by
  funext y
  refine View.canon_append_of_piecesOf p [] [_] ⟨fun x => ?_, trivial⟩ y (cover0_4 p y)
  exact congrFun (ld8 p).symm x

theorem out4 (x0 : Vec Ideal S8x256x704 .bf16) (x1 x2 x3 : Vec Ideal S256x704 .f32) : out0_4 (F := Ideal) x0 x1 x2 x3 = acc x0 := by
  unfold_out out0_4
  rw [one]
  funext y
  exact gradient x0 y

theorem out5 (x0 : Vec Ideal S8x256x704 .bf16) (x1 x2 x3 : Vec Ideal S256x704 .f32) :
    out0_5 (F := Ideal) x0 x1 x2 x3 = fun y => Cert.Adam.delta (x1 y) (acc x0 y) (x2 y) (x3 y) := by
  unfold_out out0_5
  rw [one, ld8, ld8, ld8]
  funext y
  rw [← gradient x0 y]
  rfl

theorem out6 (x0 : Vec Ideal S8x256x704 .bf16) (x1 x2 x3 : Vec Ideal S256x704 .f32) :
    out0_6 (F := Ideal) x0 x1 x2 x3 = fun y => Cert.Adam.mNew (acc x0 y) (x2 y) := by
  unfold_out out0_6
  rw [one, ld8]
  funext y
  rw [← gradient x0 y]
  rfl

theorem out7 (x0 : Vec Ideal S8x256x704 .bf16) (x1 x2 x3 : Vec Ideal S256x704 .f32) :
    out0_7 (F := Ideal) x0 x1 x2 x3 = fun y => Cert.Adam.vNew (acc x0 y) (x3 y) := by
  unfold_out out0_7
  rw [one, ld8]
  funext y
  rw [← gradient x0 y]
  rfl

variable (m : (ℓ : Loc nD τ sig) → Buf (Elt Ideal) ℓ)

/-- The gradient, and the three updates, as functions of the argument arrays. -/
def G4 (c : Dev nD) : S4096x704.Idx → EReal := fun i => ∑ p : Fin 8, (show EReal from m ((c : Thread nD τ).loc main_arg0) (ix3 p (i 0) (i 1)))
def G5 (c : Dev nD) : S4096x704.Idx → EReal := fun i =>
  Cert.Adam.delta (m ((c : Thread nD τ).loc main_arg1) i) (G4 m c i) (m ((c : Thread nD τ).loc main_arg2) i) (m ((c : Thread nD τ).loc main_arg3) i)
def G6 (c : Dev nD) : S4096x704.Idx → EReal := fun i => Cert.Adam.mNew (G4 m c i) (m ((c : Thread nD τ).loc main_arg2) i)
def G7 (c : Dev nD) : S4096x704.Idx → EReal := fun i => Cert.Adam.vNew (G4 m c i) (m ((c : Thread nD τ).loc main_arg3) i)

/-- The windows' block indices at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- A point's blocks are its rows' part of the arrays. -/
theorem block0 (c : Dev nD) (t : Fin cfg0.N) (x : S256x704.Idx) (z : S4096x704.Idx) (h0 : (z 0).val = t.val * 256 + (x 0).val) (h1 : (z 1).val = (x 1).val) :
    (acc (iblk m c 0 t) x : EReal) = G4 m c z := by
  obtain ⟨i0, -⟩ := idx t
  unfold acc G4
  refine Finset.sum_congr rfl fun p _ => ?_
  blk_ext [iblk, V, i0]

theorem block1 (c : Dev nD) (t : Fin cfg0.N) (x : S256x704.Idx) (z : S4096x704.Idx) (h0 : (z 0).val = t.val * 256 + (x 0).val) (h1 : (z 1).val = (x 1).val) :
    (show EReal from iblk m c 1 t x) = m ((c : Thread nD τ).loc main_arg1) z := by
  obtain ⟨-, i0, -⟩ := idx t
  blk_ext [iblk, V, i0]

theorem block2 (c : Dev nD) (t : Fin cfg0.N) (x : S256x704.Idx) (z : S4096x704.Idx) (h0 : (z 0).val = t.val * 256 + (x 0).val) (h1 : (z 1).val = (x 1).val) :
    (show EReal from iblk m c 2 t x) = m ((c : Thread nD τ).loc main_arg2) z := by
  obtain ⟨-, -, i0, -⟩ := idx t
  blk_ext [iblk, V, i0]

theorem block3 (c : Dev nD) (t : Fin cfg0.N) (x : S256x704.Idx) (z : S4096x704.Idx) (h0 : (z 0).val = t.val * 256 + (x 0).val) (h1 : (z 1).val = (x 1).val) :
    (show EReal from iblk m c 3 t x) = m ((c : Thread nD τ).loc main_arg3) z := by
  obtain ⟨-, -, -, i0, -⟩ := idx t
  blk_ext [iblk, V, i0]

/-- What a point writes back of result 0 is its block of the whole. -/
theorem flushed4 (c : Dev nD) (t : Fin cfg0.N) : (dats m 0 c).flushed 4 t = ((cfg0.win 4).blk t).view.read (Elt Ideal) (G4 m c) := by
  rw [Value.flushed4, out4]
  obtain ⟨-, -, -, -, q, -⟩ := idx t
  funext y
  have hb0 : (((cfg0.win 4).blk t).view.emb y 0).val = win0_4.index t (0 : Fin 2) * 256 + 1 * (y 0).val := rfl
  have hb1 : (((cfg0.win 4).blk t).view.emb y 1).val = win0_4.index t (1 : Fin 2) * 704 + 1 * (y 1).val := rfl
  have q0 : win0_4.index t (0 : Fin 2) = t.val := congrFun q 0
  have q1 : win0_4.index t (1 : Fin 2) = 0 := congrFun q 1
  have e0 : (((cfg0.win 4).blk t).view.emb y 0).val = t.val * 256 + ((cfg0.win 4).xinj (grid0.coords t) y 0).val := by
    show _ = t.val * 256 + (y 0).val
    rw [hb0, q0]; omega
  have e1 : (((cfg0.win 4).blk t).view.emb y 1).val = ((cfg0.win 4).xinj (grid0.coords t) y 1).val := by
    show _ = (y 1).val
    rw [hb1, q1]; omega
  show (show EReal from acc (iblk m c 0 t) ((cfg0.win 4).xinj (grid0.coords t) y)) = G4 m c (((cfg0.win 4).blk t).view.emb y)
  exact block0 m c t _ _ e0 e1

/-- The blocks of result 0 fill its array. -/
theorem covered4 (i : S4096x704.Idx) : ∃ t : Fin cfg0.N, (cfg0.win 4).flush t = true ∧ i ∈ ((cfg0.win 4).blk t).view.set := by
  have h0 : (i 0).val < 4096 := (i 0).isLt
  have h1 : (i 1).val < 704 := (i 1).isLt
  have hN : cfg0.N = 16 := N_0
  have ht : (i 0).val / 256 < cfg0.N := by omega
  obtain ⟨-, -, -, -, q, -⟩ := idx ⟨(i 0).val / 256, ht⟩
  refine ⟨⟨(i 0).val / 256, ht⟩, flush0_4 _, ?_⟩
  show i ∈ ((View.whole main_v0_0).slice (win0_4.rect ⟨(i 0).val / 256, ht⟩)).set
  rw [View.set_slice_whole, Rect.mem_set_unit]
  have q0 : win0_4.index ⟨(i 0).val / 256, ht⟩ (0 : Fin 2) = (i 0).val / 256 := congrFun q 0
  have q1 : win0_4.index ⟨(i 0).val / 256, ht⟩ (1 : Fin 2) = 0 := congrFun q 1
  intro a
  match a with
  | ⟨0, _⟩ => show win0_4.index ⟨(i 0).val / 256, ht⟩ (0 : Fin 2) * 256 ≤ (i 0).val ∧ (i 0).val < win0_4.index ⟨(i 0).val / 256, ht⟩ (0 : Fin 2) * 256 + 256; omega
  | ⟨1, _⟩ => show win0_4.index ⟨(i 0).val / 256, ht⟩ (1 : Fin 2) * 704 ≤ (i 1).val ∧ (i 1).val < win0_4.index ⟨(i 0).val / 256, ht⟩ (1 : Fin 2) * 704 + 704; omega

/-- What result 0 ends with. -/
theorem final4 (c : Dev nD) : (dats m 0 c).arrAt 4 cfg0.N = G4 m c :=
  (dats m 0 c).arrAt_eq_of_cover 4 _ (fun t _ => flushed4 m c t) covered4

/-- What a point writes back of result 1 is its block of the whole. -/
theorem flushed5 (c : Dev nD) (t : Fin cfg0.N) : (dats m 0 c).flushed 5 t = ((cfg0.win 5).blk t).view.read (Elt Ideal) (G5 m c) := by
  rw [Value.flushed5, out5]
  obtain ⟨-, -, -, -, -, q, -⟩ := idx t
  funext y
  have hb0 : (((cfg0.win 5).blk t).view.emb y 0).val = win0_5.index t (0 : Fin 2) * 256 + 1 * (y 0).val := rfl
  have hb1 : (((cfg0.win 5).blk t).view.emb y 1).val = win0_5.index t (1 : Fin 2) * 704 + 1 * (y 1).val := rfl
  have q0 : win0_5.index t (0 : Fin 2) = t.val := congrFun q 0
  have q1 : win0_5.index t (1 : Fin 2) = 0 := congrFun q 1
  have e0 : (((cfg0.win 5).blk t).view.emb y 0).val = t.val * 256 + ((cfg0.win 5).xinj (grid0.coords t) y 0).val := by
    show _ = t.val * 256 + (y 0).val
    rw [hb0, q0]; omega
  have e1 : (((cfg0.win 5).blk t).view.emb y 1).val = ((cfg0.win 5).xinj (grid0.coords t) y 1).val := by
    show _ = (y 1).val
    rw [hb1, q1]; omega
  show (show EReal from Cert.Adam.delta (iblk m c 1 t ((cfg0.win 5).xinj (grid0.coords t) y)) (acc (iblk m c 0 t) ((cfg0.win 5).xinj (grid0.coords t) y)) (iblk m c 2 t ((cfg0.win 5).xinj (grid0.coords t) y)) (iblk m c 3 t ((cfg0.win 5).xinj (grid0.coords t) y))) = G5 m c (((cfg0.win 5).blk t).view.emb y)
  have a := block0 m c t _ _ e0 e1
  have b1 := block1 m c t _ _ e0 e1
  have b2 := block2 m c t _ _ e0 e1
  have b3 := block3 m c t _ _ e0 e1
  dsimp only at b1 b2 b3
  unfold G5
  rw [← a, ← b1, ← b2, ← b3]

/-- The blocks of result 1 fill its array. -/
theorem covered5 (i : S4096x704.Idx) : ∃ t : Fin cfg0.N, (cfg0.win 5).flush t = true ∧ i ∈ ((cfg0.win 5).blk t).view.set := by
  have h0 : (i 0).val < 4096 := (i 0).isLt
  have h1 : (i 1).val < 704 := (i 1).isLt
  have hN : cfg0.N = 16 := N_0
  have ht : (i 0).val / 256 < cfg0.N := by omega
  obtain ⟨-, -, -, -, -, q, -⟩ := idx ⟨(i 0).val / 256, ht⟩
  refine ⟨⟨(i 0).val / 256, ht⟩, flush0_5 _, ?_⟩
  show i ∈ ((View.whole main_v0_1).slice (win0_5.rect ⟨(i 0).val / 256, ht⟩)).set
  rw [View.set_slice_whole, Rect.mem_set_unit]
  have q0 : win0_5.index ⟨(i 0).val / 256, ht⟩ (0 : Fin 2) = (i 0).val / 256 := congrFun q 0
  have q1 : win0_5.index ⟨(i 0).val / 256, ht⟩ (1 : Fin 2) = 0 := congrFun q 1
  intro a
  match a with
  | ⟨0, _⟩ => show win0_5.index ⟨(i 0).val / 256, ht⟩ (0 : Fin 2) * 256 ≤ (i 0).val ∧ (i 0).val < win0_5.index ⟨(i 0).val / 256, ht⟩ (0 : Fin 2) * 256 + 256; omega
  | ⟨1, _⟩ => show win0_5.index ⟨(i 0).val / 256, ht⟩ (1 : Fin 2) * 704 ≤ (i 1).val ∧ (i 1).val < win0_5.index ⟨(i 0).val / 256, ht⟩ (1 : Fin 2) * 704 + 704; omega

/-- What result 1 ends with. -/
theorem final5 (c : Dev nD) : (dats m 0 c).arrAt 5 cfg0.N = G5 m c :=
  (dats m 0 c).arrAt_eq_of_cover 5 _ (fun t _ => flushed5 m c t) covered5

/-- What a point writes back of result 2 is its block of the whole. -/
theorem flushed6 (c : Dev nD) (t : Fin cfg0.N) : (dats m 0 c).flushed 6 t = ((cfg0.win 6).blk t).view.read (Elt Ideal) (G6 m c) := by
  rw [Value.flushed6, out6]
  obtain ⟨-, -, -, -, -, -, q, -⟩ := idx t
  funext y
  have hb0 : (((cfg0.win 6).blk t).view.emb y 0).val = win0_6.index t (0 : Fin 2) * 256 + 1 * (y 0).val := rfl
  have hb1 : (((cfg0.win 6).blk t).view.emb y 1).val = win0_6.index t (1 : Fin 2) * 704 + 1 * (y 1).val := rfl
  have q0 : win0_6.index t (0 : Fin 2) = t.val := congrFun q 0
  have q1 : win0_6.index t (1 : Fin 2) = 0 := congrFun q 1
  have e0 : (((cfg0.win 6).blk t).view.emb y 0).val = t.val * 256 + ((cfg0.win 6).xinj (grid0.coords t) y 0).val := by
    show _ = t.val * 256 + (y 0).val
    rw [hb0, q0]; omega
  have e1 : (((cfg0.win 6).blk t).view.emb y 1).val = ((cfg0.win 6).xinj (grid0.coords t) y 1).val := by
    show _ = (y 1).val
    rw [hb1, q1]; omega
  show (show EReal from Cert.Adam.mNew (acc (iblk m c 0 t) ((cfg0.win 6).xinj (grid0.coords t) y)) (iblk m c 2 t ((cfg0.win 6).xinj (grid0.coords t) y))) = G6 m c (((cfg0.win 6).blk t).view.emb y)
  have a := block0 m c t _ _ e0 e1
  have b2 := block2 m c t _ _ e0 e1
  dsimp only at b2
  unfold G6
  rw [← a, ← b2]

/-- The blocks of result 2 fill its array. -/
theorem covered6 (i : S4096x704.Idx) : ∃ t : Fin cfg0.N, (cfg0.win 6).flush t = true ∧ i ∈ ((cfg0.win 6).blk t).view.set := by
  have h0 : (i 0).val < 4096 := (i 0).isLt
  have h1 : (i 1).val < 704 := (i 1).isLt
  have hN : cfg0.N = 16 := N_0
  have ht : (i 0).val / 256 < cfg0.N := by omega
  obtain ⟨-, -, -, -, -, -, q, -⟩ := idx ⟨(i 0).val / 256, ht⟩
  refine ⟨⟨(i 0).val / 256, ht⟩, flush0_6 _, ?_⟩
  show i ∈ ((View.whole main_v0_2).slice (win0_6.rect ⟨(i 0).val / 256, ht⟩)).set
  rw [View.set_slice_whole, Rect.mem_set_unit]
  have q0 : win0_6.index ⟨(i 0).val / 256, ht⟩ (0 : Fin 2) = (i 0).val / 256 := congrFun q 0
  have q1 : win0_6.index ⟨(i 0).val / 256, ht⟩ (1 : Fin 2) = 0 := congrFun q 1
  intro a
  match a with
  | ⟨0, _⟩ => show win0_6.index ⟨(i 0).val / 256, ht⟩ (0 : Fin 2) * 256 ≤ (i 0).val ∧ (i 0).val < win0_6.index ⟨(i 0).val / 256, ht⟩ (0 : Fin 2) * 256 + 256; omega
  | ⟨1, _⟩ => show win0_6.index ⟨(i 0).val / 256, ht⟩ (1 : Fin 2) * 704 ≤ (i 1).val ∧ (i 1).val < win0_6.index ⟨(i 0).val / 256, ht⟩ (1 : Fin 2) * 704 + 704; omega

/-- What result 2 ends with. -/
theorem final6 (c : Dev nD) : (dats m 0 c).arrAt 6 cfg0.N = G6 m c :=
  (dats m 0 c).arrAt_eq_of_cover 6 _ (fun t _ => flushed6 m c t) covered6

/-- What a point writes back of result 3 is its block of the whole. -/
theorem flushed7 (c : Dev nD) (t : Fin cfg0.N) : (dats m 0 c).flushed 7 t = ((cfg0.win 7).blk t).view.read (Elt Ideal) (G7 m c) := by
  rw [Value.flushed7, out7]
  obtain ⟨-, -, -, -, -, -, -, q⟩ := idx t
  funext y
  have hb0 : (((cfg0.win 7).blk t).view.emb y 0).val = win0_7.index t (0 : Fin 2) * 256 + 1 * (y 0).val := rfl
  have hb1 : (((cfg0.win 7).blk t).view.emb y 1).val = win0_7.index t (1 : Fin 2) * 704 + 1 * (y 1).val := rfl
  have q0 : win0_7.index t (0 : Fin 2) = t.val := congrFun q 0
  have q1 : win0_7.index t (1 : Fin 2) = 0 := congrFun q 1
  have e0 : (((cfg0.win 7).blk t).view.emb y 0).val = t.val * 256 + ((cfg0.win 7).xinj (grid0.coords t) y 0).val := by
    show _ = t.val * 256 + (y 0).val
    rw [hb0, q0]; omega
  have e1 : (((cfg0.win 7).blk t).view.emb y 1).val = ((cfg0.win 7).xinj (grid0.coords t) y 1).val := by
    show _ = (y 1).val
    rw [hb1, q1]; omega
  show (show EReal from Cert.Adam.vNew (acc (iblk m c 0 t) ((cfg0.win 7).xinj (grid0.coords t) y)) (iblk m c 3 t ((cfg0.win 7).xinj (grid0.coords t) y))) = G7 m c (((cfg0.win 7).blk t).view.emb y)
  have a := block0 m c t _ _ e0 e1
  have b3 := block3 m c t _ _ e0 e1
  dsimp only at b3
  unfold G7
  rw [← a, ← b3]

/-- The blocks of result 3 fill its array. -/
theorem covered7 (i : S4096x704.Idx) : ∃ t : Fin cfg0.N, (cfg0.win 7).flush t = true ∧ i ∈ ((cfg0.win 7).blk t).view.set := by
  have h0 : (i 0).val < 4096 := (i 0).isLt
  have h1 : (i 1).val < 704 := (i 1).isLt
  have hN : cfg0.N = 16 := N_0
  have ht : (i 0).val / 256 < cfg0.N := by omega
  obtain ⟨-, -, -, -, -, -, -, q⟩ := idx ⟨(i 0).val / 256, ht⟩
  refine ⟨⟨(i 0).val / 256, ht⟩, flush0_7 _, ?_⟩
  show i ∈ ((View.whole main_v0_3).slice (win0_7.rect ⟨(i 0).val / 256, ht⟩)).set
  rw [View.set_slice_whole, Rect.mem_set_unit]
  have q0 : win0_7.index ⟨(i 0).val / 256, ht⟩ (0 : Fin 2) = (i 0).val / 256 := congrFun q 0
  have q1 : win0_7.index ⟨(i 0).val / 256, ht⟩ (1 : Fin 2) = 0 := congrFun q 1
  intro a
  match a with
  | ⟨0, _⟩ => show win0_7.index ⟨(i 0).val / 256, ht⟩ (0 : Fin 2) * 256 ≤ (i 0).val ∧ (i 0).val < win0_7.index ⟨(i 0).val / 256, ht⟩ (0 : Fin 2) * 256 + 256; omega
  | ⟨1, _⟩ => show win0_7.index ⟨(i 0).val / 256, ht⟩ (1 : Fin 2) * 704 ≤ (i 1).val ∧ (i 1).val < win0_7.index ⟨(i 0).val / 256, ht⟩ (1 : Fin 2) * 704 + 704; omega

/-- What result 3 ends with. -/
theorem final7 (c : Dev nD) : (dats m 0 c).arrAt 7 cfg0.N = G7 m c :=
  (dats m 0 c).arrAt_eq_of_cover 7 _ (fun t _ => flushed7 m c t) covered7

open Cert.Reference8Ideal.Read

/-- The reference's gradient is the same sum. -/
theorem ref (a : (⟨S8x4096x704, .bf16⟩ : BufTy).Contents (Elt Ideal)) (i : S4096x704.Idx) :
    (val_main_v1 (F := Ideal) a i : EReal) = ∑ p : Fin 8, (show EReal from a (ix3 p (i 0) (i 1))) := by
  pointwise [val_main_v1, val_main_v0, val_main_cst]

section
variable (c : Dev nD) (a : (⟨S8x4096x704, .bf16⟩ : BufTy).Contents (Elt Ideal)) (w m1 v1 : (⟨S4096x704, .f32⟩ : BufTy).Contents (Elt Ideal))
  (ha : a = m ((c : Thread nD τ).loc main_arg0)) (hw : w = m ((c : Thread nD τ).loc main_arg1))
  (hm : m1 = m ((c : Thread nD τ).loc main_arg2)) (hv : v1 = m ((c : Thread nD τ).loc main_arg3))
include ha

theorem final_eq4 : val_main_v1 (F := Ideal) a = (dats m 0 c).arrAt 4 cfg0.N := by
  rw [final4]
  subst ha
  funext i
  exact ref _ i

include hw hm hv in
theorem final_eq5 : val_main_v25 (F := Ideal) a w m1 v1 = (dats m 0 c).arrAt 5 cfg0.N := by
  rw [final5]
  subst ha hw hm hv
  funext i
  unfold G5 G4
  rw [← ref]
  rfl

include hm in
theorem final_eq6 : val_main_v6 (F := Ideal) a m1 = (dats m 0 c).arrAt 6 cfg0.N := by
  rw [final6]
  subst ha hm
  funext i
  unfold G6 G4
  rw [← ref]
  rfl

include hv in
theorem final_eq7 : val_main_v12 (F := Ideal) a v1 = (dats m 0 c).arrAt 7 cfg0.N := by
  rw [final7]
  subst ha hv
  funext i
  unfold G7 G4
  rw [← ref]
  rfl
end

end Cert.Kernel8Ideal.Upd

end
-- ==== Proof.AdamDown.lean ====
module

public import proofs.«01_k».proof.Proof.Gen.Kernel9Ideal.Value
public import proofs.«01_k».proof.Proof.Gen.Reference9Ideal.Read
public import proofs.«01_k».proof.Proof.Adam

/-! The update of `w_ffn_down` from the devices' pieces of its gradient: each grid point's blocks, the four arrays they fill, and the reference's. -/

@[expose] public section

set_option maxHeartbeats 1000000

noncomputable section

namespace Cert.Kernel9Ideal.Upd

open Cert.Kernel9Ideal Cert.Kernel9Ideal.Gen Idealize.ShloMosaic Idealize.ShloMosaic.TcCoe Idealize.SL.Sem
open Idealize.ShloMosaic.Tactic

/-- A block's gradient: the eight devices' pieces added up. -/
def acc (x0 : Vec Ideal S8x128x1024 .bf16) (i : S128x1024.Idx) : EReal := ∑ p : Fin 8, x0 (ix3 p (i 0) (i 1))

theorem gradient (x0 : Vec Ideal S8x128x1024 .bf16) (j : S128x1024.Idx) :
    (k0_pay4 (F := Ideal) (View.ld x0 r0_0) (View.ld x0 r0_1) (View.ld x0 r0_2) (View.ld x0 r0_3) (View.ld x0 r0_4) (View.ld x0 r0_5) (View.ld x0 r0_6) (View.ld x0 r0_7) j : EReal) = acc x0 j := by
  unfold acc
  rw [Fin.sum_univ_eight]
  pointwise [k0_pay4, View.ld]

/-- A whole block read through its rectangle. -/
theorem ld8 (x : Vec Ideal S128x1024 .f32) : View.ld x r0_8 = x := by
  funext y
  show x ((r0_8).emb y) = x y
  congr 1
  funext a
  apply Fin.ext
  match a with
  | ⟨0, _⟩ => show 0 + 1 * (y 0).val = (y 0).val; omega
  | ⟨1, _⟩ => show 0 + 1 * (y 1).val = (y 1).val; omega

/-- A block stored whole is what is read back. -/
theorem one (p : Vec Ideal S128x1024 .f32) : View.canon [⟨r0_8, p⟩] = p := by
  funext y
  refine View.canon_append_of_piecesOf p [] [_] ⟨fun x => ?_, trivial⟩ y (cover0_4 p y)
  exact congrFun (ld8 p).symm x

theorem out4 (x0 : Vec Ideal S8x128x1024 .bf16) (x1 x2 x3 : Vec Ideal S128x1024 .f32) : out0_4 (F := Ideal) x0 x1 x2 x3 = acc x0 := by
  unfold_out out0_4
  rw [one]
  funext y
  exact gradient x0 y

theorem out5 (x0 : Vec Ideal S8x128x1024 .bf16) (x1 x2 x3 : Vec Ideal S128x1024 .f32) :
    out0_5 (F := Ideal) x0 x1 x2 x3 = fun y => Cert.Adam.delta (x1 y) (acc x0 y) (x2 y) (x3 y) := by
  unfold_out out0_5
  rw [one, ld8, ld8, ld8]
  funext y
  rw [← gradient x0 y]
  rfl

theorem out6 (x0 : Vec Ideal S8x128x1024 .bf16) (x1 x2 x3 : Vec Ideal S128x1024 .f32) :
    out0_6 (F := Ideal) x0 x1 x2 x3 = fun y => Cert.Adam.mNew (acc x0 y) (x2 y) := by
  unfold_out out0_6
  rw [one, ld8]
  funext y
  rw [← gradient x0 y]
  rfl

theorem out7 (x0 : Vec Ideal S8x128x1024 .bf16) (x1 x2 x3 : Vec Ideal S128x1024 .f32) :
    out0_7 (F := Ideal) x0 x1 x2 x3 = fun y => Cert.Adam.vNew (acc x0 y) (x3 y) := by
  unfold_out out0_7
  rw [one, ld8]
  funext y
  rw [← gradient x0 y]
  rfl

variable (m : (ℓ : Loc nD τ sig) → Buf (Elt Ideal) ℓ)

/-- The gradient, and the three updates, as functions of the argument arrays. -/
def G4 (c : Dev nD) : S1408x1024.Idx → EReal := fun i => ∑ p : Fin 8, (show EReal from m ((c : Thread nD τ).loc main_arg0) (ix3 p (i 0) (i 1)))
def G5 (c : Dev nD) : S1408x1024.Idx → EReal := fun i =>
  Cert.Adam.delta (m ((c : Thread nD τ).loc main_arg1) i) (G4 m c i) (m ((c : Thread nD τ).loc main_arg2) i) (m ((c : Thread nD τ).loc main_arg3) i)
def G6 (c : Dev nD) : S1408x1024.Idx → EReal := fun i => Cert.Adam.mNew (G4 m c i) (m ((c : Thread nD τ).loc main_arg2) i)
def G7 (c : Dev nD) : S1408x1024.Idx → EReal := fun i => Cert.Adam.vNew (G4 m c i) (m ((c : Thread nD τ).loc main_arg3) i)

/-- The windows' block indices at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- A point's blocks are its rows' part of the arrays. -/
theorem block0 (c : Dev nD) (t : Fin cfg0.N) (x : S128x1024.Idx) (z : S1408x1024.Idx) (h0 : (z 0).val = t.val * 128 + (x 0).val) (h1 : (z 1).val = (x 1).val) :
    (acc (iblk m c 0 t) x : EReal) = G4 m c z := by
  obtain ⟨i0, -⟩ := idx t
  unfold acc G4
  refine Finset.sum_congr rfl fun p _ => ?_
  blk_ext [iblk, V, i0]

theorem block1 (c : Dev nD) (t : Fin cfg0.N) (x : S128x1024.Idx) (z : S1408x1024.Idx) (h0 : (z 0).val = t.val * 128 + (x 0).val) (h1 : (z 1).val = (x 1).val) :
    (show EReal from iblk m c 1 t x) = m ((c : Thread nD τ).loc main_arg1) z := by
  obtain ⟨-, i0, -⟩ := idx t
  blk_ext [iblk, V, i0]

theorem block2 (c : Dev nD) (t : Fin cfg0.N) (x : S128x1024.Idx) (z : S1408x1024.Idx) (h0 : (z 0).val = t.val * 128 + (x 0).val) (h1 : (z 1).val = (x 1).val) :
    (show EReal from iblk m c 2 t x) = m ((c : Thread nD τ).loc main_arg2) z := by
  obtain ⟨-, -, i0, -⟩ := idx t
  blk_ext [iblk, V, i0]

theorem block3 (c : Dev nD) (t : Fin cfg0.N) (x : S128x1024.Idx) (z : S1408x1024.Idx) (h0 : (z 0).val = t.val * 128 + (x 0).val) (h1 : (z 1).val = (x 1).val) :
    (show EReal from iblk m c 3 t x) = m ((c : Thread nD τ).loc main_arg3) z := by
  obtain ⟨-, -, -, i0, -⟩ := idx t
  blk_ext [iblk, V, i0]

/-- What a point writes back of result 0 is its block of the whole. -/
theorem flushed4 (c : Dev nD) (t : Fin cfg0.N) : (dats m 0 c).flushed 4 t = ((cfg0.win 4).blk t).view.read (Elt Ideal) (G4 m c) := by
  rw [Value.flushed4, out4]
  obtain ⟨-, -, -, -, q, -⟩ := idx t
  funext y
  have hb0 : (((cfg0.win 4).blk t).view.emb y 0).val = win0_4.index t (0 : Fin 2) * 128 + 1 * (y 0).val := rfl
  have hb1 : (((cfg0.win 4).blk t).view.emb y 1).val = win0_4.index t (1 : Fin 2) * 1024 + 1 * (y 1).val := rfl
  have q0 : win0_4.index t (0 : Fin 2) = t.val := congrFun q 0
  have q1 : win0_4.index t (1 : Fin 2) = 0 := congrFun q 1
  have e0 : (((cfg0.win 4).blk t).view.emb y 0).val = t.val * 128 + ((cfg0.win 4).xinj (grid0.coords t) y 0).val := by
    show _ = t.val * 128 + (y 0).val
    rw [hb0, q0]; omega
  have e1 : (((cfg0.win 4).blk t).view.emb y 1).val = ((cfg0.win 4).xinj (grid0.coords t) y 1).val := by
    show _ = (y 1).val
    rw [hb1, q1]; omega
  show (show EReal from acc (iblk m c 0 t) ((cfg0.win 4).xinj (grid0.coords t) y)) = G4 m c (((cfg0.win 4).blk t).view.emb y)
  exact block0 m c t _ _ e0 e1

/-- The blocks of result 0 fill its array. -/
theorem covered4 (i : S1408x1024.Idx) : ∃ t : Fin cfg0.N, (cfg0.win 4).flush t = true ∧ i ∈ ((cfg0.win 4).blk t).view.set := by
  have h0 : (i 0).val < 1408 := (i 0).isLt
  have h1 : (i 1).val < 1024 := (i 1).isLt
  have hN : cfg0.N = 11 := N_0
  have ht : (i 0).val / 128 < cfg0.N := by omega
  obtain ⟨-, -, -, -, q, -⟩ := idx ⟨(i 0).val / 128, ht⟩
  refine ⟨⟨(i 0).val / 128, ht⟩, flush0_4 _, ?_⟩
  show i ∈ ((View.whole main_v0_0).slice (win0_4.rect ⟨(i 0).val / 128, ht⟩)).set
  rw [View.set_slice_whole, Rect.mem_set_unit]
  have q0 : win0_4.index ⟨(i 0).val / 128, ht⟩ (0 : Fin 2) = (i 0).val / 128 := congrFun q 0
  have q1 : win0_4.index ⟨(i 0).val / 128, ht⟩ (1 : Fin 2) = 0 := congrFun q 1
  intro a
  match a with
  | ⟨0, _⟩ => show win0_4.index ⟨(i 0).val / 128, ht⟩ (0 : Fin 2) * 128 ≤ (i 0).val ∧ (i 0).val < win0_4.index ⟨(i 0).val / 128, ht⟩ (0 : Fin 2) * 128 + 128; omega
  | ⟨1, _⟩ => show win0_4.index ⟨(i 0).val / 128, ht⟩ (1 : Fin 2) * 1024 ≤ (i 1).val ∧ (i 1).val < win0_4.index ⟨(i 0).val / 128, ht⟩ (1 : Fin 2) * 1024 + 1024; omega

/-- What result 0 ends with. -/
theorem final4 (c : Dev nD) : (dats m 0 c).arrAt 4 cfg0.N = G4 m c :=
  (dats m 0 c).arrAt_eq_of_cover 4 _ (fun t _ => flushed4 m c t) covered4

/-- What a point writes back of result 1 is its block of the whole. -/
theorem flushed5 (c : Dev nD) (t : Fin cfg0.N) : (dats m 0 c).flushed 5 t = ((cfg0.win 5).blk t).view.read (Elt Ideal) (G5 m c) := by
  rw [Value.flushed5, out5]
  obtain ⟨-, -, -, -, -, q, -⟩ := idx t
  funext y
  have hb0 : (((cfg0.win 5).blk t).view.emb y 0).val = win0_5.index t (0 : Fin 2) * 128 + 1 * (y 0).val := rfl
  have hb1 : (((cfg0.win 5).blk t).view.emb y 1).val = win0_5.index t (1 : Fin 2) * 1024 + 1 * (y 1).val := rfl
  have q0 : win0_5.index t (0 : Fin 2) = t.val := congrFun q 0
  have q1 : win0_5.index t (1 : Fin 2) = 0 := congrFun q 1
  have e0 : (((cfg0.win 5).blk t).view.emb y 0).val = t.val * 128 + ((cfg0.win 5).xinj (grid0.coords t) y 0).val := by
    show _ = t.val * 128 + (y 0).val
    rw [hb0, q0]; omega
  have e1 : (((cfg0.win 5).blk t).view.emb y 1).val = ((cfg0.win 5).xinj (grid0.coords t) y 1).val := by
    show _ = (y 1).val
    rw [hb1, q1]; omega
  show (show EReal from Cert.Adam.delta (iblk m c 1 t ((cfg0.win 5).xinj (grid0.coords t) y)) (acc (iblk m c 0 t) ((cfg0.win 5).xinj (grid0.coords t) y)) (iblk m c 2 t ((cfg0.win 5).xinj (grid0.coords t) y)) (iblk m c 3 t ((cfg0.win 5).xinj (grid0.coords t) y))) = G5 m c (((cfg0.win 5).blk t).view.emb y)
  have a := block0 m c t _ _ e0 e1
  have b1 := block1 m c t _ _ e0 e1
  have b2 := block2 m c t _ _ e0 e1
  have b3 := block3 m c t _ _ e0 e1
  dsimp only at b1 b2 b3
  unfold G5
  rw [← a, ← b1, ← b2, ← b3]

/-- The blocks of result 1 fill its array. -/
theorem covered5 (i : S1408x1024.Idx) : ∃ t : Fin cfg0.N, (cfg0.win 5).flush t = true ∧ i ∈ ((cfg0.win 5).blk t).view.set := by
  have h0 : (i 0).val < 1408 := (i 0).isLt
  have h1 : (i 1).val < 1024 := (i 1).isLt
  have hN : cfg0.N = 11 := N_0
  have ht : (i 0).val / 128 < cfg0.N := by omega
  obtain ⟨-, -, -, -, -, q, -⟩ := idx ⟨(i 0).val / 128, ht⟩
  refine ⟨⟨(i 0).val / 128, ht⟩, flush0_5 _, ?_⟩
  show i ∈ ((View.whole main_v0_1).slice (win0_5.rect ⟨(i 0).val / 128, ht⟩)).set
  rw [View.set_slice_whole, Rect.mem_set_unit]
  have q0 : win0_5.index ⟨(i 0).val / 128, ht⟩ (0 : Fin 2) = (i 0).val / 128 := congrFun q 0
  have q1 : win0_5.index ⟨(i 0).val / 128, ht⟩ (1 : Fin 2) = 0 := congrFun q 1
  intro a
  match a with
  | ⟨0, _⟩ => show win0_5.index ⟨(i 0).val / 128, ht⟩ (0 : Fin 2) * 128 ≤ (i 0).val ∧ (i 0).val < win0_5.index ⟨(i 0).val / 128, ht⟩ (0 : Fin 2) * 128 + 128; omega
  | ⟨1, _⟩ => show win0_5.index ⟨(i 0).val / 128, ht⟩ (1 : Fin 2) * 1024 ≤ (i 1).val ∧ (i 1).val < win0_5.index ⟨(i 0).val / 128, ht⟩ (1 : Fin 2) * 1024 + 1024; omega

/-- What result 1 ends with. -/
theorem final5 (c : Dev nD) : (dats m 0 c).arrAt 5 cfg0.N = G5 m c :=
  (dats m 0 c).arrAt_eq_of_cover 5 _ (fun t _ => flushed5 m c t) covered5

/-- What a point writes back of result 2 is its block of the whole. -/
theorem flushed6 (c : Dev nD) (t : Fin cfg0.N) : (dats m 0 c).flushed 6 t = ((cfg0.win 6).blk t).view.read (Elt Ideal) (G6 m c) := by
  rw [Value.flushed6, out6]
  obtain ⟨-, -, -, -, -, -, q, -⟩ := idx t
  funext y
  have hb0 : (((cfg0.win 6).blk t).view.emb y 0).val = win0_6.index t (0 : Fin 2) * 128 + 1 * (y 0).val := rfl
  have hb1 : (((cfg0.win 6).blk t).view.emb y 1).val = win0_6.index t (1 : Fin 2) * 1024 + 1 * (y 1).val := rfl
  have q0 : win0_6.index t (0 : Fin 2) = t.val := congrFun q 0
  have q1 : win0_6.index t (1 : Fin 2) = 0 := congrFun q 1
  have e0 : (((cfg0.win 6).blk t).view.emb y 0).val = t.val * 128 + ((cfg0.win 6).xinj (grid0.coords t) y 0).val := by
    show _ = t.val * 128 + (y 0).val
    rw [hb0, q0]; omega
  have e1 : (((cfg0.win 6).blk t).view.emb y 1).val = ((cfg0.win 6).xinj (grid0.coords t) y 1).val := by
    show _ = (y 1).val
    rw [hb1, q1]; omega
  show (show EReal from Cert.Adam.mNew (acc (iblk m c 0 t) ((cfg0.win 6).xinj (grid0.coords t) y)) (iblk m c 2 t ((cfg0.win 6).xinj (grid0.coords t) y))) = G6 m c (((cfg0.win 6).blk t).view.emb y)
  have a := block0 m c t _ _ e0 e1
  have b2 := block2 m c t _ _ e0 e1
  dsimp only at b2
  unfold G6
  rw [← a, ← b2]

/-- The blocks of result 2 fill its array. -/
theorem covered6 (i : S1408x1024.Idx) : ∃ t : Fin cfg0.N, (cfg0.win 6).flush t = true ∧ i ∈ ((cfg0.win 6).blk t).view.set := by
  have h0 : (i 0).val < 1408 := (i 0).isLt
  have h1 : (i 1).val < 1024 := (i 1).isLt
  have hN : cfg0.N = 11 := N_0
  have ht : (i 0).val / 128 < cfg0.N := by omega
  obtain ⟨-, -, -, -, -, -, q, -⟩ := idx ⟨(i 0).val / 128, ht⟩
  refine ⟨⟨(i 0).val / 128, ht⟩, flush0_6 _, ?_⟩
  show i ∈ ((View.whole main_v0_2).slice (win0_6.rect ⟨(i 0).val / 128, ht⟩)).set
  rw [View.set_slice_whole, Rect.mem_set_unit]
  have q0 : win0_6.index ⟨(i 0).val / 128, ht⟩ (0 : Fin 2) = (i 0).val / 128 := congrFun q 0
  have q1 : win0_6.index ⟨(i 0).val / 128, ht⟩ (1 : Fin 2) = 0 := congrFun q 1
  intro a
  match a with
  | ⟨0, _⟩ => show win0_6.index ⟨(i 0).val / 128, ht⟩ (0 : Fin 2) * 128 ≤ (i 0).val ∧ (i 0).val < win0_6.index ⟨(i 0).val / 128, ht⟩ (0 : Fin 2) * 128 + 128; omega
  | ⟨1, _⟩ => show win0_6.index ⟨(i 0).val / 128, ht⟩ (1 : Fin 2) * 1024 ≤ (i 1).val ∧ (i 1).val < win0_6.index ⟨(i 0).val / 128, ht⟩ (1 : Fin 2) * 1024 + 1024; omega

/-- What result 2 ends with. -/
theorem final6 (c : Dev nD) : (dats m 0 c).arrAt 6 cfg0.N = G6 m c :=
  (dats m 0 c).arrAt_eq_of_cover 6 _ (fun t _ => flushed6 m c t) covered6

/-- What a point writes back of result 3 is its block of the whole. -/
theorem flushed7 (c : Dev nD) (t : Fin cfg0.N) : (dats m 0 c).flushed 7 t = ((cfg0.win 7).blk t).view.read (Elt Ideal) (G7 m c) := by
  rw [Value.flushed7, out7]
  obtain ⟨-, -, -, -, -, -, -, q⟩ := idx t
  funext y
  have hb0 : (((cfg0.win 7).blk t).view.emb y 0).val = win0_7.index t (0 : Fin 2) * 128 + 1 * (y 0).val := rfl
  have hb1 : (((cfg0.win 7).blk t).view.emb y 1).val = win0_7.index t (1 : Fin 2) * 1024 + 1 * (y 1).val := rfl
  have q0 : win0_7.index t (0 : Fin 2) = t.val := congrFun q 0
  have q1 : win0_7.index t (1 : Fin 2) = 0 := congrFun q 1
  have e0 : (((cfg0.win 7).blk t).view.emb y 0).val = t.val * 128 + ((cfg0.win 7).xinj (grid0.coords t) y 0).val := by
    show _ = t.val * 128 + (y 0).val
    rw [hb0, q0]; omega
  have e1 : (((cfg0.win 7).blk t).view.emb y 1).val = ((cfg0.win 7).xinj (grid0.coords t) y 1).val := by
    show _ = (y 1).val
    rw [hb1, q1]; omega
  show (show EReal from Cert.Adam.vNew (acc (iblk m c 0 t) ((cfg0.win 7).xinj (grid0.coords t) y)) (iblk m c 3 t ((cfg0.win 7).xinj (grid0.coords t) y))) = G7 m c (((cfg0.win 7).blk t).view.emb y)
  have a := block0 m c t _ _ e0 e1
  have b3 := block3 m c t _ _ e0 e1
  dsimp only at b3
  unfold G7
  rw [← a, ← b3]

/-- The blocks of result 3 fill its array. -/
theorem covered7 (i : S1408x1024.Idx) : ∃ t : Fin cfg0.N, (cfg0.win 7).flush t = true ∧ i ∈ ((cfg0.win 7).blk t).view.set := by
  have h0 : (i 0).val < 1408 := (i 0).isLt
  have h1 : (i 1).val < 1024 := (i 1).isLt
  have hN : cfg0.N = 11 := N_0
  have ht : (i 0).val / 128 < cfg0.N := by omega
  obtain ⟨-, -, -, -, -, -, -, q⟩ := idx ⟨(i 0).val / 128, ht⟩
  refine ⟨⟨(i 0).val / 128, ht⟩, flush0_7 _, ?_⟩
  show i ∈ ((View.whole main_v0_3).slice (win0_7.rect ⟨(i 0).val / 128, ht⟩)).set
  rw [View.set_slice_whole, Rect.mem_set_unit]
  have q0 : win0_7.index ⟨(i 0).val / 128, ht⟩ (0 : Fin 2) = (i 0).val / 128 := congrFun q 0
  have q1 : win0_7.index ⟨(i 0).val / 128, ht⟩ (1 : Fin 2) = 0 := congrFun q 1
  intro a
  match a with
  | ⟨0, _⟩ => show win0_7.index ⟨(i 0).val / 128, ht⟩ (0 : Fin 2) * 128 ≤ (i 0).val ∧ (i 0).val < win0_7.index ⟨(i 0).val / 128, ht⟩ (0 : Fin 2) * 128 + 128; omega
  | ⟨1, _⟩ => show win0_7.index ⟨(i 0).val / 128, ht⟩ (1 : Fin 2) * 1024 ≤ (i 1).val ∧ (i 1).val < win0_7.index ⟨(i 0).val / 128, ht⟩ (1 : Fin 2) * 1024 + 1024; omega

/-- What result 3 ends with. -/
theorem final7 (c : Dev nD) : (dats m 0 c).arrAt 7 cfg0.N = G7 m c :=
  (dats m 0 c).arrAt_eq_of_cover 7 _ (fun t _ => flushed7 m c t) covered7

open Cert.Reference9Ideal.Read

/-- The reference's gradient is the same sum. -/
theorem ref (a : (⟨S8x1408x1024, .bf16⟩ : BufTy).Contents (Elt Ideal)) (i : S1408x1024.Idx) :
    (val_main_v1 (F := Ideal) a i : EReal) = ∑ p : Fin 8, (show EReal from a (ix3 p (i 0) (i 1))) := by
  pointwise [val_main_v1, val_main_v0, val_main_cst]

section
variable (c : Dev nD) (a : (⟨S8x1408x1024, .bf16⟩ : BufTy).Contents (Elt Ideal)) (w m1 v1 : (⟨S1408x1024, .f32⟩ : BufTy).Contents (Elt Ideal))
  (ha : a = m ((c : Thread nD τ).loc main_arg0)) (hw : w = m ((c : Thread nD τ).loc main_arg1))
  (hm : m1 = m ((c : Thread nD τ).loc main_arg2)) (hv : v1 = m ((c : Thread nD τ).loc main_arg3))
include ha

theorem final_eq4 : val_main_v1 (F := Ideal) a = (dats m 0 c).arrAt 4 cfg0.N := by
  rw [final4]
  subst ha
  funext i
  exact ref _ i

include hw hm hv in
theorem final_eq5 : val_main_v25 (F := Ideal) a w m1 v1 = (dats m 0 c).arrAt 5 cfg0.N := by
  rw [final5]
  subst ha hw hm hv
  funext i
  unfold G5 G4
  rw [← ref]
  rfl

include hm in
theorem final_eq6 : val_main_v6 (F := Ideal) a m1 = (dats m 0 c).arrAt 6 cfg0.N := by
  rw [final6]
  subst ha hm
  funext i
  unfold G6 G4
  rw [← ref]
  rfl

include hv in
theorem final_eq7 : val_main_v12 (F := Ideal) a v1 = (dats m 0 c).arrAt 7 cfg0.N := by
  rw [final7]
  subst ha hv
  funext i
  unfold G7 G4
  rw [← ref]
  rfl
end

end Cert.Kernel9Ideal.Upd

end
-- ==== Proof.AdamIn.lean ====
module

public import proofs.«01_k».proof.Proof.Gen.Kernel10Ideal.Value
public import proofs.«01_k».proof.Proof.Gen.Reference10Ideal.Read
public import proofs.«01_k».proof.Proof.Adam

/-! The update of `w_in` from the devices' pieces of its gradient: each grid point's blocks, the four arrays they fill, and the reference's. -/

@[expose] public section

set_option maxHeartbeats 1000000

noncomputable section

namespace Cert.Kernel10Ideal.Upd

open Cert.Kernel10Ideal Cert.Kernel10Ideal.Gen Idealize.ShloMosaic Idealize.ShloMosaic.TcCoe Idealize.SL.Sem
open Idealize.ShloMosaic.Tactic

/-- A block's gradient: the eight devices' pieces added up. -/
def acc (x0 : Vec Ideal S8x256x256 .bf16) (i : S256x256.Idx) : EReal := ∑ p : Fin 8, x0 (ix3 p (i 0) (i 1))

theorem gradient (x0 : Vec Ideal S8x256x256 .bf16) (j : S256x256.Idx) :
    (k0_pay4 (F := Ideal) (View.ld x0 r0_0) (View.ld x0 r0_1) (View.ld x0 r0_2) (View.ld x0 r0_3) (View.ld x0 r0_4) (View.ld x0 r0_5) (View.ld x0 r0_6) (View.ld x0 r0_7) j : EReal) = acc x0 j := by
  unfold acc
  rw [Fin.sum_univ_eight]
  pointwise [k0_pay4, View.ld]

/-- A whole block read through its rectangle. -/
theorem ld8 (x : Vec Ideal S256x256 .f32) : View.ld x r0_8 = x := by
  funext y
  show x ((r0_8).emb y) = x y
  congr 1
  funext a
  apply Fin.ext
  match a with
  | ⟨0, _⟩ => show 0 + 1 * (y 0).val = (y 0).val; omega
  | ⟨1, _⟩ => show 0 + 1 * (y 1).val = (y 1).val; omega

/-- A block stored whole is what is read back. -/
theorem one (p : Vec Ideal S256x256 .f32) : View.canon [⟨r0_8, p⟩] = p := by
  funext y
  refine View.canon_append_of_piecesOf p [] [_] ⟨fun x => ?_, trivial⟩ y (cover0_4 p y)
  exact congrFun (ld8 p).symm x

theorem out4 (x0 : Vec Ideal S8x256x256 .bf16) (x1 x2 x3 : Vec Ideal S256x256 .f32) : out0_4 (F := Ideal) x0 x1 x2 x3 = acc x0 := by
  unfold_out out0_4
  rw [one]
  funext y
  exact gradient x0 y

theorem out5 (x0 : Vec Ideal S8x256x256 .bf16) (x1 x2 x3 : Vec Ideal S256x256 .f32) :
    out0_5 (F := Ideal) x0 x1 x2 x3 = fun y => Cert.Adam.delta (x1 y) (acc x0 y) (x2 y) (x3 y) := by
  unfold_out out0_5
  rw [one, ld8, ld8, ld8]
  funext y
  rw [← gradient x0 y]
  rfl

theorem out6 (x0 : Vec Ideal S8x256x256 .bf16) (x1 x2 x3 : Vec Ideal S256x256 .f32) :
    out0_6 (F := Ideal) x0 x1 x2 x3 = fun y => Cert.Adam.mNew (acc x0 y) (x2 y) := by
  unfold_out out0_6
  rw [one, ld8]
  funext y
  rw [← gradient x0 y]
  rfl

theorem out7 (x0 : Vec Ideal S8x256x256 .bf16) (x1 x2 x3 : Vec Ideal S256x256 .f32) :
    out0_7 (F := Ideal) x0 x1 x2 x3 = fun y => Cert.Adam.vNew (acc x0 y) (x3 y) := by
  unfold_out out0_7
  rw [one, ld8]
  funext y
  rw [← gradient x0 y]
  rfl

variable (m : (ℓ : Loc nD τ sig) → Buf (Elt Ideal) ℓ)

/-- The gradient, and the three updates, as functions of the argument arrays. -/
def G4 (c : Dev nD) : S2048x256.Idx → EReal := fun i => ∑ p : Fin 8, (show EReal from m ((c : Thread nD τ).loc main_arg0) (ix3 p (i 0) (i 1)))
def G5 (c : Dev nD) : S2048x256.Idx → EReal := fun i =>
  Cert.Adam.delta (m ((c : Thread nD τ).loc main_arg1) i) (G4 m c i) (m ((c : Thread nD τ).loc main_arg2) i) (m ((c : Thread nD τ).loc main_arg3) i)
def G6 (c : Dev nD) : S2048x256.Idx → EReal := fun i => Cert.Adam.mNew (G4 m c i) (m ((c : Thread nD τ).loc main_arg2) i)
def G7 (c : Dev nD) : S2048x256.Idx → EReal := fun i => Cert.Adam.vNew (G4 m c i) (m ((c : Thread nD τ).loc main_arg3) i)

/-- The windows' block indices at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- A point's blocks are its rows' part of the arrays. -/
theorem block0 (c : Dev nD) (t : Fin cfg0.N) (x : S256x256.Idx) (z : S2048x256.Idx) (h0 : (z 0).val = t.val * 256 + (x 0).val) (h1 : (z 1).val = (x 1).val) :
    (acc (iblk m c 0 t) x : EReal) = G4 m c z := by
  obtain ⟨i0, -⟩ := idx t
  unfold acc G4
  refine Finset.sum_congr rfl fun p _ => ?_
  blk_ext [iblk, V, i0]

theorem block1 (c : Dev nD) (t : Fin cfg0.N) (x : S256x256.Idx) (z : S2048x256.Idx) (h0 : (z 0).val = t.val * 256 + (x 0).val) (h1 : (z 1).val = (x 1).val) :
    (show EReal from iblk m c 1 t x) = m ((c : Thread nD τ).loc main_arg1) z := by
  obtain ⟨-, i0, -⟩ := idx t
  blk_ext [iblk, V, i0]

theorem block2 (c : Dev nD) (t : Fin cfg0.N) (x : S256x256.Idx) (z : S2048x256.Idx) (h0 : (z 0).val = t.val * 256 + (x 0).val) (h1 : (z 1).val = (x 1).val) :
    (show EReal from iblk m c 2 t x) = m ((c : Thread nD τ).loc main_arg2) z := by
  obtain ⟨-, -, i0, -⟩ := idx t
  blk_ext [iblk, V, i0]

theorem block3 (c : Dev nD) (t : Fin cfg0.N) (x : S256x256.Idx) (z : S2048x256.Idx) (h0 : (z 0).val = t.val * 256 + (x 0).val) (h1 : (z 1).val = (x 1).val) :
    (show EReal from iblk m c 3 t x) = m ((c : Thread nD τ).loc main_arg3) z := by
  obtain ⟨-, -, -, i0, -⟩ := idx t
  blk_ext [iblk, V, i0]

/-- What a point writes back of result 0 is its block of the whole. -/
theorem flushed4 (c : Dev nD) (t : Fin cfg0.N) : (dats m 0 c).flushed 4 t = ((cfg0.win 4).blk t).view.read (Elt Ideal) (G4 m c) := by
  rw [Value.flushed4, out4]
  obtain ⟨-, -, -, -, q, -⟩ := idx t
  funext y
  have hb0 : (((cfg0.win 4).blk t).view.emb y 0).val = win0_4.index t (0 : Fin 2) * 256 + 1 * (y 0).val := rfl
  have hb1 : (((cfg0.win 4).blk t).view.emb y 1).val = win0_4.index t (1 : Fin 2) * 256 + 1 * (y 1).val := rfl
  have q0 : win0_4.index t (0 : Fin 2) = t.val := congrFun q 0
  have q1 : win0_4.index t (1 : Fin 2) = 0 := congrFun q 1
  have e0 : (((cfg0.win 4).blk t).view.emb y 0).val = t.val * 256 + ((cfg0.win 4).xinj (grid0.coords t) y 0).val := by
    show _ = t.val * 256 + (y 0).val
    rw [hb0, q0]; omega
  have e1 : (((cfg0.win 4).blk t).view.emb y 1).val = ((cfg0.win 4).xinj (grid0.coords t) y 1).val := by
    show _ = (y 1).val
    rw [hb1, q1]; omega
  show (show EReal from acc (iblk m c 0 t) ((cfg0.win 4).xinj (grid0.coords t) y)) = G4 m c (((cfg0.win 4).blk t).view.emb y)
  exact block0 m c t _ _ e0 e1

/-- The blocks of result 0 fill its array. -/
theorem covered4 (i : S2048x256.Idx) : ∃ t : Fin cfg0.N, (cfg0.win 4).flush t = true ∧ i ∈ ((cfg0.win 4).blk t).view.set := by
  have h0 : (i 0).val < 2048 := (i 0).isLt
  have h1 : (i 1).val < 256 := (i 1).isLt
  have hN : cfg0.N = 8 := N_0
  have ht : (i 0).val / 256 < cfg0.N := by omega
  obtain ⟨-, -, -, -, q, -⟩ := idx ⟨(i 0).val / 256, ht⟩
  refine ⟨⟨(i 0).val / 256, ht⟩, flush0_4 _, ?_⟩
  show i ∈ ((View.whole main_v0_0).slice (win0_4.rect ⟨(i 0).val / 256, ht⟩)).set
  rw [View.set_slice_whole, Rect.mem_set_unit]
  have q0 : win0_4.index ⟨(i 0).val / 256, ht⟩ (0 : Fin 2) = (i 0).val / 256 := congrFun q 0
  have q1 : win0_4.index ⟨(i 0).val / 256, ht⟩ (1 : Fin 2) = 0 := congrFun q 1
  intro a
  match a with
  | ⟨0, _⟩ => show win0_4.index ⟨(i 0).val / 256, ht⟩ (0 : Fin 2) * 256 ≤ (i 0).val ∧ (i 0).val < win0_4.index ⟨(i 0).val / 256, ht⟩ (0 : Fin 2) * 256 + 256; omega
  | ⟨1, _⟩ => show win0_4.index ⟨(i 0).val / 256, ht⟩ (1 : Fin 2) * 256 ≤ (i 1).val ∧ (i 1).val < win0_4.index ⟨(i 0).val / 256, ht⟩ (1 : Fin 2) * 256 + 256; omega

/-- What result 0 ends with. -/
theorem final4 (c : Dev nD) : (dats m 0 c).arrAt 4 cfg0.N = G4 m c :=
  (dats m 0 c).arrAt_eq_of_cover 4 _ (fun t _ => flushed4 m c t) covered4

/-- What a point writes back of result 1 is its block of the whole. -/
theorem flushed5 (c : Dev nD) (t : Fin cfg0.N) : (dats m 0 c).flushed 5 t = ((cfg0.win 5).blk t).view.read (Elt Ideal) (G5 m c) := by
  rw [Value.flushed5, out5]
  obtain ⟨-, -, -, -, -, q, -⟩ := idx t
  funext y
  have hb0 : (((cfg0.win 5).blk t).view.emb y 0).val = win0_5.index t (0 : Fin 2) * 256 + 1 * (y 0).val := rfl
  have hb1 : (((cfg0.win 5).blk t).view.emb y 1).val = win0_5.index t (1 : Fin 2) * 256 + 1 * (y 1).val := rfl
  have q0 : win0_5.index t (0 : Fin 2) = t.val := congrFun q 0
  have q1 : win0_5.index t (1 : Fin 2) = 0 := congrFun q 1
  have e0 : (((cfg0.win 5).blk t).view.emb y 0).val = t.val * 256 + ((cfg0.win 5).xinj (grid0.coords t) y 0).val := by
    show _ = t.val * 256 + (y 0).val
    rw [hb0, q0]; omega
  have e1 : (((cfg0.win 5).blk t).view.emb y 1).val = ((cfg0.win 5).xinj (grid0.coords t) y 1).val := by
    show _ = (y 1).val
    rw [hb1, q1]; omega
  show (show EReal from Cert.Adam.delta (iblk m c 1 t ((cfg0.win 5).xinj (grid0.coords t) y)) (acc (iblk m c 0 t) ((cfg0.win 5).xinj (grid0.coords t) y)) (iblk m c 2 t ((cfg0.win 5).xinj (grid0.coords t) y)) (iblk m c 3 t ((cfg0.win 5).xinj (grid0.coords t) y))) = G5 m c (((cfg0.win 5).blk t).view.emb y)
  have a := block0 m c t _ _ e0 e1
  have b1 := block1 m c t _ _ e0 e1
  have b2 := block2 m c t _ _ e0 e1
  have b3 := block3 m c t _ _ e0 e1
  dsimp only at b1 b2 b3
  unfold G5
  rw [← a, ← b1, ← b2, ← b3]

/-- The blocks of result 1 fill its array. -/
theorem covered5 (i : S2048x256.Idx) : ∃ t : Fin cfg0.N, (cfg0.win 5).flush t = true ∧ i ∈ ((cfg0.win 5).blk t).view.set := by
  have h0 : (i 0).val < 2048 := (i 0).isLt
  have h1 : (i 1).val < 256 := (i 1).isLt
  have hN : cfg0.N = 8 := N_0
  have ht : (i 0).val / 256 < cfg0.N := by omega
  obtain ⟨-, -, -, -, -, q, -⟩ := idx ⟨(i 0).val / 256, ht⟩
  refine ⟨⟨(i 0).val / 256, ht⟩, flush0_5 _, ?_⟩
  show i ∈ ((View.whole main_v0_1).slice (win0_5.rect ⟨(i 0).val / 256, ht⟩)).set
  rw [View.set_slice_whole, Rect.mem_set_unit]
  have q0 : win0_5.index ⟨(i 0).val / 256, ht⟩ (0 : Fin 2) = (i 0).val / 256 := congrFun q 0
  have q1 : win0_5.index ⟨(i 0).val / 256, ht⟩ (1 : Fin 2) = 0 := congrFun q 1
  intro a
  match a with
  | ⟨0, _⟩ => show win0_5.index ⟨(i 0).val / 256, ht⟩ (0 : Fin 2) * 256 ≤ (i 0).val ∧ (i 0).val < win0_5.index ⟨(i 0).val / 256, ht⟩ (0 : Fin 2) * 256 + 256; omega
  | ⟨1, _⟩ => show win0_5.index ⟨(i 0).val / 256, ht⟩ (1 : Fin 2) * 256 ≤ (i 1).val ∧ (i 1).val < win0_5.index ⟨(i 0).val / 256, ht⟩ (1 : Fin 2) * 256 + 256; omega

/-- What result 1 ends with. -/
theorem final5 (c : Dev nD) : (dats m 0 c).arrAt 5 cfg0.N = G5 m c :=
  (dats m 0 c).arrAt_eq_of_cover 5 _ (fun t _ => flushed5 m c t) covered5

/-- What a point writes back of result 2 is its block of the whole. -/
theorem flushed6 (c : Dev nD) (t : Fin cfg0.N) : (dats m 0 c).flushed 6 t = ((cfg0.win 6).blk t).view.read (Elt Ideal) (G6 m c) := by
  rw [Value.flushed6, out6]
  obtain ⟨-, -, -, -, -, -, q, -⟩ := idx t
  funext y
  have hb0 : (((cfg0.win 6).blk t).view.emb y 0).val = win0_6.index t (0 : Fin 2) * 256 + 1 * (y 0).val := rfl
  have hb1 : (((cfg0.win 6).blk t).view.emb y 1).val = win0_6.index t (1 : Fin 2) * 256 + 1 * (y 1).val := rfl
  have q0 : win0_6.index t (0 : Fin 2) = t.val := congrFun q 0
  have q1 : win0_6.index t (1 : Fin 2) = 0 := congrFun q 1
  have e0 : (((cfg0.win 6).blk t).view.emb y 0).val = t.val * 256 + ((cfg0.win 6).xinj (grid0.coords t) y 0).val := by
    show _ = t.val * 256 + (y 0).val
    rw [hb0, q0]; omega
  have e1 : (((cfg0.win 6).blk t).view.emb y 1).val = ((cfg0.win 6).xinj (grid0.coords t) y 1).val := by
    show _ = (y 1).val
    rw [hb1, q1]; omega
  show (show EReal from Cert.Adam.mNew (acc (iblk m c 0 t) ((cfg0.win 6).xinj (grid0.coords t) y)) (iblk m c 2 t ((cfg0.win 6).xinj (grid0.coords t) y))) = G6 m c (((cfg0.win 6).blk t).view.emb y)
  have a := block0 m c t _ _ e0 e1
  have b2 := block2 m c t _ _ e0 e1
  dsimp only at b2
  unfold G6
  rw [← a, ← b2]

/-- The blocks of result 2 fill its array. -/
theorem covered6 (i : S2048x256.Idx) : ∃ t : Fin cfg0.N, (cfg0.win 6).flush t = true ∧ i ∈ ((cfg0.win 6).blk t).view.set := by
  have h0 : (i 0).val < 2048 := (i 0).isLt
  have h1 : (i 1).val < 256 := (i 1).isLt
  have hN : cfg0.N = 8 := N_0
  have ht : (i 0).val / 256 < cfg0.N := by omega
  obtain ⟨-, -, -, -, -, -, q, -⟩ := idx ⟨(i 0).val / 256, ht⟩
  refine ⟨⟨(i 0).val / 256, ht⟩, flush0_6 _, ?_⟩
  show i ∈ ((View.whole main_v0_2).slice (win0_6.rect ⟨(i 0).val / 256, ht⟩)).set
  rw [View.set_slice_whole, Rect.mem_set_unit]
  have q0 : win0_6.index ⟨(i 0).val / 256, ht⟩ (0 : Fin 2) = (i 0).val / 256 := congrFun q 0
  have q1 : win0_6.index ⟨(i 0).val / 256, ht⟩ (1 : Fin 2) = 0 := congrFun q 1
  intro a
  match a with
  | ⟨0, _⟩ => show win0_6.index ⟨(i 0).val / 256, ht⟩ (0 : Fin 2) * 256 ≤ (i 0).val ∧ (i 0).val < win0_6.index ⟨(i 0).val / 256, ht⟩ (0 : Fin 2) * 256 + 256; omega
  | ⟨1, _⟩ => show win0_6.index ⟨(i 0).val / 256, ht⟩ (1 : Fin 2) * 256 ≤ (i 1).val ∧ (i 1).val < win0_6.index ⟨(i 0).val / 256, ht⟩ (1 : Fin 2) * 256 + 256; omega

/-- What result 2 ends with. -/
theorem final6 (c : Dev nD) : (dats m 0 c).arrAt 6 cfg0.N = G6 m c :=
  (dats m 0 c).arrAt_eq_of_cover 6 _ (fun t _ => flushed6 m c t) covered6

/-- What a point writes back of result 3 is its block of the whole. -/
theorem flushed7 (c : Dev nD) (t : Fin cfg0.N) : (dats m 0 c).flushed 7 t = ((cfg0.win 7).blk t).view.read (Elt Ideal) (G7 m c) := by
  rw [Value.flushed7, out7]
  obtain ⟨-, -, -, -, -, -, -, q⟩ := idx t
  funext y
  have hb0 : (((cfg0.win 7).blk t).view.emb y 0).val = win0_7.index t (0 : Fin 2) * 256 + 1 * (y 0).val := rfl
  have hb1 : (((cfg0.win 7).blk t).view.emb y 1).val = win0_7.index t (1 : Fin 2) * 256 + 1 * (y 1).val := rfl
  have q0 : win0_7.index t (0 : Fin 2) = t.val := congrFun q 0
  have q1 : win0_7.index t (1 : Fin 2) = 0 := congrFun q 1
  have e0 : (((cfg0.win 7).blk t).view.emb y 0).val = t.val * 256 + ((cfg0.win 7).xinj (grid0.coords t) y 0).val := by
    show _ = t.val * 256 + (y 0).val
    rw [hb0, q0]; omega
  have e1 : (((cfg0.win 7).blk t).view.emb y 1).val = ((cfg0.win 7).xinj (grid0.coords t) y 1).val := by
    show _ = (y 1).val
    rw [hb1, q1]; omega
  show (show EReal from Cert.Adam.vNew (acc (iblk m c 0 t) ((cfg0.win 7).xinj (grid0.coords t) y)) (iblk m c 3 t ((cfg0.win 7).xinj (grid0.coords t) y))) = G7 m c (((cfg0.win 7).blk t).view.emb y)
  have a := block0 m c t _ _ e0 e1
  have b3 := block3 m c t _ _ e0 e1
  dsimp only at b3
  unfold G7
  rw [← a, ← b3]

/-- The blocks of result 3 fill its array. -/
theorem covered7 (i : S2048x256.Idx) : ∃ t : Fin cfg0.N, (cfg0.win 7).flush t = true ∧ i ∈ ((cfg0.win 7).blk t).view.set := by
  have h0 : (i 0).val < 2048 := (i 0).isLt
  have h1 : (i 1).val < 256 := (i 1).isLt
  have hN : cfg0.N = 8 := N_0
  have ht : (i 0).val / 256 < cfg0.N := by omega
  obtain ⟨-, -, -, -, -, -, -, q⟩ := idx ⟨(i 0).val / 256, ht⟩
  refine ⟨⟨(i 0).val / 256, ht⟩, flush0_7 _, ?_⟩
  show i ∈ ((View.whole main_v0_3).slice (win0_7.rect ⟨(i 0).val / 256, ht⟩)).set
  rw [View.set_slice_whole, Rect.mem_set_unit]
  have q0 : win0_7.index ⟨(i 0).val / 256, ht⟩ (0 : Fin 2) = (i 0).val / 256 := congrFun q 0
  have q1 : win0_7.index ⟨(i 0).val / 256, ht⟩ (1 : Fin 2) = 0 := congrFun q 1
  intro a
  match a with
  | ⟨0, _⟩ => show win0_7.index ⟨(i 0).val / 256, ht⟩ (0 : Fin 2) * 256 ≤ (i 0).val ∧ (i 0).val < win0_7.index ⟨(i 0).val / 256, ht⟩ (0 : Fin 2) * 256 + 256; omega
  | ⟨1, _⟩ => show win0_7.index ⟨(i 0).val / 256, ht⟩ (1 : Fin 2) * 256 ≤ (i 1).val ∧ (i 1).val < win0_7.index ⟨(i 0).val / 256, ht⟩ (1 : Fin 2) * 256 + 256; omega

/-- What result 3 ends with. -/
theorem final7 (c : Dev nD) : (dats m 0 c).arrAt 7 cfg0.N = G7 m c :=
  (dats m 0 c).arrAt_eq_of_cover 7 _ (fun t _ => flushed7 m c t) covered7

open Cert.Reference10Ideal.Read

/-- The reference's gradient is the same sum. -/
theorem ref (a : (⟨S8x2048x256, .bf16⟩ : BufTy).Contents (Elt Ideal)) (i : S2048x256.Idx) :
    (val_main_v1 (F := Ideal) a i : EReal) = ∑ p : Fin 8, (show EReal from a (ix3 p (i 0) (i 1))) := by
  pointwise [val_main_v1, val_main_v0, val_main_cst]

section
variable (c : Dev nD) (a : (⟨S8x2048x256, .bf16⟩ : BufTy).Contents (Elt Ideal)) (w m1 v1 : (⟨S2048x256, .f32⟩ : BufTy).Contents (Elt Ideal))
  (ha : a = m ((c : Thread nD τ).loc main_arg0)) (hw : w = m ((c : Thread nD τ).loc main_arg1))
  (hm : m1 = m ((c : Thread nD τ).loc main_arg2)) (hv : v1 = m ((c : Thread nD τ).loc main_arg3))
include ha

theorem final_eq4 : val_main_v1 (F := Ideal) a = (dats m 0 c).arrAt 4 cfg0.N := by
  rw [final4]
  subst ha
  funext i
  exact ref _ i

include hw hm hv in
theorem final_eq5 : val_main_v25 (F := Ideal) a w m1 v1 = (dats m 0 c).arrAt 5 cfg0.N := by
  rw [final5]
  subst ha hw hm hv
  funext i
  unfold G5 G4
  rw [← ref]
  rfl

include hm in
theorem final_eq6 : val_main_v6 (F := Ideal) a m1 = (dats m 0 c).arrAt 6 cfg0.N := by
  rw [final6]
  subst ha hm
  funext i
  unfold G6 G4
  rw [← ref]
  rfl

include hv in
theorem final_eq7 : val_main_v12 (F := Ideal) a v1 = (dats m 0 c).arrAt 7 cfg0.N := by
  rw [final7]
  subst ha hv
  funext i
  unfold G7 G4
  rw [← ref]
  rfl
end

end Cert.Kernel10Ideal.Upd

end
-- ==== Proof.AdamOut.lean ====
module

public import proofs.«01_k».proof.Proof.Gen.Kernel11Ideal.Value
public import proofs.«01_k».proof.Proof.Gen.Reference11Ideal.Read
public import proofs.«01_k».proof.Proof.Adam

/-! The update of `w_out` from the devices' pieces of its gradient: each grid point's blocks, the four arrays they fill, and the reference's. -/

@[expose] public section

set_option maxHeartbeats 1000000

noncomputable section

namespace Cert.Kernel11Ideal.Upd

open Cert.Kernel11Ideal Cert.Kernel11Ideal.Gen Idealize.ShloMosaic Idealize.ShloMosaic.TcCoe Idealize.SL.Sem
open Idealize.ShloMosaic.Tactic

/-- A block's gradient: the eight devices' pieces added up. -/
def acc (x0 : Vec Ideal S8x256x1024 .bf16) (i : S256x1024.Idx) : EReal := ∑ p : Fin 8, x0 (ix3 p (i 0) (i 1))

theorem gradient (x0 : Vec Ideal S8x256x1024 .bf16) (j : S256x1024.Idx) :
    (k0_pay4 (F := Ideal) (View.ld x0 r0_0) (View.ld x0 r0_1) (View.ld x0 r0_2) (View.ld x0 r0_3) (View.ld x0 r0_4) (View.ld x0 r0_5) (View.ld x0 r0_6) (View.ld x0 r0_7) j : EReal) = acc x0 j := by
  unfold acc
  rw [Fin.sum_univ_eight]
  pointwise [k0_pay4, View.ld]

/-- A whole block read through its rectangle. -/
theorem ld8 (x : Vec Ideal S256x1024 .f32) : View.ld x r0_8 = x := by
  funext y
  show x ((r0_8).emb y) = x y
  congr 1
  funext a
  apply Fin.ext
  match a with
  | ⟨0, _⟩ => show 0 + 1 * (y 0).val = (y 0).val; omega
  | ⟨1, _⟩ => show 0 + 1 * (y 1).val = (y 1).val; omega

/-- A block stored whole is what is read back. -/
theorem one (p : Vec Ideal S256x1024 .f32) : View.canon [⟨r0_8, p⟩] = p := by
  funext y
  refine View.canon_append_of_piecesOf p [] [_] ⟨fun x => ?_, trivial⟩ y (cover0_4 p y)
  exact congrFun (ld8 p).symm x

theorem out4 (x0 : Vec Ideal S8x256x1024 .bf16) (x1 x2 x3 : Vec Ideal S256x1024 .f32) : out0_4 (F := Ideal) x0 x1 x2 x3 = acc x0 := by
  unfold_out out0_4
  rw [one]
  funext y
  exact gradient x0 y

theorem out5 (x0 : Vec Ideal S8x256x1024 .bf16) (x1 x2 x3 : Vec Ideal S256x1024 .f32) :
    out0_5 (F := Ideal) x0 x1 x2 x3 = fun y => Cert.Adam.delta (x1 y) (acc x0 y) (x2 y) (x3 y) := by
  unfold_out out0_5
  rw [one, ld8, ld8, ld8]
  funext y
  rw [← gradient x0 y]
  rfl

theorem out6 (x0 : Vec Ideal S8x256x1024 .bf16) (x1 x2 x3 : Vec Ideal S256x1024 .f32) :
    out0_6 (F := Ideal) x0 x1 x2 x3 = fun y => Cert.Adam.mNew (acc x0 y) (x2 y) := by
  unfold_out out0_6
  rw [one, ld8]
  funext y
  rw [← gradient x0 y]
  rfl

theorem out7 (x0 : Vec Ideal S8x256x1024 .bf16) (x1 x2 x3 : Vec Ideal S256x1024 .f32) :
    out0_7 (F := Ideal) x0 x1 x2 x3 = fun y => Cert.Adam.vNew (acc x0 y) (x3 y) := by
  unfold_out out0_7
  rw [one, ld8]
  funext y
  rw [← gradient x0 y]
  rfl

variable (m : (ℓ : Loc nD τ sig) → Buf (Elt Ideal) ℓ)

/-- The gradient, and the three updates, as functions of the argument arrays. -/
def G4 (c : Dev nD) : S256x1024.Idx → EReal := fun i => ∑ p : Fin 8, (show EReal from m ((c : Thread nD τ).loc main_arg0) (ix3 p (i 0) (i 1)))
def G5 (c : Dev nD) : S256x1024.Idx → EReal := fun i =>
  Cert.Adam.delta (m ((c : Thread nD τ).loc main_arg1) i) (G4 m c i) (m ((c : Thread nD τ).loc main_arg2) i) (m ((c : Thread nD τ).loc main_arg3) i)
def G6 (c : Dev nD) : S256x1024.Idx → EReal := fun i => Cert.Adam.mNew (G4 m c i) (m ((c : Thread nD τ).loc main_arg2) i)
def G7 (c : Dev nD) : S256x1024.Idx → EReal := fun i => Cert.Adam.vNew (G4 m c i) (m ((c : Thread nD τ).loc main_arg3) i)

/-- The windows' block indices at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- A point's blocks are its rows' part of the arrays. -/
theorem block0 (c : Dev nD) (t : Fin cfg0.N) (x : S256x1024.Idx) (z : S256x1024.Idx) (h0 : (z 0).val = t.val * 256 + (x 0).val) (h1 : (z 1).val = (x 1).val) :
    (acc (iblk m c 0 t) x : EReal) = G4 m c z := by
  obtain ⟨i0, -⟩ := idx t
  unfold acc G4
  refine Finset.sum_congr rfl fun p _ => ?_
  blk_ext [iblk, V, i0]

theorem block1 (c : Dev nD) (t : Fin cfg0.N) (x : S256x1024.Idx) (z : S256x1024.Idx) (h0 : (z 0).val = t.val * 256 + (x 0).val) (h1 : (z 1).val = (x 1).val) :
    (show EReal from iblk m c 1 t x) = m ((c : Thread nD τ).loc main_arg1) z := by
  obtain ⟨-, i0, -⟩ := idx t
  blk_ext [iblk, V, i0]

theorem block2 (c : Dev nD) (t : Fin cfg0.N) (x : S256x1024.Idx) (z : S256x1024.Idx) (h0 : (z 0).val = t.val * 256 + (x 0).val) (h1 : (z 1).val = (x 1).val) :
    (show EReal from iblk m c 2 t x) = m ((c : Thread nD τ).loc main_arg2) z := by
  obtain ⟨-, -, i0, -⟩ := idx t
  blk_ext [iblk, V, i0]

theorem block3 (c : Dev nD) (t : Fin cfg0.N) (x : S256x1024.Idx) (z : S256x1024.Idx) (h0 : (z 0).val = t.val * 256 + (x 0).val) (h1 : (z 1).val = (x 1).val) :
    (show EReal from iblk m c 3 t x) = m ((c : Thread nD τ).loc main_arg3) z := by
  obtain ⟨-, -, -, i0, -⟩ := idx t
  blk_ext [iblk, V, i0]

/-- What a point writes back of result 0 is its block of the whole. -/
theorem flushed4 (c : Dev nD) (t : Fin cfg0.N) : (dats m 0 c).flushed 4 t = ((cfg0.win 4).blk t).view.read (Elt Ideal) (G4 m c) := by
  rw [Value.flushed4, out4]
  obtain ⟨-, -, -, -, q, -⟩ := idx t
  funext y
  have hb0 : (((cfg0.win 4).blk t).view.emb y 0).val = win0_4.index t (0 : Fin 2) * 256 + 1 * (y 0).val := rfl
  have hb1 : (((cfg0.win 4).blk t).view.emb y 1).val = win0_4.index t (1 : Fin 2) * 1024 + 1 * (y 1).val := rfl
  have q0 : win0_4.index t (0 : Fin 2) = t.val := congrFun q 0
  have q1 : win0_4.index t (1 : Fin 2) = 0 := congrFun q 1
  have e0 : (((cfg0.win 4).blk t).view.emb y 0).val = t.val * 256 + ((cfg0.win 4).xinj (grid0.coords t) y 0).val := by
    show _ = t.val * 256 + (y 0).val
    rw [hb0, q0]; omega
  have e1 : (((cfg0.win 4).blk t).view.emb y 1).val = ((cfg0.win 4).xinj (grid0.coords t) y 1).val := by
    show _ = (y 1).val
    rw [hb1, q1]; omega
  show (show EReal from acc (iblk m c 0 t) ((cfg0.win 4).xinj (grid0.coords t) y)) = G4 m c (((cfg0.win 4).blk t).view.emb y)
  exact block0 m c t _ _ e0 e1

/-- The blocks of result 0 fill its array. -/
theorem covered4 (i : S256x1024.Idx) : ∃ t : Fin cfg0.N, (cfg0.win 4).flush t = true ∧ i ∈ ((cfg0.win 4).blk t).view.set := by
  have h0 : (i 0).val < 256 := (i 0).isLt
  have h1 : (i 1).val < 1024 := (i 1).isLt
  have hN : cfg0.N = 1 := N_0
  have ht : (i 0).val / 256 < cfg0.N := by omega
  obtain ⟨-, -, -, -, q, -⟩ := idx ⟨(i 0).val / 256, ht⟩
  refine ⟨⟨(i 0).val / 256, ht⟩, flush0_4 _, ?_⟩
  show i ∈ ((View.whole main_v0_0).slice (win0_4.rect ⟨(i 0).val / 256, ht⟩)).set
  rw [View.set_slice_whole, Rect.mem_set_unit]
  have q0 : win0_4.index ⟨(i 0).val / 256, ht⟩ (0 : Fin 2) = (i 0).val / 256 := congrFun q 0
  have q1 : win0_4.index ⟨(i 0).val / 256, ht⟩ (1 : Fin 2) = 0 := congrFun q 1
  intro a
  match a with
  | ⟨0, _⟩ => show win0_4.index ⟨(i 0).val / 256, ht⟩ (0 : Fin 2) * 256 ≤ (i 0).val ∧ (i 0).val < win0_4.index ⟨(i 0).val / 256, ht⟩ (0 : Fin 2) * 256 + 256; omega
  | ⟨1, _⟩ => show win0_4.index ⟨(i 0).val / 256, ht⟩ (1 : Fin 2) * 1024 ≤ (i 1).val ∧ (i 1).val < win0_4.index ⟨(i 0).val / 256, ht⟩ (1 : Fin 2) * 1024 + 1024; omega

/-- What result 0 ends with. -/
theorem final4 (c : Dev nD) : (dats m 0 c).arrAt 4 cfg0.N = G4 m c :=
  (dats m 0 c).arrAt_eq_of_cover 4 _ (fun t _ => flushed4 m c t) covered4

/-- What a point writes back of result 1 is its block of the whole. -/
theorem flushed5 (c : Dev nD) (t : Fin cfg0.N) : (dats m 0 c).flushed 5 t = ((cfg0.win 5).blk t).view.read (Elt Ideal) (G5 m c) := by
  rw [Value.flushed5, out5]
  obtain ⟨-, -, -, -, -, q, -⟩ := idx t
  funext y
  have hb0 : (((cfg0.win 5).blk t).view.emb y 0).val = win0_5.index t (0 : Fin 2) * 256 + 1 * (y 0).val := rfl
  have hb1 : (((cfg0.win 5).blk t).view.emb y 1).val = win0_5.index t (1 : Fin 2) * 1024 + 1 * (y 1).val := rfl
  have q0 : win0_5.index t (0 : Fin 2) = t.val := congrFun q 0
  have q1 : win0_5.index t (1 : Fin 2) = 0 := congrFun q 1
  have e0 : (((cfg0.win 5).blk t).view.emb y 0).val = t.val * 256 + ((cfg0.win 5).xinj (grid0.coords t) y 0).val := by
    show _ = t.val * 256 + (y 0).val
    rw [hb0, q0]; omega
  have e1 : (((cfg0.win 5).blk t).view.emb y 1).val = ((cfg0.win 5).xinj (grid0.coords t) y 1).val := by
    show _ = (y 1).val
    rw [hb1, q1]; omega
  show (show EReal from Cert.Adam.delta (iblk m c 1 t ((cfg0.win 5).xinj (grid0.coords t) y)) (acc (iblk m c 0 t) ((cfg0.win 5).xinj (grid0.coords t) y)) (iblk m c 2 t ((cfg0.win 5).xinj (grid0.coords t) y)) (iblk m c 3 t ((cfg0.win 5).xinj (grid0.coords t) y))) = G5 m c (((cfg0.win 5).blk t).view.emb y)
  have a := block0 m c t _ _ e0 e1
  have b1 := block1 m c t _ _ e0 e1
  have b2 := block2 m c t _ _ e0 e1
  have b3 := block3 m c t _ _ e0 e1
  dsimp only at b1 b2 b3
  unfold G5
  rw [← a, ← b1, ← b2, ← b3]

/-- The blocks of result 1 fill its array. -/
theorem covered5 (i : S256x1024.Idx) : ∃ t : Fin cfg0.N, (cfg0.win 5).flush t = true ∧ i ∈ ((cfg0.win 5).blk t).view.set := by
  have h0 : (i 0).val < 256 := (i 0).isLt
  have h1 : (i 1).val < 1024 := (i 1).isLt
  have hN : cfg0.N = 1 := N_0
  have ht : (i 0).val / 256 < cfg0.N := by omega
  obtain ⟨-, -, -, -, -, q, -⟩ := idx ⟨(i 0).val / 256, ht⟩
  refine ⟨⟨(i 0).val / 256, ht⟩, flush0_5 _, ?_⟩
  show i ∈ ((View.whole main_v0_1).slice (win0_5.rect ⟨(i 0).val / 256, ht⟩)).set
  rw [View.set_slice_whole, Rect.mem_set_unit]
  have q0 : win0_5.index ⟨(i 0).val / 256, ht⟩ (0 : Fin 2) = (i 0).val / 256 := congrFun q 0
  have q1 : win0_5.index ⟨(i 0).val / 256, ht⟩ (1 : Fin 2) = 0 := congrFun q 1
  intro a
  match a with
  | ⟨0, _⟩ => show win0_5.index ⟨(i 0).val / 256, ht⟩ (0 : Fin 2) * 256 ≤ (i 0).val ∧ (i 0).val < win0_5.index ⟨(i 0).val / 256, ht⟩ (0 : Fin 2) * 256 + 256; omega
  | ⟨1, _⟩ => show win0_5.index ⟨(i 0).val / 256, ht⟩ (1 : Fin 2) * 1024 ≤ (i 1).val ∧ (i 1).val < win0_5.index ⟨(i 0).val / 256, ht⟩ (1 : Fin 2) * 1024 + 1024; omega

/-- What result 1 ends with. -/
theorem final5 (c : Dev nD) : (dats m 0 c).arrAt 5 cfg0.N = G5 m c :=
  (dats m 0 c).arrAt_eq_of_cover 5 _ (fun t _ => flushed5 m c t) covered5

/-- What a point writes back of result 2 is its block of the whole. -/
theorem flushed6 (c : Dev nD) (t : Fin cfg0.N) : (dats m 0 c).flushed 6 t = ((cfg0.win 6).blk t).view.read (Elt Ideal) (G6 m c) := by
  rw [Value.flushed6, out6]
  obtain ⟨-, -, -, -, -, -, q, -⟩ := idx t
  funext y
  have hb0 : (((cfg0.win 6).blk t).view.emb y 0).val = win0_6.index t (0 : Fin 2) * 256 + 1 * (y 0).val := rfl
  have hb1 : (((cfg0.win 6).blk t).view.emb y 1).val = win0_6.index t (1 : Fin 2) * 1024 + 1 * (y 1).val := rfl
  have q0 : win0_6.index t (0 : Fin 2) = t.val := congrFun q 0
  have q1 : win0_6.index t (1 : Fin 2) = 0 := congrFun q 1
  have e0 : (((cfg0.win 6).blk t).view.emb y 0).val = t.val * 256 + ((cfg0.win 6).xinj (grid0.coords t) y 0).val := by
    show _ = t.val * 256 + (y 0).val
    rw [hb0, q0]; omega
  have e1 : (((cfg0.win 6).blk t).view.emb y 1).val = ((cfg0.win 6).xinj (grid0.coords t) y 1).val := by
    show _ = (y 1).val
    rw [hb1, q1]; omega
  show (show EReal from Cert.Adam.mNew (acc (iblk m c 0 t) ((cfg0.win 6).xinj (grid0.coords t) y)) (iblk m c 2 t ((cfg0.win 6).xinj (grid0.coords t) y))) = G6 m c (((cfg0.win 6).blk t).view.emb y)
  have a := block0 m c t _ _ e0 e1
  have b2 := block2 m c t _ _ e0 e1
  dsimp only at b2
  unfold G6
  rw [← a, ← b2]

/-- The blocks of result 2 fill its array. -/
theorem covered6 (i : S256x1024.Idx) : ∃ t : Fin cfg0.N, (cfg0.win 6).flush t = true ∧ i ∈ ((cfg0.win 6).blk t).view.set := by
  have h0 : (i 0).val < 256 := (i 0).isLt
  have h1 : (i 1).val < 1024 := (i 1).isLt
  have hN : cfg0.N = 1 := N_0
  have ht : (i 0).val / 256 < cfg0.N := by omega
  obtain ⟨-, -, -, -, -, -, q, -⟩ := idx ⟨(i 0).val / 256, ht⟩
  refine ⟨⟨(i 0).val / 256, ht⟩, flush0_6 _, ?_⟩
  show i ∈ ((View.whole main_v0_2).slice (win0_6.rect ⟨(i 0).val / 256, ht⟩)).set
  rw [View.set_slice_whole, Rect.mem_set_unit]
  have q0 : win0_6.index ⟨(i 0).val / 256, ht⟩ (0 : Fin 2) = (i 0).val / 256 := congrFun q 0
  have q1 : win0_6.index ⟨(i 0).val / 256, ht⟩ (1 : Fin 2) = 0 := congrFun q 1
  intro a
  match a with
  | ⟨0, _⟩ => show win0_6.index ⟨(i 0).val / 256, ht⟩ (0 : Fin 2) * 256 ≤ (i 0).val ∧ (i 0).val < win0_6.index ⟨(i 0).val / 256, ht⟩ (0 : Fin 2) * 256 + 256; omega
  | ⟨1, _⟩ => show win0_6.index ⟨(i 0).val / 256, ht⟩ (1 : Fin 2) * 1024 ≤ (i 1).val ∧ (i 1).val < win0_6.index ⟨(i 0).val / 256, ht⟩ (1 : Fin 2) * 1024 + 1024; omega

/-- What result 2 ends with. -/
theorem final6 (c : Dev nD) : (dats m 0 c).arrAt 6 cfg0.N = G6 m c :=
  (dats m 0 c).arrAt_eq_of_cover 6 _ (fun t _ => flushed6 m c t) covered6

/-- What a point writes back of result 3 is its block of the whole. -/
theorem flushed7 (c : Dev nD) (t : Fin cfg0.N) : (dats m 0 c).flushed 7 t = ((cfg0.win 7).blk t).view.read (Elt Ideal) (G7 m c) := by
  rw [Value.flushed7, out7]
  obtain ⟨-, -, -, -, -, -, -, q⟩ := idx t
  funext y
  have hb0 : (((cfg0.win 7).blk t).view.emb y 0).val = win0_7.index t (0 : Fin 2) * 256 + 1 * (y 0).val := rfl
  have hb1 : (((cfg0.win 7).blk t).view.emb y 1).val = win0_7.index t (1 : Fin 2) * 1024 + 1 * (y 1).val := rfl
  have q0 : win0_7.index t (0 : Fin 2) = t.val := congrFun q 0
  have q1 : win0_7.index t (1 : Fin 2) = 0 := congrFun q 1
  have e0 : (((cfg0.win 7).blk t).view.emb y 0).val = t.val * 256 + ((cfg0.win 7).xinj (grid0.coords t) y 0).val := by
    show _ = t.val * 256 + (y 0).val
    rw [hb0, q0]; omega
  have e1 : (((cfg0.win 7).blk t).view.emb y 1).val = ((cfg0.win 7).xinj (grid0.coords t) y 1).val := by
    show _ = (y 1).val
    rw [hb1, q1]; omega
  show (show EReal from Cert.Adam.vNew (acc (iblk m c 0 t) ((cfg0.win 7).xinj (grid0.coords t) y)) (iblk m c 3 t ((cfg0.win 7).xinj (grid0.coords t) y))) = G7 m c (((cfg0.win 7).blk t).view.emb y)
  have a := block0 m c t _ _ e0 e1
  have b3 := block3 m c t _ _ e0 e1
  dsimp only at b3
  unfold G7
  rw [← a, ← b3]

/-- The blocks of result 3 fill its array. -/
theorem covered7 (i : S256x1024.Idx) : ∃ t : Fin cfg0.N, (cfg0.win 7).flush t = true ∧ i ∈ ((cfg0.win 7).blk t).view.set := by
  have h0 : (i 0).val < 256 := (i 0).isLt
  have h1 : (i 1).val < 1024 := (i 1).isLt
  have hN : cfg0.N = 1 := N_0
  have ht : (i 0).val / 256 < cfg0.N := by omega
  obtain ⟨-, -, -, -, -, -, -, q⟩ := idx ⟨(i 0).val / 256, ht⟩
  refine ⟨⟨(i 0).val / 256, ht⟩, flush0_7 _, ?_⟩
  show i ∈ ((View.whole main_v0_3).slice (win0_7.rect ⟨(i 0).val / 256, ht⟩)).set
  rw [View.set_slice_whole, Rect.mem_set_unit]
  have q0 : win0_7.index ⟨(i 0).val / 256, ht⟩ (0 : Fin 2) = (i 0).val / 256 := congrFun q 0
  have q1 : win0_7.index ⟨(i 0).val / 256, ht⟩ (1 : Fin 2) = 0 := congrFun q 1
  intro a
  match a with
  | ⟨0, _⟩ => show win0_7.index ⟨(i 0).val / 256, ht⟩ (0 : Fin 2) * 256 ≤ (i 0).val ∧ (i 0).val < win0_7.index ⟨(i 0).val / 256, ht⟩ (0 : Fin 2) * 256 + 256; omega
  | ⟨1, _⟩ => show win0_7.index ⟨(i 0).val / 256, ht⟩ (1 : Fin 2) * 1024 ≤ (i 1).val ∧ (i 1).val < win0_7.index ⟨(i 0).val / 256, ht⟩ (1 : Fin 2) * 1024 + 1024; omega

/-- What result 3 ends with. -/
theorem final7 (c : Dev nD) : (dats m 0 c).arrAt 7 cfg0.N = G7 m c :=
  (dats m 0 c).arrAt_eq_of_cover 7 _ (fun t _ => flushed7 m c t) covered7

open Cert.Reference11Ideal.Read

/-- The reference's gradient is the same sum. -/
theorem ref (a : (⟨S8x256x1024, .bf16⟩ : BufTy).Contents (Elt Ideal)) (i : S256x1024.Idx) :
    (val_main_v1 (F := Ideal) a i : EReal) = ∑ p : Fin 8, (show EReal from a (ix3 p (i 0) (i 1))) := by
  pointwise [val_main_v1, val_main_v0, val_main_cst]

section
variable (c : Dev nD) (a : (⟨S8x256x1024, .bf16⟩ : BufTy).Contents (Elt Ideal)) (w m1 v1 : (⟨S256x1024, .f32⟩ : BufTy).Contents (Elt Ideal))
  (ha : a = m ((c : Thread nD τ).loc main_arg0)) (hw : w = m ((c : Thread nD τ).loc main_arg1))
  (hm : m1 = m ((c : Thread nD τ).loc main_arg2)) (hv : v1 = m ((c : Thread nD τ).loc main_arg3))
include ha

theorem final_eq4 : val_main_v1 (F := Ideal) a = (dats m 0 c).arrAt 4 cfg0.N := by
  rw [final4]
  subst ha
  funext i
  exact ref _ i

include hw hm hv in
theorem final_eq5 : val_main_v25 (F := Ideal) a w m1 v1 = (dats m 0 c).arrAt 5 cfg0.N := by
  rw [final5]
  subst ha hw hm hv
  funext i
  unfold G5 G4
  rw [← ref]
  rfl

include hm in
theorem final_eq6 : val_main_v6 (F := Ideal) a m1 = (dats m 0 c).arrAt 6 cfg0.N := by
  rw [final6]
  subst ha hm
  funext i
  unfold G6 G4
  rw [← ref]
  rfl

include hv in
theorem final_eq7 : val_main_v12 (F := Ideal) a v1 = (dats m 0 c).arrAt 7 cfg0.N := by
  rw [final7]
  subst ha hv
  funext i
  unfold G7 G4
  rw [← ref]
  rfl
end

end Cert.Kernel11Ideal.Upd

end
-- ==== Proof.AdamSmall.lean ====
module

public import Idealize.ShloMosaic.Lib.Pipeline.ValueKit
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read

/-! The updates of the seven weights whose gradients arrive summed: the reference's three results are the kernel's, number by number. -/

@[expose] public section

set_option maxHeartbeats 1000000

noncomputable section

namespace Cert.Kernel12Ideal.Upd
open Idealize.ShloMosaic Cert.Reference12Ideal.Read

theorem eq4 (w g m v : (⟨Cert.Reference12Ideal.S2048x1152, .f32⟩ : BufTy).Contents (Elt Ideal)) : val_main_v23 (F := Ideal) w g m v = Cert.Kernel12Ideal.Value.G4 (F := Ideal) w g m v := by
  funext i
  rfl
theorem eq5 (g m : (⟨Cert.Reference12Ideal.S2048x1152, .f32⟩ : BufTy).Contents (Elt Ideal)) : val_main_v4 (F := Ideal) g m = Cert.Kernel12Ideal.Value.G5 (F := Ideal) g m := by
  funext i
  rfl
theorem eq6 (g v : (⟨Cert.Reference12Ideal.S2048x1152, .f32⟩ : BufTy).Contents (Elt Ideal)) : val_main_v10 (F := Ideal) g v = Cert.Kernel12Ideal.Value.G6 (F := Ideal) g v := by
  funext i
  rfl
end Cert.Kernel12Ideal.Upd

namespace Cert.Kernel13Ideal.Upd
open Idealize.ShloMosaic Cert.Reference13Ideal.Read

theorem eq4 (w g m v : (⟨Cert.Reference13Ideal.S1024x128, .f32⟩ : BufTy).Contents (Elt Ideal)) : val_main_v23 (F := Ideal) w g m v = Cert.Kernel13Ideal.Value.G4 (F := Ideal) w g m v := by
  funext i
  rfl
theorem eq5 (g m : (⟨Cert.Reference13Ideal.S1024x128, .f32⟩ : BufTy).Contents (Elt Ideal)) : val_main_v4 (F := Ideal) g m = Cert.Kernel13Ideal.Value.G5 (F := Ideal) g m := by
  funext i
  rfl
theorem eq6 (g v : (⟨Cert.Reference13Ideal.S1024x128, .f32⟩ : BufTy).Contents (Elt Ideal)) : val_main_v10 (F := Ideal) g v = Cert.Kernel13Ideal.Value.G6 (F := Ideal) g v := by
  funext i
  rfl
end Cert.Kernel13Ideal.Upd

namespace Cert.Kernel14Ideal.Upd
open Idealize.ShloMosaic Cert.Reference14Ideal.Read

theorem eq4 (w g m v : (⟨Cert.Reference14Ideal.S240x31, .f32⟩ : BufTy).Contents (Elt Ideal)) : val_main_v23 (F := Ideal) w g m v = Cert.Kernel14Ideal.Value.G4 (F := Ideal) w g m v := by
  funext i
  rfl
theorem eq5 (g m : (⟨Cert.Reference14Ideal.S240x31, .f32⟩ : BufTy).Contents (Elt Ideal)) : val_main_v4 (F := Ideal) g m = Cert.Kernel14Ideal.Value.G5 (F := Ideal) g m := by
  funext i
  rfl
theorem eq6 (g v : (⟨Cert.Reference14Ideal.S240x31, .f32⟩ : BufTy).Contents (Elt Ideal)) : val_main_v10 (F := Ideal) g v = Cert.Kernel14Ideal.Value.G6 (F := Ideal) g v := by
  funext i
  rfl
end Cert.Kernel14Ideal.Upd

namespace Cert.Kernel15Ideal.Upd
open Idealize.ShloMosaic Cert.Reference15Ideal.Read

theorem eq4 (w g m v : (⟨Cert.Reference15Ideal.S1x1024, .f32⟩ : BufTy).Contents (Elt Ideal)) : val_main_v23 (F := Ideal) w g m v = Cert.Kernel15Ideal.Value.G4 (F := Ideal) w g m v := by
  funext i
  rfl
theorem eq5 (g m : (⟨Cert.Reference15Ideal.S1x1024, .f32⟩ : BufTy).Contents (Elt Ideal)) : val_main_v4 (F := Ideal) g m = Cert.Kernel15Ideal.Value.G5 (F := Ideal) g m := by
  funext i
  rfl
theorem eq6 (g v : (⟨Cert.Reference15Ideal.S1x1024, .f32⟩ : BufTy).Contents (Elt Ideal)) : val_main_v10 (F := Ideal) g v = Cert.Kernel15Ideal.Value.G6 (F := Ideal) g v := by
  funext i
  rfl
end Cert.Kernel15Ideal.Upd

namespace Cert.Kernel16Ideal.Upd
open Idealize.ShloMosaic Cert.Reference16Ideal.Read

theorem eq4 (w g m v : (⟨Cert.Reference16Ideal.S2x9216, .f32⟩ : BufTy).Contents (Elt Ideal)) : val_main_v23 (F := Ideal) w g m v = Cert.Kernel16Ideal.Value.G4 (F := Ideal) w g m v := by
  funext i
  rfl
theorem eq5 (g m : (⟨Cert.Reference16Ideal.S2x9216, .f32⟩ : BufTy).Contents (Elt Ideal)) : val_main_v4 (F := Ideal) g m = Cert.Kernel16Ideal.Value.G5 (F := Ideal) g m := by
  funext i
  rfl
theorem eq6 (g v : (⟨Cert.Reference16Ideal.S2x9216, .f32⟩ : BufTy).Contents (Elt Ideal)) : val_main_v10 (F := Ideal) g v = Cert.Kernel16Ideal.Value.G6 (F := Ideal) g v := by
  funext i
  rfl
end Cert.Kernel16Ideal.Upd

namespace Cert.Kernel17Ideal.Upd
open Idealize.ShloMosaic Cert.Reference17Ideal.Read

theorem eq4 (w g m v : (⟨Cert.Reference17Ideal.S12x128, .f32⟩ : BufTy).Contents (Elt Ideal)) : val_main_v23 (F := Ideal) w g m v = Cert.Kernel17Ideal.Value.G4 (F := Ideal) w g m v := by
  funext i
  rfl
theorem eq5 (g m : (⟨Cert.Reference17Ideal.S12x128, .f32⟩ : BufTy).Contents (Elt Ideal)) : val_main_v4 (F := Ideal) g m = Cert.Kernel17Ideal.Value.G5 (F := Ideal) g m := by
  funext i
  rfl
theorem eq6 (g v : (⟨Cert.Reference17Ideal.S12x128, .f32⟩ : BufTy).Contents (Elt Ideal)) : val_main_v10 (F := Ideal) g v = Cert.Kernel17Ideal.Value.G6 (F := Ideal) g v := by
  funext i
  rfl
end Cert.Kernel17Ideal.Upd

namespace Cert.Kernel18Ideal.Upd
open Idealize.ShloMosaic Cert.Reference18Ideal.Read

theorem eq4 (w g m v : (⟨Cert.Reference18Ideal.S2x512, .f32⟩ : BufTy).Contents (Elt Ideal)) : val_main_v23 (F := Ideal) w g m v = Cert.Kernel18Ideal.Value.G4 (F := Ideal) w g m v := by
  funext i
  rfl
theorem eq5 (g m : (⟨Cert.Reference18Ideal.S2x512, .f32⟩ : BufTy).Contents (Elt Ideal)) : val_main_v4 (F := Ideal) g m = Cert.Kernel18Ideal.Value.G5 (F := Ideal) g m := by
  funext i
  rfl
theorem eq6 (g v : (⟨Cert.Reference18Ideal.S2x512, .f32⟩ : BufTy).Contents (Elt Ideal)) : val_main_v10 (F := Ideal) g v = Cert.Kernel18Ideal.Value.G6 (F := Ideal) g v := by
  funext i
  rfl
end Cert.Kernel18Ideal.Upd

end
-- ==== Proof.lean ====
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Pre_finite4
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Pre_finite7
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Pre_finite21
public import proofs.«01_k».proof.Proof.NaFrame
public import proofs.«01_k».proof.Proof.SumEarly
public import proofs.«01_k».proof.Proof.SumSmall
public import proofs.«01_k».proof.Proof.CctxValue
public import proofs.«01_k».proof.Proof.ModValue
public import proofs.«01_k».proof.Proof.LossValue
public import proofs.«01_k».proof.Proof.DwValue
public import proofs.«01_k».proof.Proof.DgValue
public import proofs.«01_k».proof.Proof.DaValue
public import proofs.«01_k».proof.Proof.UpValue
public import proofs.«01_k».proof.Proof.DownValue
public import proofs.«01_k».proof.Proof.DhFinal
public import proofs.«01_k».proof.Proof.AdamGateUp
public import proofs.«01_k».proof.Proof.AdamDown
public import proofs.«01_k».proof.Proof.AdamIn
public import proofs.«01_k».proof.Proof.AdamOut
public import proofs.«01_k».proof.Proof.AdamSmall
public import Idealize.ShloMosaic.Adequacy
public import Idealize.ShloMosaic.Init

@[expose] public section

noncomputable section

namespace Cert.Proof

open Idealize.ShloMosaic Idealize.ShloMosaic.Tactic Idealize.SL.Sem Cert.Kernel

set_option maxHeartbeats 4000000

/-- The two programs' body tables are the same text. -/
theorem defs_same : Cert.Kernel.defs (F := Bits) = Cert.KernelIdeal.defs (F := Bits) := by sl_kernel_rfl

/-- The kernel's frame: the run of the same text, read on the machine's numbers. -/
theorem frame_kernel : Cert.quiescent_Kernel := fun m ρ _ => by
  rw [defs_same]
  exact (θ_run Cert.KernelIdeal.defs _ _).mono (fun _ h => h) (Cert.KernelIdeal.Na.frame (F := Bits) m ρ)

/-- The idealized kernel's frame. -/
theorem frame_kernelIdeal : Cert.quiescent_KernelIdeal := fun m ρ _ => Cert.KernelIdeal.Na.frame (F := Ideal) m ρ

/-- The weight gradient's frames. -/
theorem frame_kernel2 : Cert.quiescent_Kernel2 := fun m ρ _ => Cert.Kernel2.Gen.frame (F := Bits) m ρ
theorem frame_kernel2Ideal : Cert.quiescent_Kernel2Ideal := fun m ρ _ => Cert.Kernel2Ideal.Gen.frame (F := Ideal) m ρ
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the weight gradient is the reference's. -/
theorem algebraic2 : Cert.algebraic_Kernel2Ideal_Reference2Ideal := by
  intro m g m' g' _ agree
  refine ⟨fun c => Cert.Kernel2Ideal.Value.G2 m c, Cert.Kernel2Ideal.Value.run (F := Ideal) m g, ?_⟩
  refine (θ_run Cert.Reference2Ideal.defs _ _).mono (fun _ h c => ⟨(h c).1.trans ?_, (h c).2⟩) (Cert.Reference2Ideal.Value.run (F := Ideal) m' g')
  exact (Cert.Reference2Ideal.Read.val_main_v9_eq _ _).trans (Cert.Kernel2Ideal.Dw.final_eq m c _ _ (agree c).1 (agree c).2)

/-- The frames of the gradient of `w_ffn_gate_up`. -/
theorem frame_kernel3 : Cert.quiescent_Kernel3 := fun m ρ _ => Cert.Kernel3.Gen.frame (F := Bits) m ρ
theorem frame_kernel3Ideal : Cert.quiescent_Kernel3Ideal := fun m ρ _ => Cert.Kernel3Ideal.Gen.frame (F := Ideal) m ρ
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the gradient of `w_ffn_gate_up` is the reference's. -/
theorem algebraic3 : Cert.algebraic_Kernel3Ideal_Reference3Ideal := by
  intro m g m' g' _ agree
  refine ⟨fun c => Cert.Kernel3Ideal.Value.G2 m c, Cert.Kernel3Ideal.Value.run (F := Ideal) m g, ?_⟩
  refine (θ_run Cert.Reference3Ideal.defs _ _).mono (fun _ h c => ⟨(h c).1.trans ?_, (h c).2⟩) (Cert.Reference3Ideal.Value.run (F := Ideal) m' g')
  exact (Cert.Reference3Ideal.Read.val_main_v10_eq _ _).trans (Cert.Kernel3Ideal.Dg.final_eq m c _ _ (agree c).1 (agree c).2)

/-- The frames of the gradient at the gate and the up halves. -/
theorem frame_kernel4 : Cert.quiescent_Kernel4 := fun m ρ _ => Cert.Kernel4.Gen.frame (F := Bits) m ρ
theorem frame_kernel4Ideal : Cert.quiescent_Kernel4Ideal := fun m ρ _ => Cert.Kernel4Ideal.Gen.frame (F := Ideal) m ρ
theorem frame_kernel4Ideal_finite : Cert.quiescent_Kernel4Ideal_pre_finite4 := fun m ρ _ => Cert.Kernel4Ideal.Gen.frame (F := Ideal) m ρ
theorem frame_reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem frame_reference4Ideal_finite : Cert.quiescent_Reference4Ideal_pre_finite4 := fun m ρ _ => frame_reference4Ideal m ρ trivial

/-- Over the extended reals, on finite arguments, the gradient at the gate and the up halves is the reference's. -/
theorem algebraic4 : Cert.algebraic_Kernel4Ideal_Reference4Ideal_pre_finite4 := by
  intro m g m' g' pre agree
  refine ⟨fun c => (Cert.Kernel4Ideal.Gen.dats m 0 c).arrAt 3 Cert.Kernel4Ideal.cfg0.N, Cert.Kernel4Ideal.Value.run_blocks (F := Ideal) m g, ?_⟩
  refine (θ_run Cert.Reference4Ideal.defs _ _).mono (fun _ h c => ⟨(h c).1.trans ?_, (h c).2⟩) (Cert.Reference4Ideal.Value.run (F := Ideal) m' g')
  refine (Cert.Reference4Ideal.Read.val_main_v27_eq _ _).trans ?_
  have p := pre c
  rw [← (agree c).1, ← (agree c).2.1, ← (agree c).2.2] at p
  exact Cert.Kernel4Ideal.Da.final_eq m c _ _ _ (agree c).1 (agree c).2.1 (agree c).2.2 p

/-- The frames of the feed-forward's first product. -/
theorem frame_kernel5 : Cert.quiescent_Kernel5 := fun m ρ _ => Cert.Kernel5.Gen.frame (F := Bits) m ρ
theorem frame_kernel5Ideal : Cert.quiescent_Kernel5Ideal := fun m ρ _ => Cert.Kernel5Ideal.Gen.frame (F := Ideal) m ρ
theorem frame_reference5Ideal : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- Over the extended reals the modulated rows, the gate and the up halves and the activations are the reference's. -/
theorem algebraic5 : Cert.algebraic_Kernel5Ideal_Reference5Ideal := by
  intro m g m' g' _ agree
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N,
    fun c => (Cert.Kernel5Ideal.Gen.dats m 0 c).arrAt 6 Cert.Kernel5Ideal.cfg0.N, Cert.Kernel5Ideal.Value.run_blocks (F := Ideal) m g, ?_⟩
  refine (θ_run Cert.Reference5Ideal.defs _ _).mono (fun _ h c => ⟨(h c).1.trans ?_, (h c).2.1.trans ?_, (h c).2.2.1.trans ?_, (h c).2.2.2⟩)
    (Cert.Reference5Ideal.Value.run (F := Ideal) m' g')
  · exact (Cert.Reference5Ideal.Read.val_main_v63_eq _ _ _).trans
      (Cert.Kernel5Ideal.Up.final_eq4 m c _ _ _ _ (agree c).1 (agree c).2.1 (agree c).2.2.1 (agree c).2.2.2)
  · exact (Cert.Reference5Ideal.Read.val_main_v71_eq m' c).trans
      (Cert.Kernel5Ideal.Up.final_eq5 m c _ _ _ _ (agree c).1 (agree c).2.1 (agree c).2.2.1 (agree c).2.2.2)
  · exact (Cert.Reference5Ideal.Read.val_main_v74_eq m' c).trans
      (Cert.Kernel5Ideal.Up.final_eq6 m c _ _ _ _ (agree c).1 (agree c).2.1 (agree c).2.2.1 (agree c).2.2.2)

/-- The frames of the feed-forward's second product. -/
theorem frame_kernel6 : Cert.quiescent_Kernel6 := fun m ρ _ => Cert.Kernel6.Gen.frame (F := Bits) m ρ
theorem frame_kernel6Ideal : Cert.quiescent_Kernel6Ideal := fun m ρ _ => Cert.Kernel6Ideal.Gen.frame (F := Ideal) m ρ
theorem frame_reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Over the extended reals the second product and the step from it are the reference's. -/
theorem algebraic6 : Cert.algebraic_Kernel6Ideal_Reference6Ideal := by
  intro m g m' g' _ agree
  refine ⟨fun c => (Cert.Kernel6Ideal.Gen.dats m 0 c).arrAt 5 Cert.Kernel6Ideal.cfg0.N, fun c => (Cert.Kernel6Ideal.Gen.dats m 0 c).arrAt 6 Cert.Kernel6Ideal.cfg0.N,
    Cert.Kernel6Ideal.Value.run_blocks (F := Ideal) m g, ?_⟩
  refine (θ_run Cert.Reference6Ideal.defs _ _).mono (fun _ h c => ⟨(h c).1.trans ?_, (h c).2.1.trans ?_, (h c).2.2⟩) (Cert.Reference6Ideal.Value.run (F := Ideal) m' g')
  · exact (Cert.Reference6Ideal.Read.val_main_v5_eq _ _).trans (Cert.Kernel6Ideal.Down.final_eq5 m c _ _ (agree c).1 (agree c).2.1)
  · exact (Cert.Reference6Ideal.Read.val_main_v54_eq m' c).trans
      (Cert.Kernel6Ideal.Down.final_eq6 m c _ _ _ _ _ (agree c).1 (agree c).2.1 (agree c).2.2.1 (agree c).2.2.2.1 (agree c).2.2.2.2)

/-- The two body tables of the gradient through `w_ffn_gate_up` are the same text. -/
theorem defs_same7 : Cert.Kernel7.defs (F := Bits) = Cert.Kernel7Ideal.defs (F := Bits) := by sl_kernel_rfl

/-- The frames of the gradient through `w_ffn_gate_up`, the modulation and the norm. -/
theorem frame_kernel7 : Cert.quiescent_Kernel7 := fun m ρ _ => by
  rw [defs_same7]
  exact (θ_run Cert.Kernel7Ideal.defs _ _).mono (fun _ h => h) (Cert.Kernel7Ideal.Dh.frame (F := Bits) m ρ)
theorem frame_kernel7Ideal : Cert.quiescent_Kernel7Ideal := fun m ρ _ => Cert.Kernel7Ideal.Dh.frame (F := Ideal) m ρ
theorem frame_kernel7Ideal_finite : Cert.quiescent_Kernel7Ideal_pre_finite7 := fun m ρ _ => Cert.Kernel7Ideal.Dh.frame (F := Ideal) m ρ
theorem frame_reference7Ideal : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)
theorem frame_reference7Ideal_finite : Cert.quiescent_Reference7Ideal_pre_finite7 := fun m ρ _ => frame_reference7Ideal m ρ trivial

/-- Over the extended reals, on finite arguments, the gradients at the rows and the sums are the reference's. -/
theorem algebraic7 : Cert.algebraic_Kernel7Ideal_Reference7Ideal_pre_finite7 := by
  intro m g m' g' pre agree
  refine ⟨fun c => (Cert.Kernel7Ideal.Dh.dats m 0 c).arrAt 6 Cert.Kernel7Ideal.cfg0.N, fun c => (Cert.Kernel7Ideal.Dh.dats m 0 c).arrAt 7 Cert.Kernel7Ideal.cfg0.N,
    (θ_run Cert.Kernel7Ideal.defs _ _).mono (fun _ h c => ⟨(h.1 c).1, (h.1 c).2, h.2 c⟩)
      (θ_run_and (Cert.Kernel7Ideal.Dh.results (F := Ideal) m g) (Cert.Kernel7Ideal.Dh.args (F := Ideal) m g)), ?_⟩
  refine (θ_run Cert.Reference7Ideal.defs _ _).mono (fun _ h c => ⟨(h c).1.trans ?_, (h c).2.1.trans ?_, (h c).2.2⟩) (Cert.Reference7Ideal.Value.run (F := Ideal) m' g')
  · have p := pre c
    rw [← (agree c).1, ← (agree c).2.1, ← (agree c).2.2.1, ← (agree c).2.2.2.1, ← (agree c).2.2.2.2.1, ← (agree c).2.2.2.2.2] at p
    exact (Cert.Reference7Ideal.Read.val_main_v134_eq m' c).trans
      (Cert.Kernel7Ideal.Dh.final_eq6 m c _ _ _ _ _ _ (agree c).1 (agree c).2.1 (agree c).2.2.1 (agree c).2.2.2.1 (agree c).2.2.2.2.1 (agree c).2.2.2.2.2 p)
  · have p := pre c
    rw [← (agree c).1, ← (agree c).2.1, ← (agree c).2.2.1, ← (agree c).2.2.2.1, ← (agree c).2.2.2.2.1, ← (agree c).2.2.2.2.2] at p
    exact (Cert.Reference7Ideal.Read.val_main_v149_eq m' c).trans
      (Cert.Kernel7Ideal.Dh.final_eq7 m c _ _ _ _ _ _ (agree c).1 (agree c).2.1 (agree c).2.2.1 (agree c).2.2.2.2.1 (agree c).2.2.2.2.2 p)

/-- The frames of weight update 1. -/
theorem frame_kernel8 : Cert.quiescent_Kernel8 := fun m ρ _ => Cert.Kernel8.Gen.frame (F := Bits) m ρ
theorem frame_kernel8Ideal : Cert.quiescent_Kernel8Ideal := fun m ρ _ => Cert.Kernel8Ideal.Gen.frame (F := Ideal) m ρ
theorem frame_reference8Ideal : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- Over the extended reals the gradient and its update are the reference's. -/
theorem algebraic8 : Cert.algebraic_Kernel8Ideal_Reference8Ideal := by
  intro m g m' g' _ agree
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    fun c => (Cert.Kernel8Ideal.Gen.dats m 0 c).arrAt 6 Cert.Kernel8Ideal.cfg0.N, fun c => (Cert.Kernel8Ideal.Gen.dats m 0 c).arrAt 7 Cert.Kernel8Ideal.cfg0.N,
    Cert.Kernel8Ideal.Value.run_blocks (F := Ideal) m g, ?_⟩
  refine (θ_run Cert.Reference8Ideal.defs _ _).mono (fun _ h c => ⟨(h c).1.trans ?_, (h c).2.1.trans ?_, (h c).2.2.1.trans ?_, (h c).2.2.2.1.trans ?_, (h c).2.2.2.2⟩)
    (Cert.Reference8Ideal.Value.run (F := Ideal) m' g')
  · exact (Cert.Reference8Ideal.Read.val_main_v1_eq _).trans (Cert.Kernel8Ideal.Upd.final_eq4 m c _ (agree c).1)
  · exact (Cert.Reference8Ideal.Read.val_main_v25_eq _ _ _ _).trans (Cert.Kernel8Ideal.Upd.final_eq5 m c _ _ _ _ (agree c).1 (agree c).2.1 (agree c).2.2.1 (agree c).2.2.2)
  · exact (Cert.Reference8Ideal.Read.val_main_v6_eq _ _).trans (Cert.Kernel8Ideal.Upd.final_eq6 m c _ _ (agree c).1 (agree c).2.2.1)
  · exact (Cert.Reference8Ideal.Read.val_main_v12_eq _ _).trans (Cert.Kernel8Ideal.Upd.final_eq7 m c _ _ (agree c).1 (agree c).2.2.2)

/-- The frames of weight update 2. -/
theorem frame_kernel9 : Cert.quiescent_Kernel9 := fun m ρ _ => Cert.Kernel9.Gen.frame (F := Bits) m ρ
theorem frame_kernel9Ideal : Cert.quiescent_Kernel9Ideal := fun m ρ _ => Cert.Kernel9Ideal.Gen.frame (F := Ideal) m ρ
theorem frame_reference9Ideal : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- Over the extended reals the gradient and its update are the reference's. -/
theorem algebraic9 : Cert.algebraic_Kernel9Ideal_Reference9Ideal := by
  intro m g m' g' _ agree
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    fun c => (Cert.Kernel9Ideal.Gen.dats m 0 c).arrAt 6 Cert.Kernel9Ideal.cfg0.N, fun c => (Cert.Kernel9Ideal.Gen.dats m 0 c).arrAt 7 Cert.Kernel9Ideal.cfg0.N,
    Cert.Kernel9Ideal.Value.run_blocks (F := Ideal) m g, ?_⟩
  refine (θ_run Cert.Reference9Ideal.defs _ _).mono (fun _ h c => ⟨(h c).1.trans ?_, (h c).2.1.trans ?_, (h c).2.2.1.trans ?_, (h c).2.2.2.1.trans ?_, (h c).2.2.2.2⟩)
    (Cert.Reference9Ideal.Value.run (F := Ideal) m' g')
  · exact (Cert.Reference9Ideal.Read.val_main_v1_eq _).trans (Cert.Kernel9Ideal.Upd.final_eq4 m c _ (agree c).1)
  · exact (Cert.Reference9Ideal.Read.val_main_v25_eq _ _ _ _).trans (Cert.Kernel9Ideal.Upd.final_eq5 m c _ _ _ _ (agree c).1 (agree c).2.1 (agree c).2.2.1 (agree c).2.2.2)
  · exact (Cert.Reference9Ideal.Read.val_main_v6_eq _ _).trans (Cert.Kernel9Ideal.Upd.final_eq6 m c _ _ (agree c).1 (agree c).2.2.1)
  · exact (Cert.Reference9Ideal.Read.val_main_v12_eq _ _).trans (Cert.Kernel9Ideal.Upd.final_eq7 m c _ _ (agree c).1 (agree c).2.2.2)

/-- The frames of weight update 3. -/
theorem frame_kernel10 : Cert.quiescent_Kernel10 := fun m ρ _ => Cert.Kernel10.Gen.frame (F := Bits) m ρ
theorem frame_kernel10Ideal : Cert.quiescent_Kernel10Ideal := fun m ρ _ => Cert.Kernel10Ideal.Gen.frame (F := Ideal) m ρ
theorem frame_reference10Ideal : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- Over the extended reals the gradient and its update are the reference's. -/
theorem algebraic10 : Cert.algebraic_Kernel10Ideal_Reference10Ideal := by
  intro m g m' g' _ agree
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N,
    fun c => (Cert.Kernel10Ideal.Gen.dats m 0 c).arrAt 6 Cert.Kernel10Ideal.cfg0.N, fun c => (Cert.Kernel10Ideal.Gen.dats m 0 c).arrAt 7 Cert.Kernel10Ideal.cfg0.N,
    Cert.Kernel10Ideal.Value.run_blocks (F := Ideal) m g, ?_⟩
  refine (θ_run Cert.Reference10Ideal.defs _ _).mono (fun _ h c => ⟨(h c).1.trans ?_, (h c).2.1.trans ?_, (h c).2.2.1.trans ?_, (h c).2.2.2.1.trans ?_, (h c).2.2.2.2⟩)
    (Cert.Reference10Ideal.Value.run (F := Ideal) m' g')
  · exact (Cert.Reference10Ideal.Read.val_main_v1_eq _).trans (Cert.Kernel10Ideal.Upd.final_eq4 m c _ (agree c).1)
  · exact (Cert.Reference10Ideal.Read.val_main_v25_eq _ _ _ _).trans (Cert.Kernel10Ideal.Upd.final_eq5 m c _ _ _ _ (agree c).1 (agree c).2.1 (agree c).2.2.1 (agree c).2.2.2)
  · exact (Cert.Reference10Ideal.Read.val_main_v6_eq _ _).trans (Cert.Kernel10Ideal.Upd.final_eq6 m c _ _ (agree c).1 (agree c).2.2.1)
  · exact (Cert.Reference10Ideal.Read.val_main_v12_eq _ _).trans (Cert.Kernel10Ideal.Upd.final_eq7 m c _ _ (agree c).1 (agree c).2.2.2)

/-- The frames of weight update 4. -/
theorem frame_kernel11 : Cert.quiescent_Kernel11 := fun m ρ _ => Cert.Kernel11.Gen.frame (F := Bits) m ρ
theorem frame_kernel11Ideal : Cert.quiescent_Kernel11Ideal := fun m ρ _ => Cert.Kernel11Ideal.Gen.frame (F := Ideal) m ρ
theorem frame_reference11Ideal : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- Over the extended reals the gradient and its update are the reference's. -/
theorem algebraic11 : Cert.algebraic_Kernel11Ideal_Reference11Ideal := by
  intro m g m' g' _ agree
  refine ⟨fun c => (Cert.Kernel11Ideal.Gen.dats m 0 c).arrAt 4 Cert.Kernel11Ideal.cfg0.N, fun c => (Cert.Kernel11Ideal.Gen.dats m 0 c).arrAt 5 Cert.Kernel11Ideal.cfg0.N,
    fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks (F := Ideal) m g, ?_⟩
  refine (θ_run Cert.Reference11Ideal.defs _ _).mono (fun _ h c => ⟨(h c).1.trans ?_, (h c).2.1.trans ?_, (h c).2.2.1.trans ?_, (h c).2.2.2.1.trans ?_, (h c).2.2.2.2⟩)
    (Cert.Reference11Ideal.Value.run (F := Ideal) m' g')
  · exact (Cert.Reference11Ideal.Read.val_main_v1_eq _).trans (Cert.Kernel11Ideal.Upd.final_eq4 m c _ (agree c).1)
  · exact (Cert.Reference11Ideal.Read.val_main_v25_eq _ _ _ _).trans (Cert.Kernel11Ideal.Upd.final_eq5 m c _ _ _ _ (agree c).1 (agree c).2.1 (agree c).2.2.1 (agree c).2.2.2)
  · exact (Cert.Reference11Ideal.Read.val_main_v6_eq _ _).trans (Cert.Kernel11Ideal.Upd.final_eq6 m c _ _ (agree c).1 (agree c).2.2.1)
  · exact (Cert.Reference11Ideal.Read.val_main_v12_eq _ _).trans (Cert.Kernel11Ideal.Upd.final_eq7 m c _ _ (agree c).1 (agree c).2.2.2)

/-- The frames of weight update 5. -/
theorem frame_kernel12 : Cert.quiescent_Kernel12 := fun m ρ _ => Cert.Kernel12.Gen.frame (F := Bits) m ρ
theorem frame_kernel12Ideal : Cert.quiescent_Kernel12Ideal := fun m ρ _ => Cert.Kernel12Ideal.Gen.frame (F := Ideal) m ρ
theorem frame_reference12Ideal : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- Over the extended reals the update is the reference's. -/
theorem algebraic12 : Cert.algebraic_Kernel12Ideal_Reference12Ideal := by
  intro m g m' g' _ agree
  refine ⟨_, _, _, Cert.Kernel12Ideal.Value.run (F := Ideal) m g, ?_⟩
  refine (θ_run Cert.Reference12Ideal.defs _ _).mono (fun _ h c => ⟨(h c).1.trans ?_, (h c).2.1.trans ?_, (h c).2.2.1.trans ?_, (h c).2.2.2⟩)
    (Cert.Reference12Ideal.Value.run (F := Ideal) m' g')
  · rw [(agree c).1, (agree c).2.1, (agree c).2.2.1, (agree c).2.2.2]
    exact (Cert.Reference12Ideal.Read.val_main_v23_eq _ _ _ _).trans (Cert.Kernel12Ideal.Upd.eq4 _ _ _ _)
  · rw [(agree c).2.1, (agree c).2.2.1]
    exact (Cert.Reference12Ideal.Read.val_main_v4_eq _ _).trans (Cert.Kernel12Ideal.Upd.eq5 _ _)
  · rw [(agree c).2.1, (agree c).2.2.2]
    exact (Cert.Reference12Ideal.Read.val_main_v10_eq _ _).trans (Cert.Kernel12Ideal.Upd.eq6 _ _)

/-- The frames of weight update 6. -/
theorem frame_kernel13 : Cert.quiescent_Kernel13 := fun m ρ _ => Cert.Kernel13.Gen.frame (F := Bits) m ρ
theorem frame_kernel13Ideal : Cert.quiescent_Kernel13Ideal := fun m ρ _ => Cert.Kernel13Ideal.Gen.frame (F := Ideal) m ρ
theorem frame_reference13Ideal : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- Over the extended reals the update is the reference's. -/
theorem algebraic13 : Cert.algebraic_Kernel13Ideal_Reference13Ideal := by
  intro m g m' g' _ agree
  refine ⟨_, _, _, Cert.Kernel13Ideal.Value.run (F := Ideal) m g, ?_⟩
  refine (θ_run Cert.Reference13Ideal.defs _ _).mono (fun _ h c => ⟨(h c).1.trans ?_, (h c).2.1.trans ?_, (h c).2.2.1.trans ?_, (h c).2.2.2⟩)
    (Cert.Reference13Ideal.Value.run (F := Ideal) m' g')
  · rw [(agree c).1, (agree c).2.1, (agree c).2.2.1, (agree c).2.2.2]
    exact (Cert.Reference13Ideal.Read.val_main_v23_eq _ _ _ _).trans (Cert.Kernel13Ideal.Upd.eq4 _ _ _ _)
  · rw [(agree c).2.1, (agree c).2.2.1]
    exact (Cert.Reference13Ideal.Read.val_main_v4_eq _ _).trans (Cert.Kernel13Ideal.Upd.eq5 _ _)
  · rw [(agree c).2.1, (agree c).2.2.2]
    exact (Cert.Reference13Ideal.Read.val_main_v10_eq _ _).trans (Cert.Kernel13Ideal.Upd.eq6 _ _)

/-- The frames of weight update 7. -/
theorem frame_kernel14 : Cert.quiescent_Kernel14 := fun m ρ _ => Cert.Kernel14.Gen.frame (F := Bits) m ρ
theorem frame_kernel14Ideal : Cert.quiescent_Kernel14Ideal := fun m ρ _ => Cert.Kernel14Ideal.Gen.frame (F := Ideal) m ρ
theorem frame_reference14Ideal : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

/-- Over the extended reals the update is the reference's. -/
theorem algebraic14 : Cert.algebraic_Kernel14Ideal_Reference14Ideal := by
  intro m g m' g' _ agree
  refine ⟨_, _, _, Cert.Kernel14Ideal.Value.run (F := Ideal) m g, ?_⟩
  refine (θ_run Cert.Reference14Ideal.defs _ _).mono (fun _ h c => ⟨(h c).1.trans ?_, (h c).2.1.trans ?_, (h c).2.2.1.trans ?_, (h c).2.2.2⟩)
    (Cert.Reference14Ideal.Value.run (F := Ideal) m' g')
  · rw [(agree c).1, (agree c).2.1, (agree c).2.2.1, (agree c).2.2.2]
    exact (Cert.Reference14Ideal.Read.val_main_v23_eq _ _ _ _).trans (Cert.Kernel14Ideal.Upd.eq4 _ _ _ _)
  · rw [(agree c).2.1, (agree c).2.2.1]
    exact (Cert.Reference14Ideal.Read.val_main_v4_eq _ _).trans (Cert.Kernel14Ideal.Upd.eq5 _ _)
  · rw [(agree c).2.1, (agree c).2.2.2]
    exact (Cert.Reference14Ideal.Read.val_main_v10_eq _ _).trans (Cert.Kernel14Ideal.Upd.eq6 _ _)

/-- The frames of weight update 8. -/
theorem frame_kernel15 : Cert.quiescent_Kernel15 := fun m ρ _ => Cert.Kernel15.Gen.frame (F := Bits) m ρ
theorem frame_kernel15Ideal : Cert.quiescent_Kernel15Ideal := fun m ρ _ => Cert.Kernel15Ideal.Gen.frame (F := Ideal) m ρ
theorem frame_reference15Ideal : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- Over the extended reals the update is the reference's. -/
theorem algebraic15 : Cert.algebraic_Kernel15Ideal_Reference15Ideal := by
  intro m g m' g' _ agree
  refine ⟨_, _, _, Cert.Kernel15Ideal.Value.run (F := Ideal) m g, ?_⟩
  refine (θ_run Cert.Reference15Ideal.defs _ _).mono (fun _ h c => ⟨(h c).1.trans ?_, (h c).2.1.trans ?_, (h c).2.2.1.trans ?_, (h c).2.2.2⟩)
    (Cert.Reference15Ideal.Value.run (F := Ideal) m' g')
  · rw [(agree c).1, (agree c).2.1, (agree c).2.2.1, (agree c).2.2.2]
    exact (Cert.Reference15Ideal.Read.val_main_v23_eq _ _ _ _).trans (Cert.Kernel15Ideal.Upd.eq4 _ _ _ _)
  · rw [(agree c).2.1, (agree c).2.2.1]
    exact (Cert.Reference15Ideal.Read.val_main_v4_eq _ _).trans (Cert.Kernel15Ideal.Upd.eq5 _ _)
  · rw [(agree c).2.1, (agree c).2.2.2]
    exact (Cert.Reference15Ideal.Read.val_main_v10_eq _ _).trans (Cert.Kernel15Ideal.Upd.eq6 _ _)

/-- The frames of weight update 9. -/
theorem frame_kernel16 : Cert.quiescent_Kernel16 := fun m ρ _ => Cert.Kernel16.Gen.frame (F := Bits) m ρ
theorem frame_kernel16Ideal : Cert.quiescent_Kernel16Ideal := fun m ρ _ => Cert.Kernel16Ideal.Gen.frame (F := Ideal) m ρ
theorem frame_reference16Ideal : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- Over the extended reals the update is the reference's. -/
theorem algebraic16 : Cert.algebraic_Kernel16Ideal_Reference16Ideal := by
  intro m g m' g' _ agree
  refine ⟨_, _, _, Cert.Kernel16Ideal.Value.run (F := Ideal) m g, ?_⟩
  refine (θ_run Cert.Reference16Ideal.defs _ _).mono (fun _ h c => ⟨(h c).1.trans ?_, (h c).2.1.trans ?_, (h c).2.2.1.trans ?_, (h c).2.2.2⟩)
    (Cert.Reference16Ideal.Value.run (F := Ideal) m' g')
  · rw [(agree c).1, (agree c).2.1, (agree c).2.2.1, (agree c).2.2.2]
    exact (Cert.Reference16Ideal.Read.val_main_v23_eq _ _ _ _).trans (Cert.Kernel16Ideal.Upd.eq4 _ _ _ _)
  · rw [(agree c).2.1, (agree c).2.2.1]
    exact (Cert.Reference16Ideal.Read.val_main_v4_eq _ _).trans (Cert.Kernel16Ideal.Upd.eq5 _ _)
  · rw [(agree c).2.1, (agree c).2.2.2]
    exact (Cert.Reference16Ideal.Read.val_main_v10_eq _ _).trans (Cert.Kernel16Ideal.Upd.eq6 _ _)

/-- The frames of weight update 10. -/
theorem frame_kernel17 : Cert.quiescent_Kernel17 := fun m ρ _ => Cert.Kernel17.Gen.frame (F := Bits) m ρ
theorem frame_kernel17Ideal : Cert.quiescent_Kernel17Ideal := fun m ρ _ => Cert.Kernel17Ideal.Gen.frame (F := Ideal) m ρ
theorem frame_reference17Ideal : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

/-- Over the extended reals the update is the reference's. -/
theorem algebraic17 : Cert.algebraic_Kernel17Ideal_Reference17Ideal := by
  intro m g m' g' _ agree
  refine ⟨_, _, _, Cert.Kernel17Ideal.Value.run (F := Ideal) m g, ?_⟩
  refine (θ_run Cert.Reference17Ideal.defs _ _).mono (fun _ h c => ⟨(h c).1.trans ?_, (h c).2.1.trans ?_, (h c).2.2.1.trans ?_, (h c).2.2.2⟩)
    (Cert.Reference17Ideal.Value.run (F := Ideal) m' g')
  · rw [(agree c).1, (agree c).2.1, (agree c).2.2.1, (agree c).2.2.2]
    exact (Cert.Reference17Ideal.Read.val_main_v23_eq _ _ _ _).trans (Cert.Kernel17Ideal.Upd.eq4 _ _ _ _)
  · rw [(agree c).2.1, (agree c).2.2.1]
    exact (Cert.Reference17Ideal.Read.val_main_v4_eq _ _).trans (Cert.Kernel17Ideal.Upd.eq5 _ _)
  · rw [(agree c).2.1, (agree c).2.2.2]
    exact (Cert.Reference17Ideal.Read.val_main_v10_eq _ _).trans (Cert.Kernel17Ideal.Upd.eq6 _ _)

/-- The frames of weight update 11. -/
theorem frame_kernel18 : Cert.quiescent_Kernel18 := fun m ρ _ => Cert.Kernel18.Gen.frame (F := Bits) m ρ
theorem frame_kernel18Ideal : Cert.quiescent_Kernel18Ideal := fun m ρ _ => Cert.Kernel18Ideal.Gen.frame (F := Ideal) m ρ
theorem frame_reference18Ideal : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- Over the extended reals the update is the reference's. -/
theorem algebraic18 : Cert.algebraic_Kernel18Ideal_Reference18Ideal := by
  intro m g m' g' _ agree
  refine ⟨_, _, _, Cert.Kernel18Ideal.Value.run (F := Ideal) m g, ?_⟩
  refine (θ_run Cert.Reference18Ideal.defs _ _).mono (fun _ h c => ⟨(h c).1.trans ?_, (h c).2.1.trans ?_, (h c).2.2.1.trans ?_, (h c).2.2.2⟩)
    (Cert.Reference18Ideal.Value.run (F := Ideal) m' g')
  · rw [(agree c).1, (agree c).2.1, (agree c).2.2.1, (agree c).2.2.2]
    exact (Cert.Reference18Ideal.Read.val_main_v23_eq _ _ _ _).trans (Cert.Kernel18Ideal.Upd.eq4 _ _ _ _)
  · rw [(agree c).2.1, (agree c).2.2.1]
    exact (Cert.Reference18Ideal.Read.val_main_v4_eq _ _).trans (Cert.Kernel18Ideal.Upd.eq5 _ _)
  · rw [(agree c).2.1, (agree c).2.2.2]
    exact (Cert.Reference18Ideal.Read.val_main_v10_eq _ _).trans (Cert.Kernel18Ideal.Upd.eq6 _ _)

/-- The frames of the early parts' sum over the devices. -/
theorem frame_kernel19 : Cert.quiescent_Kernel19 := fun m ρ _ => Cert.Kernel19.Gen.frame (F := Bits) m ρ
theorem frame_kernel19Ideal : Cert.quiescent_Kernel19Ideal := fun m ρ _ => Cert.Kernel19Ideal.Gen.frame (F := Ideal) m ρ
theorem frame_reference19Ideal : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The devices' parts of the gradients of `w_pool`, `pool_scale` and `na_rpb`, added, are the reference's sum. -/
theorem algebraic19 : Cert.algebraic_Kernel19Ideal_Reference19Ideal := by
  intro m g m' g' _ agree
  refine ⟨fun c => (Cert.Kernel19Ideal.Gen.dats m 0 c).arrAt 1 Cert.Kernel19Ideal.cfg0.N, Cert.Kernel19Ideal.Value.run_blocks (F := Ideal) m g, ?_⟩
  refine (θ_run Cert.Reference19Ideal.defs _ _).mono (fun _ h c => ⟨(h c).1.trans ?_, (h c).2⟩) (Cert.Reference19Ideal.Value.run (F := Ideal) m' g')
  exact (Cert.Reference19Ideal.Read.val_main_v0_eq _).trans (Cert.Kernel19Ideal.Sum.final_eq m c _ (agree c))

/-- The frames of the small parts' sum over the devices. -/
theorem frame_kernel20 : Cert.quiescent_Kernel20 := fun m ρ _ => Cert.Kernel20.Gen.frame (F := Bits) m ρ
theorem frame_kernel20Ideal : Cert.quiescent_Kernel20Ideal := fun m ρ _ => Cert.Kernel20Ideal.Gen.frame (F := Ideal) m ρ
theorem frame_reference20Ideal : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- The devices' parts of the gradients of the modulation and of `norm_g`, added, are the reference's sum. -/
theorem algebraic20 : Cert.algebraic_Kernel20Ideal_Reference20Ideal := by
  intro m g m' g' _ agree
  refine ⟨fun c => (Cert.Kernel20Ideal.Gen.dats m 0 c).arrAt 1 Cert.Kernel20Ideal.cfg0.N, Cert.Kernel20Ideal.Value.run_blocks (F := Ideal) m g, ?_⟩
  refine (θ_run Cert.Reference20Ideal.defs _ _).mono (fun _ h c => ⟨(h c).1.trans ?_, (h c).2⟩) (Cert.Reference20Ideal.Value.run (F := Ideal) m' g')
  exact (Cert.Reference20Ideal.Read.val_main_v0_eq _).trans (Cert.Kernel20Ideal.Sum.final_eq m c _ (agree c))

/-- The frames of the context vector's gradient. -/
theorem frame_kernel21 : Cert.quiescent_Kernel21 := fun m ρ _ => Cert.Kernel21.Gen.frame (F := Bits) m ρ
theorem frame_kernel21Ideal : Cert.quiescent_Kernel21Ideal := fun m ρ _ => Cert.Kernel21Ideal.Gen.frame (F := Ideal) m ρ
theorem frame_kernel21Ideal_finite : Cert.quiescent_Kernel21Ideal_pre_finite21 := fun m ρ _ => Cert.Kernel21Ideal.Gen.frame (F := Ideal) m ρ
theorem frame_reference21Ideal : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)
theorem frame_reference21Ideal_finite : Cert.quiescent_Reference21Ideal_pre_finite21 := fun m ρ _ => frame_reference21Ideal m ρ trivial

/-- On finite parts the context vector's gradient is the reference's. -/
theorem algebraic21 : Cert.algebraic_Kernel21Ideal_Reference21Ideal_pre_finite21 := by
  intro m g m' g' pre agree
  refine ⟨_, Cert.Kernel21Ideal.Value.run (F := Ideal) m g, ?_⟩
  refine (θ_run Cert.Reference21Ideal.defs _ _).mono (fun _ h c => ⟨(h c).1.trans ?_, (h c).2⟩) (Cert.Reference21Ideal.Value.run (F := Ideal) m' g')
  rw [(agree c).1, (agree c).2]
  exact (Cert.Reference21Ideal.Read.val_main_v3_eq _ _).trans (Cert.Kernel21Ideal.Cctx.final_eq _ _ (pre c))

/-- The frames of the modulation's backward call. -/
theorem frame_kernel22 : Cert.quiescent_Kernel22 := fun m ρ _ => Cert.Kernel22.Gen.frame (F := Bits) m ρ
theorem frame_kernel22Ideal : Cert.quiescent_Kernel22Ideal := fun m ρ _ => Cert.Kernel22Ideal.Gen.frame (F := Ideal) m ρ
theorem frame_reference22Ideal : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)

/-- Over the extended reals the two gradients of the modulation are the reference's. -/
theorem algebraic22 : Cert.algebraic_Kernel22Ideal_Reference22Ideal := by
  intro m g m' g' _ agree
  refine ⟨fun c => (Cert.Kernel22Ideal.Gen.dats m 0 c).arrAt 3 Cert.Kernel22Ideal.cfg0.N, fun c => (Cert.Kernel22Ideal.Gen.dats m 0 c).arrAt 4 Cert.Kernel22Ideal.cfg0.N,
    Cert.Kernel22Ideal.Value.run_blocks (F := Ideal) m g, ?_⟩
  refine (θ_run Cert.Reference22Ideal.defs _ _).mono (fun _ h c => ⟨(h c).1.trans ?_, (h c).2.1.trans ?_, (h c).2.2⟩) (Cert.Reference22Ideal.Value.run (F := Ideal) m' g')
  · exact (Cert.Reference22Ideal.Read.val_main_v19_eq _ _).trans (Cert.Kernel22Ideal.Md.final_eq3 m c _ _ (agree c).1 (agree c).2.1)
  · exact (Cert.Reference22Ideal.Read.val_main_v20_eq _ _).trans (Cert.Kernel22Ideal.Md.final_eq4 m c _ _ (agree c).2.1 (agree c).2.2)

/-- The frames of the loss head. -/
theorem frame_kernel23 : Cert.quiescent_Kernel23 := fun m ρ _ => Cert.Kernel23.Gen.frame (F := Bits) m ρ
theorem frame_kernel23Ideal : Cert.quiescent_Kernel23Ideal := fun m ρ _ => Cert.Kernel23Ideal.Gen.frame (F := Ideal) m ρ
theorem frame_reference23Ideal : Cert.quiescent_Reference23Ideal := fun m ρ _ =>
  (θ_run Cert.Reference23Ideal.defs _ _).mono (fun r h => ⟨fun c => (h c).2.2, sem_eq_zero_of_no_sems (by decide) r.2⟩)
    (Cert.Reference23Ideal.Value.run (F := Ideal) m ρ)

/-- Over the extended reals the loss and the gradient at the last output are the reference's. -/
theorem algebraic23 : Cert.algebraic_Kernel23Ideal_Reference23Ideal := by
  intro m g m' g' _ agree
  refine ⟨fun c => (Cert.Kernel23Ideal.Gen.dats m 0 c).arrAt 2 Cert.Kernel23Ideal.cfg0.N, fun c => (Cert.Kernel23Ideal.Gen.dats m 0 c).arrAt 3 Cert.Kernel23Ideal.cfg0.N,
    Cert.Kernel23Ideal.Value.run_blocks (F := Ideal) m g, ?_⟩
  refine (θ_run Cert.Reference23Ideal.defs _ _).mono (fun _ h c => ⟨(h c).1.trans ?_, (h c).2.1.trans ?_, (h c).2.2⟩) (Cert.Reference23Ideal.Value.run (F := Ideal) m' g')
  · exact (Cert.Reference23Ideal.Read.val_main_v10_eq _ _).trans (Cert.Kernel23Ideal.Ls.final_eq2 m c _ _ (agree c).1 (agree c).2)
  · exact (Cert.Reference23Ideal.Read.val_main_v18_eq _ _).trans (Cert.Kernel23Ideal.Ls.final_eq3 m c _ _ (agree c).1 (agree c).2)

theorem claim : Cert.Claim := ⟨Cert.Kernel.Gen.facts, Cert.KernelIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite4.Gen.facts, Cert.Pre_finite7.Gen.facts, Cert.Pre_finite21.Gen.facts,
  frame_kernel, frame_kernelIdeal, frame_kernel2, frame_kernel2Ideal, frame_reference2Ideal,
  frame_kernel3, frame_kernel3Ideal, frame_reference3Ideal,
  frame_kernel4, frame_kernel4Ideal, frame_kernel4Ideal_finite, frame_reference4Ideal, frame_reference4Ideal_finite,
  frame_kernel5, frame_kernel5Ideal, frame_reference5Ideal, frame_kernel6, frame_kernel6Ideal, frame_reference6Ideal,
  frame_kernel7, frame_kernel7Ideal, frame_kernel7Ideal_finite, frame_reference7Ideal, frame_reference7Ideal_finite,
  frame_kernel8, frame_kernel8Ideal, frame_reference8Ideal,
  frame_kernel9, frame_kernel9Ideal, frame_reference9Ideal,
  frame_kernel10, frame_kernel10Ideal, frame_reference10Ideal,
  frame_kernel11, frame_kernel11Ideal, frame_reference11Ideal,
  frame_kernel12, frame_kernel12Ideal, frame_reference12Ideal,
  frame_kernel13, frame_kernel13Ideal, frame_reference13Ideal,
  frame_kernel14, frame_kernel14Ideal, frame_reference14Ideal,
  frame_kernel15, frame_kernel15Ideal, frame_reference15Ideal,
  frame_kernel16, frame_kernel16Ideal, frame_reference16Ideal,
  frame_kernel17, frame_kernel17Ideal, frame_reference17Ideal,
  frame_kernel18, frame_kernel18Ideal, frame_reference18Ideal,
  frame_kernel19, frame_kernel19Ideal, frame_reference19Ideal,
  frame_kernel20, frame_kernel20Ideal, frame_reference20Ideal,
  frame_kernel21, frame_kernel21Ideal, frame_kernel21Ideal_finite, frame_reference21Ideal, frame_reference21Ideal_finite,
  frame_kernel22, frame_kernel22Ideal, frame_reference22Ideal,
  frame_kernel23, frame_kernel23Ideal, frame_reference23Ideal,
  trivial, trivial, algebraic2, trivial, algebraic3, trivial, algebraic4,
  trivial, algebraic5, trivial, algebraic6, trivial, algebraic7,
  trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23⟩

end Cert.Proof

end
